-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_NormK (m : (ℓ : Loc Cert.NormK.nD Cert.NormK.τ Cert.NormK.sig) → Buf (Elt Bits) ℓ) : Prop :=
  True

def Pre_NormKIdeal (m : (ℓ : Loc Cert.NormKIdeal.nD Cert.NormKIdeal.τ Cert.NormKIdeal.sig) → Buf (Elt Ideal) ℓ) : Prop :=
  True

def Pre_NormRIdeal (m : (ℓ : Loc Cert.NormRIdeal.nD Cert.NormRIdeal.τ Cert.NormRIdeal.sig) → Buf (Elt Ideal) ℓ) : Prop :=
  True

def Pre_DownK (m : (ℓ : Loc Cert.DownK.nD Cert.DownK.τ Cert.DownK.sig) → Buf (Elt Bits) ℓ) : Prop :=
  True

def Pre_DownKIdeal (m : (ℓ : Loc Cert.DownKIdeal.nD Cert.DownKIdeal.τ Cert.DownKIdeal.sig) → Buf (Elt Ideal) ℓ) : Prop :=
  True

def Pre_DownRIdeal (m : (ℓ : Loc Cert.DownRIdeal.nD Cert.DownRIdeal.τ Cert.DownRIdeal.sig) → Buf (Elt Ideal) ℓ) : Prop :=
  True

def Pre_ConvK (m : (ℓ : Loc Cert.ConvK.nD Cert.ConvK.τ Cert.ConvK.sig) → Buf (Elt Bits) ℓ) : Prop :=
  True

def Pre_ConvKIdeal (m : (ℓ : Loc Cert.ConvKIdeal.nD Cert.ConvKIdeal.τ Cert.ConvKIdeal.sig) → Buf (Elt Ideal) ℓ) : Prop :=
  True

def Pre_ConvRIdeal (m : (ℓ : Loc Cert.ConvRIdeal.nD Cert.ConvRIdeal.τ Cert.ConvRIdeal.sig) → Buf (Elt Ideal) ℓ) : Prop :=
  True

def Pre_ProjDxK (m : (ℓ : Loc Cert.ProjDxK.nD Cert.ProjDxK.τ Cert.ProjDxK.sig) → Buf (Elt Bits) ℓ) : Prop :=
  True

def Pre_ProjDxKIdeal (m : (ℓ : Loc Cert.ProjDxKIdeal.nD Cert.ProjDxKIdeal.τ Cert.ProjDxKIdeal.sig) → Buf (Elt Ideal) ℓ) : Prop :=
  True

def Pre_ProjDxRIdeal (m : (ℓ : Loc Cert.ProjDxRIdeal.nD Cert.ProjDxRIdeal.τ Cert.ProjDxRIdeal.sig) → Buf (Elt Ideal) ℓ) : Prop :=
  True

def Pre_ProjGDwK (m : (ℓ : Loc Cert.ProjGDwK.nD Cert.ProjGDwK.τ Cert.ProjGDwK.sig) → Buf (Elt Bits) ℓ) : Prop :=
  True

def Pre_ProjGDwKIdeal (m : (ℓ : Loc Cert.ProjGDwKIdeal.nD Cert.ProjGDwKIdeal.τ Cert.ProjGDwKIdeal.sig) → Buf (Elt Ideal) ℓ) : Prop :=
  True

def Pre_ProjGDwRIdeal (m : (ℓ : Loc Cert.ProjGDwRIdeal.nD Cert.ProjGDwRIdeal.τ Cert.ProjGDwRIdeal.sig) → Buf (Elt Ideal) ℓ) : Prop :=
  True

def Pre_ProjADwK (m : (ℓ : Loc Cert.ProjADwK.nD Cert.ProjADwK.τ Cert.ProjADwK.sig) → Buf (Elt Bits) ℓ) : Prop :=
  True

def Pre_ProjADwKIdeal (m : (ℓ : Loc Cert.ProjADwKIdeal.nD Cert.ProjADwKIdeal.τ Cert.ProjADwKIdeal.sig) → Buf (Elt Ideal) ℓ) : Prop :=
  True

def Pre_ProjADwRIdeal (m : (ℓ : Loc Cert.ProjADwRIdeal.nD Cert.ProjADwRIdeal.τ Cert.ProjADwRIdeal.sig) → Buf (Elt Ideal) ℓ) : Prop :=
  True

def Pre_ProjBDwK (m : (ℓ : Loc Cert.ProjBDwK.nD Cert.ProjBDwK.τ Cert.ProjBDwK.sig) → Buf (Elt Bits) ℓ) : Prop :=
  True

def Pre_ProjBDwKIdeal (m : (ℓ : Loc Cert.ProjBDwKIdeal.nD Cert.ProjBDwKIdeal.τ Cert.ProjBDwKIdeal.sig) → Buf (Elt Ideal) ℓ) : Prop :=
  True

def Pre_ProjBDwRIdeal (m : (ℓ : Loc Cert.ProjBDwRIdeal.nD Cert.ProjBDwRIdeal.τ Cert.ProjBDwRIdeal.sig) → Buf (Elt Ideal) ℓ) : Prop :=
  True

def Pre_ProjCDwK (m : (ℓ : Loc Cert.ProjCDwK.nD Cert.ProjCDwK.τ Cert.ProjCDwK.sig) → Buf (Elt Bits) ℓ) : Prop :=
  True

def Pre_ProjCDwKIdeal (m : (ℓ : Loc Cert.ProjCDwKIdeal.nD Cert.ProjCDwKIdeal.τ Cert.ProjCDwKIdeal.sig) → Buf (Elt Ideal) ℓ) : Prop :=
  True

def Pre_ProjCDwRIdeal (m : (ℓ : Loc Cert.ProjCDwRIdeal.nD Cert.ProjCDwRIdeal.τ Cert.ProjCDwRIdeal.sig) → Buf (Elt Ideal) ℓ) : Prop :=
  True

def Pre_UpDwK (m : (ℓ : Loc Cert.UpDwK.nD Cert.UpDwK.τ Cert.UpDwK.sig) → Buf (Elt Bits) ℓ) : Prop :=
  True

def Pre_UpDwKIdeal (m : (ℓ : Loc Cert.UpDwKIdeal.nD Cert.UpDwKIdeal.τ Cert.UpDwKIdeal.sig) → Buf (Elt Ideal) ℓ) : Prop :=
  True

def Pre_UpDwRIdeal (m : (ℓ : Loc Cert.UpDwRIdeal.nD Cert.UpDwRIdeal.τ Cert.UpDwRIdeal.sig) → Buf (Elt Ideal) ℓ) : Prop :=
  True

def Pre_DownDwK (m : (ℓ : Loc Cert.DownDwK.nD Cert.DownDwK.τ Cert.DownDwK.sig) → Buf (Elt Bits) ℓ) : Prop :=
  True

def Pre_DownDwKIdeal (m : (ℓ : Loc Cert.DownDwKIdeal.nD Cert.DownDwKIdeal.τ Cert.DownDwKIdeal.sig) → Buf (Elt Ideal) ℓ) : Prop :=
  True

def Pre_DownDwRIdeal (m : (ℓ : Loc Cert.DownDwRIdeal.nD Cert.DownDwRIdeal.τ Cert.DownDwRIdeal.sig) → Buf (Elt Ideal) ℓ) : Prop :=
  True

def Pre_ProjK (m : (ℓ : Loc Cert.ProjK.nD Cert.ProjK.τ Cert.ProjK.sig) → Buf (Elt Bits) ℓ) : Prop :=
  True

def Pre_ProjKIdeal (m : (ℓ : Loc Cert.ProjKIdeal.nD Cert.ProjKIdeal.τ Cert.ProjKIdeal.sig) → Buf (Elt Ideal) ℓ) : Prop :=
  True

def Pre_ProjRIdeal (m : (ℓ : Loc Cert.ProjRIdeal.nD Cert.ProjRIdeal.τ Cert.ProjRIdeal.sig) → Buf (Elt Ideal) ℓ) : Prop :=
  True

def Pre_UpK (m : (ℓ : Loc Cert.UpK.nD Cert.UpK.τ Cert.UpK.sig) → Buf (Elt Bits) ℓ) : Prop :=
  True

def Pre_UpKIdeal (m : (ℓ : Loc Cert.UpKIdeal.nD Cert.UpKIdeal.τ Cert.UpKIdeal.sig) → Buf (Elt Ideal) ℓ) : Prop :=
  True

def Pre_UpRIdeal (m : (ℓ : Loc Cert.UpRIdeal.nD Cert.UpRIdeal.τ Cert.UpRIdeal.sig) → Buf (Elt Ideal) ℓ) : Prop :=
  True

def Pre_DownFwdK (m : (ℓ : Loc Cert.DownFwdK.nD Cert.DownFwdK.τ Cert.DownFwdK.sig) → Buf (Elt Bits) ℓ) : Prop :=
  True

def Pre_DownFwdKIdeal (m : (ℓ : Loc Cert.DownFwdKIdeal.nD Cert.DownFwdKIdeal.τ Cert.DownFwdKIdeal.sig) → Buf (Elt Ideal) ℓ) : Prop :=
  True

def Pre_DownFwdRIdeal (m : (ℓ : Loc Cert.DownFwdRIdeal.nD Cert.DownFwdRIdeal.τ Cert.DownFwdRIdeal.sig) → Buf (Elt Ideal) ℓ) : Prop :=
  True

def Pre_MergeK (m : (ℓ : Loc Cert.MergeK.nD Cert.MergeK.τ Cert.MergeK.sig) → Buf (Elt Bits) ℓ) : Prop :=
  True

def Pre_MergeKIdeal (m : (ℓ : Loc Cert.MergeKIdeal.nD Cert.MergeKIdeal.τ Cert.MergeKIdeal.sig) → Buf (Elt Ideal) ℓ) : Prop :=
  True

def Pre_MergeRIdeal (m : (ℓ : Loc Cert.MergeRIdeal.nD Cert.MergeRIdeal.τ Cert.MergeRIdeal.sig) → Buf (Elt Ideal) ℓ) : Prop :=
  True

def Pre_NormFwdK (m : (ℓ : Loc Cert.NormFwdK.nD Cert.NormFwdK.τ Cert.NormFwdK.sig) → Buf (Elt Bits) ℓ) : Prop :=
  True

def Pre_NormFwdKIdeal (m : (ℓ : Loc Cert.NormFwdKIdeal.nD Cert.NormFwdKIdeal.τ Cert.NormFwdKIdeal.sig) → Buf (Elt Ideal) ℓ) : Prop :=
  True

def Pre_NormFwdRIdeal (m : (ℓ : Loc Cert.NormFwdRIdeal.nD Cert.NormFwdRIdeal.τ Cert.NormFwdRIdeal.sig) → Buf (Elt Ideal) ℓ) : Prop :=
  True

def Pre_ConvFwdK (m : (ℓ : Loc Cert.ConvFwdK.nD Cert.ConvFwdK.τ Cert.ConvFwdK.sig) → Buf (Elt Bits) ℓ) : Prop :=
  True

def Pre_ConvFwdKIdeal (m : (ℓ : Loc Cert.ConvFwdKIdeal.nD Cert.ConvFwdKIdeal.τ Cert.ConvFwdKIdeal.sig) → Buf (Elt Ideal) ℓ) : Prop :=
  True

def Pre_ConvFwdRIdeal (m : (ℓ : Loc Cert.ConvFwdRIdeal.nD Cert.ConvFwdRIdeal.τ Cert.ConvFwdRIdeal.sig) → Buf (Elt Ideal) ℓ) : Prop :=
  True

def Pre_AdamK (m : (ℓ : Loc Cert.AdamK.nD Cert.AdamK.τ Cert.AdamK.sig) → Buf (Elt Bits) ℓ) : Prop :=
  True

def Pre_AdamKIdeal (m : (ℓ : Loc Cert.AdamKIdeal.nD Cert.AdamKIdeal.τ Cert.AdamKIdeal.sig) → Buf (Elt Ideal) ℓ) : Prop :=
  True

def Pre_AdamRIdeal (m : (ℓ : Loc Cert.AdamRIdeal.nD Cert.AdamRIdeal.τ Cert.AdamRIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_NormK [hNormK : Cert.NormK.Facts] : Prop :=
  ∀ (m : (ℓ : Loc Cert.NormK.nD Cert.NormK.τ Cert.NormK.sig) → Buf (Elt Bits) ℓ) (g : Dev Cert.NormK.nD → PrngReg), Pre_NormK m →
    θ_run (Cert.NormK.defs (F := Bits)) (onTc (τ := Cert.NormK.τ) (Cert.NormK.main (F := Bits))) ⟨m, fun _ => 0, g⟩ (fun r => (∀ c : Dev Cert.NormK.nD,
      r.2.mem ((c.tc : Thread Cert.NormK.nD Cert.NormK.τ).loc Cert.NormK.main_arg0) = m ((c.tc : Thread Cert.NormK.nD Cert.NormK.τ).loc Cert.NormK.main_arg0)
      ∧ r.2.mem ((c.tc : Thread Cert.NormK.nD Cert.NormK.τ).loc Cert.NormK.main_arg1) = m ((c.tc : Thread Cert.NormK.nD Cert.NormK.τ).loc Cert.NormK.main_arg1)
      ∧ r.2.mem ((c.tc : Thread Cert.NormK.nD Cert.NormK.τ).loc Cert.NormK.main_arg2) = m ((c.tc : Thread Cert.NormK.nD Cert.NormK.τ).loc Cert.NormK.main_arg2)
      ∧ r.2.mem ((c.tc : Thread Cert.NormK.nD Cert.NormK.τ).loc Cert.NormK.main_arg3) = m ((c.tc : Thread Cert.NormK.nD Cert.NormK.τ).loc Cert.NormK.main_arg3)
      ∧ r.2.mem ((c.tc : Thread Cert.NormK.nD Cert.NormK.τ).loc Cert.NormK.main_arg4) = m ((c.tc : Thread Cert.NormK.nD Cert.NormK.τ).loc Cert.NormK.main_arg4)
      ∧ r.2.mem ((c.tc : Thread Cert.NormK.nD Cert.NormK.τ).loc Cert.NormK.main_arg5) = m ((c.tc : Thread Cert.NormK.nD Cert.NormK.τ).loc Cert.NormK.main_arg5)
      ∧ r.2.mem ((c.tc : Thread Cert.NormK.nD Cert.NormK.τ).loc Cert.NormK.main_arg6) = m ((c.tc : Thread Cert.NormK.nD Cert.NormK.τ).loc Cert.NormK.main_arg6))
      ∧ r.2.sem = fun _ => 0)

def quiescent_NormKIdeal [hNormKIdeal : Cert.NormKIdeal.Facts] : Prop :=
  ∀ (m : (ℓ : Loc Cert.NormKIdeal.nD Cert.NormKIdeal.τ Cert.NormKIdeal.sig) → Buf (Elt Ideal) ℓ) (g : Dev Cert.NormKIdeal.nD → PrngReg), Pre_NormKIdeal m →
    θ_run (Cert.NormKIdeal.defs (F := Ideal)) (onTc (τ := Cert.NormKIdeal.τ) (Cert.NormKIdeal.main (F := Ideal))) ⟨m, fun _ => 0, g⟩ (fun r => (∀ c : Dev Cert.NormKIdeal.nD,
      r.2.mem ((c.tc : Thread Cert.NormKIdeal.nD Cert.NormKIdeal.τ).loc Cert.NormKIdeal.main_arg0) = m ((c.tc : Thread Cert.NormKIdeal.nD Cert.NormKIdeal.τ).loc Cert.NormKIdeal.main_arg0)
      ∧ r.2.mem ((c.tc : Thread Cert.NormKIdeal.nD Cert.NormKIdeal.τ).loc Cert.NormKIdeal.main_arg1) = m ((c.tc : Thread Cert.NormKIdeal.nD Cert.NormKIdeal.τ).loc Cert.NormKIdeal.main_arg1)
      ∧ r.2.mem ((c.tc : Thread Cert.NormKIdeal.nD Cert.NormKIdeal.τ).loc Cert.NormKIdeal.main_arg2) = m ((c.tc : Thread Cert.NormKIdeal.nD Cert.NormKIdeal.τ).loc Cert.NormKIdeal.main_arg2)
      ∧ r.2.mem ((c.tc : Thread Cert.NormKIdeal.nD Cert.NormKIdeal.τ).loc Cert.NormKIdeal.main_arg3) = m ((c.tc : Thread Cert.NormKIdeal.nD Cert.NormKIdeal.τ).loc Cert.NormKIdeal.main_arg3)
      ∧ r.2.mem ((c.tc : Thread Cert.NormKIdeal.nD Cert.NormKIdeal.τ).loc Cert.NormKIdeal.main_arg4) = m ((c.tc : Thread Cert.NormKIdeal.nD Cert.NormKIdeal.τ).loc Cert.NormKIdeal.main_arg4)
      ∧ r.2.mem ((c.tc : Thread Cert.NormKIdeal.nD Cert.NormKIdeal.τ).loc Cert.NormKIdeal.main_arg5) = m ((c.tc : Thread Cert.NormKIdeal.nD Cert.NormKIdeal.τ).loc Cert.NormKIdeal.main_arg5)
      ∧ r.2.mem ((c.tc : Thread Cert.NormKIdeal.nD Cert.NormKIdeal.τ).loc Cert.NormKIdeal.main_arg6) = m ((c.tc : Thread Cert.NormKIdeal.nD Cert.NormKIdeal.τ).loc Cert.NormKIdeal.main_arg6))
      ∧ r.2.sem = fun _ => 0)

def quiescent_NormRIdeal [hNormRIdeal : Cert.NormRIdeal.Facts] : Prop :=
  ∀ (m : (ℓ : Loc Cert.NormRIdeal.nD Cert.NormRIdeal.τ Cert.NormRIdeal.sig) → Buf (Elt Ideal) ℓ) (g : Dev Cert.NormRIdeal.nD → PrngReg), Pre_NormRIdeal m →
    θ_run (Cert.NormRIdeal.defs (F := Ideal)) (onTc (τ := Cert.NormRIdeal.τ) (Cert.NormRIdeal.main (F := Ideal))) ⟨m, fun _ => 0, g⟩ (fun r => (∀ c : Dev Cert.NormRIdeal.nD,
      r.2.mem ((c.tc : Thread Cert.NormRIdeal.nD Cert.NormRIdeal.τ).loc Cert.NormRIdeal.main_arg0) = m ((c.tc : Thread Cert.NormRIdeal.nD Cert.NormRIdeal.τ).loc Cert.NormRIdeal.main_arg0)
      ∧ r.2.mem ((c.tc : Thread Cert.NormRIdeal.nD Cert.NormRIdeal.τ).loc Cert.NormRIdeal.main_arg1) = m ((c.tc : Thread Cert.NormRIdeal.nD Cert.NormRIdeal.τ).loc Cert.NormRIdeal.main_arg1)
      ∧ r.2.mem ((c.tc : Thread Cert.NormRIdeal.nD Cert.NormRIdeal.τ).loc Cert.NormRIdeal.main_arg2) = m ((c.tc : Thread Cert.NormRIdeal.nD Cert.NormRIdeal.τ).loc Cert.NormRIdeal.main_arg2)
      ∧ r.2.mem ((c.tc : Thread Cert.NormRIdeal.nD Cert.NormRIdeal.τ).loc Cert.NormRIdeal.main_arg3) = m ((c.tc : Thread Cert.NormRIdeal.nD Cert.NormRIdeal.τ).loc Cert.NormRIdeal.main_arg3)
      ∧ r.2.mem ((c.tc : Thread Cert.NormRIdeal.nD Cert.NormRIdeal.τ).loc Cert.NormRIdeal.main_arg4) = m ((c.tc : Thread Cert.NormRIdeal.nD Cert.NormRIdeal.τ).loc Cert.NormRIdeal.main_arg4)
      ∧ r.2.mem ((c.tc : Thread Cert.NormRIdeal.nD Cert.NormRIdeal.τ).loc Cert.NormRIdeal.main_arg5) = m ((c.tc : Thread Cert.NormRIdeal.nD Cert.NormRIdeal.τ).loc Cert.NormRIdeal.main_arg5)
      ∧ r.2.mem ((c.tc : Thread Cert.NormRIdeal.nD Cert.NormRIdeal.τ).loc Cert.NormRIdeal.main_arg6) = m ((c.tc : Thread Cert.NormRIdeal.nD Cert.NormRIdeal.τ).loc Cert.NormRIdeal.main_arg6))
      ∧ r.2.sem = fun _ => 0)

def quiescent_DownK [hDownK : Cert.DownK.Facts] : Prop :=
  ∀ (m : (ℓ : Loc Cert.DownK.nD Cert.DownK.τ Cert.DownK.sig) → Buf (Elt Bits) ℓ) (g : Dev Cert.DownK.nD → PrngReg), Pre_DownK m →
    θ_run (Cert.DownK.defs (F := Bits)) (onTc (τ := Cert.DownK.τ) (Cert.DownK.main (F := Bits))) ⟨m, fun _ => 0, g⟩ (fun r => (∀ c : Dev Cert.DownK.nD,
      r.2.mem ((c.tc : Thread Cert.DownK.nD Cert.DownK.τ).loc Cert.DownK.main_arg0) = m ((c.tc : Thread Cert.DownK.nD Cert.DownK.τ).loc Cert.DownK.main_arg0)
      ∧ r.2.mem ((c.tc : Thread Cert.DownK.nD Cert.DownK.τ).loc Cert.DownK.main_arg1) = m ((c.tc : Thread Cert.DownK.nD Cert.DownK.τ).loc Cert.DownK.main_arg1)
      ∧ r.2.mem ((c.tc : Thread Cert.DownK.nD Cert.DownK.τ).loc Cert.DownK.main_arg2) = m ((c.tc : Thread Cert.DownK.nD Cert.DownK.τ).loc Cert.DownK.main_arg2)
      ∧ r.2.mem ((c.tc : Thread Cert.DownK.nD Cert.DownK.τ).loc Cert.DownK.main_arg3) = m ((c.tc : Thread Cert.DownK.nD Cert.DownK.τ).loc Cert.DownK.main_arg3))
      ∧ r.2.sem = fun _ => 0)

def quiescent_DownKIdeal [hDownKIdeal : Cert.DownKIdeal.Facts] : Prop :=
  ∀ (m : (ℓ : Loc Cert.DownKIdeal.nD Cert.DownKIdeal.τ Cert.DownKIdeal.sig) → Buf (Elt Ideal) ℓ) (g : Dev Cert.DownKIdeal.nD → PrngReg), Pre_DownKIdeal m →
    θ_run (Cert.DownKIdeal.defs (F := Ideal)) (onTc (τ := Cert.DownKIdeal.τ) (Cert.DownKIdeal.main (F := Ideal))) ⟨m, fun _ => 0, g⟩ (fun r => (∀ c : Dev Cert.DownKIdeal.nD,
      r.2.mem ((c.tc : Thread Cert.DownKIdeal.nD Cert.DownKIdeal.τ).loc Cert.DownKIdeal.main_arg0) = m ((c.tc : Thread Cert.DownKIdeal.nD Cert.DownKIdeal.τ).loc Cert.DownKIdeal.main_arg0)
      ∧ r.2.mem ((c.tc : Thread Cert.DownKIdeal.nD Cert.DownKIdeal.τ).loc Cert.DownKIdeal.main_arg1) = m ((c.tc : Thread Cert.DownKIdeal.nD Cert.DownKIdeal.τ).loc Cert.DownKIdeal.main_arg1)
      ∧ r.2.mem ((c.tc : Thread Cert.DownKIdeal.nD Cert.DownKIdeal.τ).loc Cert.DownKIdeal.main_arg2) = m ((c.tc : Thread Cert.DownKIdeal.nD Cert.DownKIdeal.τ).loc Cert.DownKIdeal.main_arg2)
      ∧ r.2.mem ((c.tc : Thread Cert.DownKIdeal.nD Cert.DownKIdeal.τ).loc Cert.DownKIdeal.main_arg3) = m ((c.tc : Thread Cert.DownKIdeal.nD Cert.DownKIdeal.τ).loc Cert.DownKIdeal.main_arg3))
      ∧ r.2.sem = fun _ => 0)

def quiescent_DownRIdeal [hDownRIdeal : Cert.DownRIdeal.Facts] : Prop :=
  ∀ (m : (ℓ : Loc Cert.DownRIdeal.nD Cert.DownRIdeal.τ Cert.DownRIdeal.sig) → Buf (Elt Ideal) ℓ) (g : Dev Cert.DownRIdeal.nD → PrngReg), Pre_DownRIdeal m →
    θ_run (Cert.DownRIdeal.defs (F := Ideal)) (onTc (τ := Cert.DownRIdeal.τ) (Cert.DownRIdeal.main (F := Ideal))) ⟨m, fun _ => 0, g⟩ (fun r => (∀ c : Dev Cert.DownRIdeal.nD,
      r.2.mem ((c.tc : Thread Cert.DownRIdeal.nD Cert.DownRIdeal.τ).loc Cert.DownRIdeal.main_arg0) = m ((c.tc : Thread Cert.DownRIdeal.nD Cert.DownRIdeal.τ).loc Cert.DownRIdeal.main_arg0)
      ∧ r.2.mem ((c.tc : Thread Cert.DownRIdeal.nD Cert.DownRIdeal.τ).loc Cert.DownRIdeal.main_arg1) = m ((c.tc : Thread Cert.DownRIdeal.nD Cert.DownRIdeal.τ).loc Cert.DownRIdeal.main_arg1)
      ∧ r.2.mem ((c.tc : Thread Cert.DownRIdeal.nD Cert.DownRIdeal.τ).loc Cert.DownRIdeal.main_arg2) = m ((c.tc : Thread Cert.DownRIdeal.nD Cert.DownRIdeal.τ).loc Cert.DownRIdeal.main_arg2)
      ∧ r.2.mem ((c.tc : Thread Cert.DownRIdeal.nD Cert.DownRIdeal.τ).loc Cert.DownRIdeal.main_arg3) = m ((c.tc : Thread Cert.DownRIdeal.nD Cert.DownRIdeal.τ).loc Cert.DownRIdeal.main_arg3))
      ∧ r.2.sem = fun _ => 0)

def quiescent_ConvK [hConvK : Cert.ConvK.Facts] : Prop :=
  ∀ (m : (ℓ : Loc Cert.ConvK.nD Cert.ConvK.τ Cert.ConvK.sig) → Buf (Elt Bits) ℓ) (g : Dev Cert.ConvK.nD → PrngReg), Pre_ConvK m →
    θ_run (Cert.ConvK.defs (F := Bits)) (onTc (τ := Cert.ConvK.τ) (Cert.ConvK.main (F := Bits))) ⟨m, fun _ => 0, g⟩ (fun r => (∀ c : Dev Cert.ConvK.nD,
      r.2.mem ((c.tc : Thread Cert.ConvK.nD Cert.ConvK.τ).loc Cert.ConvK.main_arg0) = m ((c.tc : Thread Cert.ConvK.nD Cert.ConvK.τ).loc Cert.ConvK.main_arg0)
      ∧ r.2.mem ((c.tc : Thread Cert.ConvK.nD Cert.ConvK.τ).loc Cert.ConvK.main_arg1) = m ((c.tc : Thread Cert.ConvK.nD Cert.ConvK.τ).loc Cert.ConvK.main_arg1)
      ∧ r.2.mem ((c.tc : Thread Cert.ConvK.nD Cert.ConvK.τ).loc Cert.ConvK.main_arg2) = m ((c.tc : Thread Cert.ConvK.nD Cert.ConvK.τ).loc Cert.ConvK.main_arg2)
      ∧ r.2.mem ((c.tc : Thread Cert.ConvK.nD Cert.ConvK.τ).loc Cert.ConvK.main_arg3) = m ((c.tc : Thread Cert.ConvK.nD Cert.ConvK.τ).loc Cert.ConvK.main_arg3))
      ∧ r.2.sem = fun _ => 0)

def quiescent_ConvKIdeal [hConvKIdeal : Cert.ConvKIdeal.Facts] : Prop :=
  ∀ (m : (ℓ : Loc Cert.ConvKIdeal.nD Cert.ConvKIdeal.τ Cert.ConvKIdeal.sig) → Buf (Elt Ideal) ℓ) (g : Dev Cert.ConvKIdeal.nD → PrngReg), Pre_ConvKIdeal m →
    θ_run (Cert.ConvKIdeal.defs (F := Ideal)) (onTc (τ := Cert.ConvKIdeal.τ) (Cert.ConvKIdeal.main (F := Ideal))) ⟨m, fun _ => 0, g⟩ (fun r => (∀ c : Dev Cert.ConvKIdeal.nD,
      r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
      ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
      ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2)
      ∧ r.2.mem ((c.tc : Thread Cert.ConvKIdeal.nD Cert.ConvKIdeal.τ).loc Cert.ConvKIdeal.main_arg3) = m ((c.tc : Thread Cert.ConvKIdeal.nD Cert.ConvKIdeal.τ).loc Cert.ConvKIdeal.main_arg3))
      ∧ r.2.sem = fun _ => 0)

def quiescent_ConvRIdeal [hConvRIdeal : Cert.ConvRIdeal.Facts] : Prop :=
  ∀ (m : (ℓ : Loc Cert.ConvRIdeal.nD Cert.ConvRIdeal.τ Cert.ConvRIdeal.sig) → Buf (Elt Ideal) ℓ) (g : Dev Cert.ConvRIdeal.nD → PrngReg), Pre_ConvRIdeal m →
    θ_run (Cert.ConvRIdeal.defs (F := Ideal)) (onTc (τ := Cert.ConvRIdeal.τ) (Cert.ConvRIdeal.main (F := Ideal))) ⟨m, fun _ => 0, g⟩ (fun r => (∀ c : Dev Cert.ConvRIdeal.nD,
      r.2.mem ((c.tc : Thread Cert.ConvRIdeal.nD Cert.ConvRIdeal.τ).loc Cert.ConvRIdeal.main_arg0) = m ((c.tc : Thread Cert.ConvRIdeal.nD Cert.ConvRIdeal.τ).loc Cert.ConvRIdeal.main_arg0)
      ∧ r.2.mem ((c.tc : Thread Cert.ConvRIdeal.nD Cert.ConvRIdeal.τ).loc Cert.ConvRIdeal.main_arg1) = m ((c.tc : Thread Cert.ConvRIdeal.nD Cert.ConvRIdeal.τ).loc Cert.ConvRIdeal.main_arg1)
      ∧ r.2.mem ((c.tc : Thread Cert.ConvRIdeal.nD Cert.ConvRIdeal.τ).loc Cert.ConvRIdeal.main_arg2) = m ((c.tc : Thread Cert.ConvRIdeal.nD Cert.ConvRIdeal.τ).loc Cert.ConvRIdeal.main_arg2)
      ∧ r.2.mem ((c.tc : Thread Cert.ConvRIdeal.nD Cert.ConvRIdeal.τ).loc Cert.ConvRIdeal.main_arg3) = m ((c.tc : Thread Cert.ConvRIdeal.nD Cert.ConvRIdeal.τ).loc Cert.ConvRIdeal.main_arg3))
      ∧ r.2.sem = fun _ => 0)

def quiescent_ProjDxK [hProjDxK : Cert.ProjDxK.Facts] : Prop :=
  ∀ (m : (ℓ : Loc Cert.ProjDxK.nD Cert.ProjDxK.τ Cert.ProjDxK.sig) → Buf (Elt Bits) ℓ) (g : Dev Cert.ProjDxK.nD → PrngReg), Pre_ProjDxK m →
    θ_run (Cert.ProjDxK.defs (F := Bits)) (onTc (τ := Cert.ProjDxK.τ) (Cert.ProjDxK.main (F := Bits))) ⟨m, fun _ => 0, g⟩ (fun r => (∀ c : Dev Cert.ProjDxK.nD,
      r.2.mem ((c.tc : Thread Cert.ProjDxK.nD Cert.ProjDxK.τ).loc Cert.ProjDxK.main_arg0) = m ((c.tc : Thread Cert.ProjDxK.nD Cert.ProjDxK.τ).loc Cert.ProjDxK.main_arg0)
      ∧ r.2.mem ((c.tc : Thread Cert.ProjDxK.nD Cert.ProjDxK.τ).loc Cert.ProjDxK.main_arg1) = m ((c.tc : Thread Cert.ProjDxK.nD Cert.ProjDxK.τ).loc Cert.ProjDxK.main_arg1)
      ∧ r.2.mem ((c.tc : Thread Cert.ProjDxK.nD Cert.ProjDxK.τ).loc Cert.ProjDxK.main_arg2) = m ((c.tc : Thread Cert.ProjDxK.nD Cert.ProjDxK.τ).loc Cert.ProjDxK.main_arg2)
      ∧ r.2.mem ((c.tc : Thread Cert.ProjDxK.nD Cert.ProjDxK.τ).loc Cert.ProjDxK.main_arg3) = m ((c.tc : Thread Cert.ProjDxK.nD Cert.ProjDxK.τ).loc Cert.ProjDxK.main_arg3)
      ∧ r.2.mem ((c.tc : Thread Cert.ProjDxK.nD Cert.ProjDxK.τ).loc Cert.ProjDxK.main_arg4) = m ((c.tc : Thread Cert.ProjDxK.nD Cert.ProjDxK.τ).loc Cert.ProjDxK.main_arg4)
      ∧ r.2.mem ((c.tc : Thread Cert.ProjDxK.nD Cert.ProjDxK.τ).loc Cert.ProjDxK.main_arg5) = m ((c.tc : Thread Cert.ProjDxK.nD Cert.ProjDxK.τ).loc Cert.ProjDxK.main_arg5)
      ∧ r.2.mem ((c.tc : Thread Cert.ProjDxK.nD Cert.ProjDxK.τ).loc Cert.ProjDxK.main_arg6) = m ((c.tc : Thread Cert.ProjDxK.nD Cert.ProjDxK.τ).loc Cert.ProjDxK.main_arg6)
      ∧ r.2.mem ((c.tc : Thread Cert.ProjDxK.nD Cert.ProjDxK.τ).loc Cert.ProjDxK.main_arg7) = m ((c.tc : Thread Cert.ProjDxK.nD Cert.ProjDxK.τ).loc Cert.ProjDxK.main_arg7))
      ∧ r.2.sem = fun _ => 0)

def quiescent_ProjDxKIdeal [hProjDxKIdeal : Cert.ProjDxKIdeal.Facts] : Prop :=
  ∀ (m : (ℓ : Loc Cert.ProjDxKIdeal.nD Cert.ProjDxKIdeal.τ Cert.ProjDxKIdeal.sig) → Buf (Elt Ideal) ℓ) (g : Dev Cert.ProjDxKIdeal.nD → PrngReg), Pre_ProjDxKIdeal m →
    θ_run (Cert.ProjDxKIdeal.defs (F := Ideal)) (onTc (τ := Cert.ProjDxKIdeal.τ) (Cert.ProjDxKIdeal.main (F := Ideal))) ⟨m, fun _ => 0, g⟩ (fun r => (∀ c : Dev Cert.ProjDxKIdeal.nD,
      r.2.mem ((c.tc : Thread Cert.ProjDxKIdeal.nD Cert.ProjDxKIdeal.τ).loc Cert.ProjDxKIdeal.main_arg0) = m ((c.tc : Thread Cert.ProjDxKIdeal.nD Cert.ProjDxKIdeal.τ).loc Cert.ProjDxKIdeal.main_arg0)
      ∧ r.2.mem ((c.tc : Thread Cert.ProjDxKIdeal.nD Cert.ProjDxKIdeal.τ).loc Cert.ProjDxKIdeal.main_arg1) = m ((c.tc : Thread Cert.ProjDxKIdeal.nD Cert.ProjDxKIdeal.τ).loc Cert.ProjDxKIdeal.main_arg1)
      ∧ r.2.mem ((c.tc : Thread Cert.ProjDxKIdeal.nD Cert.ProjDxKIdeal.τ).loc Cert.ProjDxKIdeal.main_arg2) = m ((c.tc : Thread Cert.ProjDxKIdeal.nD Cert.ProjDxKIdeal.τ).loc Cert.ProjDxKIdeal.main_arg2)
      ∧ r.2.mem ((c.tc : Thread Cert.ProjDxKIdeal.nD Cert.ProjDxKIdeal.τ).loc Cert.ProjDxKIdeal.main_arg3) = m ((c.tc : Thread Cert.ProjDxKIdeal.nD Cert.ProjDxKIdeal.τ).loc Cert.ProjDxKIdeal.main_arg3)
      ∧ r.2.mem ((c.tc : Thread Cert.ProjDxKIdeal.nD Cert.ProjDxKIdeal.τ).loc Cert.ProjDxKIdeal.main_arg4) = m ((c.tc : Thread Cert.ProjDxKIdeal.nD Cert.ProjDxKIdeal.τ).loc Cert.ProjDxKIdeal.main_arg4)
      ∧ r.2.mem ((c.tc : Thread Cert.ProjDxKIdeal.nD Cert.ProjDxKIdeal.τ).loc Cert.ProjDxKIdeal.main_arg5) = m ((c.tc : Thread Cert.ProjDxKIdeal.nD Cert.ProjDxKIdeal.τ).loc Cert.ProjDxKIdeal.main_arg5)
      ∧ r.2.mem ((c.tc : Thread Cert.ProjDxKIdeal.nD Cert.ProjDxKIdeal.τ).loc Cert.ProjDxKIdeal.main_arg6) = m ((c.tc : Thread Cert.ProjDxKIdeal.nD Cert.ProjDxKIdeal.τ).loc Cert.ProjDxKIdeal.main_arg6)
      ∧ r.2.mem ((c.tc : Thread Cert.ProjDxKIdeal.nD Cert.ProjDxKIdeal.τ).loc Cert.ProjDxKIdeal.main_arg7) = m ((c.tc : Thread Cert.ProjDxKIdeal.nD Cert.ProjDxKIdeal.τ).loc Cert.ProjDxKIdeal.main_arg7))
      ∧ r.2.sem = fun _ => 0)

def quiescent_ProjDxRIdeal [hProjDxRIdeal : Cert.ProjDxRIdeal.Facts] : Prop :=
  ∀ (m : (ℓ : Loc Cert.ProjDxRIdeal.nD Cert.ProjDxRIdeal.τ Cert.ProjDxRIdeal.sig) → Buf (Elt Ideal) ℓ) (g : Dev Cert.ProjDxRIdeal.nD → PrngReg), Pre_ProjDxRIdeal m →
    θ_run (Cert.ProjDxRIdeal.defs (F := Ideal)) (onTc (τ := Cert.ProjDxRIdeal.τ) (Cert.ProjDxRIdeal.main (F := Ideal))) ⟨m, fun _ => 0, g⟩ (fun r => (∀ c : Dev Cert.ProjDxRIdeal.nD,
      r.2.mem ((c.tc : Thread Cert.ProjDxRIdeal.nD Cert.ProjDxRIdeal.τ).loc Cert.ProjDxRIdeal.main_arg0) = m ((c.tc : Thread Cert.ProjDxRIdeal.nD Cert.ProjDxRIdeal.τ).loc Cert.ProjDxRIdeal.main_arg0)
      ∧ r.2.mem ((c.tc : Thread Cert.ProjDxRIdeal.nD Cert.ProjDxRIdeal.τ).loc Cert.ProjDxRIdeal.main_arg1) = m ((c.tc : Thread Cert.ProjDxRIdeal.nD Cert.ProjDxRIdeal.τ).loc Cert.ProjDxRIdeal.main_arg1)
      ∧ r.2.mem ((c.tc : Thread Cert.ProjDxRIdeal.nD Cert.ProjDxRIdeal.τ).loc Cert.ProjDxRIdeal.main_arg2) = m ((c.tc : Thread Cert.ProjDxRIdeal.nD Cert.ProjDxRIdeal.τ).loc Cert.ProjDxRIdeal.main_arg2)
      ∧ r.2.mem ((c.tc : Thread Cert.ProjDxRIdeal.nD Cert.ProjDxRIdeal.τ).loc Cert.ProjDxRIdeal.main_arg3) = m ((c.tc : Thread Cert.ProjDxRIdeal.nD Cert.ProjDxRIdeal.τ).loc Cert.ProjDxRIdeal.main_arg3)
      ∧ r.2.mem ((c.tc : Thread Cert.ProjDxRIdeal.nD Cert.ProjDxRIdeal.τ).loc Cert.ProjDxRIdeal.main_arg4) = m ((c.tc : Thread Cert.ProjDxRIdeal.nD Cert.ProjDxRIdeal.τ).loc Cert.ProjDxRIdeal.main_arg4)
      ∧ r.2.mem ((c.tc : Thread Cert.ProjDxRIdeal.nD Cert.ProjDxRIdeal.τ).loc Cert.ProjDxRIdeal.main_arg5) = m ((c.tc : Thread Cert.ProjDxRIdeal.nD Cert.ProjDxRIdeal.τ).loc Cert.ProjDxRIdeal.main_arg5)
      ∧ r.2.mem ((c.tc : Thread Cert.ProjDxRIdeal.nD Cert.ProjDxRIdeal.τ).loc Cert.ProjDxRIdeal.main_arg6) = m ((c.tc : Thread Cert.ProjDxRIdeal.nD Cert.ProjDxRIdeal.τ).loc Cert.ProjDxRIdeal.main_arg6)
      ∧ r.2.mem ((c.tc : Thread Cert.ProjDxRIdeal.nD Cert.ProjDxRIdeal.τ).loc Cert.ProjDxRIdeal.main_arg7) = m ((c.tc : Thread Cert.ProjDxRIdeal.nD Cert.ProjDxRIdeal.τ).loc Cert.ProjDxRIdeal.main_arg7))
      ∧ r.2.sem = fun _ => 0)

def quiescent_ProjGDwK [hProjGDwK : Cert.ProjGDwK.Facts] : Prop :=
  ∀ (m : (ℓ : Loc Cert.ProjGDwK.nD Cert.ProjGDwK.τ Cert.ProjGDwK.sig) → Buf (Elt Bits) ℓ) (g : Dev Cert.ProjGDwK.nD → PrngReg), Pre_ProjGDwK m →
    θ_run (Cert.ProjGDwK.defs (F := Bits)) (onTc (τ := Cert.ProjGDwK.τ) (Cert.ProjGDwK.main (F := Bits))) ⟨m, fun _ => 0, g⟩ (fun r => (∀ c : Dev Cert.ProjGDwK.nD,
      r.2.mem ((c.tc : Thread Cert.ProjGDwK.nD Cert.ProjGDwK.τ).loc Cert.ProjGDwK.main_arg0) = m ((c.tc : Thread Cert.ProjGDwK.nD Cert.ProjGDwK.τ).loc Cert.ProjGDwK.main_arg0)
      ∧ r.2.mem ((c.tc : Thread Cert.ProjGDwK.nD Cert.ProjGDwK.τ).loc Cert.ProjGDwK.main_arg1) = m ((c.tc : Thread Cert.ProjGDwK.nD Cert.ProjGDwK.τ).loc Cert.ProjGDwK.main_arg1))
      ∧ r.2.sem = fun _ => 0)

def quiescent_ProjGDwKIdeal [hProjGDwKIdeal : Cert.ProjGDwKIdeal.Facts] : Prop :=
  ∀ (m : (ℓ : Loc Cert.ProjGDwKIdeal.nD Cert.ProjGDwKIdeal.τ Cert.ProjGDwKIdeal.sig) → Buf (Elt Ideal) ℓ) (g : Dev Cert.ProjGDwKIdeal.nD → PrngReg), Pre_ProjGDwKIdeal m →
    θ_run (Cert.ProjGDwKIdeal.defs (F := Ideal)) (onTc (τ := Cert.ProjGDwKIdeal.τ) (Cert.ProjGDwKIdeal.main (F := Ideal))) ⟨m, fun _ => 0, g⟩ (fun r => (∀ c : Dev Cert.ProjGDwKIdeal.nD,
      r.2.mem ((c.tc : Thread Cert.ProjGDwKIdeal.nD Cert.ProjGDwKIdeal.τ).loc Cert.ProjGDwKIdeal.main_arg0) = m ((c.tc : Thread Cert.ProjGDwKIdeal.nD Cert.ProjGDwKIdeal.τ).loc Cert.ProjGDwKIdeal.main_arg0)
      ∧ r.2.mem ((c.tc : Thread Cert.ProjGDwKIdeal.nD Cert.ProjGDwKIdeal.τ).loc Cert.ProjGDwKIdeal.main_arg1) = m ((c.tc : Thread Cert.ProjGDwKIdeal.nD Cert.ProjGDwKIdeal.τ).loc Cert.ProjGDwKIdeal.main_arg1))
      ∧ r.2.sem = fun _ => 0)

def quiescent_ProjGDwRIdeal [hProjGDwRIdeal : Cert.ProjGDwRIdeal.Facts] : Prop :=
  ∀ (m : (ℓ : Loc Cert.ProjGDwRIdeal.nD Cert.ProjGDwRIdeal.τ Cert.ProjGDwRIdeal.sig) → Buf (Elt Ideal) ℓ) (g : Dev Cert.ProjGDwRIdeal.nD → PrngReg), Pre_ProjGDwRIdeal m →
    θ_run (Cert.ProjGDwRIdeal.defs (F := Ideal)) (onTc (τ := Cert.ProjGDwRIdeal.τ) (Cert.ProjGDwRIdeal.main (F := Ideal))) ⟨m, fun _ => 0, g⟩ (fun r => (∀ c : Dev Cert.ProjGDwRIdeal.nD,
      r.2.mem ((c.tc : Thread Cert.ProjGDwRIdeal.nD Cert.ProjGDwRIdeal.τ).loc Cert.ProjGDwRIdeal.main_arg0) = m ((c.tc : Thread Cert.ProjGDwRIdeal.nD Cert.ProjGDwRIdeal.τ).loc Cert.ProjGDwRIdeal.main_arg0)
      ∧ r.2.mem ((c.tc : Thread Cert.ProjGDwRIdeal.nD Cert.ProjGDwRIdeal.τ).loc Cert.ProjGDwRIdeal.main_arg1) = m ((c.tc : Thread Cert.ProjGDwRIdeal.nD Cert.ProjGDwRIdeal.τ).loc Cert.ProjGDwRIdeal.main_arg1))
      ∧ r.2.sem = fun _ => 0)

def quiescent_ProjADwK [hProjADwK : Cert.ProjADwK.Facts] : Prop :=
  ∀ (m : (ℓ : Loc Cert.ProjADwK.nD Cert.ProjADwK.τ Cert.ProjADwK.sig) → Buf (Elt Bits) ℓ) (g : Dev Cert.ProjADwK.nD → PrngReg), Pre_ProjADwK m →
    θ_run (Cert.ProjADwK.defs (F := Bits)) (onTc (τ := Cert.ProjADwK.τ) (Cert.ProjADwK.main (F := Bits))) ⟨m, fun _ => 0, g⟩ (fun r => (∀ c : Dev Cert.ProjADwK.nD,
      r.2.mem ((c.tc : Thread Cert.ProjADwK.nD Cert.ProjADwK.τ).loc Cert.ProjADwK.main_arg0) = m ((c.tc : Thread Cert.ProjADwK.nD Cert.ProjADwK.τ).loc Cert.ProjADwK.main_arg0)
      ∧ r.2.mem ((c.tc : Thread Cert.ProjADwK.nD Cert.ProjADwK.τ).loc Cert.ProjADwK.main_arg1) = m ((c.tc : Thread Cert.ProjADwK.nD Cert.ProjADwK.τ).loc Cert.ProjADwK.main_arg1))
      ∧ r.2.sem = fun _ => 0)

def quiescent_ProjADwKIdeal [hProjADwKIdeal : Cert.ProjADwKIdeal.Facts] : Prop :=
  ∀ (m : (ℓ : Loc Cert.ProjADwKIdeal.nD Cert.ProjADwKIdeal.τ Cert.ProjADwKIdeal.sig) → Buf (Elt Ideal) ℓ) (g : Dev Cert.ProjADwKIdeal.nD → PrngReg), Pre_ProjADwKIdeal m →
    θ_run (Cert.ProjADwKIdeal.defs (F := Ideal)) (onTc (τ := Cert.ProjADwKIdeal.τ) (Cert.ProjADwKIdeal.main (F := Ideal))) ⟨m, fun _ => 0, g⟩ (fun r => (∀ c : Dev Cert.ProjADwKIdeal.nD,
      r.2.mem ((c.tc : Thread Cert.ProjADwKIdeal.nD Cert.ProjADwKIdeal.τ).loc Cert.ProjADwKIdeal.main_arg0) = m ((c.tc : Thread Cert.ProjADwKIdeal.nD Cert.ProjADwKIdeal.τ).loc Cert.ProjADwKIdeal.main_arg0)
      ∧ r.2.mem ((c.tc : Thread Cert.ProjADwKIdeal.nD Cert.ProjADwKIdeal.τ).loc Cert.ProjADwKIdeal.main_arg1) = m ((c.tc : Thread Cert.ProjADwKIdeal.nD Cert.ProjADwKIdeal.τ).loc Cert.ProjADwKIdeal.main_arg1))
      ∧ r.2.sem = fun _ => 0)

def quiescent_ProjADwRIdeal [hProjADwRIdeal : Cert.ProjADwRIdeal.Facts] : Prop :=
  ∀ (m : (ℓ : Loc Cert.ProjADwRIdeal.nD Cert.ProjADwRIdeal.τ Cert.ProjADwRIdeal.sig) → Buf (Elt Ideal) ℓ) (g : Dev Cert.ProjADwRIdeal.nD → PrngReg), Pre_ProjADwRIdeal m →
    θ_run (Cert.ProjADwRIdeal.defs (F := Ideal)) (onTc (τ := Cert.ProjADwRIdeal.τ) (Cert.ProjADwRIdeal.main (F := Ideal))) ⟨m, fun _ => 0, g⟩ (fun r => (∀ c : Dev Cert.ProjADwRIdeal.nD,
      r.2.mem ((c.tc : Thread Cert.ProjADwRIdeal.nD Cert.ProjADwRIdeal.τ).loc Cert.ProjADwRIdeal.main_arg0) = m ((c.tc : Thread Cert.ProjADwRIdeal.nD Cert.ProjADwRIdeal.τ).loc Cert.ProjADwRIdeal.main_arg0)
      ∧ r.2.mem ((c.tc : Thread Cert.ProjADwRIdeal.nD Cert.ProjADwRIdeal.τ).loc Cert.ProjADwRIdeal.main_arg1) = m ((c.tc : Thread Cert.ProjADwRIdeal.nD Cert.ProjADwRIdeal.τ).loc Cert.ProjADwRIdeal.main_arg1))
      ∧ r.2.sem = fun _ => 0)

def quiescent_ProjBDwK [hProjBDwK : Cert.ProjBDwK.Facts] : Prop :=
  ∀ (m : (ℓ : Loc Cert.ProjBDwK.nD Cert.ProjBDwK.τ Cert.ProjBDwK.sig) → Buf (Elt Bits) ℓ) (g : Dev Cert.ProjBDwK.nD → PrngReg), Pre_ProjBDwK m →
    θ_run (Cert.ProjBDwK.defs (F := Bits)) (onTc (τ := Cert.ProjBDwK.τ) (Cert.ProjBDwK.main (F := Bits))) ⟨m, fun _ => 0, g⟩ (fun r => (∀ c : Dev Cert.ProjBDwK.nD,
      r.2.mem ((c.tc : Thread Cert.ProjBDwK.nD Cert.ProjBDwK.τ).loc Cert.ProjBDwK.main_arg0) = m ((c.tc : Thread Cert.ProjBDwK.nD Cert.ProjBDwK.τ).loc Cert.ProjBDwK.main_arg0)
      ∧ r.2.mem ((c.tc : Thread Cert.ProjBDwK.nD Cert.ProjBDwK.τ).loc Cert.ProjBDwK.main_arg1) = m ((c.tc : Thread Cert.ProjBDwK.nD Cert.ProjBDwK.τ).loc Cert.ProjBDwK.main_arg1))
      ∧ r.2.sem = fun _ => 0)

def quiescent_ProjBDwKIdeal [hProjBDwKIdeal : Cert.ProjBDwKIdeal.Facts] : Prop :=
  ∀ (m : (ℓ : Loc Cert.ProjBDwKIdeal.nD Cert.ProjBDwKIdeal.τ Cert.ProjBDwKIdeal.sig) → Buf (Elt Ideal) ℓ) (g : Dev Cert.ProjBDwKIdeal.nD → PrngReg), Pre_ProjBDwKIdeal m →
    θ_run (Cert.ProjBDwKIdeal.defs (F := Ideal)) (onTc (τ := Cert.ProjBDwKIdeal.τ) (Cert.ProjBDwKIdeal.main (F := Ideal))) ⟨m, fun _ => 0, g⟩ (fun r => (∀ c : Dev Cert.ProjBDwKIdeal.nD,
      r.2.mem ((c.tc : Thread Cert.ProjBDwKIdeal.nD Cert.ProjBDwKIdeal.τ).loc Cert.ProjBDwKIdeal.main_arg0) = m ((c.tc : Thread Cert.ProjBDwKIdeal.nD Cert.ProjBDwKIdeal.τ).loc Cert.ProjBDwKIdeal.main_arg0)
      ∧ r.2.mem ((c.tc : Thread Cert.ProjBDwKIdeal.nD Cert.ProjBDwKIdeal.τ).loc Cert.ProjBDwKIdeal.main_arg1) = m ((c.tc : Thread Cert.ProjBDwKIdeal.nD Cert.ProjBDwKIdeal.τ).loc Cert.ProjBDwKIdeal.main_arg1))
      ∧ r.2.sem = fun _ => 0)

def quiescent_ProjBDwRIdeal [hProjBDwRIdeal : Cert.ProjBDwRIdeal.Facts] : Prop :=
  ∀ (m : (ℓ : Loc Cert.ProjBDwRIdeal.nD Cert.ProjBDwRIdeal.τ Cert.ProjBDwRIdeal.sig) → Buf (Elt Ideal) ℓ) (g : Dev Cert.ProjBDwRIdeal.nD → PrngReg), Pre_ProjBDwRIdeal m →
    θ_run (Cert.ProjBDwRIdeal.defs (F := Ideal)) (onTc (τ := Cert.ProjBDwRIdeal.τ) (Cert.ProjBDwRIdeal.main (F := Ideal))) ⟨m, fun _ => 0, g⟩ (fun r => (∀ c : Dev Cert.ProjBDwRIdeal.nD,
      r.2.mem ((c.tc : Thread Cert.ProjBDwRIdeal.nD Cert.ProjBDwRIdeal.τ).loc Cert.ProjBDwRIdeal.main_arg0) = m ((c.tc : Thread Cert.ProjBDwRIdeal.nD Cert.ProjBDwRIdeal.τ).loc Cert.ProjBDwRIdeal.main_arg0)
      ∧ r.2.mem ((c.tc : Thread Cert.ProjBDwRIdeal.nD Cert.ProjBDwRIdeal.τ).loc Cert.ProjBDwRIdeal.main_arg1) = m ((c.tc : Thread Cert.ProjBDwRIdeal.nD Cert.ProjBDwRIdeal.τ).loc Cert.ProjBDwRIdeal.main_arg1))
      ∧ r.2.sem = fun _ => 0)

def quiescent_ProjCDwK [hProjCDwK : Cert.ProjCDwK.Facts] : Prop :=
  ∀ (m : (ℓ : Loc Cert.ProjCDwK.nD Cert.ProjCDwK.τ Cert.ProjCDwK.sig) → Buf (Elt Bits) ℓ) (g : Dev Cert.ProjCDwK.nD → PrngReg), Pre_ProjCDwK m →
    θ_run (Cert.ProjCDwK.defs (F := Bits)) (onTc (τ := Cert.ProjCDwK.τ) (Cert.ProjCDwK.main (F := Bits))) ⟨m, fun _ => 0, g⟩ (fun r => (∀ c : Dev Cert.ProjCDwK.nD,
      r.2.mem ((c.tc : Thread Cert.ProjCDwK.nD Cert.ProjCDwK.τ).loc Cert.ProjCDwK.main_arg0) = m ((c.tc : Thread Cert.ProjCDwK.nD Cert.ProjCDwK.τ).loc Cert.ProjCDwK.main_arg0)
      ∧ r.2.mem ((c.tc : Thread Cert.ProjCDwK.nD Cert.ProjCDwK.τ).loc Cert.ProjCDwK.main_arg1) = m ((c.tc : Thread Cert.ProjCDwK.nD Cert.ProjCDwK.τ).loc Cert.ProjCDwK.main_arg1))
      ∧ r.2.sem = fun _ => 0)

def quiescent_ProjCDwKIdeal [hProjCDwKIdeal : Cert.ProjCDwKIdeal.Facts] : Prop :=
  ∀ (m : (ℓ : Loc Cert.ProjCDwKIdeal.nD Cert.ProjCDwKIdeal.τ Cert.ProjCDwKIdeal.sig) → Buf (Elt Ideal) ℓ) (g : Dev Cert.ProjCDwKIdeal.nD → PrngReg), Pre_ProjCDwKIdeal m →
    θ_run (Cert.ProjCDwKIdeal.defs (F := Ideal)) (onTc (τ := Cert.ProjCDwKIdeal.τ) (Cert.ProjCDwKIdeal.main (F := Ideal))) ⟨m, fun _ => 0, g⟩ (fun r => (∀ c : Dev Cert.ProjCDwKIdeal.nD,
      r.2.mem ((c.tc : Thread Cert.ProjCDwKIdeal.nD Cert.ProjCDwKIdeal.τ).loc Cert.ProjCDwKIdeal.main_arg0) = m ((c.tc : Thread Cert.ProjCDwKIdeal.nD Cert.ProjCDwKIdeal.τ).loc Cert.ProjCDwKIdeal.main_arg0)
      ∧ r.2.mem ((c.tc : Thread Cert.ProjCDwKIdeal.nD Cert.ProjCDwKIdeal.τ).loc Cert.ProjCDwKIdeal.main_arg1) = m ((c.tc : Thread Cert.ProjCDwKIdeal.nD Cert.ProjCDwKIdeal.τ).loc Cert.ProjCDwKIdeal.main_arg1))
      ∧ r.2.sem = fun _ => 0)

def quiescent_ProjCDwRIdeal [hProjCDwRIdeal : Cert.ProjCDwRIdeal.Facts] : Prop :=
  ∀ (m : (ℓ : Loc Cert.ProjCDwRIdeal.nD Cert.ProjCDwRIdeal.τ Cert.ProjCDwRIdeal.sig) → Buf (Elt Ideal) ℓ) (g : Dev Cert.ProjCDwRIdeal.nD → PrngReg), Pre_ProjCDwRIdeal m →
    θ_run (Cert.ProjCDwRIdeal.defs (F := Ideal)) (onTc (τ := Cert.ProjCDwRIdeal.τ) (Cert.ProjCDwRIdeal.main (F := Ideal))) ⟨m, fun _ => 0, g⟩ (fun r => (∀ c : Dev Cert.ProjCDwRIdeal.nD,
      r.2.mem ((c.tc : Thread Cert.ProjCDwRIdeal.nD Cert.ProjCDwRIdeal.τ).loc Cert.ProjCDwRIdeal.main_arg0) = m ((c.tc : Thread Cert.ProjCDwRIdeal.nD Cert.ProjCDwRIdeal.τ).loc Cert.ProjCDwRIdeal.main_arg0)
      ∧ r.2.mem ((c.tc : Thread Cert.ProjCDwRIdeal.nD Cert.ProjCDwRIdeal.τ).loc Cert.ProjCDwRIdeal.main_arg1) = m ((c.tc : Thread Cert.ProjCDwRIdeal.nD Cert.ProjCDwRIdeal.τ).loc Cert.ProjCDwRIdeal.main_arg1))
      ∧ r.2.sem = fun _ => 0)

def quiescent_UpDwK [hUpDwK : Cert.UpDwK.Facts] : Prop :=
  ∀ (m : (ℓ : Loc Cert.UpDwK.nD Cert.UpDwK.τ Cert.UpDwK.sig) → Buf (Elt Bits) ℓ) (g : Dev Cert.UpDwK.nD → PrngReg), Pre_UpDwK m →
    θ_run (Cert.UpDwK.defs (F := Bits)) (onTc (τ := Cert.UpDwK.τ) (Cert.UpDwK.main (F := Bits))) ⟨m, fun _ => 0, g⟩ (fun r => (∀ c : Dev Cert.UpDwK.nD,
      r.2.mem ((c.tc : Thread Cert.UpDwK.nD Cert.UpDwK.τ).loc Cert.UpDwK.main_arg0) = m ((c.tc : Thread Cert.UpDwK.nD Cert.UpDwK.τ).loc Cert.UpDwK.main_arg0)
      ∧ r.2.mem ((c.tc : Thread Cert.UpDwK.nD Cert.UpDwK.τ).loc Cert.UpDwK.main_arg1) = m ((c.tc : Thread Cert.UpDwK.nD Cert.UpDwK.τ).loc Cert.UpDwK.main_arg1))
      ∧ r.2.sem = fun _ => 0)

def quiescent_UpDwKIdeal [hUpDwKIdeal : Cert.UpDwKIdeal.Facts] : Prop :=
  ∀ (m : (ℓ : Loc Cert.UpDwKIdeal.nD Cert.UpDwKIdeal.τ Cert.UpDwKIdeal.sig) → Buf (Elt Ideal) ℓ) (g : Dev Cert.UpDwKIdeal.nD → PrngReg), Pre_UpDwKIdeal m →
    θ_run (Cert.UpDwKIdeal.defs (F := Ideal)) (onTc (τ := Cert.UpDwKIdeal.τ) (Cert.UpDwKIdeal.main (F := Ideal))) ⟨m, fun _ => 0, g⟩ (fun r => (∀ c : Dev Cert.UpDwKIdeal.nD,
      r.2.mem ((c.tc : Thread Cert.UpDwKIdeal.nD Cert.UpDwKIdeal.τ).loc Cert.UpDwKIdeal.main_arg0) = m ((c.tc : Thread Cert.UpDwKIdeal.nD Cert.UpDwKIdeal.τ).loc Cert.UpDwKIdeal.main_arg0)
      ∧ r.2.mem ((c.tc : Thread Cert.UpDwKIdeal.nD Cert.UpDwKIdeal.τ).loc Cert.UpDwKIdeal.main_arg1) = m ((c.tc : Thread Cert.UpDwKIdeal.nD Cert.UpDwKIdeal.τ).loc Cert.UpDwKIdeal.main_arg1))
      ∧ r.2.sem = fun _ => 0)

def quiescent_UpDwRIdeal [hUpDwRIdeal : Cert.UpDwRIdeal.Facts] : Prop :=
  ∀ (m : (ℓ : Loc Cert.UpDwRIdeal.nD Cert.UpDwRIdeal.τ Cert.UpDwRIdeal.sig) → Buf (Elt Ideal) ℓ) (g : Dev Cert.UpDwRIdeal.nD → PrngReg), Pre_UpDwRIdeal m →
    θ_run (Cert.UpDwRIdeal.defs (F := Ideal)) (onTc (τ := Cert.UpDwRIdeal.τ) (Cert.UpDwRIdeal.main (F := Ideal))) ⟨m, fun _ => 0, g⟩ (fun r => (∀ c : Dev Cert.UpDwRIdeal.nD,
      r.2.mem ((c.tc : Thread Cert.UpDwRIdeal.nD Cert.UpDwRIdeal.τ).loc Cert.UpDwRIdeal.main_arg0) = m ((c.tc : Thread Cert.UpDwRIdeal.nD Cert.UpDwRIdeal.τ).loc Cert.UpDwRIdeal.main_arg0)
      ∧ r.2.mem ((c.tc : Thread Cert.UpDwRIdeal.nD Cert.UpDwRIdeal.τ).loc Cert.UpDwRIdeal.main_arg1) = m ((c.tc : Thread Cert.UpDwRIdeal.nD Cert.UpDwRIdeal.τ).loc Cert.UpDwRIdeal.main_arg1))
      ∧ r.2.sem = fun _ => 0)

def quiescent_DownDwK [hDownDwK : Cert.DownDwK.Facts] : Prop :=
  ∀ (m : (ℓ : Loc Cert.DownDwK.nD Cert.DownDwK.τ Cert.DownDwK.sig) → Buf (Elt Bits) ℓ) (g : Dev Cert.DownDwK.nD → PrngReg), Pre_DownDwK m →
    θ_run (Cert.DownDwK.defs (F := Bits)) (onTc (τ := Cert.DownDwK.τ) (Cert.DownDwK.main (F := Bits))) ⟨m, fun _ => 0, g⟩ (fun r => (∀ c : Dev Cert.DownDwK.nD,
      r.2.mem ((c.tc : Thread Cert.DownDwK.nD Cert.DownDwK.τ).loc Cert.DownDwK.main_arg0) = m ((c.tc : Thread Cert.DownDwK.nD Cert.DownDwK.τ).loc Cert.DownDwK.main_arg0)
      ∧ r.2.mem ((c.tc : Thread Cert.DownDwK.nD Cert.DownDwK.τ).loc Cert.DownDwK.main_arg1) = m ((c.tc : Thread Cert.DownDwK.nD Cert.DownDwK.τ).loc Cert.DownDwK.main_arg1))
      ∧ r.2.sem = fun _ => 0)

def quiescent_DownDwKIdeal [hDownDwKIdeal : Cert.DownDwKIdeal.Facts] : Prop :=
  ∀ (m : (ℓ : Loc Cert.DownDwKIdeal.nD Cert.DownDwKIdeal.τ Cert.DownDwKIdeal.sig) → Buf (Elt Ideal) ℓ) (g : Dev Cert.DownDwKIdeal.nD → PrngReg), Pre_DownDwKIdeal m →
    θ_run (Cert.DownDwKIdeal.defs (F := Ideal)) (onTc (τ := Cert.DownDwKIdeal.τ) (Cert.DownDwKIdeal.main (F := Ideal))) ⟨m, fun _ => 0, g⟩ (fun r => (∀ c : Dev Cert.DownDwKIdeal.nD,
      r.2.mem ((c.tc : Thread Cert.DownDwKIdeal.nD Cert.DownDwKIdeal.τ).loc Cert.DownDwKIdeal.main_arg0) = m ((c.tc : Thread Cert.DownDwKIdeal.nD Cert.DownDwKIdeal.τ).loc Cert.DownDwKIdeal.main_arg0)
      ∧ r.2.mem ((c.tc : Thread Cert.DownDwKIdeal.nD Cert.DownDwKIdeal.τ).loc Cert.DownDwKIdeal.main_arg1) = m ((c.tc : Thread Cert.DownDwKIdeal.nD Cert.DownDwKIdeal.τ).loc Cert.DownDwKIdeal.main_arg1))
      ∧ r.2.sem = fun _ => 0)

def quiescent_DownDwRIdeal [hDownDwRIdeal : Cert.DownDwRIdeal.Facts] : Prop :=
  ∀ (m : (ℓ : Loc Cert.DownDwRIdeal.nD Cert.DownDwRIdeal.τ Cert.DownDwRIdeal.sig) → Buf (Elt Ideal) ℓ) (g : Dev Cert.DownDwRIdeal.nD → PrngReg), Pre_DownDwRIdeal m →
    θ_run (Cert.DownDwRIdeal.defs (F := Ideal)) (onTc (τ := Cert.DownDwRIdeal.τ) (Cert.DownDwRIdeal.main (F := Ideal))) ⟨m, fun _ => 0, g⟩ (fun r => (∀ c : Dev Cert.DownDwRIdeal.nD,
      r.2.mem ((c.tc : Thread Cert.DownDwRIdeal.nD Cert.DownDwRIdeal.τ).loc Cert.DownDwRIdeal.main_arg0) = m ((c.tc : Thread Cert.DownDwRIdeal.nD Cert.DownDwRIdeal.τ).loc Cert.DownDwRIdeal.main_arg0)
      ∧ r.2.mem ((c.tc : Thread Cert.DownDwRIdeal.nD Cert.DownDwRIdeal.τ).loc Cert.DownDwRIdeal.main_arg1) = m ((c.tc : Thread Cert.DownDwRIdeal.nD Cert.DownDwRIdeal.τ).loc Cert.DownDwRIdeal.main_arg1))
      ∧ r.2.sem = fun _ => 0)

def quiescent_ProjK [hProjK : Cert.ProjK.Facts] : Prop :=
  ∀ (m : (ℓ : Loc Cert.ProjK.nD Cert.ProjK.τ Cert.ProjK.sig) → Buf (Elt Bits) ℓ) (g : Dev Cert.ProjK.nD → PrngReg), Pre_ProjK m →
    θ_run (Cert.ProjK.defs (F := Bits)) (onTc (τ := Cert.ProjK.τ) (Cert.ProjK.main (F := Bits))) ⟨m, fun _ => 0, g⟩ (fun r => (∀ c : Dev Cert.ProjK.nD,
      r.2.mem ((c.tc : Thread Cert.ProjK.nD Cert.ProjK.τ).loc Cert.ProjK.main_arg0) = m ((c.tc : Thread Cert.ProjK.nD Cert.ProjK.τ).loc Cert.ProjK.main_arg0)
      ∧ r.2.mem ((c.tc : Thread Cert.ProjK.nD Cert.ProjK.τ).loc Cert.ProjK.main_arg1) = m ((c.tc : Thread Cert.ProjK.nD Cert.ProjK.τ).loc Cert.ProjK.main_arg1)
      ∧ r.2.mem ((c.tc : Thread Cert.ProjK.nD Cert.ProjK.τ).loc Cert.ProjK.main_arg2) = m ((c.tc : Thread Cert.ProjK.nD Cert.ProjK.τ).loc Cert.ProjK.main_arg2)
      ∧ r.2.mem ((c.tc : Thread Cert.ProjK.nD Cert.ProjK.τ).loc Cert.ProjK.main_arg3) = m ((c.tc : Thread Cert.ProjK.nD Cert.ProjK.τ).loc Cert.ProjK.main_arg3)
      ∧ r.2.mem ((c.tc : Thread Cert.ProjK.nD Cert.ProjK.τ).loc Cert.ProjK.main_arg4) = m ((c.tc : Thread Cert.ProjK.nD Cert.ProjK.τ).loc Cert.ProjK.main_arg4))
      ∧ r.2.sem = fun _ => 0)

def quiescent_ProjKIdeal [hProjKIdeal : Cert.ProjKIdeal.Facts] : Prop :=
  ∀ (m : (ℓ : Loc Cert.ProjKIdeal.nD Cert.ProjKIdeal.τ Cert.ProjKIdeal.sig) → Buf (Elt Ideal) ℓ) (g : Dev Cert.ProjKIdeal.nD → PrngReg), Pre_ProjKIdeal m →
    θ_run (Cert.ProjKIdeal.defs (F := Ideal)) (onTc (τ := Cert.ProjKIdeal.τ) (Cert.ProjKIdeal.main (F := Ideal))) ⟨m, fun _ => 0, g⟩ (fun r => (∀ c : Dev Cert.ProjKIdeal.nD,
      r.2.mem ((c.tc : Thread Cert.ProjKIdeal.nD Cert.ProjKIdeal.τ).loc Cert.ProjKIdeal.main_arg0) = m ((c.tc : Thread Cert.ProjKIdeal.nD Cert.ProjKIdeal.τ).loc Cert.ProjKIdeal.main_arg0)
      ∧ r.2.mem ((c.tc : Thread Cert.ProjKIdeal.nD Cert.ProjKIdeal.τ).loc Cert.ProjKIdeal.main_arg1) = m ((c.tc : Thread Cert.ProjKIdeal.nD Cert.ProjKIdeal.τ).loc Cert.ProjKIdeal.main_arg1)
      ∧ r.2.mem ((c.tc : Thread Cert.ProjKIdeal.nD Cert.ProjKIdeal.τ).loc Cert.ProjKIdeal.main_arg2) = m ((c.tc : Thread Cert.ProjKIdeal.nD Cert.ProjKIdeal.τ).loc Cert.ProjKIdeal.main_arg2)
      ∧ r.2.mem ((c.tc : Thread Cert.ProjKIdeal.nD Cert.ProjKIdeal.τ).loc Cert.ProjKIdeal.main_arg3) = m ((c.tc : Thread Cert.ProjKIdeal.nD Cert.ProjKIdeal.τ).loc Cert.ProjKIdeal.main_arg3)
      ∧ r.2.mem ((c.tc : Thread Cert.ProjKIdeal.nD Cert.ProjKIdeal.τ).loc Cert.ProjKIdeal.main_arg4) = m ((c.tc : Thread Cert.ProjKIdeal.nD Cert.ProjKIdeal.τ).loc Cert.ProjKIdeal.main_arg4))
      ∧ r.2.sem = fun _ => 0)

def quiescent_ProjRIdeal [hProjRIdeal : Cert.ProjRIdeal.Facts] : Prop :=
  ∀ (m : (ℓ : Loc Cert.ProjRIdeal.nD Cert.ProjRIdeal.τ Cert.ProjRIdeal.sig) → Buf (Elt Ideal) ℓ) (g : Dev Cert.ProjRIdeal.nD → PrngReg), Pre_ProjRIdeal m →
    θ_run (Cert.ProjRIdeal.defs (F := Ideal)) (onTc (τ := Cert.ProjRIdeal.τ) (Cert.ProjRIdeal.main (F := Ideal))) ⟨m, fun _ => 0, g⟩ (fun r => (∀ c : Dev Cert.ProjRIdeal.nD,
      r.2.mem ((c.tc : Thread Cert.ProjRIdeal.nD Cert.ProjRIdeal.τ).loc Cert.ProjRIdeal.main_arg0) = m ((c.tc : Thread Cert.ProjRIdeal.nD Cert.ProjRIdeal.τ).loc Cert.ProjRIdeal.main_arg0)
      ∧ r.2.mem ((c.tc : Thread Cert.ProjRIdeal.nD Cert.ProjRIdeal.τ).loc Cert.ProjRIdeal.main_arg1) = m ((c.tc : Thread Cert.ProjRIdeal.nD Cert.ProjRIdeal.τ).loc Cert.ProjRIdeal.main_arg1)
      ∧ r.2.mem ((c.tc : Thread Cert.ProjRIdeal.nD Cert.ProjRIdeal.τ).loc Cert.ProjRIdeal.main_arg2) = m ((c.tc : Thread Cert.ProjRIdeal.nD Cert.ProjRIdeal.τ).loc Cert.ProjRIdeal.main_arg2)
      ∧ r.2.mem ((c.tc : Thread Cert.ProjRIdeal.nD Cert.ProjRIdeal.τ).loc Cert.ProjRIdeal.main_arg3) = m ((c.tc : Thread Cert.ProjRIdeal.nD Cert.ProjRIdeal.τ).loc Cert.ProjRIdeal.main_arg3)
      ∧ r.2.mem ((c.tc : Thread Cert.ProjRIdeal.nD Cert.ProjRIdeal.τ).loc Cert.ProjRIdeal.main_arg4) = m ((c.tc : Thread Cert.ProjRIdeal.nD Cert.ProjRIdeal.τ).loc Cert.ProjRIdeal.main_arg4))
      ∧ r.2.sem = fun _ => 0)

def quiescent_UpK [hUpK : Cert.UpK.Facts] : Prop :=
  ∀ (m : (ℓ : Loc Cert.UpK.nD Cert.UpK.τ Cert.UpK.sig) → Buf (Elt Bits) ℓ) (g : Dev Cert.UpK.nD → PrngReg), Pre_UpK m →
    θ_run (Cert.UpK.defs (F := Bits)) (onTc (τ := Cert.UpK.τ) (Cert.UpK.main (F := Bits))) ⟨m, fun _ => 0, g⟩ (fun r => (∀ c : Dev Cert.UpK.nD,
      r.2.mem ((c.tc : Thread Cert.UpK.nD Cert.UpK.τ).loc Cert.UpK.main_arg0) = m ((c.tc : Thread Cert.UpK.nD Cert.UpK.τ).loc Cert.UpK.main_arg0)
      ∧ r.2.mem ((c.tc : Thread Cert.UpK.nD Cert.UpK.τ).loc Cert.UpK.main_arg1) = m ((c.tc : Thread Cert.UpK.nD Cert.UpK.τ).loc Cert.UpK.main_arg1))
      ∧ r.2.sem = fun _ => 0)

def quiescent_UpKIdeal [hUpKIdeal : Cert.UpKIdeal.Facts] : Prop :=
  ∀ (m : (ℓ : Loc Cert.UpKIdeal.nD Cert.UpKIdeal.τ Cert.UpKIdeal.sig) → Buf (Elt Ideal) ℓ) (g : Dev Cert.UpKIdeal.nD → PrngReg), Pre_UpKIdeal m →
    θ_run (Cert.UpKIdeal.defs (F := Ideal)) (onTc (τ := Cert.UpKIdeal.τ) (Cert.UpKIdeal.main (F := Ideal))) ⟨m, fun _ => 0, g⟩ (fun r => (∀ c : Dev Cert.UpKIdeal.nD,
      r.2.mem ((c.tc : Thread Cert.UpKIdeal.nD Cert.UpKIdeal.τ).loc Cert.UpKIdeal.main_arg0) = m ((c.tc : Thread Cert.UpKIdeal.nD Cert.UpKIdeal.τ).loc Cert.UpKIdeal.main_arg0)
      ∧ r.2.mem ((c.tc : Thread Cert.UpKIdeal.nD Cert.UpKIdeal.τ).loc Cert.UpKIdeal.main_arg1) = m ((c.tc : Thread Cert.UpKIdeal.nD Cert.UpKIdeal.τ).loc Cert.UpKIdeal.main_arg1))
      ∧ r.2.sem = fun _ => 0)

def quiescent_UpRIdeal [hUpRIdeal : Cert.UpRIdeal.Facts] : Prop :=
  ∀ (m : (ℓ : Loc Cert.UpRIdeal.nD Cert.UpRIdeal.τ Cert.UpRIdeal.sig) → Buf (Elt Ideal) ℓ) (g : Dev Cert.UpRIdeal.nD → PrngReg), Pre_UpRIdeal m →
    θ_run (Cert.UpRIdeal.defs (F := Ideal)) (onTc (τ := Cert.UpRIdeal.τ) (Cert.UpRIdeal.main (F := Ideal))) ⟨m, fun _ => 0, g⟩ (fun r => (∀ c : Dev Cert.UpRIdeal.nD,
      r.2.mem ((c.tc : Thread Cert.UpRIdeal.nD Cert.UpRIdeal.τ).loc Cert.UpRIdeal.main_arg0) = m ((c.tc : Thread Cert.UpRIdeal.nD Cert.UpRIdeal.τ).loc Cert.UpRIdeal.main_arg0)
      ∧ r.2.mem ((c.tc : Thread Cert.UpRIdeal.nD Cert.UpRIdeal.τ).loc Cert.UpRIdeal.main_arg1) = m ((c.tc : Thread Cert.UpRIdeal.nD Cert.UpRIdeal.τ).loc Cert.UpRIdeal.main_arg1))
      ∧ r.2.sem = fun _ => 0)

def quiescent_DownFwdK [hDownFwdK : Cert.DownFwdK.Facts] : Prop :=
  ∀ (m : (ℓ : Loc Cert.DownFwdK.nD Cert.DownFwdK.τ Cert.DownFwdK.sig) → Buf (Elt Bits) ℓ) (g : Dev Cert.DownFwdK.nD → PrngReg), Pre_DownFwdK m →
    θ_run (Cert.DownFwdK.defs (F := Bits)) (onTc (τ := Cert.DownFwdK.τ) (Cert.DownFwdK.main (F := Bits))) ⟨m, fun _ => 0, g⟩ (fun r => (∀ c : Dev Cert.DownFwdK.nD,
      r.2.mem ((c.tc : Thread Cert.DownFwdK.nD Cert.DownFwdK.τ).loc Cert.DownFwdK.main_arg0) = m ((c.tc : Thread Cert.DownFwdK.nD Cert.DownFwdK.τ).loc Cert.DownFwdK.main_arg0)
      ∧ r.2.mem ((c.tc : Thread Cert.DownFwdK.nD Cert.DownFwdK.τ).loc Cert.DownFwdK.main_arg1) = m ((c.tc : Thread Cert.DownFwdK.nD Cert.DownFwdK.τ).loc Cert.DownFwdK.main_arg1)
      ∧ r.2.mem ((c.tc : Thread Cert.DownFwdK.nD Cert.DownFwdK.τ).loc Cert.DownFwdK.main_arg2) = m ((c.tc : Thread Cert.DownFwdK.nD Cert.DownFwdK.τ).loc Cert.DownFwdK.main_arg2)
      ∧ r.2.mem ((c.tc : Thread Cert.DownFwdK.nD Cert.DownFwdK.τ).loc Cert.DownFwdK.main_arg3) = m ((c.tc : Thread Cert.DownFwdK.nD Cert.DownFwdK.τ).loc Cert.DownFwdK.main_arg3))
      ∧ r.2.sem = fun _ => 0)

def quiescent_DownFwdKIdeal [hDownFwdKIdeal : Cert.DownFwdKIdeal.Facts] : Prop :=
  ∀ (m : (ℓ : Loc Cert.DownFwdKIdeal.nD Cert.DownFwdKIdeal.τ Cert.DownFwdKIdeal.sig) → Buf (Elt Ideal) ℓ) (g : Dev Cert.DownFwdKIdeal.nD → PrngReg), Pre_DownFwdKIdeal m →
    θ_run (Cert.DownFwdKIdeal.defs (F := Ideal)) (onTc (τ := Cert.DownFwdKIdeal.τ) (Cert.DownFwdKIdeal.main (F := Ideal))) ⟨m, fun _ => 0, g⟩ (fun r => (∀ c : Dev Cert.DownFwdKIdeal.nD,
      r.2.mem ((c.tc : Thread Cert.DownFwdKIdeal.nD Cert.DownFwdKIdeal.τ).loc Cert.DownFwdKIdeal.main_arg0) = m ((c.tc : Thread Cert.DownFwdKIdeal.nD Cert.DownFwdKIdeal.τ).loc Cert.DownFwdKIdeal.main_arg0)
      ∧ r.2.mem ((c.tc : Thread Cert.DownFwdKIdeal.nD Cert.DownFwdKIdeal.τ).loc Cert.DownFwdKIdeal.main_arg1) = m ((c.tc : Thread Cert.DownFwdKIdeal.nD Cert.DownFwdKIdeal.τ).loc Cert.DownFwdKIdeal.main_arg1)
      ∧ r.2.mem ((c.tc : Thread Cert.DownFwdKIdeal.nD Cert.DownFwdKIdeal.τ).loc Cert.DownFwdKIdeal.main_arg2) = m ((c.tc : Thread Cert.DownFwdKIdeal.nD Cert.DownFwdKIdeal.τ).loc Cert.DownFwdKIdeal.main_arg2)
      ∧ r.2.mem ((c.tc : Thread Cert.DownFwdKIdeal.nD Cert.DownFwdKIdeal.τ).loc Cert.DownFwdKIdeal.main_arg3) = m ((c.tc : Thread Cert.DownFwdKIdeal.nD Cert.DownFwdKIdeal.τ).loc Cert.DownFwdKIdeal.main_arg3))
      ∧ r.2.sem = fun _ => 0)

def quiescent_DownFwdRIdeal [hDownFwdRIdeal : Cert.DownFwdRIdeal.Facts] : Prop :=
  ∀ (m : (ℓ : Loc Cert.DownFwdRIdeal.nD Cert.DownFwdRIdeal.τ Cert.DownFwdRIdeal.sig) → Buf (Elt Ideal) ℓ) (g : Dev Cert.DownFwdRIdeal.nD → PrngReg), Pre_DownFwdRIdeal m →
    θ_run (Cert.DownFwdRIdeal.defs (F := Ideal)) (onTc (τ := Cert.DownFwdRIdeal.τ) (Cert.DownFwdRIdeal.main (F := Ideal))) ⟨m, fun _ => 0, g⟩ (fun r => (∀ c : Dev Cert.DownFwdRIdeal.nD,
      r.2.mem ((c.tc : Thread Cert.DownFwdRIdeal.nD Cert.DownFwdRIdeal.τ).loc Cert.DownFwdRIdeal.main_arg0) = m ((c.tc : Thread Cert.DownFwdRIdeal.nD Cert.DownFwdRIdeal.τ).loc Cert.DownFwdRIdeal.main_arg0)
      ∧ r.2.mem ((c.tc : Thread Cert.DownFwdRIdeal.nD Cert.DownFwdRIdeal.τ).loc Cert.DownFwdRIdeal.main_arg1) = m ((c.tc : Thread Cert.DownFwdRIdeal.nD Cert.DownFwdRIdeal.τ).loc Cert.DownFwdRIdeal.main_arg1)
      ∧ r.2.mem ((c.tc : Thread Cert.DownFwdRIdeal.nD Cert.DownFwdRIdeal.τ).loc Cert.DownFwdRIdeal.main_arg2) = m ((c.tc : Thread Cert.DownFwdRIdeal.nD Cert.DownFwdRIdeal.τ).loc Cert.DownFwdRIdeal.main_arg2)
      ∧ r.2.mem ((c.tc : Thread Cert.DownFwdRIdeal.nD Cert.DownFwdRIdeal.τ).loc Cert.DownFwdRIdeal.main_arg3) = m ((c.tc : Thread Cert.DownFwdRIdeal.nD Cert.DownFwdRIdeal.τ).loc Cert.DownFwdRIdeal.main_arg3))
      ∧ r.2.sem = fun _ => 0)

def quiescent_MergeK [hMergeK : Cert.MergeK.Facts] : Prop :=
  ∀ (m : (ℓ : Loc Cert.MergeK.nD Cert.MergeK.τ Cert.MergeK.sig) → Buf (Elt Bits) ℓ) (g : Dev Cert.MergeK.nD → PrngReg), Pre_MergeK m →
    θ_run (Cert.MergeK.defs (F := Bits)) (onTc (τ := Cert.MergeK.τ) (Cert.MergeK.main (F := Bits))) ⟨m, fun _ => 0, g⟩ (fun r => (∀ c : Dev Cert.MergeK.nD,
      r.2.mem ((c.tc : Thread Cert.MergeK.nD Cert.MergeK.τ).loc Cert.MergeK.main_arg0) = m ((c.tc : Thread Cert.MergeK.nD Cert.MergeK.τ).loc Cert.MergeK.main_arg0)
      ∧ r.2.mem ((c.tc : Thread Cert.MergeK.nD Cert.MergeK.τ).loc Cert.MergeK.main_arg1) = m ((c.tc : Thread Cert.MergeK.nD Cert.MergeK.τ).loc Cert.MergeK.main_arg1)
      ∧ r.2.mem ((c.tc : Thread Cert.MergeK.nD Cert.MergeK.τ).loc Cert.MergeK.main_arg2) = m ((c.tc : Thread Cert.MergeK.nD Cert.MergeK.τ).loc Cert.MergeK.main_arg2)
      ∧ r.2.mem ((c.tc : Thread Cert.MergeK.nD Cert.MergeK.τ).loc Cert.MergeK.main_arg3) = m ((c.tc : Thread Cert.MergeK.nD Cert.MergeK.τ).loc Cert.MergeK.main_arg3)
      ∧ r.2.mem ((c.tc : Thread Cert.MergeK.nD Cert.MergeK.τ).loc Cert.MergeK.main_arg4) = m ((c.tc : Thread Cert.MergeK.nD Cert.MergeK.τ).loc Cert.MergeK.main_arg4)
      ∧ r.2.mem ((c.tc : Thread Cert.MergeK.nD Cert.MergeK.τ).loc Cert.MergeK.main_arg5) = m ((c.tc : Thread Cert.MergeK.nD Cert.MergeK.τ).loc Cert.MergeK.main_arg5)
      ∧ r.2.mem ((c.tc : Thread Cert.MergeK.nD Cert.MergeK.τ).loc Cert.MergeK.main_arg6) = m ((c.tc : Thread Cert.MergeK.nD Cert.MergeK.τ).loc Cert.MergeK.main_arg6)
      ∧ r.2.mem ((c.tc : Thread Cert.MergeK.nD Cert.MergeK.τ).loc Cert.MergeK.main_arg7) = m ((c.tc : Thread Cert.MergeK.nD Cert.MergeK.τ).loc Cert.MergeK.main_arg7)
      ∧ r.2.mem ((c.tc : Thread Cert.MergeK.nD Cert.MergeK.τ).loc Cert.MergeK.main_arg8) = m ((c.tc : Thread Cert.MergeK.nD Cert.MergeK.τ).loc Cert.MergeK.main_arg8)
      ∧ r.2.mem ((c.tc : Thread Cert.MergeK.nD Cert.MergeK.τ).loc Cert.MergeK.main_arg9) = m ((c.tc : Thread Cert.MergeK.nD Cert.MergeK.τ).loc Cert.MergeK.main_arg9))
      ∧ r.2.sem = fun _ => 0)

def quiescent_MergeKIdeal [hMergeKIdeal : Cert.MergeKIdeal.Facts] : Prop :=
  ∀ (m : (ℓ : Loc Cert.MergeKIdeal.nD Cert.MergeKIdeal.τ Cert.MergeKIdeal.sig) → Buf (Elt Ideal) ℓ) (g : Dev Cert.MergeKIdeal.nD → PrngReg), Pre_MergeKIdeal m →
    θ_run (Cert.MergeKIdeal.defs (F := Ideal)) (onTc (τ := Cert.MergeKIdeal.τ) (Cert.MergeKIdeal.main (F := Ideal))) ⟨m, fun _ => 0, g⟩ (fun r => (∀ c : Dev Cert.MergeKIdeal.nD,
      r.2.mem ((c.tc : Thread Cert.MergeKIdeal.nD Cert.MergeKIdeal.τ).loc Cert.MergeKIdeal.main_arg0) = m ((c.tc : Thread Cert.MergeKIdeal.nD Cert.MergeKIdeal.τ).loc Cert.MergeKIdeal.main_arg0)
      ∧ r.2.mem ((c.tc : Thread Cert.MergeKIdeal.nD Cert.MergeKIdeal.τ).loc Cert.MergeKIdeal.main_arg1) = m ((c.tc : Thread Cert.MergeKIdeal.nD Cert.MergeKIdeal.τ).loc Cert.MergeKIdeal.main_arg1)
      ∧ r.2.mem ((c.tc : Thread Cert.MergeKIdeal.nD Cert.MergeKIdeal.τ).loc Cert.MergeKIdeal.main_arg2) = m ((c.tc : Thread Cert.MergeKIdeal.nD Cert.MergeKIdeal.τ).loc Cert.MergeKIdeal.main_arg2)
      ∧ r.2.mem ((c.tc : Thread Cert.MergeKIdeal.nD Cert.MergeKIdeal.τ).loc Cert.MergeKIdeal.main_arg3) = m ((c.tc : Thread Cert.MergeKIdeal.nD Cert.MergeKIdeal.τ).loc Cert.MergeKIdeal.main_arg3)
      ∧ r.2.mem ((c.tc : Thread Cert.MergeKIdeal.nD Cert.MergeKIdeal.τ).loc Cert.MergeKIdeal.main_arg4) = m ((c.tc : Thread Cert.MergeKIdeal.nD Cert.MergeKIdeal.τ).loc Cert.MergeKIdeal.main_arg4)
      ∧ r.2.mem ((c.tc : Thread Cert.MergeKIdeal.nD Cert.MergeKIdeal.τ).loc Cert.MergeKIdeal.main_arg5) = m ((c.tc : Thread Cert.MergeKIdeal.nD Cert.MergeKIdeal.τ).loc Cert.MergeKIdeal.main_arg5)
      ∧ r.2.mem ((c.tc : Thread Cert.MergeKIdeal.nD Cert.MergeKIdeal.τ).loc Cert.MergeKIdeal.main_arg6) = m ((c.tc : Thread Cert.MergeKIdeal.nD Cert.MergeKIdeal.τ).loc Cert.MergeKIdeal.main_arg6)
      ∧ r.2.mem ((c.tc : Thread Cert.MergeKIdeal.nD Cert.MergeKIdeal.τ).loc Cert.MergeKIdeal.main_arg7) = m ((c.tc : Thread Cert.MergeKIdeal.nD Cert.MergeKIdeal.τ).loc Cert.MergeKIdeal.main_arg7)
      ∧ r.2.mem ((c.tc : Thread Cert.MergeKIdeal.nD Cert.MergeKIdeal.τ).loc Cert.MergeKIdeal.main_arg8) = m ((c.tc : Thread Cert.MergeKIdeal.nD Cert.MergeKIdeal.τ).loc Cert.MergeKIdeal.main_arg8)
      ∧ r.2.mem ((c.tc : Thread Cert.MergeKIdeal.nD Cert.MergeKIdeal.τ).loc Cert.MergeKIdeal.main_arg9) = m ((c.tc : Thread Cert.MergeKIdeal.nD Cert.MergeKIdeal.τ).loc Cert.MergeKIdeal.main_arg9))
      ∧ r.2.sem = fun _ => 0)

def quiescent_MergeRIdeal [hMergeRIdeal : Cert.MergeRIdeal.Facts] : Prop :=
  ∀ (m : (ℓ : Loc Cert.MergeRIdeal.nD Cert.MergeRIdeal.τ Cert.MergeRIdeal.sig) → Buf (Elt Ideal) ℓ) (g : Dev Cert.MergeRIdeal.nD → PrngReg), Pre_MergeRIdeal m →
    θ_run (Cert.MergeRIdeal.defs (F := Ideal)) (onTc (τ := Cert.MergeRIdeal.τ) (Cert.MergeRIdeal.main (F := Ideal))) ⟨m, fun _ => 0, g⟩ (fun r => (∀ c : Dev Cert.MergeRIdeal.nD,
      r.2.mem ((c.tc : Thread Cert.MergeRIdeal.nD Cert.MergeRIdeal.τ).loc Cert.MergeRIdeal.main_arg0) = m ((c.tc : Thread Cert.MergeRIdeal.nD Cert.MergeRIdeal.τ).loc Cert.MergeRIdeal.main_arg0)
      ∧ r.2.mem ((c.tc : Thread Cert.MergeRIdeal.nD Cert.MergeRIdeal.τ).loc Cert.MergeRIdeal.main_arg1) = m ((c.tc : Thread Cert.MergeRIdeal.nD Cert.MergeRIdeal.τ).loc Cert.MergeRIdeal.main_arg1)
      ∧ r.2.mem ((c.tc : Thread Cert.MergeRIdeal.nD Cert.MergeRIdeal.τ).loc Cert.MergeRIdeal.main_arg2) = m ((c.tc : Thread Cert.MergeRIdeal.nD Cert.MergeRIdeal.τ).loc Cert.MergeRIdeal.main_arg2)
      ∧ r.2.mem ((c.tc : Thread Cert.MergeRIdeal.nD Cert.MergeRIdeal.τ).loc Cert.MergeRIdeal.main_arg3) = m ((c.tc : Thread Cert.MergeRIdeal.nD Cert.MergeRIdeal.τ).loc Cert.MergeRIdeal.main_arg3)
      ∧ r.2.mem ((c.tc : Thread Cert.MergeRIdeal.nD Cert.MergeRIdeal.τ).loc Cert.MergeRIdeal.main_arg4) = m ((c.tc : Thread Cert.MergeRIdeal.nD Cert.MergeRIdeal.τ).loc Cert.MergeRIdeal.main_arg4)
      ∧ r.2.mem ((c.tc : Thread Cert.MergeRIdeal.nD Cert.MergeRIdeal.τ).loc Cert.MergeRIdeal.main_arg5) = m ((c.tc : Thread Cert.MergeRIdeal.nD Cert.MergeRIdeal.τ).loc Cert.MergeRIdeal.main_arg5)
      ∧ r.2.mem ((c.tc : Thread Cert.MergeRIdeal.nD Cert.MergeRIdeal.τ).loc Cert.MergeRIdeal.main_arg6) = m ((c.tc : Thread Cert.MergeRIdeal.nD Cert.MergeRIdeal.τ).loc Cert.MergeRIdeal.main_arg6)
      ∧ r.2.mem ((c.tc : Thread Cert.MergeRIdeal.nD Cert.MergeRIdeal.τ).loc Cert.MergeRIdeal.main_arg7) = m ((c.tc : Thread Cert.MergeRIdeal.nD Cert.MergeRIdeal.τ).loc Cert.MergeRIdeal.main_arg7)
      ∧ r.2.mem ((c.tc : Thread Cert.MergeRIdeal.nD Cert.MergeRIdeal.τ).loc Cert.MergeRIdeal.main_arg8) = m ((c.tc : Thread Cert.MergeRIdeal.nD Cert.MergeRIdeal.τ).loc Cert.MergeRIdeal.main_arg8)
      ∧ r.2.mem ((c.tc : Thread Cert.MergeRIdeal.nD Cert.MergeRIdeal.τ).loc Cert.MergeRIdeal.main_arg9) = m ((c.tc : Thread Cert.MergeRIdeal.nD Cert.MergeRIdeal.τ).loc Cert.MergeRIdeal.main_arg9))
      ∧ r.2.sem = fun _ => 0)

def quiescent_NormFwdK [hNormFwdK : Cert.NormFwdK.Facts] : Prop :=
  ∀ (m : (ℓ : Loc Cert.NormFwdK.nD Cert.NormFwdK.τ Cert.NormFwdK.sig) → Buf (Elt Bits) ℓ) (g : Dev Cert.NormFwdK.nD → PrngReg), Pre_NormFwdK m →
    θ_run (Cert.NormFwdK.defs (F := Bits)) (onTc (τ := Cert.NormFwdK.τ) (Cert.NormFwdK.main (F := Bits))) ⟨m, fun _ => 0, g⟩ (fun r => (∀ c : Dev Cert.NormFwdK.nD,
      r.2.mem ((c.tc : Thread Cert.NormFwdK.nD Cert.NormFwdK.τ).loc Cert.NormFwdK.main_arg0) = m ((c.tc : Thread Cert.NormFwdK.nD Cert.NormFwdK.τ).loc Cert.NormFwdK.main_arg0)
      ∧ r.2.mem ((c.tc : Thread Cert.NormFwdK.nD Cert.NormFwdK.τ).loc Cert.NormFwdK.main_arg1) = m ((c.tc : Thread Cert.NormFwdK.nD Cert.NormFwdK.τ).loc Cert.NormFwdK.main_arg1)
      ∧ r.2.mem ((c.tc : Thread Cert.NormFwdK.nD Cert.NormFwdK.τ).loc Cert.NormFwdK.main_arg2) = m ((c.tc : Thread Cert.NormFwdK.nD Cert.NormFwdK.τ).loc Cert.NormFwdK.main_arg2)
      ∧ r.2.mem ((c.tc : Thread Cert.NormFwdK.nD Cert.NormFwdK.τ).loc Cert.NormFwdK.main_arg3) = m ((c.tc : Thread Cert.NormFwdK.nD Cert.NormFwdK.τ).loc Cert.NormFwdK.main_arg3))
      ∧ r.2.sem = fun _ => 0)

def quiescent_NormFwdKIdeal [hNormFwdKIdeal : Cert.NormFwdKIdeal.Facts] : Prop :=
  ∀ (m : (ℓ : Loc Cert.NormFwdKIdeal.nD Cert.NormFwdKIdeal.τ Cert.NormFwdKIdeal.sig) → Buf (Elt Ideal) ℓ) (g : Dev Cert.NormFwdKIdeal.nD → PrngReg), Pre_NormFwdKIdeal m →
    θ_run (Cert.NormFwdKIdeal.defs (F := Ideal)) (onTc (τ := Cert.NormFwdKIdeal.τ) (Cert.NormFwdKIdeal.main (F := Ideal))) ⟨m, fun _ => 0, g⟩ (fun r => (∀ c : Dev Cert.NormFwdKIdeal.nD,
      r.2.mem ((c.tc : Thread Cert.NormFwdKIdeal.nD Cert.NormFwdKIdeal.τ).loc Cert.NormFwdKIdeal.main_arg0) = m ((c.tc : Thread Cert.NormFwdKIdeal.nD Cert.NormFwdKIdeal.τ).loc Cert.NormFwdKIdeal.main_arg0)
      ∧ r.2.mem ((c.tc : Thread Cert.NormFwdKIdeal.nD Cert.NormFwdKIdeal.τ).loc Cert.NormFwdKIdeal.main_arg1) = m ((c.tc : Thread Cert.NormFwdKIdeal.nD Cert.NormFwdKIdeal.τ).loc Cert.NormFwdKIdeal.main_arg1)
      ∧ r.2.mem ((c.tc : Thread Cert.NormFwdKIdeal.nD Cert.NormFwdKIdeal.τ).loc Cert.NormFwdKIdeal.main_arg2) = m ((c.tc : Thread Cert.NormFwdKIdeal.nD Cert.NormFwdKIdeal.τ).loc Cert.NormFwdKIdeal.main_arg2)
      ∧ r.2.mem ((c.tc : Thread Cert.NormFwdKIdeal.nD Cert.NormFwdKIdeal.τ).loc Cert.NormFwdKIdeal.main_arg3) = m ((c.tc : Thread Cert.NormFwdKIdeal.nD Cert.NormFwdKIdeal.τ).loc Cert.NormFwdKIdeal.main_arg3))
      ∧ r.2.sem = fun _ => 0)

def quiescent_NormFwdRIdeal [hNormFwdRIdeal : Cert.NormFwdRIdeal.Facts] : Prop :=
  ∀ (m : (ℓ : Loc Cert.NormFwdRIdeal.nD Cert.NormFwdRIdeal.τ Cert.NormFwdRIdeal.sig) → Buf (Elt Ideal) ℓ) (g : Dev Cert.NormFwdRIdeal.nD → PrngReg), Pre_NormFwdRIdeal m →
    θ_run (Cert.NormFwdRIdeal.defs (F := Ideal)) (onTc (τ := Cert.NormFwdRIdeal.τ) (Cert.NormFwdRIdeal.main (F := Ideal))) ⟨m, fun _ => 0, g⟩ (fun r => (∀ c : Dev Cert.NormFwdRIdeal.nD,
      r.2.mem ((c.tc : Thread Cert.NormFwdRIdeal.nD Cert.NormFwdRIdeal.τ).loc Cert.NormFwdRIdeal.main_arg0) = m ((c.tc : Thread Cert.NormFwdRIdeal.nD Cert.NormFwdRIdeal.τ).loc Cert.NormFwdRIdeal.main_arg0)
      ∧ r.2.mem ((c.tc : Thread Cert.NormFwdRIdeal.nD Cert.NormFwdRIdeal.τ).loc Cert.NormFwdRIdeal.main_arg1) = m ((c.tc : Thread Cert.NormFwdRIdeal.nD Cert.NormFwdRIdeal.τ).loc Cert.NormFwdRIdeal.main_arg1)
      ∧ r.2.mem ((c.tc : Thread Cert.NormFwdRIdeal.nD Cert.NormFwdRIdeal.τ).loc Cert.NormFwdRIdeal.main_arg2) = m ((c.tc : Thread Cert.NormFwdRIdeal.nD Cert.NormFwdRIdeal.τ).loc Cert.NormFwdRIdeal.main_arg2)
      ∧ r.2.mem ((c.tc : Thread Cert.NormFwdRIdeal.nD Cert.NormFwdRIdeal.τ).loc Cert.NormFwdRIdeal.main_arg3) = m ((c.tc : Thread Cert.NormFwdRIdeal.nD Cert.NormFwdRIdeal.τ).loc Cert.NormFwdRIdeal.main_arg3))
      ∧ r.2.sem = fun _ => 0)

def quiescent_ConvFwdK [hConvFwdK : Cert.ConvFwdK.Facts] : Prop :=
  ∀ (m : (ℓ : Loc Cert.ConvFwdK.nD Cert.ConvFwdK.τ Cert.ConvFwdK.sig) → Buf (Elt Bits) ℓ) (g : Dev Cert.ConvFwdK.nD → PrngReg), Pre_ConvFwdK m →
    θ_run (Cert.ConvFwdK.defs (F := Bits)) (onTc (τ := Cert.ConvFwdK.τ) (Cert.ConvFwdK.main (F := Bits))) ⟨m, fun _ => 0, g⟩ (fun r => (∀ c : Dev Cert.ConvFwdK.nD,
      r.2.mem ((c.tc : Thread Cert.ConvFwdK.nD Cert.ConvFwdK.τ).loc Cert.ConvFwdK.main_arg0) = m ((c.tc : Thread Cert.ConvFwdK.nD Cert.ConvFwdK.τ).loc Cert.ConvFwdK.main_arg0)
      ∧ r.2.mem ((c.tc : Thread Cert.ConvFwdK.nD Cert.ConvFwdK.τ).loc Cert.ConvFwdK.main_arg1) = m ((c.tc : Thread Cert.ConvFwdK.nD Cert.ConvFwdK.τ).loc Cert.ConvFwdK.main_arg1)
      ∧ r.2.mem ((c.tc : Thread Cert.ConvFwdK.nD Cert.ConvFwdK.τ).loc Cert.ConvFwdK.main_arg2) = m ((c.tc : Thread Cert.ConvFwdK.nD Cert.ConvFwdK.τ).loc Cert.ConvFwdK.main_arg2))
      ∧ r.2.sem = fun _ => 0)

def quiescent_ConvFwdKIdeal [hConvFwdKIdeal : Cert.ConvFwdKIdeal.Facts] : Prop :=
  ∀ (m : (ℓ : Loc Cert.ConvFwdKIdeal.nD Cert.ConvFwdKIdeal.τ Cert.ConvFwdKIdeal.sig) → Buf (Elt Ideal) ℓ) (g : Dev Cert.ConvFwdKIdeal.nD → PrngReg), Pre_ConvFwdKIdeal m →
    θ_run (Cert.ConvFwdKIdeal.defs (F := Ideal)) (onTc (τ := Cert.ConvFwdKIdeal.τ) (Cert.ConvFwdKIdeal.main (F := Ideal))) ⟨m, fun _ => 0, g⟩ (fun r => (∀ c : Dev Cert.ConvFwdKIdeal.nD,
      r.2.mem ((c.tc : Thread Cert.ConvFwdKIdeal.nD Cert.ConvFwdKIdeal.τ).loc Cert.ConvFwdKIdeal.main_arg0) = m ((c.tc : Thread Cert.ConvFwdKIdeal.nD Cert.ConvFwdKIdeal.τ).loc Cert.ConvFwdKIdeal.main_arg0)
      ∧ r.2.mem ((c.tc : Thread Cert.ConvFwdKIdeal.nD Cert.ConvFwdKIdeal.τ).loc Cert.ConvFwdKIdeal.main_arg1) = m ((c.tc : Thread Cert.ConvFwdKIdeal.nD Cert.ConvFwdKIdeal.τ).loc Cert.ConvFwdKIdeal.main_arg1)
      ∧ r.2.mem ((c.tc : Thread Cert.ConvFwdKIdeal.nD Cert.ConvFwdKIdeal.τ).loc Cert.ConvFwdKIdeal.main_arg2) = m ((c.tc : Thread Cert.ConvFwdKIdeal.nD Cert.ConvFwdKIdeal.τ).loc Cert.ConvFwdKIdeal.main_arg2))
      ∧ r.2.sem = fun _ => 0)

def quiescent_ConvFwdRIdeal [hConvFwdRIdeal : Cert.ConvFwdRIdeal.Facts] : Prop :=
  ∀ (m : (ℓ : Loc Cert.ConvFwdRIdeal.nD Cert.ConvFwdRIdeal.τ Cert.ConvFwdRIdeal.sig) → Buf (Elt Ideal) ℓ) (g : Dev Cert.ConvFwdRIdeal.nD → PrngReg), Pre_ConvFwdRIdeal m →
    θ_run (Cert.ConvFwdRIdeal.defs (F := Ideal)) (onTc (τ := Cert.ConvFwdRIdeal.τ) (Cert.ConvFwdRIdeal.main (F := Ideal))) ⟨m, fun _ => 0, g⟩ (fun r => (∀ c : Dev Cert.ConvFwdRIdeal.nD,
      r.2.mem ((c.tc : Thread Cert.ConvFwdRIdeal.nD Cert.ConvFwdRIdeal.τ).loc Cert.ConvFwdRIdeal.main_arg0) = m ((c.tc : Thread Cert.ConvFwdRIdeal.nD Cert.ConvFwdRIdeal.τ).loc Cert.ConvFwdRIdeal.main_arg0)
      ∧ r.2.mem ((c.tc : Thread Cert.ConvFwdRIdeal.nD Cert.ConvFwdRIdeal.τ).loc Cert.ConvFwdRIdeal.main_arg1) = m ((c.tc : Thread Cert.ConvFwdRIdeal.nD Cert.ConvFwdRIdeal.τ).loc Cert.ConvFwdRIdeal.main_arg1)
      ∧ r.2.mem ((c.tc : Thread Cert.ConvFwdRIdeal.nD Cert.ConvFwdRIdeal.τ).loc Cert.ConvFwdRIdeal.main_arg2) = m ((c.tc : Thread Cert.ConvFwdRIdeal.nD Cert.ConvFwdRIdeal.τ).loc Cert.ConvFwdRIdeal.main_arg2))
      ∧ r.2.sem = fun _ => 0)

def quiescent_AdamK [hAdamK : Cert.AdamK.Facts] : Prop :=
  ∀ (m : (ℓ : Loc Cert.AdamK.nD Cert.AdamK.τ Cert.AdamK.sig) → Buf (Elt Bits) ℓ) (g : Dev Cert.AdamK.nD → PrngReg), Pre_AdamK m →
    θ_run (Cert.AdamK.defs (F := Bits)) (onTc (τ := Cert.AdamK.τ) (Cert.AdamK.main (F := Bits))) ⟨m, fun _ => 0, g⟩ (fun r => (∀ c : Dev Cert.AdamK.nD,
      r.2.mem ((c.tc : Thread Cert.AdamK.nD Cert.AdamK.τ).loc Cert.AdamK.main_arg0) = m ((c.tc : Thread Cert.AdamK.nD Cert.AdamK.τ).loc Cert.AdamK.main_arg0)
      ∧ r.2.mem ((c.tc : Thread Cert.AdamK.nD Cert.AdamK.τ).loc Cert.AdamK.main_arg1) = m ((c.tc : Thread Cert.AdamK.nD Cert.AdamK.τ).loc Cert.AdamK.main_arg1)
      ∧ r.2.mem ((c.tc : Thread Cert.AdamK.nD Cert.AdamK.τ).loc Cert.AdamK.main_arg2) = m ((c.tc : Thread Cert.AdamK.nD Cert.AdamK.τ).loc Cert.AdamK.main_arg2)
      ∧ r.2.mem ((c.tc : Thread Cert.AdamK.nD Cert.AdamK.τ).loc Cert.AdamK.main_arg3) = m ((c.tc : Thread Cert.AdamK.nD Cert.AdamK.τ).loc Cert.AdamK.main_arg3))
      ∧ r.2.sem = fun _ => 0)

def quiescent_AdamKIdeal [hAdamKIdeal : Cert.AdamKIdeal.Facts] : Prop :=
  ∀ (m : (ℓ : Loc Cert.AdamKIdeal.nD Cert.AdamKIdeal.τ Cert.AdamKIdeal.sig) → Buf (Elt Ideal) ℓ) (g : Dev Cert.AdamKIdeal.nD → PrngReg), Pre_AdamKIdeal m →
    θ_run (Cert.AdamKIdeal.defs (F := Ideal)) (onTc (τ := Cert.AdamKIdeal.τ) (Cert.AdamKIdeal.main (F := Ideal))) ⟨m, fun _ => 0, g⟩ (fun r => (∀ c : Dev Cert.AdamKIdeal.nD,
      r.2.mem ((c.tc : Thread Cert.AdamKIdeal.nD Cert.AdamKIdeal.τ).loc Cert.AdamKIdeal.main_arg0) = m ((c.tc : Thread Cert.AdamKIdeal.nD Cert.AdamKIdeal.τ).loc Cert.AdamKIdeal.main_arg0)
      ∧ r.2.mem ((c.tc : Thread Cert.AdamKIdeal.nD Cert.AdamKIdeal.τ).loc Cert.AdamKIdeal.main_arg1) = m ((c.tc : Thread Cert.AdamKIdeal.nD Cert.AdamKIdeal.τ).loc Cert.AdamKIdeal.main_arg1)
      ∧ r.2.mem ((c.tc : Thread Cert.AdamKIdeal.nD Cert.AdamKIdeal.τ).loc Cert.AdamKIdeal.main_arg2) = m ((c.tc : Thread Cert.AdamKIdeal.nD Cert.AdamKIdeal.τ).loc Cert.AdamKIdeal.main_arg2)
      ∧ r.2.mem ((c.tc : Thread Cert.AdamKIdeal.nD Cert.AdamKIdeal.τ).loc Cert.AdamKIdeal.main_arg3) = m ((c.tc : Thread Cert.AdamKIdeal.nD Cert.AdamKIdeal.τ).loc Cert.AdamKIdeal.main_arg3))
      ∧ r.2.sem = fun _ => 0)

def quiescent_AdamRIdeal [hAdamRIdeal : Cert.AdamRIdeal.Facts] : Prop :=
  ∀ (m : (ℓ : Loc Cert.AdamRIdeal.nD Cert.AdamRIdeal.τ Cert.AdamRIdeal.sig) → Buf (Elt Ideal) ℓ) (g : Dev Cert.AdamRIdeal.nD → PrngReg), Pre_AdamRIdeal m →
    θ_run (Cert.AdamRIdeal.defs (F := Ideal)) (onTc (τ := Cert.AdamRIdeal.τ) (Cert.AdamRIdeal.main (F := Ideal))) ⟨m, fun _ => 0, g⟩ (fun r => (∀ c : Dev Cert.AdamRIdeal.nD,
      r.2.mem ((c.tc : Thread Cert.AdamRIdeal.nD Cert.AdamRIdeal.τ).loc Cert.AdamRIdeal.main_arg0) = m ((c.tc : Thread Cert.AdamRIdeal.nD Cert.AdamRIdeal.τ).loc Cert.AdamRIdeal.main_arg0)
      ∧ r.2.mem ((c.tc : Thread Cert.AdamRIdeal.nD Cert.AdamRIdeal.τ).loc Cert.AdamRIdeal.main_arg1) = m ((c.tc : Thread Cert.AdamRIdeal.nD Cert.AdamRIdeal.τ).loc Cert.AdamRIdeal.main_arg1)
      ∧ r.2.mem ((c.tc : Thread Cert.AdamRIdeal.nD Cert.AdamRIdeal.τ).loc Cert.AdamRIdeal.main_arg2) = m ((c.tc : Thread Cert.AdamRIdeal.nD Cert.AdamRIdeal.τ).loc Cert.AdamRIdeal.main_arg2)
      ∧ r.2.mem ((c.tc : Thread Cert.AdamRIdeal.nD Cert.AdamRIdeal.τ).loc Cert.AdamRIdeal.main_arg3) = m ((c.tc : Thread Cert.AdamRIdeal.nD Cert.AdamRIdeal.τ).loc Cert.AdamRIdeal.main_arg3))
      ∧ r.2.sem = fun _ => 0)

def preserves_Kernel_KernelIdeal : Prop :=
  True

def preserves_NormK_NormKIdeal : Prop :=
  True

def algebraic_NormKIdeal_NormRIdeal [hNormKIdeal : Cert.NormKIdeal.Facts] [hNormRIdeal : Cert.NormRIdeal.Facts] : Prop :=
  ∀ (m : (ℓ : Loc Cert.NormKIdeal.nD Cert.NormKIdeal.τ Cert.NormKIdeal.sig) → Buf (Elt Ideal) ℓ) (g : Dev Cert.NormKIdeal.nD → PrngReg)
    (m' : (ℓ : Loc Cert.NormRIdeal.nD Cert.NormRIdeal.τ Cert.NormRIdeal.sig) → Buf (Elt Ideal) ℓ) (g' : Dev Cert.NormRIdeal.nD → PrngReg), Pre_NormKIdeal m →
    (∀ c : Dev Cert.NormKIdeal.nD,
      m' ((c.tc : Thread Cert.NormRIdeal.nD Cert.NormRIdeal.τ).loc Cert.NormRIdeal.main_arg0) = m ((c.tc : Thread Cert.NormKIdeal.nD Cert.NormKIdeal.τ).loc Cert.NormKIdeal.main_arg0)
      ∧ m' ((c.tc : Thread Cert.NormRIdeal.nD Cert.NormRIdeal.τ).loc Cert.NormRIdeal.main_arg1) = m ((c.tc : Thread Cert.NormKIdeal.nD Cert.NormKIdeal.τ).loc Cert.NormKIdeal.main_arg1)
      ∧ m' ((c.tc : Thread Cert.NormRIdeal.nD Cert.NormRIdeal.τ).loc Cert.NormRIdeal.main_arg2) = m ((c.tc : Thread Cert.NormKIdeal.nD Cert.NormKIdeal.τ).loc Cert.NormKIdeal.main_arg2)
      ∧ m' ((c.tc : Thread Cert.NormRIdeal.nD Cert.NormRIdeal.τ).loc Cert.NormRIdeal.main_arg3) = m ((c.tc : Thread Cert.NormKIdeal.nD Cert.NormKIdeal.τ).loc Cert.NormKIdeal.main_arg3)
      ∧ m' ((c.tc : Thread Cert.NormRIdeal.nD Cert.NormRIdeal.τ).loc Cert.NormRIdeal.main_arg4) = m ((c.tc : Thread Cert.NormKIdeal.nD Cert.NormKIdeal.τ).loc Cert.NormKIdeal.main_arg4)
      ∧ m' ((c.tc : Thread Cert.NormRIdeal.nD Cert.NormRIdeal.τ).loc Cert.NormRIdeal.main_arg5) = m ((c.tc : Thread Cert.NormKIdeal.nD Cert.NormKIdeal.τ).loc Cert.NormKIdeal.main_arg5)
      ∧ m' ((c.tc : Thread Cert.NormRIdeal.nD Cert.NormRIdeal.τ).loc Cert.NormRIdeal.main_arg6) = m ((c.tc : Thread Cert.NormKIdeal.nD Cert.NormKIdeal.τ).loc Cert.NormKIdeal.main_arg6)) →
    ∃ (v0 : (c : Dev Cert.NormKIdeal.nD) → Buf (Elt Ideal) ((c.tc : Thread Cert.NormKIdeal.nD Cert.NormKIdeal.τ).loc Cert.NormKIdeal.main_v7_0)) (v1 : (c : Dev Cert.NormKIdeal.nD) → Buf (Elt Ideal) ((c.tc : Thread Cert.NormKIdeal.nD Cert.NormKIdeal.τ).loc Cert.NormKIdeal.main_v7_1)) (v2 : (c : Dev Cert.NormKIdeal.nD) → Buf (Elt Ideal) ((c.tc : Thread Cert.NormKIdeal.nD Cert.NormKIdeal.τ).loc Cert.NormKIdeal.main_v7_2)) (v3 : (c : Dev Cert.NormKIdeal.nD) → Buf (Elt Ideal) ((c.tc : Thread Cert.NormKIdeal.nD Cert.NormKIdeal.τ).loc Cert.NormKIdeal.main_v7_3)),
      θ_run (Cert.NormKIdeal.defs (F := Ideal)) (onTc (τ := Cert.NormKIdeal.τ) (Cert.NormKIdeal.main (F := Ideal))) ⟨m, fun _ => 0, g⟩ (fun r => ∀ c : Dev Cert.NormKIdeal.nD,
          r.2.mem ((c.tc : Thread Cert.NormKIdeal.nD Cert.NormKIdeal.τ).loc Cert.NormKIdeal.main_v7_0) = v0 c
          ∧ r.2.mem ((c.tc : Thread Cert.NormKIdeal.nD Cert.NormKIdeal.τ).loc Cert.NormKIdeal.main_v7_1) = v1 c
          ∧ r.2.mem ((c.tc : Thread Cert.NormKIdeal.nD Cert.NormKIdeal.τ).loc Cert.NormKIdeal.main_v7_2) = v2 c
          ∧ r.2.mem ((c.tc : Thread Cert.NormKIdeal.nD Cert.NormKIdeal.τ).loc Cert.NormKIdeal.main_v7_3) = v3 c
          ∧ r.2.mem ((c.tc : Thread Cert.NormKIdeal.nD Cert.NormKIdeal.τ).loc Cert.NormKIdeal.main_arg0) = m ((c.tc : Thread Cert.NormKIdeal.nD Cert.NormKIdeal.τ).loc Cert.NormKIdeal.main_arg0)
          ∧ r.2.mem ((c.tc : Thread Cert.NormKIdeal.nD Cert.NormKIdeal.τ).loc Cert.NormKIdeal.main_arg1) = m ((c.tc : Thread Cert.NormKIdeal.nD Cert.NormKIdeal.τ).loc Cert.NormKIdeal.main_arg1)
          ∧ r.2.mem ((c.tc : Thread Cert.NormKIdeal.nD Cert.NormKIdeal.τ).loc Cert.NormKIdeal.main_arg2) = m ((c.tc : Thread Cert.NormKIdeal.nD Cert.NormKIdeal.τ).loc Cert.NormKIdeal.main_arg2)
          ∧ r.2.mem ((c.tc : Thread Cert.NormKIdeal.nD Cert.NormKIdeal.τ).loc Cert.NormKIdeal.main_arg3) = m ((c.tc : Thread Cert.NormKIdeal.nD Cert.NormKIdeal.τ).loc Cert.NormKIdeal.main_arg3)
          ∧ r.2.mem ((c.tc : Thread Cert.NormKIdeal.nD Cert.NormKIdeal.τ).loc Cert.NormKIdeal.main_arg4) = m ((c.tc : Thread Cert.NormKIdeal.nD Cert.NormKIdeal.τ).loc Cert.NormKIdeal.main_arg4)
          ∧ r.2.mem ((c.tc : Thread Cert.NormKIdeal.nD Cert.NormKIdeal.τ).loc Cert.NormKIdeal.main_arg5) = m ((c.tc : Thread Cert.NormKIdeal.nD Cert.NormKIdeal.τ).loc Cert.NormKIdeal.main_arg5)
          ∧ r.2.mem ((c.tc : Thread Cert.NormKIdeal.nD Cert.NormKIdeal.τ).loc Cert.NormKIdeal.main_arg6) = m ((c.tc : Thread Cert.NormKIdeal.nD Cert.NormKIdeal.τ).loc Cert.NormKIdeal.main_arg6))
      ∧ θ_run (Cert.NormRIdeal.defs (F := Ideal)) (onTc (τ := Cert.NormRIdeal.τ) (Cert.NormRIdeal.main (F := Ideal))) ⟨m', fun _ => 0, g'⟩ (fun r => ∀ c : Dev Cert.NormRIdeal.nD,
          r.2.mem ((c.tc : Thread Cert.NormRIdeal.nD Cert.NormRIdeal.τ).loc Cert.NormRIdeal.main_v57) = v0 c
          ∧ r.2.mem ((c.tc : Thread Cert.NormRIdeal.nD Cert.NormRIdeal.τ).loc Cert.NormRIdeal.main_v58) = v1 c
          ∧ r.2.mem ((c.tc : Thread Cert.NormRIdeal.nD Cert.NormRIdeal.τ).loc Cert.NormRIdeal.main_v59) = v2 c
          ∧ r.2.mem ((c.tc : Thread Cert.NormRIdeal.nD Cert.NormRIdeal.τ).loc Cert.NormRIdeal.main_v60) = v3 c
          ∧ r.2.mem ((c.tc : Thread Cert.NormRIdeal.nD Cert.NormRIdeal.τ).loc Cert.NormRIdeal.main_arg0) = m' ((c.tc : Thread Cert.NormRIdeal.nD Cert.NormRIdeal.τ).loc Cert.NormRIdeal.main_arg0)
          ∧ r.2.mem ((c.tc : Thread Cert.NormRIdeal.nD Cert.NormRIdeal.τ).loc Cert.NormRIdeal.main_arg1) = m' ((c.tc : Thread Cert.NormRIdeal.nD Cert.NormRIdeal.τ).loc Cert.NormRIdeal.main_arg1)
          ∧ r.2.mem ((c.tc : Thread Cert.NormRIdeal.nD Cert.NormRIdeal.τ).loc Cert.NormRIdeal.main_arg2) = m' ((c.tc : Thread Cert.NormRIdeal.nD Cert.NormRIdeal.τ).loc Cert.NormRIdeal.main_arg2)
          ∧ r.2.mem ((c.tc : Thread Cert.NormRIdeal.nD Cert.NormRIdeal.τ).loc Cert.NormRIdeal.main_arg3) = m' ((c.tc : Thread Cert.NormRIdeal.nD Cert.NormRIdeal.τ).loc Cert.NormRIdeal.main_arg3)
          ∧ r.2.mem ((c.tc : Thread Cert.NormRIdeal.nD Cert.NormRIdeal.τ).loc Cert.NormRIdeal.main_arg4) = m' ((c.tc : Thread Cert.NormRIdeal.nD Cert.NormRIdeal.τ).loc Cert.NormRIdeal.main_arg4)
          ∧ r.2.mem ((c.tc : Thread Cert.NormRIdeal.nD Cert.NormRIdeal.τ).loc Cert.NormRIdeal.main_arg5) = m' ((c.tc : Thread Cert.NormRIdeal.nD Cert.NormRIdeal.τ).loc Cert.NormRIdeal.main_arg5)
          ∧ r.2.mem ((c.tc : Thread Cert.NormRIdeal.nD Cert.NormRIdeal.τ).loc Cert.NormRIdeal.main_arg6) = m' ((c.tc : Thread Cert.NormRIdeal.nD Cert.NormRIdeal.τ).loc Cert.NormRIdeal.main_arg6))

def preserves_DownK_DownKIdeal : Prop :=
  True

def algebraic_DownKIdeal_DownRIdeal [hDownKIdeal : Cert.DownKIdeal.Facts] [hDownRIdeal : Cert.DownRIdeal.Facts] : Prop :=
  ∀ (m : (ℓ : Loc Cert.DownKIdeal.nD Cert.DownKIdeal.τ Cert.DownKIdeal.sig) → Buf (Elt Ideal) ℓ) (g : Dev Cert.DownKIdeal.nD → PrngReg)
    (m' : (ℓ : Loc Cert.DownRIdeal.nD Cert.DownRIdeal.τ Cert.DownRIdeal.sig) → Buf (Elt Ideal) ℓ) (g' : Dev Cert.DownRIdeal.nD → PrngReg), Pre_DownKIdeal m →
    (∀ c : Dev Cert.DownKIdeal.nD,
      m' ((c.tc : Thread Cert.DownRIdeal.nD Cert.DownRIdeal.τ).loc Cert.DownRIdeal.main_arg0) = m ((c.tc : Thread Cert.DownKIdeal.nD Cert.DownKIdeal.τ).loc Cert.DownKIdeal.main_arg0)
      ∧ m' ((c.tc : Thread Cert.DownRIdeal.nD Cert.DownRIdeal.τ).loc Cert.DownRIdeal.main_arg1) = m ((c.tc : Thread Cert.DownKIdeal.nD Cert.DownKIdeal.τ).loc Cert.DownKIdeal.main_arg1)
      ∧ m' ((c.tc : Thread Cert.DownRIdeal.nD Cert.DownRIdeal.τ).loc Cert.DownRIdeal.main_arg2) = m ((c.tc : Thread Cert.DownKIdeal.nD Cert.DownKIdeal.τ).loc Cert.DownKIdeal.main_arg2)
      ∧ m' ((c.tc : Thread Cert.DownRIdeal.nD Cert.DownRIdeal.τ).loc Cert.DownRIdeal.main_arg3) = m ((c.tc : Thread Cert.DownKIdeal.nD Cert.DownKIdeal.τ).loc Cert.DownKIdeal.main_arg3)) →
    ∃ (v0 : (c : Dev Cert.DownKIdeal.nD) → Buf (Elt Ideal) ((c.tc : Thread Cert.DownKIdeal.nD Cert.DownKIdeal.τ).loc Cert.DownKIdeal.main_v7_0)) (v1 : (c : Dev Cert.DownKIdeal.nD) → Buf (Elt Ideal) ((c.tc : Thread Cert.DownKIdeal.nD Cert.DownKIdeal.τ).loc Cert.DownKIdeal.main_v7_1)) (v2 : (c : Dev Cert.DownKIdeal.nD) → Buf (Elt Ideal) ((c.tc : Thread Cert.DownKIdeal.nD Cert.DownKIdeal.τ).loc Cert.DownKIdeal.main_v7_2)),
      θ_run (Cert.DownKIdeal.defs (F := Ideal)) (onTc (τ := Cert.DownKIdeal.τ) (Cert.DownKIdeal.main (F := Ideal))) ⟨m, fun _ => 0, g⟩ (fun r => ∀ c : Dev Cert.DownKIdeal.nD,
          r.2.mem ((c.tc : Thread Cert.DownKIdeal.nD Cert.DownKIdeal.τ).loc Cert.DownKIdeal.main_v7_0) = v0 c
          ∧ r.2.mem ((c.tc : Thread Cert.DownKIdeal.nD Cert.DownKIdeal.τ).loc Cert.DownKIdeal.main_v7_1) = v1 c
          ∧ r.2.mem ((c.tc : Thread Cert.DownKIdeal.nD Cert.DownKIdeal.τ).loc Cert.DownKIdeal.main_v7_2) = v2 c
          ∧ r.2.mem ((c.tc : Thread Cert.DownKIdeal.nD Cert.DownKIdeal.τ).loc Cert.DownKIdeal.main_arg0) = m ((c.tc : Thread Cert.DownKIdeal.nD Cert.DownKIdeal.τ).loc Cert.DownKIdeal.main_arg0)
          ∧ r.2.mem ((c.tc : Thread Cert.DownKIdeal.nD Cert.DownKIdeal.τ).loc Cert.DownKIdeal.main_arg1) = m ((c.tc : Thread Cert.DownKIdeal.nD Cert.DownKIdeal.τ).loc Cert.DownKIdeal.main_arg1)
          ∧ r.2.mem ((c.tc : Thread Cert.DownKIdeal.nD Cert.DownKIdeal.τ).loc Cert.DownKIdeal.main_arg2) = m ((c.tc : Thread Cert.DownKIdeal.nD Cert.DownKIdeal.τ).loc Cert.DownKIdeal.main_arg2)
          ∧ r.2.mem ((c.tc : Thread Cert.DownKIdeal.nD Cert.DownKIdeal.τ).loc Cert.DownKIdeal.main_arg3) = m ((c.tc : Thread Cert.DownKIdeal.nD Cert.DownKIdeal.τ).loc Cert.DownKIdeal.main_arg3))
      ∧ θ_run (Cert.DownRIdeal.defs (F := Ideal)) (onTc (τ := Cert.DownRIdeal.τ) (Cert.DownRIdeal.main (F := Ideal))) ⟨m', fun _ => 0, g'⟩ (fun r => ∀ c : Dev Cert.DownRIdeal.nD,
          r.2.mem ((c.tc : Thread Cert.DownRIdeal.nD Cert.DownRIdeal.τ).loc Cert.DownRIdeal.main_v13) = v0 c
          ∧ r.2.mem ((c.tc : Thread Cert.DownRIdeal.nD Cert.DownRIdeal.τ).loc Cert.DownRIdeal.main_v14) = v1 c
          ∧ r.2.mem ((c.tc : Thread Cert.DownRIdeal.nD Cert.DownRIdeal.τ).loc Cert.DownRIdeal.main_v15) = v2 c
          ∧ r.2.mem ((c.tc : Thread Cert.DownRIdeal.nD Cert.DownRIdeal.τ).loc Cert.DownRIdeal.main_arg0) = m' ((c.tc : Thread Cert.DownRIdeal.nD Cert.DownRIdeal.τ).loc Cert.DownRIdeal.main_arg0)
          ∧ r.2.mem ((c.tc : Thread Cert.DownRIdeal.nD Cert.DownRIdeal.τ).loc Cert.DownRIdeal.main_arg1) = m' ((c.tc : Thread Cert.DownRIdeal.nD Cert.DownRIdeal.τ).loc Cert.DownRIdeal.main_arg1)
          ∧ r.2.mem ((c.tc : Thread Cert.DownRIdeal.nD Cert.DownRIdeal.τ).loc Cert.DownRIdeal.main_arg2) = m' ((c.tc : Thread Cert.DownRIdeal.nD Cert.DownRIdeal.τ).loc Cert.DownRIdeal.main_arg2)
          ∧ r.2.mem ((c.tc : Thread Cert.DownRIdeal.nD Cert.DownRIdeal.τ).loc Cert.DownRIdeal.main_arg3) = m' ((c.tc : Thread Cert.DownRIdeal.nD Cert.DownRIdeal.τ).loc Cert.DownRIdeal.main_arg3))

def preserves_ConvK_ConvKIdeal : Prop :=
  True

def algebraic_ConvKIdeal_ConvRIdeal [hConvKIdeal : Cert.ConvKIdeal.Facts] [hConvRIdeal : Cert.ConvRIdeal.Facts] : Prop :=
  ∀ (m : (ℓ : Loc Cert.ConvKIdeal.nD Cert.ConvKIdeal.τ Cert.ConvKIdeal.sig) → Buf (Elt Ideal) ℓ) (g : Dev Cert.ConvKIdeal.nD → PrngReg)
    (m' : (ℓ : Loc Cert.ConvRIdeal.nD Cert.ConvRIdeal.τ Cert.ConvRIdeal.sig) → Buf (Elt Ideal) ℓ) (g' : Dev Cert.ConvRIdeal.nD → PrngReg), Pre_ConvKIdeal m →
    (∀ c : Dev Cert.ConvKIdeal.nD,
      m' ((c.tc : Thread Cert.ConvRIdeal.nD Cert.ConvRIdeal.τ).loc Cert.ConvRIdeal.main_arg0) = m ((c.tc : Thread Cert.ConvKIdeal.nD Cert.ConvKIdeal.τ).loc Cert.ConvKIdeal.main_arg0)
      ∧ m' ((c.tc : Thread Cert.ConvRIdeal.nD Cert.ConvRIdeal.τ).loc Cert.ConvRIdeal.main_arg1) = m ((c.tc : Thread Cert.ConvKIdeal.nD Cert.ConvKIdeal.τ).loc Cert.ConvKIdeal.main_arg1)
      ∧ m' ((c.tc : Thread Cert.ConvRIdeal.nD Cert.ConvRIdeal.τ).loc Cert.ConvRIdeal.main_arg2) = m ((c.tc : Thread Cert.ConvKIdeal.nD Cert.ConvKIdeal.τ).loc Cert.ConvKIdeal.main_arg2)
      ∧ m' ((c.tc : Thread Cert.ConvRIdeal.nD Cert.ConvRIdeal.τ).loc Cert.ConvRIdeal.main_arg3) = m ((c.tc : Thread Cert.ConvKIdeal.nD Cert.ConvKIdeal.τ).loc Cert.ConvKIdeal.main_arg3)) →
    ∃ (v0 : (c : Dev Cert.ConvKIdeal.nD) → Buf (Elt Ideal) ((c.tc : Thread Cert.ConvKIdeal.nD Cert.ConvKIdeal.τ).loc Cert.ConvKIdeal.main_v22_0)) (v1 : (c : Dev Cert.ConvKIdeal.nD) → Buf (Elt Ideal) ((c.tc : Thread Cert.ConvKIdeal.nD Cert.ConvKIdeal.τ).loc Cert.ConvKIdeal.main_v22_1)),
      θ_run (Cert.ConvKIdeal.defs (F := Ideal)) (onTc (τ := Cert.ConvKIdeal.τ) (Cert.ConvKIdeal.main (F := Ideal))) ⟨m, fun _ => 0, g⟩ (fun r => ∀ c : Dev Cert.ConvKIdeal.nD,
          r.2.mem ((c.tc : Thread Cert.ConvKIdeal.nD Cert.ConvKIdeal.τ).loc Cert.ConvKIdeal.main_v22_0) = v0 c
          ∧ r.2.mem ((c.tc : Thread Cert.ConvKIdeal.nD Cert.ConvKIdeal.τ).loc Cert.ConvKIdeal.main_v22_1) = v1 c
          ∧ r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
          ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
          ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2)
          ∧ r.2.mem ((c.tc : Thread Cert.ConvKIdeal.nD Cert.ConvKIdeal.τ).loc Cert.ConvKIdeal.main_arg3) = m ((c.tc : Thread Cert.ConvKIdeal.nD Cert.ConvKIdeal.τ).loc Cert.ConvKIdeal.main_arg3))
      ∧ θ_run (Cert.ConvRIdeal.defs (F := Ideal)) (onTc (τ := Cert.ConvRIdeal.τ) (Cert.ConvRIdeal.main (F := Ideal))) ⟨m', fun _ => 0, g'⟩ (fun r => ∀ c : Dev Cert.ConvRIdeal.nD,
          r.2.mem ((c.tc : Thread Cert.ConvRIdeal.nD Cert.ConvRIdeal.τ).loc Cert.ConvRIdeal.main_v72) = v0 c
          ∧ r.2.mem ((c.tc : Thread Cert.ConvRIdeal.nD Cert.ConvRIdeal.τ).loc Cert.ConvRIdeal.main_v70) = v1 c
          ∧ r.2.mem ((c.tc : Thread Cert.ConvRIdeal.nD Cert.ConvRIdeal.τ).loc Cert.ConvRIdeal.main_arg0) = m' ((c.tc : Thread Cert.ConvRIdeal.nD Cert.ConvRIdeal.τ).loc Cert.ConvRIdeal.main_arg0)
          ∧ r.2.mem ((c.tc : Thread Cert.ConvRIdeal.nD Cert.ConvRIdeal.τ).loc Cert.ConvRIdeal.main_arg1) = m' ((c.tc : Thread Cert.ConvRIdeal.nD Cert.ConvRIdeal.τ).loc Cert.ConvRIdeal.main_arg1)
          ∧ r.2.mem ((c.tc : Thread Cert.ConvRIdeal.nD Cert.ConvRIdeal.τ).loc Cert.ConvRIdeal.main_arg2) = m' ((c.tc : Thread Cert.ConvRIdeal.nD Cert.ConvRIdeal.τ).loc Cert.ConvRIdeal.main_arg2)
          ∧ r.2.mem ((c.tc : Thread Cert.ConvRIdeal.nD Cert.ConvRIdeal.τ).loc Cert.ConvRIdeal.main_arg3) = m' ((c.tc : Thread Cert.ConvRIdeal.nD Cert.ConvRIdeal.τ).loc Cert.ConvRIdeal.main_arg3))

def preserves_ProjDxK_ProjDxKIdeal : Prop :=
  True

def algebraic_ProjDxKIdeal_ProjDxRIdeal [hProjDxKIdeal : Cert.ProjDxKIdeal.Facts] [hProjDxRIdeal : Cert.ProjDxRIdeal.Facts] : Prop :=
  ∀ (m : (ℓ : Loc Cert.ProjDxKIdeal.nD Cert.ProjDxKIdeal.τ Cert.ProjDxKIdeal.sig) → Buf (Elt Ideal) ℓ) (g : Dev Cert.ProjDxKIdeal.nD → PrngReg)
    (m' : (ℓ : Loc Cert.ProjDxRIdeal.nD Cert.ProjDxRIdeal.τ Cert.ProjDxRIdeal.sig) → Buf (Elt Ideal) ℓ) (g' : Dev Cert.ProjDxRIdeal.nD → PrngReg), Pre_ProjDxKIdeal m →
    (∀ c : Dev Cert.ProjDxKIdeal.nD,
      m' ((c.tc : Thread Cert.ProjDxRIdeal.nD Cert.ProjDxRIdeal.τ).loc Cert.ProjDxRIdeal.main_arg0) = m ((c.tc : Thread Cert.ProjDxKIdeal.nD Cert.ProjDxKIdeal.τ).loc Cert.ProjDxKIdeal.main_arg0)
      ∧ m' ((c.tc : Thread Cert.ProjDxRIdeal.nD Cert.ProjDxRIdeal.τ).loc Cert.ProjDxRIdeal.main_arg1) = m ((c.tc : Thread Cert.ProjDxKIdeal.nD Cert.ProjDxKIdeal.τ).loc Cert.ProjDxKIdeal.main_arg1)
      ∧ m' ((c.tc : Thread Cert.ProjDxRIdeal.nD Cert.ProjDxRIdeal.τ).loc Cert.ProjDxRIdeal.main_arg2) = m ((c.tc : Thread Cert.ProjDxKIdeal.nD Cert.ProjDxKIdeal.τ).loc Cert.ProjDxKIdeal.main_arg2)
      ∧ m' ((c.tc : Thread Cert.ProjDxRIdeal.nD Cert.ProjDxRIdeal.τ).loc Cert.ProjDxRIdeal.main_arg3) = m ((c.tc : Thread Cert.ProjDxKIdeal.nD Cert.ProjDxKIdeal.τ).loc Cert.ProjDxKIdeal.main_arg3)
      ∧ m' ((c.tc : Thread Cert.ProjDxRIdeal.nD Cert.ProjDxRIdeal.τ).loc Cert.ProjDxRIdeal.main_arg4) = m ((c.tc : Thread Cert.ProjDxKIdeal.nD Cert.ProjDxKIdeal.τ).loc Cert.ProjDxKIdeal.main_arg4)
      ∧ m' ((c.tc : Thread Cert.ProjDxRIdeal.nD Cert.ProjDxRIdeal.τ).loc Cert.ProjDxRIdeal.main_arg5) = m ((c.tc : Thread Cert.ProjDxKIdeal.nD Cert.ProjDxKIdeal.τ).loc Cert.ProjDxKIdeal.main_arg5)
      ∧ m' ((c.tc : Thread Cert.ProjDxRIdeal.nD Cert.ProjDxRIdeal.τ).loc Cert.ProjDxRIdeal.main_arg6) = m ((c.tc : Thread Cert.ProjDxKIdeal.nD Cert.ProjDxKIdeal.τ).loc Cert.ProjDxKIdeal.main_arg6)
      ∧ m' ((c.tc : Thread Cert.ProjDxRIdeal.nD Cert.ProjDxRIdeal.τ).loc Cert.ProjDxRIdeal.main_arg7) = m ((c.tc : Thread Cert.ProjDxKIdeal.nD Cert.ProjDxKIdeal.τ).loc Cert.ProjDxKIdeal.main_arg7)) →
    ∃ (v0 : (c : Dev Cert.ProjDxKIdeal.nD) → Buf (Elt Ideal) ((c.tc : Thread Cert.ProjDxKIdeal.nD Cert.ProjDxKIdeal.τ).loc Cert.ProjDxKIdeal.main_v11)),
      θ_run (Cert.ProjDxKIdeal.defs (F := Ideal)) (onTc (τ := Cert.ProjDxKIdeal.τ) (Cert.ProjDxKIdeal.main (F := Ideal))) ⟨m, fun _ => 0, g⟩ (fun r => ∀ c : Dev Cert.ProjDxKIdeal.nD,
          r.2.mem ((c.tc : Thread Cert.ProjDxKIdeal.nD Cert.ProjDxKIdeal.τ).loc Cert.ProjDxKIdeal.main_v11) = v0 c
          ∧ r.2.mem ((c.tc : Thread Cert.ProjDxKIdeal.nD Cert.ProjDxKIdeal.τ).loc Cert.ProjDxKIdeal.main_arg0) = m ((c.tc : Thread Cert.ProjDxKIdeal.nD Cert.ProjDxKIdeal.τ).loc Cert.ProjDxKIdeal.main_arg0)
          ∧ r.2.mem ((c.tc : Thread Cert.ProjDxKIdeal.nD Cert.ProjDxKIdeal.τ).loc Cert.ProjDxKIdeal.main_arg1) = m ((c.tc : Thread Cert.ProjDxKIdeal.nD Cert.ProjDxKIdeal.τ).loc Cert.ProjDxKIdeal.main_arg1)
          ∧ r.2.mem ((c.tc : Thread Cert.ProjDxKIdeal.nD Cert.ProjDxKIdeal.τ).loc Cert.ProjDxKIdeal.main_arg2) = m ((c.tc : Thread Cert.ProjDxKIdeal.nD Cert.ProjDxKIdeal.τ).loc Cert.ProjDxKIdeal.main_arg2)
          ∧ r.2.mem ((c.tc : Thread Cert.ProjDxKIdeal.nD Cert.ProjDxKIdeal.τ).loc Cert.ProjDxKIdeal.main_arg3) = m ((c.tc : Thread Cert.ProjDxKIdeal.nD Cert.ProjDxKIdeal.τ).loc Cert.ProjDxKIdeal.main_arg3)
          ∧ r.2.mem ((c.tc : Thread Cert.ProjDxKIdeal.nD Cert.ProjDxKIdeal.τ).loc Cert.ProjDxKIdeal.main_arg4) = m ((c.tc : Thread Cert.ProjDxKIdeal.nD Cert.ProjDxKIdeal.τ).loc Cert.ProjDxKIdeal.main_arg4)
          ∧ r.2.mem ((c.tc : Thread Cert.ProjDxKIdeal.nD Cert.ProjDxKIdeal.τ).loc Cert.ProjDxKIdeal.main_arg5) = m ((c.tc : Thread Cert.ProjDxKIdeal.nD Cert.ProjDxKIdeal.τ).loc Cert.ProjDxKIdeal.main_arg5)
          ∧ r.2.mem ((c.tc : Thread Cert.ProjDxKIdeal.nD Cert.ProjDxKIdeal.τ).loc Cert.ProjDxKIdeal.main_arg6) = m ((c.tc : Thread Cert.ProjDxKIdeal.nD Cert.ProjDxKIdeal.τ).loc Cert.ProjDxKIdeal.main_arg6)
          ∧ r.2.mem ((c.tc : Thread Cert.ProjDxKIdeal.nD Cert.ProjDxKIdeal.τ).loc Cert.ProjDxKIdeal.main_arg7) = m ((c.tc : Thread Cert.ProjDxKIdeal.nD Cert.ProjDxKIdeal.τ).loc Cert.ProjDxKIdeal.main_arg7))
      ∧ θ_run (Cert.ProjDxRIdeal.defs (F := Ideal)) (onTc (τ := Cert.ProjDxRIdeal.τ) (Cert.ProjDxRIdeal.main (F := Ideal))) ⟨m', fun _ => 0, g'⟩ (fun r => ∀ c : Dev Cert.ProjDxRIdeal.nD,
          r.2.mem ((c.tc : Thread Cert.ProjDxRIdeal.nD Cert.ProjDxRIdeal.τ).loc Cert.ProjDxRIdeal.main_v16) = v0 c
          ∧ r.2.mem ((c.tc : Thread Cert.ProjDxRIdeal.nD Cert.ProjDxRIdeal.τ).loc Cert.ProjDxRIdeal.main_arg0) = m' ((c.tc : Thread Cert.ProjDxRIdeal.nD Cert.ProjDxRIdeal.τ).loc Cert.ProjDxRIdeal.main_arg0)
          ∧ r.2.mem ((c.tc : Thread Cert.ProjDxRIdeal.nD Cert.ProjDxRIdeal.τ).loc Cert.ProjDxRIdeal.main_arg1) = m' ((c.tc : Thread Cert.ProjDxRIdeal.nD Cert.ProjDxRIdeal.τ).loc Cert.ProjDxRIdeal.main_arg1)
          ∧ r.2.mem ((c.tc : Thread Cert.ProjDxRIdeal.nD Cert.ProjDxRIdeal.τ).loc Cert.ProjDxRIdeal.main_arg2) = m' ((c.tc : Thread Cert.ProjDxRIdeal.nD Cert.ProjDxRIdeal.τ).loc Cert.ProjDxRIdeal.main_arg2)
          ∧ r.2.mem ((c.tc : Thread Cert.ProjDxRIdeal.nD Cert.ProjDxRIdeal.τ).loc Cert.ProjDxRIdeal.main_arg3) = m' ((c.tc : Thread Cert.ProjDxRIdeal.nD Cert.ProjDxRIdeal.τ).loc Cert.ProjDxRIdeal.main_arg3)
          ∧ r.2.mem ((c.tc : Thread Cert.ProjDxRIdeal.nD Cert.ProjDxRIdeal.τ).loc Cert.ProjDxRIdeal.main_arg4) = m' ((c.tc : Thread Cert.ProjDxRIdeal.nD Cert.ProjDxRIdeal.τ).loc Cert.ProjDxRIdeal.main_arg4)
          ∧ r.2.mem ((c.tc : Thread Cert.ProjDxRIdeal.nD Cert.ProjDxRIdeal.τ).loc Cert.ProjDxRIdeal.main_arg5) = m' ((c.tc : Thread Cert.ProjDxRIdeal.nD Cert.ProjDxRIdeal.τ).loc Cert.ProjDxRIdeal.main_arg5)
          ∧ r.2.mem ((c.tc : Thread Cert.ProjDxRIdeal.nD Cert.ProjDxRIdeal.τ).loc Cert.ProjDxRIdeal.main_arg6) = m' ((c.tc : Thread Cert.ProjDxRIdeal.nD Cert.ProjDxRIdeal.τ).loc Cert.ProjDxRIdeal.main_arg6)
          ∧ r.2.mem ((c.tc : Thread Cert.ProjDxRIdeal.nD Cert.ProjDxRIdeal.τ).loc Cert.ProjDxRIdeal.main_arg7) = m' ((c.tc : Thread Cert.ProjDxRIdeal.nD Cert.ProjDxRIdeal.τ).loc Cert.ProjDxRIdeal.main_arg7))

def preserves_ProjGDwK_ProjGDwKIdeal : Prop :=
  True

def algebraic_ProjGDwKIdeal_ProjGDwRIdeal [hProjGDwKIdeal : Cert.ProjGDwKIdeal.Facts] [hProjGDwRIdeal : Cert.ProjGDwRIdeal.Facts] : Prop :=
  ∀ (m : (ℓ : Loc Cert.ProjGDwKIdeal.nD Cert.ProjGDwKIdeal.τ Cert.ProjGDwKIdeal.sig) → Buf (Elt Ideal) ℓ) (g : Dev Cert.ProjGDwKIdeal.nD → PrngReg)
    (m' : (ℓ : Loc Cert.ProjGDwRIdeal.nD Cert.ProjGDwRIdeal.τ Cert.ProjGDwRIdeal.sig) → Buf (Elt Ideal) ℓ) (g' : Dev Cert.ProjGDwRIdeal.nD → PrngReg), Pre_ProjGDwKIdeal m →
    (∀ c : Dev Cert.ProjGDwKIdeal.nD,
      m' ((c.tc : Thread Cert.ProjGDwRIdeal.nD Cert.ProjGDwRIdeal.τ).loc Cert.ProjGDwRIdeal.main_arg0) = m ((c.tc : Thread Cert.ProjGDwKIdeal.nD Cert.ProjGDwKIdeal.τ).loc Cert.ProjGDwKIdeal.main_arg0)
      ∧ m' ((c.tc : Thread Cert.ProjGDwRIdeal.nD Cert.ProjGDwRIdeal.τ).loc Cert.ProjGDwRIdeal.main_arg1) = m ((c.tc : Thread Cert.ProjGDwKIdeal.nD Cert.ProjGDwKIdeal.τ).loc Cert.ProjGDwKIdeal.main_arg1)) →
    ∃ (v0 : (c : Dev Cert.ProjGDwKIdeal.nD) → Buf (Elt Ideal) ((c.tc : Thread Cert.ProjGDwKIdeal.nD Cert.ProjGDwKIdeal.τ).loc Cert.ProjGDwKIdeal.main_v3)),
      θ_run (Cert.ProjGDwKIdeal.defs (F := Ideal)) (onTc (τ := Cert.ProjGDwKIdeal.τ) (Cert.ProjGDwKIdeal.main (F := Ideal))) ⟨m, fun _ => 0, g⟩ (fun r => ∀ c : Dev Cert.ProjGDwKIdeal.nD,
          r.2.mem ((c.tc : Thread Cert.ProjGDwKIdeal.nD Cert.ProjGDwKIdeal.τ).loc Cert.ProjGDwKIdeal.main_v3) = v0 c
          ∧ r.2.mem ((c.tc : Thread Cert.ProjGDwKIdeal.nD Cert.ProjGDwKIdeal.τ).loc Cert.ProjGDwKIdeal.main_arg0) = m ((c.tc : Thread Cert.ProjGDwKIdeal.nD Cert.ProjGDwKIdeal.τ).loc Cert.ProjGDwKIdeal.main_arg0)
          ∧ r.2.mem ((c.tc : Thread Cert.ProjGDwKIdeal.nD Cert.ProjGDwKIdeal.τ).loc Cert.ProjGDwKIdeal.main_arg1) = m ((c.tc : Thread Cert.ProjGDwKIdeal.nD Cert.ProjGDwKIdeal.τ).loc Cert.ProjGDwKIdeal.main_arg1))
      ∧ θ_run (Cert.ProjGDwRIdeal.defs (F := Ideal)) (onTc (τ := Cert.ProjGDwRIdeal.τ) (Cert.ProjGDwRIdeal.main (F := Ideal))) ⟨m', fun _ => 0, g'⟩ (fun r => ∀ c : Dev Cert.ProjGDwRIdeal.nD,
          r.2.mem ((c.tc : Thread Cert.ProjGDwRIdeal.nD Cert.ProjGDwRIdeal.τ).loc Cert.ProjGDwRIdeal.main_v5) = v0 c
          ∧ r.2.mem ((c.tc : Thread Cert.ProjGDwRIdeal.nD Cert.ProjGDwRIdeal.τ).loc Cert.ProjGDwRIdeal.main_arg0) = m' ((c.tc : Thread Cert.ProjGDwRIdeal.nD Cert.ProjGDwRIdeal.τ).loc Cert.ProjGDwRIdeal.main_arg0)
          ∧ r.2.mem ((c.tc : Thread Cert.ProjGDwRIdeal.nD Cert.ProjGDwRIdeal.τ).loc Cert.ProjGDwRIdeal.main_arg1) = m' ((c.tc : Thread Cert.ProjGDwRIdeal.nD Cert.ProjGDwRIdeal.τ).loc Cert.ProjGDwRIdeal.main_arg1))

def preserves_ProjADwK_ProjADwKIdeal : Prop :=
  True

def algebraic_ProjADwKIdeal_ProjADwRIdeal [hProjADwKIdeal : Cert.ProjADwKIdeal.Facts] [hProjADwRIdeal : Cert.ProjADwRIdeal.Facts] : Prop :=
  ∀ (m : (ℓ : Loc Cert.ProjADwKIdeal.nD Cert.ProjADwKIdeal.τ Cert.ProjADwKIdeal.sig) → Buf (Elt Ideal) ℓ) (g : Dev Cert.ProjADwKIdeal.nD → PrngReg)
    (m' : (ℓ : Loc Cert.ProjADwRIdeal.nD Cert.ProjADwRIdeal.τ Cert.ProjADwRIdeal.sig) → Buf (Elt Ideal) ℓ) (g' : Dev Cert.ProjADwRIdeal.nD → PrngReg), Pre_ProjADwKIdeal m →
    (∀ c : Dev Cert.ProjADwKIdeal.nD,
      m' ((c.tc : Thread Cert.ProjADwRIdeal.nD Cert.ProjADwRIdeal.τ).loc Cert.ProjADwRIdeal.main_arg0) = m ((c.tc : Thread Cert.ProjADwKIdeal.nD Cert.ProjADwKIdeal.τ).loc Cert.ProjADwKIdeal.main_arg0)
      ∧ m' ((c.tc : Thread Cert.ProjADwRIdeal.nD Cert.ProjADwRIdeal.τ).loc Cert.ProjADwRIdeal.main_arg1) = m ((c.tc : Thread Cert.ProjADwKIdeal.nD Cert.ProjADwKIdeal.τ).loc Cert.ProjADwKIdeal.main_arg1)) →
    ∃ (v0 : (c : Dev Cert.ProjADwKIdeal.nD) → Buf (Elt Ideal) ((c.tc : Thread Cert.ProjADwKIdeal.nD Cert.ProjADwKIdeal.τ).loc Cert.ProjADwKIdeal.main_v3)),
      θ_run (Cert.ProjADwKIdeal.defs (F := Ideal)) (onTc (τ := Cert.ProjADwKIdeal.τ) (Cert.ProjADwKIdeal.main (F := Ideal))) ⟨m, fun _ => 0, g⟩ (fun r => ∀ c : Dev Cert.ProjADwKIdeal.nD,
          r.2.mem ((c.tc : Thread Cert.ProjADwKIdeal.nD Cert.ProjADwKIdeal.τ).loc Cert.ProjADwKIdeal.main_v3) = v0 c
          ∧ r.2.mem ((c.tc : Thread Cert.ProjADwKIdeal.nD Cert.ProjADwKIdeal.τ).loc Cert.ProjADwKIdeal.main_arg0) = m ((c.tc : Thread Cert.ProjADwKIdeal.nD Cert.ProjADwKIdeal.τ).loc Cert.ProjADwKIdeal.main_arg0)
          ∧ r.2.mem ((c.tc : Thread Cert.ProjADwKIdeal.nD Cert.ProjADwKIdeal.τ).loc Cert.ProjADwKIdeal.main_arg1) = m ((c.tc : Thread Cert.ProjADwKIdeal.nD Cert.ProjADwKIdeal.τ).loc Cert.ProjADwKIdeal.main_arg1))
      ∧ θ_run (Cert.ProjADwRIdeal.defs (F := Ideal)) (onTc (τ := Cert.ProjADwRIdeal.τ) (Cert.ProjADwRIdeal.main (F := Ideal))) ⟨m', fun _ => 0, g'⟩ (fun r => ∀ c : Dev Cert.ProjADwRIdeal.nD,
          r.2.mem ((c.tc : Thread Cert.ProjADwRIdeal.nD Cert.ProjADwRIdeal.τ).loc Cert.ProjADwRIdeal.main_v5) = v0 c
          ∧ r.2.mem ((c.tc : Thread Cert.ProjADwRIdeal.nD Cert.ProjADwRIdeal.τ).loc Cert.ProjADwRIdeal.main_arg0) = m' ((c.tc : Thread Cert.ProjADwRIdeal.nD Cert.ProjADwRIdeal.τ).loc Cert.ProjADwRIdeal.main_arg0)
          ∧ r.2.mem ((c.tc : Thread Cert.ProjADwRIdeal.nD Cert.ProjADwRIdeal.τ).loc Cert.ProjADwRIdeal.main_arg1) = m' ((c.tc : Thread Cert.ProjADwRIdeal.nD Cert.ProjADwRIdeal.τ).loc Cert.ProjADwRIdeal.main_arg1))

def preserves_ProjBDwK_ProjBDwKIdeal : Prop :=
  True

def algebraic_ProjBDwKIdeal_ProjBDwRIdeal [hProjBDwKIdeal : Cert.ProjBDwKIdeal.Facts] [hProjBDwRIdeal : Cert.ProjBDwRIdeal.Facts] : Prop :=
  ∀ (m : (ℓ : Loc Cert.ProjBDwKIdeal.nD Cert.ProjBDwKIdeal.τ Cert.ProjBDwKIdeal.sig) → Buf (Elt Ideal) ℓ) (g : Dev Cert.ProjBDwKIdeal.nD → PrngReg)
    (m' : (ℓ : Loc Cert.ProjBDwRIdeal.nD Cert.ProjBDwRIdeal.τ Cert.ProjBDwRIdeal.sig) → Buf (Elt Ideal) ℓ) (g' : Dev Cert.ProjBDwRIdeal.nD → PrngReg), Pre_ProjBDwKIdeal m →
    (∀ c : Dev Cert.ProjBDwKIdeal.nD,
      m' ((c.tc : Thread Cert.ProjBDwRIdeal.nD Cert.ProjBDwRIdeal.τ).loc Cert.ProjBDwRIdeal.main_arg0) = m ((c.tc : Thread Cert.ProjBDwKIdeal.nD Cert.ProjBDwKIdeal.τ).loc Cert.ProjBDwKIdeal.main_arg0)
      ∧ m' ((c.tc : Thread Cert.ProjBDwRIdeal.nD Cert.ProjBDwRIdeal.τ).loc Cert.ProjBDwRIdeal.main_arg1) = m ((c.tc : Thread Cert.ProjBDwKIdeal.nD Cert.ProjBDwKIdeal.τ).loc Cert.ProjBDwKIdeal.main_arg1)) →
    ∃ (v0 : (c : Dev Cert.ProjBDwKIdeal.nD) → Buf (Elt Ideal) ((c.tc : Thread Cert.ProjBDwKIdeal.nD Cert.ProjBDwKIdeal.τ).loc Cert.ProjBDwKIdeal.main_v3)),
      θ_run (Cert.ProjBDwKIdeal.defs (F := Ideal)) (onTc (τ := Cert.ProjBDwKIdeal.τ) (Cert.ProjBDwKIdeal.main (F := Ideal))) ⟨m, fun _ => 0, g⟩ (fun r => ∀ c : Dev Cert.ProjBDwKIdeal.nD,
          r.2.mem ((c.tc : Thread Cert.ProjBDwKIdeal.nD Cert.ProjBDwKIdeal.τ).loc Cert.ProjBDwKIdeal.main_v3) = v0 c
          ∧ r.2.mem ((c.tc : Thread Cert.ProjBDwKIdeal.nD Cert.ProjBDwKIdeal.τ).loc Cert.ProjBDwKIdeal.main_arg0) = m ((c.tc : Thread Cert.ProjBDwKIdeal.nD Cert.ProjBDwKIdeal.τ).loc Cert.ProjBDwKIdeal.main_arg0)
          ∧ r.2.mem ((c.tc : Thread Cert.ProjBDwKIdeal.nD Cert.ProjBDwKIdeal.τ).loc Cert.ProjBDwKIdeal.main_arg1) = m ((c.tc : Thread Cert.ProjBDwKIdeal.nD Cert.ProjBDwKIdeal.τ).loc Cert.ProjBDwKIdeal.main_arg1))
      ∧ θ_run (Cert.ProjBDwRIdeal.defs (F := Ideal)) (onTc (τ := Cert.ProjBDwRIdeal.τ) (Cert.ProjBDwRIdeal.main (F := Ideal))) ⟨m', fun _ => 0, g'⟩ (fun r => ∀ c : Dev Cert.ProjBDwRIdeal.nD,
          r.2.mem ((c.tc : Thread Cert.ProjBDwRIdeal.nD Cert.ProjBDwRIdeal.τ).loc Cert.ProjBDwRIdeal.main_v5) = v0 c
          ∧ r.2.mem ((c.tc : Thread Cert.ProjBDwRIdeal.nD Cert.ProjBDwRIdeal.τ).loc Cert.ProjBDwRIdeal.main_arg0) = m' ((c.tc : Thread Cert.ProjBDwRIdeal.nD Cert.ProjBDwRIdeal.τ).loc Cert.ProjBDwRIdeal.main_arg0)
          ∧ r.2.mem ((c.tc : Thread Cert.ProjBDwRIdeal.nD Cert.ProjBDwRIdeal.τ).loc Cert.ProjBDwRIdeal.main_arg1) = m' ((c.tc : Thread Cert.ProjBDwRIdeal.nD Cert.ProjBDwRIdeal.τ).loc Cert.ProjBDwRIdeal.main_arg1))

def preserves_ProjCDwK_ProjCDwKIdeal : Prop :=
  True

def algebraic_ProjCDwKIdeal_ProjCDwRIdeal [hProjCDwKIdeal : Cert.ProjCDwKIdeal.Facts] [hProjCDwRIdeal : Cert.ProjCDwRIdeal.Facts] : Prop :=
  ∀ (m : (ℓ : Loc Cert.ProjCDwKIdeal.nD Cert.ProjCDwKIdeal.τ Cert.ProjCDwKIdeal.sig) → Buf (Elt Ideal) ℓ) (g : Dev Cert.ProjCDwKIdeal.nD → PrngReg)
    (m' : (ℓ : Loc Cert.ProjCDwRIdeal.nD Cert.ProjCDwRIdeal.τ Cert.ProjCDwRIdeal.sig) → Buf (Elt Ideal) ℓ) (g' : Dev Cert.ProjCDwRIdeal.nD → PrngReg), Pre_ProjCDwKIdeal m →
    (∀ c : Dev Cert.ProjCDwKIdeal.nD,
      m' ((c.tc : Thread Cert.ProjCDwRIdeal.nD Cert.ProjCDwRIdeal.τ).loc Cert.ProjCDwRIdeal.main_arg0) = m ((c.tc : Thread Cert.ProjCDwKIdeal.nD Cert.ProjCDwKIdeal.τ).loc Cert.ProjCDwKIdeal.main_arg0)
      ∧ m' ((c.tc : Thread Cert.ProjCDwRIdeal.nD Cert.ProjCDwRIdeal.τ).loc Cert.ProjCDwRIdeal.main_arg1) = m ((c.tc : Thread Cert.ProjCDwKIdeal.nD Cert.ProjCDwKIdeal.τ).loc Cert.ProjCDwKIdeal.main_arg1)) →
    ∃ (v0 : (c : Dev Cert.ProjCDwKIdeal.nD) → Buf (Elt Ideal) ((c.tc : Thread Cert.ProjCDwKIdeal.nD Cert.ProjCDwKIdeal.τ).loc Cert.ProjCDwKIdeal.main_v3)),
      θ_run (Cert.ProjCDwKIdeal.defs (F := Ideal)) (onTc (τ := Cert.ProjCDwKIdeal.τ) (Cert.ProjCDwKIdeal.main (F := Ideal))) ⟨m, fun _ => 0, g⟩ (fun r => ∀ c : Dev Cert.ProjCDwKIdeal.nD,
          r.2.mem ((c.tc : Thread Cert.ProjCDwKIdeal.nD Cert.ProjCDwKIdeal.τ).loc Cert.ProjCDwKIdeal.main_v3) = v0 c
          ∧ r.2.mem ((c.tc : Thread Cert.ProjCDwKIdeal.nD Cert.ProjCDwKIdeal.τ).loc Cert.ProjCDwKIdeal.main_arg0) = m ((c.tc : Thread Cert.ProjCDwKIdeal.nD Cert.ProjCDwKIdeal.τ).loc Cert.ProjCDwKIdeal.main_arg0)
          ∧ r.2.mem ((c.tc : Thread Cert.ProjCDwKIdeal.nD Cert.ProjCDwKIdeal.τ).loc Cert.ProjCDwKIdeal.main_arg1) = m ((c.tc : Thread Cert.ProjCDwKIdeal.nD Cert.ProjCDwKIdeal.τ).loc Cert.ProjCDwKIdeal.main_arg1))
      ∧ θ_run (Cert.ProjCDwRIdeal.defs (F := Ideal)) (onTc (τ := Cert.ProjCDwRIdeal.τ) (Cert.ProjCDwRIdeal.main (F := Ideal))) ⟨m', fun _ => 0, g'⟩ (fun r => ∀ c : Dev Cert.ProjCDwRIdeal.nD,
          r.2.mem ((c.tc : Thread Cert.ProjCDwRIdeal.nD Cert.ProjCDwRIdeal.τ).loc Cert.ProjCDwRIdeal.main_v5) = v0 c
          ∧ r.2.mem ((c.tc : Thread Cert.ProjCDwRIdeal.nD Cert.ProjCDwRIdeal.τ).loc Cert.ProjCDwRIdeal.main_arg0) = m' ((c.tc : Thread Cert.ProjCDwRIdeal.nD Cert.ProjCDwRIdeal.τ).loc Cert.ProjCDwRIdeal.main_arg0)
          ∧ r.2.mem ((c.tc : Thread Cert.ProjCDwRIdeal.nD Cert.ProjCDwRIdeal.τ).loc Cert.ProjCDwRIdeal.main_arg1) = m' ((c.tc : Thread Cert.ProjCDwRIdeal.nD Cert.ProjCDwRIdeal.τ).loc Cert.ProjCDwRIdeal.main_arg1))

def preserves_UpDwK_UpDwKIdeal : Prop :=
  True

def algebraic_UpDwKIdeal_UpDwRIdeal [hUpDwKIdeal : Cert.UpDwKIdeal.Facts] [hUpDwRIdeal : Cert.UpDwRIdeal.Facts] : Prop :=
  ∀ (m : (ℓ : Loc Cert.UpDwKIdeal.nD Cert.UpDwKIdeal.τ Cert.UpDwKIdeal.sig) → Buf (Elt Ideal) ℓ) (g : Dev Cert.UpDwKIdeal.nD → PrngReg)
    (m' : (ℓ : Loc Cert.UpDwRIdeal.nD Cert.UpDwRIdeal.τ Cert.UpDwRIdeal.sig) → Buf (Elt Ideal) ℓ) (g' : Dev Cert.UpDwRIdeal.nD → PrngReg), Pre_UpDwKIdeal m →
    (∀ c : Dev Cert.UpDwKIdeal.nD,
      m' ((c.tc : Thread Cert.UpDwRIdeal.nD Cert.UpDwRIdeal.τ).loc Cert.UpDwRIdeal.main_arg0) = m ((c.tc : Thread Cert.UpDwKIdeal.nD Cert.UpDwKIdeal.τ).loc Cert.UpDwKIdeal.main_arg0)
      ∧ m' ((c.tc : Thread Cert.UpDwRIdeal.nD Cert.UpDwRIdeal.τ).loc Cert.UpDwRIdeal.main_arg1) = m ((c.tc : Thread Cert.UpDwKIdeal.nD Cert.UpDwKIdeal.τ).loc Cert.UpDwKIdeal.main_arg1)) →
    ∃ (v0 : (c : Dev Cert.UpDwKIdeal.nD) → Buf (Elt Ideal) ((c.tc : Thread Cert.UpDwKIdeal.nD Cert.UpDwKIdeal.τ).loc Cert.UpDwKIdeal.main_v3)),
      θ_run (Cert.UpDwKIdeal.defs (F := Ideal)) (onTc (τ := Cert.UpDwKIdeal.τ) (Cert.UpDwKIdeal.main (F := Ideal))) ⟨m, fun _ => 0, g⟩ (fun r => ∀ c : Dev Cert.UpDwKIdeal.nD,
          r.2.mem ((c.tc : Thread Cert.UpDwKIdeal.nD Cert.UpDwKIdeal.τ).loc Cert.UpDwKIdeal.main_v3) = v0 c
          ∧ r.2.mem ((c.tc : Thread Cert.UpDwKIdeal.nD Cert.UpDwKIdeal.τ).loc Cert.UpDwKIdeal.main_arg0) = m ((c.tc : Thread Cert.UpDwKIdeal.nD Cert.UpDwKIdeal.τ).loc Cert.UpDwKIdeal.main_arg0)
          ∧ r.2.mem ((c.tc : Thread Cert.UpDwKIdeal.nD Cert.UpDwKIdeal.τ).loc Cert.UpDwKIdeal.main_arg1) = m ((c.tc : Thread Cert.UpDwKIdeal.nD Cert.UpDwKIdeal.τ).loc Cert.UpDwKIdeal.main_arg1))
      ∧ θ_run (Cert.UpDwRIdeal.defs (F := Ideal)) (onTc (τ := Cert.UpDwRIdeal.τ) (Cert.UpDwRIdeal.main (F := Ideal))) ⟨m', fun _ => 0, g'⟩ (fun r => ∀ c : Dev Cert.UpDwRIdeal.nD,
          r.2.mem ((c.tc : Thread Cert.UpDwRIdeal.nD Cert.UpDwRIdeal.τ).loc Cert.UpDwRIdeal.main_v5) = v0 c
          ∧ r.2.mem ((c.tc : Thread Cert.UpDwRIdeal.nD Cert.UpDwRIdeal.τ).loc Cert.UpDwRIdeal.main_arg0) = m' ((c.tc : Thread Cert.UpDwRIdeal.nD Cert.UpDwRIdeal.τ).loc Cert.UpDwRIdeal.main_arg0)
          ∧ r.2.mem ((c.tc : Thread Cert.UpDwRIdeal.nD Cert.UpDwRIdeal.τ).loc Cert.UpDwRIdeal.main_arg1) = m' ((c.tc : Thread Cert.UpDwRIdeal.nD Cert.UpDwRIdeal.τ).loc Cert.UpDwRIdeal.main_arg1))

def preserves_DownDwK_DownDwKIdeal : Prop :=
  True

def algebraic_DownDwKIdeal_DownDwRIdeal [hDownDwKIdeal : Cert.DownDwKIdeal.Facts] [hDownDwRIdeal : Cert.DownDwRIdeal.Facts] : Prop :=
  ∀ (m : (ℓ : Loc Cert.DownDwKIdeal.nD Cert.DownDwKIdeal.τ Cert.DownDwKIdeal.sig) → Buf (Elt Ideal) ℓ) (g : Dev Cert.DownDwKIdeal.nD → PrngReg)
    (m' : (ℓ : Loc Cert.DownDwRIdeal.nD Cert.DownDwRIdeal.τ Cert.DownDwRIdeal.sig) → Buf (Elt Ideal) ℓ) (g' : Dev Cert.DownDwRIdeal.nD → PrngReg), Pre_DownDwKIdeal m →
    (∀ c : Dev Cert.DownDwKIdeal.nD,
      m' ((c.tc : Thread Cert.DownDwRIdeal.nD Cert.DownDwRIdeal.τ).loc Cert.DownDwRIdeal.main_arg0) = m ((c.tc : Thread Cert.DownDwKIdeal.nD Cert.DownDwKIdeal.τ).loc Cert.DownDwKIdeal.main_arg0)
      ∧ m' ((c.tc : Thread Cert.DownDwRIdeal.nD Cert.DownDwRIdeal.τ).loc Cert.DownDwRIdeal.main_arg1) = m ((c.tc : Thread Cert.DownDwKIdeal.nD Cert.DownDwKIdeal.τ).loc Cert.DownDwKIdeal.main_arg1)) →
    ∃ (v0 : (c : Dev Cert.DownDwKIdeal.nD) → Buf (Elt Ideal) ((c.tc : Thread Cert.DownDwKIdeal.nD Cert.DownDwKIdeal.τ).loc Cert.DownDwKIdeal.main_v3)),
      θ_run (Cert.DownDwKIdeal.defs (F := Ideal)) (onTc (τ := Cert.DownDwKIdeal.τ) (Cert.DownDwKIdeal.main (F := Ideal))) ⟨m, fun _ => 0, g⟩ (fun r => ∀ c : Dev Cert.DownDwKIdeal.nD,
          r.2.mem ((c.tc : Thread Cert.DownDwKIdeal.nD Cert.DownDwKIdeal.τ).loc Cert.DownDwKIdeal.main_v3) = v0 c
          ∧ r.2.mem ((c.tc : Thread Cert.DownDwKIdeal.nD Cert.DownDwKIdeal.τ).loc Cert.DownDwKIdeal.main_arg0) = m ((c.tc : Thread Cert.DownDwKIdeal.nD Cert.DownDwKIdeal.τ).loc Cert.DownDwKIdeal.main_arg0)
          ∧ r.2.mem ((c.tc : Thread Cert.DownDwKIdeal.nD Cert.DownDwKIdeal.τ).loc Cert.DownDwKIdeal.main_arg1) = m ((c.tc : Thread Cert.DownDwKIdeal.nD Cert.DownDwKIdeal.τ).loc Cert.DownDwKIdeal.main_arg1))
      ∧ θ_run (Cert.DownDwRIdeal.defs (F := Ideal)) (onTc (τ := Cert.DownDwRIdeal.τ) (Cert.DownDwRIdeal.main (F := Ideal))) ⟨m', fun _ => 0, g'⟩ (fun r => ∀ c : Dev Cert.DownDwRIdeal.nD,
          r.2.mem ((c.tc : Thread Cert.DownDwRIdeal.nD Cert.DownDwRIdeal.τ).loc Cert.DownDwRIdeal.main_v5) = v0 c
          ∧ r.2.mem ((c.tc : Thread Cert.DownDwRIdeal.nD Cert.DownDwRIdeal.τ).loc Cert.DownDwRIdeal.main_arg0) = m' ((c.tc : Thread Cert.DownDwRIdeal.nD Cert.DownDwRIdeal.τ).loc Cert.DownDwRIdeal.main_arg0)
          ∧ r.2.mem ((c.tc : Thread Cert.DownDwRIdeal.nD Cert.DownDwRIdeal.τ).loc Cert.DownDwRIdeal.main_arg1) = m' ((c.tc : Thread Cert.DownDwRIdeal.nD Cert.DownDwRIdeal.τ).loc Cert.DownDwRIdeal.main_arg1))

def preserves_ProjK_ProjKIdeal : Prop :=
  True

def algebraic_ProjKIdeal_ProjRIdeal [hProjKIdeal : Cert.ProjKIdeal.Facts] [hProjRIdeal : Cert.ProjRIdeal.Facts] : Prop :=
  ∀ (m : (ℓ : Loc Cert.ProjKIdeal.nD Cert.ProjKIdeal.τ Cert.ProjKIdeal.sig) → Buf (Elt Ideal) ℓ) (g : Dev Cert.ProjKIdeal.nD → PrngReg)
    (m' : (ℓ : Loc Cert.ProjRIdeal.nD Cert.ProjRIdeal.τ Cert.ProjRIdeal.sig) → Buf (Elt Ideal) ℓ) (g' : Dev Cert.ProjRIdeal.nD → PrngReg), Pre_ProjKIdeal m →
    (∀ c : Dev Cert.ProjKIdeal.nD,
      m' ((c.tc : Thread Cert.ProjRIdeal.nD Cert.ProjRIdeal.τ).loc Cert.ProjRIdeal.main_arg0) = m ((c.tc : Thread Cert.ProjKIdeal.nD Cert.ProjKIdeal.τ).loc Cert.ProjKIdeal.main_arg0)
      ∧ m' ((c.tc : Thread Cert.ProjRIdeal.nD Cert.ProjRIdeal.τ).loc Cert.ProjRIdeal.main_arg1) = m ((c.tc : Thread Cert.ProjKIdeal.nD Cert.ProjKIdeal.τ).loc Cert.ProjKIdeal.main_arg1)
      ∧ m' ((c.tc : Thread Cert.ProjRIdeal.nD Cert.ProjRIdeal.τ).loc Cert.ProjRIdeal.main_arg2) = m ((c.tc : Thread Cert.ProjKIdeal.nD Cert.ProjKIdeal.τ).loc Cert.ProjKIdeal.main_arg2)
      ∧ m' ((c.tc : Thread Cert.ProjRIdeal.nD Cert.ProjRIdeal.τ).loc Cert.ProjRIdeal.main_arg3) = m ((c.tc : Thread Cert.ProjKIdeal.nD Cert.ProjKIdeal.τ).loc Cert.ProjKIdeal.main_arg3)
      ∧ m' ((c.tc : Thread Cert.ProjRIdeal.nD Cert.ProjRIdeal.τ).loc Cert.ProjRIdeal.main_arg4) = m ((c.tc : Thread Cert.ProjKIdeal.nD Cert.ProjKIdeal.τ).loc Cert.ProjKIdeal.main_arg4)) →
    ∃ (v0 : (c : Dev Cert.ProjKIdeal.nD) → Buf (Elt Ideal) ((c.tc : Thread Cert.ProjKIdeal.nD Cert.ProjKIdeal.τ).loc Cert.ProjKIdeal.main_v2)) (v1 : (c : Dev Cert.ProjKIdeal.nD) → Buf (Elt Ideal) ((c.tc : Thread Cert.ProjKIdeal.nD Cert.ProjKIdeal.τ).loc Cert.ProjKIdeal.main_v4)) (v2 : (c : Dev Cert.ProjKIdeal.nD) → Buf (Elt Ideal) ((c.tc : Thread Cert.ProjKIdeal.nD Cert.ProjKIdeal.τ).loc Cert.ProjKIdeal.main_v6)) (v3 : (c : Dev Cert.ProjKIdeal.nD) → Buf (Elt Ideal) ((c.tc : Thread Cert.ProjKIdeal.nD Cert.ProjKIdeal.τ).loc Cert.ProjKIdeal.main_v8)),
      θ_run (Cert.ProjKIdeal.defs (F := Ideal)) (onTc (τ := Cert.ProjKIdeal.τ) (Cert.ProjKIdeal.main (F := Ideal))) ⟨m, fun _ => 0, g⟩ (fun r => ∀ c : Dev Cert.ProjKIdeal.nD,
          r.2.mem ((c.tc : Thread Cert.ProjKIdeal.nD Cert.ProjKIdeal.τ).loc Cert.ProjKIdeal.main_v2) = v0 c
          ∧ r.2.mem ((c.tc : Thread Cert.ProjKIdeal.nD Cert.ProjKIdeal.τ).loc Cert.ProjKIdeal.main_v4) = v1 c
          ∧ r.2.mem ((c.tc : Thread Cert.ProjKIdeal.nD Cert.ProjKIdeal.τ).loc Cert.ProjKIdeal.main_v6) = v2 c
          ∧ r.2.mem ((c.tc : Thread Cert.ProjKIdeal.nD Cert.ProjKIdeal.τ).loc Cert.ProjKIdeal.main_v8) = v3 c
          ∧ r.2.mem ((c.tc : Thread Cert.ProjKIdeal.nD Cert.ProjKIdeal.τ).loc Cert.ProjKIdeal.main_arg0) = m ((c.tc : Thread Cert.ProjKIdeal.nD Cert.ProjKIdeal.τ).loc Cert.ProjKIdeal.main_arg0)
          ∧ r.2.mem ((c.tc : Thread Cert.ProjKIdeal.nD Cert.ProjKIdeal.τ).loc Cert.ProjKIdeal.main_arg1) = m ((c.tc : Thread Cert.ProjKIdeal.nD Cert.ProjKIdeal.τ).loc Cert.ProjKIdeal.main_arg1)
          ∧ r.2.mem ((c.tc : Thread Cert.ProjKIdeal.nD Cert.ProjKIdeal.τ).loc Cert.ProjKIdeal.main_arg2) = m ((c.tc : Thread Cert.ProjKIdeal.nD Cert.ProjKIdeal.τ).loc Cert.ProjKIdeal.main_arg2)
          ∧ r.2.mem ((c.tc : Thread Cert.ProjKIdeal.nD Cert.ProjKIdeal.τ).loc Cert.ProjKIdeal.main_arg3) = m ((c.tc : Thread Cert.ProjKIdeal.nD Cert.ProjKIdeal.τ).loc Cert.ProjKIdeal.main_arg3)
          ∧ r.2.mem ((c.tc : Thread Cert.ProjKIdeal.nD Cert.ProjKIdeal.τ).loc Cert.ProjKIdeal.main_arg4) = m ((c.tc : Thread Cert.ProjKIdeal.nD Cert.ProjKIdeal.τ).loc Cert.ProjKIdeal.main_arg4))
      ∧ θ_run (Cert.ProjRIdeal.defs (F := Ideal)) (onTc (τ := Cert.ProjRIdeal.τ) (Cert.ProjRIdeal.main (F := Ideal))) ⟨m', fun _ => 0, g'⟩ (fun r => ∀ c : Dev Cert.ProjRIdeal.nD,
          r.2.mem ((c.tc : Thread Cert.ProjRIdeal.nD Cert.ProjRIdeal.τ).loc Cert.ProjRIdeal.main_v2) = v0 c
          ∧ r.2.mem ((c.tc : Thread Cert.ProjRIdeal.nD Cert.ProjRIdeal.τ).loc Cert.ProjRIdeal.main_v5) = v1 c
          ∧ r.2.mem ((c.tc : Thread Cert.ProjRIdeal.nD Cert.ProjRIdeal.τ).loc Cert.ProjRIdeal.main_v8) = v2 c
          ∧ r.2.mem ((c.tc : Thread Cert.ProjRIdeal.nD Cert.ProjRIdeal.τ).loc Cert.ProjRIdeal.main_v11) = v3 c
          ∧ r.2.mem ((c.tc : Thread Cert.ProjRIdeal.nD Cert.ProjRIdeal.τ).loc Cert.ProjRIdeal.main_arg0) = m' ((c.tc : Thread Cert.ProjRIdeal.nD Cert.ProjRIdeal.τ).loc Cert.ProjRIdeal.main_arg0)
          ∧ r.2.mem ((c.tc : Thread Cert.ProjRIdeal.nD Cert.ProjRIdeal.τ).loc Cert.ProjRIdeal.main_arg1) = m' ((c.tc : Thread Cert.ProjRIdeal.nD Cert.ProjRIdeal.τ).loc Cert.ProjRIdeal.main_arg1)
          ∧ r.2.mem ((c.tc : Thread Cert.ProjRIdeal.nD Cert.ProjRIdeal.τ).loc Cert.ProjRIdeal.main_arg2) = m' ((c.tc : Thread Cert.ProjRIdeal.nD Cert.ProjRIdeal.τ).loc Cert.ProjRIdeal.main_arg2)
          ∧ r.2.mem ((c.tc : Thread Cert.ProjRIdeal.nD Cert.ProjRIdeal.τ).loc Cert.ProjRIdeal.main_arg3) = m' ((c.tc : Thread Cert.ProjRIdeal.nD Cert.ProjRIdeal.τ).loc Cert.ProjRIdeal.main_arg3)
          ∧ r.2.mem ((c.tc : Thread Cert.ProjRIdeal.nD Cert.ProjRIdeal.τ).loc Cert.ProjRIdeal.main_arg4) = m' ((c.tc : Thread Cert.ProjRIdeal.nD Cert.ProjRIdeal.τ).loc Cert.ProjRIdeal.main_arg4))

def preserves_UpK_UpKIdeal : Prop :=
  True

def algebraic_UpKIdeal_UpRIdeal [hUpKIdeal : Cert.UpKIdeal.Facts] [hUpRIdeal : Cert.UpRIdeal.Facts] : Prop :=
  ∀ (m : (ℓ : Loc Cert.UpKIdeal.nD Cert.UpKIdeal.τ Cert.UpKIdeal.sig) → Buf (Elt Ideal) ℓ) (g : Dev Cert.UpKIdeal.nD → PrngReg)
    (m' : (ℓ : Loc Cert.UpRIdeal.nD Cert.UpRIdeal.τ Cert.UpRIdeal.sig) → Buf (Elt Ideal) ℓ) (g' : Dev Cert.UpRIdeal.nD → PrngReg), Pre_UpKIdeal m →
    (∀ c : Dev Cert.UpKIdeal.nD,
      m' ((c.tc : Thread Cert.UpRIdeal.nD Cert.UpRIdeal.τ).loc Cert.UpRIdeal.main_arg0) = m ((c.tc : Thread Cert.UpKIdeal.nD Cert.UpKIdeal.τ).loc Cert.UpKIdeal.main_arg0)
      ∧ m' ((c.tc : Thread Cert.UpRIdeal.nD Cert.UpRIdeal.τ).loc Cert.UpRIdeal.main_arg1) = m ((c.tc : Thread Cert.UpKIdeal.nD Cert.UpKIdeal.τ).loc Cert.UpKIdeal.main_arg1)) →
    ∃ (v0 : (c : Dev Cert.UpKIdeal.nD) → Buf (Elt Ideal) ((c.tc : Thread Cert.UpKIdeal.nD Cert.UpKIdeal.τ).loc Cert.UpKIdeal.main_v2)),
      θ_run (Cert.UpKIdeal.defs (F := Ideal)) (onTc (τ := Cert.UpKIdeal.τ) (Cert.UpKIdeal.main (F := Ideal))) ⟨m, fun _ => 0, g⟩ (fun r => ∀ c : Dev Cert.UpKIdeal.nD,
          r.2.mem ((c.tc : Thread Cert.UpKIdeal.nD Cert.UpKIdeal.τ).loc Cert.UpKIdeal.main_v2) = v0 c
          ∧ r.2.mem ((c.tc : Thread Cert.UpKIdeal.nD Cert.UpKIdeal.τ).loc Cert.UpKIdeal.main_arg0) = m ((c.tc : Thread Cert.UpKIdeal.nD Cert.UpKIdeal.τ).loc Cert.UpKIdeal.main_arg0)
          ∧ r.2.mem ((c.tc : Thread Cert.UpKIdeal.nD Cert.UpKIdeal.τ).loc Cert.UpKIdeal.main_arg1) = m ((c.tc : Thread Cert.UpKIdeal.nD Cert.UpKIdeal.τ).loc Cert.UpKIdeal.main_arg1))
      ∧ θ_run (Cert.UpRIdeal.defs (F := Ideal)) (onTc (τ := Cert.UpRIdeal.τ) (Cert.UpRIdeal.main (F := Ideal))) ⟨m', fun _ => 0, g'⟩ (fun r => ∀ c : Dev Cert.UpRIdeal.nD,
          r.2.mem ((c.tc : Thread Cert.UpRIdeal.nD Cert.UpRIdeal.τ).loc Cert.UpRIdeal.main_v2) = v0 c
          ∧ r.2.mem ((c.tc : Thread Cert.UpRIdeal.nD Cert.UpRIdeal.τ).loc Cert.UpRIdeal.main_arg0) = m' ((c.tc : Thread Cert.UpRIdeal.nD Cert.UpRIdeal.τ).loc Cert.UpRIdeal.main_arg0)
          ∧ r.2.mem ((c.tc : Thread Cert.UpRIdeal.nD Cert.UpRIdeal.τ).loc Cert.UpRIdeal.main_arg1) = m' ((c.tc : Thread Cert.UpRIdeal.nD Cert.UpRIdeal.τ).loc Cert.UpRIdeal.main_arg1))

def preserves_DownFwdK_DownFwdKIdeal : Prop :=
  True

def algebraic_DownFwdKIdeal_DownFwdRIdeal [hDownFwdKIdeal : Cert.DownFwdKIdeal.Facts] [hDownFwdRIdeal : Cert.DownFwdRIdeal.Facts] : Prop :=
  ∀ (m : (ℓ : Loc Cert.DownFwdKIdeal.nD Cert.DownFwdKIdeal.τ Cert.DownFwdKIdeal.sig) → Buf (Elt Ideal) ℓ) (g : Dev Cert.DownFwdKIdeal.nD → PrngReg)
    (m' : (ℓ : Loc Cert.DownFwdRIdeal.nD Cert.DownFwdRIdeal.τ Cert.DownFwdRIdeal.sig) → Buf (Elt Ideal) ℓ) (g' : Dev Cert.DownFwdRIdeal.nD → PrngReg), Pre_DownFwdKIdeal m →
    (∀ c : Dev Cert.DownFwdKIdeal.nD,
      m' ((c.tc : Thread Cert.DownFwdRIdeal.nD Cert.DownFwdRIdeal.τ).loc Cert.DownFwdRIdeal.main_arg0) = m ((c.tc : Thread Cert.DownFwdKIdeal.nD Cert.DownFwdKIdeal.τ).loc Cert.DownFwdKIdeal.main_arg0)
      ∧ m' ((c.tc : Thread Cert.DownFwdRIdeal.nD Cert.DownFwdRIdeal.τ).loc Cert.DownFwdRIdeal.main_arg1) = m ((c.tc : Thread Cert.DownFwdKIdeal.nD Cert.DownFwdKIdeal.τ).loc Cert.DownFwdKIdeal.main_arg1)
      ∧ m' ((c.tc : Thread Cert.DownFwdRIdeal.nD Cert.DownFwdRIdeal.τ).loc Cert.DownFwdRIdeal.main_arg2) = m ((c.tc : Thread Cert.DownFwdKIdeal.nD Cert.DownFwdKIdeal.τ).loc Cert.DownFwdKIdeal.main_arg2)
      ∧ m' ((c.tc : Thread Cert.DownFwdRIdeal.nD Cert.DownFwdRIdeal.τ).loc Cert.DownFwdRIdeal.main_arg3) = m ((c.tc : Thread Cert.DownFwdKIdeal.nD Cert.DownFwdKIdeal.τ).loc Cert.DownFwdKIdeal.main_arg3)) →
    ∃ (v0 : (c : Dev Cert.DownFwdKIdeal.nD) → Buf (Elt Ideal) ((c.tc : Thread Cert.DownFwdKIdeal.nD Cert.DownFwdKIdeal.τ).loc Cert.DownFwdKIdeal.main_v4_0)) (v1 : (c : Dev Cert.DownFwdKIdeal.nD) → Buf (Elt Ideal) ((c.tc : Thread Cert.DownFwdKIdeal.nD Cert.DownFwdKIdeal.τ).loc Cert.DownFwdKIdeal.main_v4_1)),
      θ_run (Cert.DownFwdKIdeal.defs (F := Ideal)) (onTc (τ := Cert.DownFwdKIdeal.τ) (Cert.DownFwdKIdeal.main (F := Ideal))) ⟨m, fun _ => 0, g⟩ (fun r => ∀ c : Dev Cert.DownFwdKIdeal.nD,
          r.2.mem ((c.tc : Thread Cert.DownFwdKIdeal.nD Cert.DownFwdKIdeal.τ).loc Cert.DownFwdKIdeal.main_v4_0) = v0 c
          ∧ r.2.mem ((c.tc : Thread Cert.DownFwdKIdeal.nD Cert.DownFwdKIdeal.τ).loc Cert.DownFwdKIdeal.main_v4_1) = v1 c
          ∧ r.2.mem ((c.tc : Thread Cert.DownFwdKIdeal.nD Cert.DownFwdKIdeal.τ).loc Cert.DownFwdKIdeal.main_arg0) = m ((c.tc : Thread Cert.DownFwdKIdeal.nD Cert.DownFwdKIdeal.τ).loc Cert.DownFwdKIdeal.main_arg0)
          ∧ r.2.mem ((c.tc : Thread Cert.DownFwdKIdeal.nD Cert.DownFwdKIdeal.τ).loc Cert.DownFwdKIdeal.main_arg1) = m ((c.tc : Thread Cert.DownFwdKIdeal.nD Cert.DownFwdKIdeal.τ).loc Cert.DownFwdKIdeal.main_arg1)
          ∧ r.2.mem ((c.tc : Thread Cert.DownFwdKIdeal.nD Cert.DownFwdKIdeal.τ).loc Cert.DownFwdKIdeal.main_arg2) = m ((c.tc : Thread Cert.DownFwdKIdeal.nD Cert.DownFwdKIdeal.τ).loc Cert.DownFwdKIdeal.main_arg2)
          ∧ r.2.mem ((c.tc : Thread Cert.DownFwdKIdeal.nD Cert.DownFwdKIdeal.τ).loc Cert.DownFwdKIdeal.main_arg3) = m ((c.tc : Thread Cert.DownFwdKIdeal.nD Cert.DownFwdKIdeal.τ).loc Cert.DownFwdKIdeal.main_arg3))
      ∧ θ_run (Cert.DownFwdRIdeal.defs (F := Ideal)) (onTc (τ := Cert.DownFwdRIdeal.τ) (Cert.DownFwdRIdeal.main (F := Ideal))) ⟨m', fun _ => 0, g'⟩ (fun r => ∀ c : Dev Cert.DownFwdRIdeal.nD,
          r.2.mem ((c.tc : Thread Cert.DownFwdRIdeal.nD Cert.DownFwdRIdeal.τ).loc Cert.DownFwdRIdeal.main_v6) = v0 c
          ∧ r.2.mem ((c.tc : Thread Cert.DownFwdRIdeal.nD Cert.DownFwdRIdeal.τ).loc Cert.DownFwdRIdeal.main_v8) = v1 c
          ∧ r.2.mem ((c.tc : Thread Cert.DownFwdRIdeal.nD Cert.DownFwdRIdeal.τ).loc Cert.DownFwdRIdeal.main_arg0) = m' ((c.tc : Thread Cert.DownFwdRIdeal.nD Cert.DownFwdRIdeal.τ).loc Cert.DownFwdRIdeal.main_arg0)
          ∧ r.2.mem ((c.tc : Thread Cert.DownFwdRIdeal.nD Cert.DownFwdRIdeal.τ).loc Cert.DownFwdRIdeal.main_arg1) = m' ((c.tc : Thread Cert.DownFwdRIdeal.nD Cert.DownFwdRIdeal.τ).loc Cert.DownFwdRIdeal.main_arg1)
          ∧ r.2.mem ((c.tc : Thread Cert.DownFwdRIdeal.nD Cert.DownFwdRIdeal.τ).loc Cert.DownFwdRIdeal.main_arg2) = m' ((c.tc : Thread Cert.DownFwdRIdeal.nD Cert.DownFwdRIdeal.τ).loc Cert.DownFwdRIdeal.main_arg2)
          ∧ r.2.mem ((c.tc : Thread Cert.DownFwdRIdeal.nD Cert.DownFwdRIdeal.τ).loc Cert.DownFwdRIdeal.main_arg3) = m' ((c.tc : Thread Cert.DownFwdRIdeal.nD Cert.DownFwdRIdeal.τ).loc Cert.DownFwdRIdeal.main_arg3))

def preserves_MergeK_MergeKIdeal : Prop :=
  True

def algebraic_MergeKIdeal_MergeRIdeal [hMergeKIdeal : Cert.MergeKIdeal.Facts] [hMergeRIdeal : Cert.MergeRIdeal.Facts] : Prop :=
  ∀ (m : (ℓ : Loc Cert.MergeKIdeal.nD Cert.MergeKIdeal.τ Cert.MergeKIdeal.sig) → Buf (Elt Ideal) ℓ) (g : Dev Cert.MergeKIdeal.nD → PrngReg)
    (m' : (ℓ : Loc Cert.MergeRIdeal.nD Cert.MergeRIdeal.τ Cert.MergeRIdeal.sig) → Buf (Elt Ideal) ℓ) (g' : Dev Cert.MergeRIdeal.nD → PrngReg), Pre_MergeKIdeal m →
    (∀ c : Dev Cert.MergeKIdeal.nD,
      m' ((c.tc : Thread Cert.MergeRIdeal.nD Cert.MergeRIdeal.τ).loc Cert.MergeRIdeal.main_arg0) = m ((c.tc : Thread Cert.MergeKIdeal.nD Cert.MergeKIdeal.τ).loc Cert.MergeKIdeal.main_arg0)
      ∧ m' ((c.tc : Thread Cert.MergeRIdeal.nD Cert.MergeRIdeal.τ).loc Cert.MergeRIdeal.main_arg1) = m ((c.tc : Thread Cert.MergeKIdeal.nD Cert.MergeKIdeal.τ).loc Cert.MergeKIdeal.main_arg1)
      ∧ m' ((c.tc : Thread Cert.MergeRIdeal.nD Cert.MergeRIdeal.τ).loc Cert.MergeRIdeal.main_arg2) = m ((c.tc : Thread Cert.MergeKIdeal.nD Cert.MergeKIdeal.τ).loc Cert.MergeKIdeal.main_arg2)
      ∧ m' ((c.tc : Thread Cert.MergeRIdeal.nD Cert.MergeRIdeal.τ).loc Cert.MergeRIdeal.main_arg3) = m ((c.tc : Thread Cert.MergeKIdeal.nD Cert.MergeKIdeal.τ).loc Cert.MergeKIdeal.main_arg3)
      ∧ m' ((c.tc : Thread Cert.MergeRIdeal.nD Cert.MergeRIdeal.τ).loc Cert.MergeRIdeal.main_arg4) = m ((c.tc : Thread Cert.MergeKIdeal.nD Cert.MergeKIdeal.τ).loc Cert.MergeKIdeal.main_arg4)
      ∧ m' ((c.tc : Thread Cert.MergeRIdeal.nD Cert.MergeRIdeal.τ).loc Cert.MergeRIdeal.main_arg5) = m ((c.tc : Thread Cert.MergeKIdeal.nD Cert.MergeKIdeal.τ).loc Cert.MergeKIdeal.main_arg5)
      ∧ m' ((c.tc : Thread Cert.MergeRIdeal.nD Cert.MergeRIdeal.τ).loc Cert.MergeRIdeal.main_arg6) = m ((c.tc : Thread Cert.MergeKIdeal.nD Cert.MergeKIdeal.τ).loc Cert.MergeKIdeal.main_arg6)
      ∧ m' ((c.tc : Thread Cert.MergeRIdeal.nD Cert.MergeRIdeal.τ).loc Cert.MergeRIdeal.main_arg7) = m ((c.tc : Thread Cert.MergeKIdeal.nD Cert.MergeKIdeal.τ).loc Cert.MergeKIdeal.main_arg7)
      ∧ m' ((c.tc : Thread Cert.MergeRIdeal.nD Cert.MergeRIdeal.τ).loc Cert.MergeRIdeal.main_arg8) = m ((c.tc : Thread Cert.MergeKIdeal.nD Cert.MergeKIdeal.τ).loc Cert.MergeKIdeal.main_arg8)
      ∧ m' ((c.tc : Thread Cert.MergeRIdeal.nD Cert.MergeRIdeal.τ).loc Cert.MergeRIdeal.main_arg9) = m ((c.tc : Thread Cert.MergeKIdeal.nD Cert.MergeKIdeal.τ).loc Cert.MergeKIdeal.main_arg9)) →
    ∃ (v0 : (c : Dev Cert.MergeKIdeal.nD) → Buf (Elt Ideal) ((c.tc : Thread Cert.MergeKIdeal.nD Cert.MergeKIdeal.τ).loc Cert.MergeKIdeal.main_v10_0)) (v1 : (c : Dev Cert.MergeKIdeal.nD) → Buf (Elt Ideal) ((c.tc : Thread Cert.MergeKIdeal.nD Cert.MergeKIdeal.τ).loc Cert.MergeKIdeal.main_v10_1)) (v2 : (c : Dev Cert.MergeKIdeal.nD) → Buf (Elt Ideal) ((c.tc : Thread Cert.MergeKIdeal.nD Cert.MergeKIdeal.τ).loc Cert.MergeKIdeal.main_v10_2)) (v3 : (c : Dev Cert.MergeKIdeal.nD) → Buf (Elt Ideal) ((c.tc : Thread Cert.MergeKIdeal.nD Cert.MergeKIdeal.τ).loc Cert.MergeKIdeal.main_v10_3)) (v4 : (c : Dev Cert.MergeKIdeal.nD) → Buf (Elt Ideal) ((c.tc : Thread Cert.MergeKIdeal.nD Cert.MergeKIdeal.τ).loc Cert.MergeKIdeal.main_v10_4)) (v5 : (c : Dev Cert.MergeKIdeal.nD) → Buf (Elt Ideal) ((c.tc : Thread Cert.MergeKIdeal.nD Cert.MergeKIdeal.τ).loc Cert.MergeKIdeal.main_v10_5)),
      θ_run (Cert.MergeKIdeal.defs (F := Ideal)) (onTc (τ := Cert.MergeKIdeal.τ) (Cert.MergeKIdeal.main (F := Ideal))) ⟨m, fun _ => 0, g⟩ (fun r => ∀ c : Dev Cert.MergeKIdeal.nD,
          r.2.mem ((c.tc : Thread Cert.MergeKIdeal.nD Cert.MergeKIdeal.τ).loc Cert.MergeKIdeal.main_v10_0) = v0 c
          ∧ r.2.mem ((c.tc : Thread Cert.MergeKIdeal.nD Cert.MergeKIdeal.τ).loc Cert.MergeKIdeal.main_v10_1) = v1 c
          ∧ r.2.mem ((c.tc : Thread Cert.MergeKIdeal.nD Cert.MergeKIdeal.τ).loc Cert.MergeKIdeal.main_v10_2) = v2 c
          ∧ r.2.mem ((c.tc : Thread Cert.MergeKIdeal.nD Cert.MergeKIdeal.τ).loc Cert.MergeKIdeal.main_v10_3) = v3 c
          ∧ r.2.mem ((c.tc : Thread Cert.MergeKIdeal.nD Cert.MergeKIdeal.τ).loc Cert.MergeKIdeal.main_v10_4) = v4 c
          ∧ r.2.mem ((c.tc : Thread Cert.MergeKIdeal.nD Cert.MergeKIdeal.τ).loc Cert.MergeKIdeal.main_v10_5) = v5 c
          ∧ r.2.mem ((c.tc : Thread Cert.MergeKIdeal.nD Cert.MergeKIdeal.τ).loc Cert.MergeKIdeal.main_arg0) = m ((c.tc : Thread Cert.MergeKIdeal.nD Cert.MergeKIdeal.τ).loc Cert.MergeKIdeal.main_arg0)
          ∧ r.2.mem ((c.tc : Thread Cert.MergeKIdeal.nD Cert.MergeKIdeal.τ).loc Cert.MergeKIdeal.main_arg1) = m ((c.tc : Thread Cert.MergeKIdeal.nD Cert.MergeKIdeal.τ).loc Cert.MergeKIdeal.main_arg1)
          ∧ r.2.mem ((c.tc : Thread Cert.MergeKIdeal.nD Cert.MergeKIdeal.τ).loc Cert.MergeKIdeal.main_arg2) = m ((c.tc : Thread Cert.MergeKIdeal.nD Cert.MergeKIdeal.τ).loc Cert.MergeKIdeal.main_arg2)
          ∧ r.2.mem ((c.tc : Thread Cert.MergeKIdeal.nD Cert.MergeKIdeal.τ).loc Cert.MergeKIdeal.main_arg3) = m ((c.tc : Thread Cert.MergeKIdeal.nD Cert.MergeKIdeal.τ).loc Cert.MergeKIdeal.main_arg3)
          ∧ r.2.mem ((c.tc : Thread Cert.MergeKIdeal.nD Cert.MergeKIdeal.τ).loc Cert.MergeKIdeal.main_arg4) = m ((c.tc : Thread Cert.MergeKIdeal.nD Cert.MergeKIdeal.τ).loc Cert.MergeKIdeal.main_arg4)
          ∧ r.2.mem ((c.tc : Thread Cert.MergeKIdeal.nD Cert.MergeKIdeal.τ).loc Cert.MergeKIdeal.main_arg5) = m ((c.tc : Thread Cert.MergeKIdeal.nD Cert.MergeKIdeal.τ).loc Cert.MergeKIdeal.main_arg5)
          ∧ r.2.mem ((c.tc : Thread Cert.MergeKIdeal.nD Cert.MergeKIdeal.τ).loc Cert.MergeKIdeal.main_arg6) = m ((c.tc : Thread Cert.MergeKIdeal.nD Cert.MergeKIdeal.τ).loc Cert.MergeKIdeal.main_arg6)
          ∧ r.2.mem ((c.tc : Thread Cert.MergeKIdeal.nD Cert.MergeKIdeal.τ).loc Cert.MergeKIdeal.main_arg7) = m ((c.tc : Thread Cert.MergeKIdeal.nD Cert.MergeKIdeal.τ).loc Cert.MergeKIdeal.main_arg7)
          ∧ r.2.mem ((c.tc : Thread Cert.MergeKIdeal.nD Cert.MergeKIdeal.τ).loc Cert.MergeKIdeal.main_arg8) = m ((c.tc : Thread Cert.MergeKIdeal.nD Cert.MergeKIdeal.τ).loc Cert.MergeKIdeal.main_arg8)
          ∧ r.2.mem ((c.tc : Thread Cert.MergeKIdeal.nD Cert.MergeKIdeal.τ).loc Cert.MergeKIdeal.main_arg9) = m ((c.tc : Thread Cert.MergeKIdeal.nD Cert.MergeKIdeal.τ).loc Cert.MergeKIdeal.main_arg9))
      ∧ θ_run (Cert.MergeRIdeal.defs (F := Ideal)) (onTc (τ := Cert.MergeRIdeal.τ) (Cert.MergeRIdeal.main (F := Ideal))) ⟨m', fun _ => 0, g'⟩ (fun r => ∀ c : Dev Cert.MergeRIdeal.nD,
          r.2.mem ((c.tc : Thread Cert.MergeRIdeal.nD Cert.MergeRIdeal.τ).loc Cert.MergeRIdeal.main_v29) = v0 c
          ∧ r.2.mem ((c.tc : Thread Cert.MergeRIdeal.nD Cert.MergeRIdeal.τ).loc Cert.MergeRIdeal.main_v31) = v1 c
          ∧ r.2.mem ((c.tc : Thread Cert.MergeRIdeal.nD Cert.MergeRIdeal.τ).loc Cert.MergeRIdeal.main_v33) = v2 c
          ∧ r.2.mem ((c.tc : Thread Cert.MergeRIdeal.nD Cert.MergeRIdeal.τ).loc Cert.MergeRIdeal.main_v35) = v3 c
          ∧ r.2.mem ((c.tc : Thread Cert.MergeRIdeal.nD Cert.MergeRIdeal.τ).loc Cert.MergeRIdeal.main_v37) = v4 c
          ∧ r.2.mem ((c.tc : Thread Cert.MergeRIdeal.nD Cert.MergeRIdeal.τ).loc Cert.MergeRIdeal.main_v39) = v5 c
          ∧ r.2.mem ((c.tc : Thread Cert.MergeRIdeal.nD Cert.MergeRIdeal.τ).loc Cert.MergeRIdeal.main_arg0) = m' ((c.tc : Thread Cert.MergeRIdeal.nD Cert.MergeRIdeal.τ).loc Cert.MergeRIdeal.main_arg0)
          ∧ r.2.mem ((c.tc : Thread Cert.MergeRIdeal.nD Cert.MergeRIdeal.τ).loc Cert.MergeRIdeal.main_arg1) = m' ((c.tc : Thread Cert.MergeRIdeal.nD Cert.MergeRIdeal.τ).loc Cert.MergeRIdeal.main_arg1)
          ∧ r.2.mem ((c.tc : Thread Cert.MergeRIdeal.nD Cert.MergeRIdeal.τ).loc Cert.MergeRIdeal.main_arg2) = m' ((c.tc : Thread Cert.MergeRIdeal.nD Cert.MergeRIdeal.τ).loc Cert.MergeRIdeal.main_arg2)
          ∧ r.2.mem ((c.tc : Thread Cert.MergeRIdeal.nD Cert.MergeRIdeal.τ).loc Cert.MergeRIdeal.main_arg3) = m' ((c.tc : Thread Cert.MergeRIdeal.nD Cert.MergeRIdeal.τ).loc Cert.MergeRIdeal.main_arg3)
          ∧ r.2.mem ((c.tc : Thread Cert.MergeRIdeal.nD Cert.MergeRIdeal.τ).loc Cert.MergeRIdeal.main_arg4) = m' ((c.tc : Thread Cert.MergeRIdeal.nD Cert.MergeRIdeal.τ).loc Cert.MergeRIdeal.main_arg4)
          ∧ r.2.mem ((c.tc : Thread Cert.MergeRIdeal.nD Cert.MergeRIdeal.τ).loc Cert.MergeRIdeal.main_arg5) = m' ((c.tc : Thread Cert.MergeRIdeal.nD Cert.MergeRIdeal.τ).loc Cert.MergeRIdeal.main_arg5)
          ∧ r.2.mem ((c.tc : Thread Cert.MergeRIdeal.nD Cert.MergeRIdeal.τ).loc Cert.MergeRIdeal.main_arg6) = m' ((c.tc : Thread Cert.MergeRIdeal.nD Cert.MergeRIdeal.τ).loc Cert.MergeRIdeal.main_arg6)
          ∧ r.2.mem ((c.tc : Thread Cert.MergeRIdeal.nD Cert.MergeRIdeal.τ).loc Cert.MergeRIdeal.main_arg7) = m' ((c.tc : Thread Cert.MergeRIdeal.nD Cert.MergeRIdeal.τ).loc Cert.MergeRIdeal.main_arg7)
          ∧ r.2.mem ((c.tc : Thread Cert.MergeRIdeal.nD Cert.MergeRIdeal.τ).loc Cert.MergeRIdeal.main_arg8) = m' ((c.tc : Thread Cert.MergeRIdeal.nD Cert.MergeRIdeal.τ).loc Cert.MergeRIdeal.main_arg8)
          ∧ r.2.mem ((c.tc : Thread Cert.MergeRIdeal.nD Cert.MergeRIdeal.τ).loc Cert.MergeRIdeal.main_arg9) = m' ((c.tc : Thread Cert.MergeRIdeal.nD Cert.MergeRIdeal.τ).loc Cert.MergeRIdeal.main_arg9))

def preserves_NormFwdK_NormFwdKIdeal : Prop :=
  True

def algebraic_NormFwdKIdeal_NormFwdRIdeal [hNormFwdKIdeal : Cert.NormFwdKIdeal.Facts] [hNormFwdRIdeal : Cert.NormFwdRIdeal.Facts] : Prop :=
  ∀ (m : (ℓ : Loc Cert.NormFwdKIdeal.nD Cert.NormFwdKIdeal.τ Cert.NormFwdKIdeal.sig) → Buf (Elt Ideal) ℓ) (g : Dev Cert.NormFwdKIdeal.nD → PrngReg)
    (m' : (ℓ : Loc Cert.NormFwdRIdeal.nD Cert.NormFwdRIdeal.τ Cert.NormFwdRIdeal.sig) → Buf (Elt Ideal) ℓ) (g' : Dev Cert.NormFwdRIdeal.nD → PrngReg), Pre_NormFwdKIdeal m →
    (∀ c : Dev Cert.NormFwdKIdeal.nD,
      m' ((c.tc : Thread Cert.NormFwdRIdeal.nD Cert.NormFwdRIdeal.τ).loc Cert.NormFwdRIdeal.main_arg0) = m ((c.tc : Thread Cert.NormFwdKIdeal.nD Cert.NormFwdKIdeal.τ).loc Cert.NormFwdKIdeal.main_arg0)
      ∧ m' ((c.tc : Thread Cert.NormFwdRIdeal.nD Cert.NormFwdRIdeal.τ).loc Cert.NormFwdRIdeal.main_arg1) = m ((c.tc : Thread Cert.NormFwdKIdeal.nD Cert.NormFwdKIdeal.τ).loc Cert.NormFwdKIdeal.main_arg1)
      ∧ m' ((c.tc : Thread Cert.NormFwdRIdeal.nD Cert.NormFwdRIdeal.τ).loc Cert.NormFwdRIdeal.main_arg2) = m ((c.tc : Thread Cert.NormFwdKIdeal.nD Cert.NormFwdKIdeal.τ).loc Cert.NormFwdKIdeal.main_arg2)
      ∧ m' ((c.tc : Thread Cert.NormFwdRIdeal.nD Cert.NormFwdRIdeal.τ).loc Cert.NormFwdRIdeal.main_arg3) = m ((c.tc : Thread Cert.NormFwdKIdeal.nD Cert.NormFwdKIdeal.τ).loc Cert.NormFwdKIdeal.main_arg3)) →
    ∃ (v0 : (c : Dev Cert.NormFwdKIdeal.nD) → Buf (Elt Ideal) ((c.tc : Thread Cert.NormFwdKIdeal.nD Cert.NormFwdKIdeal.τ).loc Cert.NormFwdKIdeal.main_v4_0)) (v1 : (c : Dev Cert.NormFwdKIdeal.nD) → Buf (Elt Ideal) ((c.tc : Thread Cert.NormFwdKIdeal.nD Cert.NormFwdKIdeal.τ).loc Cert.NormFwdKIdeal.main_v4_1)),
      θ_run (Cert.NormFwdKIdeal.defs (F := Ideal)) (onTc (τ := Cert.NormFwdKIdeal.τ) (Cert.NormFwdKIdeal.main (F := Ideal))) ⟨m, fun _ => 0, g⟩ (fun r => ∀ c : Dev Cert.NormFwdKIdeal.nD,
          r.2.mem ((c.tc : Thread Cert.NormFwdKIdeal.nD Cert.NormFwdKIdeal.τ).loc Cert.NormFwdKIdeal.main_v4_0) = v0 c
          ∧ r.2.mem ((c.tc : Thread Cert.NormFwdKIdeal.nD Cert.NormFwdKIdeal.τ).loc Cert.NormFwdKIdeal.main_v4_1) = v1 c
          ∧ r.2.mem ((c.tc : Thread Cert.NormFwdKIdeal.nD Cert.NormFwdKIdeal.τ).loc Cert.NormFwdKIdeal.main_arg0) = m ((c.tc : Thread Cert.NormFwdKIdeal.nD Cert.NormFwdKIdeal.τ).loc Cert.NormFwdKIdeal.main_arg0)
          ∧ r.2.mem ((c.tc : Thread Cert.NormFwdKIdeal.nD Cert.NormFwdKIdeal.τ).loc Cert.NormFwdKIdeal.main_arg1) = m ((c.tc : Thread Cert.NormFwdKIdeal.nD Cert.NormFwdKIdeal.τ).loc Cert.NormFwdKIdeal.main_arg1)
          ∧ r.2.mem ((c.tc : Thread Cert.NormFwdKIdeal.nD Cert.NormFwdKIdeal.τ).loc Cert.NormFwdKIdeal.main_arg2) = m ((c.tc : Thread Cert.NormFwdKIdeal.nD Cert.NormFwdKIdeal.τ).loc Cert.NormFwdKIdeal.main_arg2)
          ∧ r.2.mem ((c.tc : Thread Cert.NormFwdKIdeal.nD Cert.NormFwdKIdeal.τ).loc Cert.NormFwdKIdeal.main_arg3) = m ((c.tc : Thread Cert.NormFwdKIdeal.nD Cert.NormFwdKIdeal.τ).loc Cert.NormFwdKIdeal.main_arg3))
      ∧ θ_run (Cert.NormFwdRIdeal.defs (F := Ideal)) (onTc (τ := Cert.NormFwdRIdeal.τ) (Cert.NormFwdRIdeal.main (F := Ideal))) ⟨m', fun _ => 0, g'⟩ (fun r => ∀ c : Dev Cert.NormFwdRIdeal.nD,
          r.2.mem ((c.tc : Thread Cert.NormFwdRIdeal.nD Cert.NormFwdRIdeal.τ).loc Cert.NormFwdRIdeal.main_v22) = v0 c
          ∧ r.2.mem ((c.tc : Thread Cert.NormFwdRIdeal.nD Cert.NormFwdRIdeal.τ).loc Cert.NormFwdRIdeal.main_v23) = v1 c
          ∧ r.2.mem ((c.tc : Thread Cert.NormFwdRIdeal.nD Cert.NormFwdRIdeal.τ).loc Cert.NormFwdRIdeal.main_arg0) = m' ((c.tc : Thread Cert.NormFwdRIdeal.nD Cert.NormFwdRIdeal.τ).loc Cert.NormFwdRIdeal.main_arg0)
          ∧ r.2.mem ((c.tc : Thread Cert.NormFwdRIdeal.nD Cert.NormFwdRIdeal.τ).loc Cert.NormFwdRIdeal.main_arg1) = m' ((c.tc : Thread Cert.NormFwdRIdeal.nD Cert.NormFwdRIdeal.τ).loc Cert.NormFwdRIdeal.main_arg1)
          ∧ r.2.mem ((c.tc : Thread Cert.NormFwdRIdeal.nD Cert.NormFwdRIdeal.τ).loc Cert.NormFwdRIdeal.main_arg2) = m' ((c.tc : Thread Cert.NormFwdRIdeal.nD Cert.NormFwdRIdeal.τ).loc Cert.NormFwdRIdeal.main_arg2)
          ∧ r.2.mem ((c.tc : Thread Cert.NormFwdRIdeal.nD Cert.NormFwdRIdeal.τ).loc Cert.NormFwdRIdeal.main_arg3) = m' ((c.tc : Thread Cert.NormFwdRIdeal.nD Cert.NormFwdRIdeal.τ).loc Cert.NormFwdRIdeal.main_arg3))

def preserves_ConvFwdK_ConvFwdKIdeal : Prop :=
  True

def algebraic_ConvFwdKIdeal_ConvFwdRIdeal [hConvFwdKIdeal : Cert.ConvFwdKIdeal.Facts] [hConvFwdRIdeal : Cert.ConvFwdRIdeal.Facts] : Prop :=
  ∀ (m : (ℓ : Loc Cert.ConvFwdKIdeal.nD Cert.ConvFwdKIdeal.τ Cert.ConvFwdKIdeal.sig) → Buf (Elt Ideal) ℓ) (g : Dev Cert.ConvFwdKIdeal.nD → PrngReg)
    (m' : (ℓ : Loc Cert.ConvFwdRIdeal.nD Cert.ConvFwdRIdeal.τ Cert.ConvFwdRIdeal.sig) → Buf (Elt Ideal) ℓ) (g' : Dev Cert.ConvFwdRIdeal.nD → PrngReg), Pre_ConvFwdKIdeal m →
    (∀ c : Dev Cert.ConvFwdKIdeal.nD,
      m' ((c.tc : Thread Cert.ConvFwdRIdeal.nD Cert.ConvFwdRIdeal.τ).loc Cert.ConvFwdRIdeal.main_arg0) = m ((c.tc : Thread Cert.ConvFwdKIdeal.nD Cert.ConvFwdKIdeal.τ).loc Cert.ConvFwdKIdeal.main_arg0)
      ∧ m' ((c.tc : Thread Cert.ConvFwdRIdeal.nD Cert.ConvFwdRIdeal.τ).loc Cert.ConvFwdRIdeal.main_arg1) = m ((c.tc : Thread Cert.ConvFwdKIdeal.nD Cert.ConvFwdKIdeal.τ).loc Cert.ConvFwdKIdeal.main_arg1)
      ∧ m' ((c.tc : Thread Cert.ConvFwdRIdeal.nD Cert.ConvFwdRIdeal.τ).loc Cert.ConvFwdRIdeal.main_arg2) = m ((c.tc : Thread Cert.ConvFwdKIdeal.nD Cert.ConvFwdKIdeal.τ).loc Cert.ConvFwdKIdeal.main_arg2)) →
    ∃ (v0 : (c : Dev Cert.ConvFwdKIdeal.nD) → Buf (Elt Ideal) ((c.tc : Thread Cert.ConvFwdKIdeal.nD Cert.ConvFwdKIdeal.τ).loc Cert.ConvFwdKIdeal.main_v21_0)) (v1 : (c : Dev Cert.ConvFwdKIdeal.nD) → Buf (Elt Ideal) ((c.tc : Thread Cert.ConvFwdKIdeal.nD Cert.ConvFwdKIdeal.τ).loc Cert.ConvFwdKIdeal.main_v21_1)),
      θ_run (Cert.ConvFwdKIdeal.defs (F := Ideal)) (onTc (τ := Cert.ConvFwdKIdeal.τ) (Cert.ConvFwdKIdeal.main (F := Ideal))) ⟨m, fun _ => 0, g⟩ (fun r => ∀ c : Dev Cert.ConvFwdKIdeal.nD,
          r.2.mem ((c.tc : Thread Cert.ConvFwdKIdeal.nD Cert.ConvFwdKIdeal.τ).loc Cert.ConvFwdKIdeal.main_v21_0) = v0 c
          ∧ r.2.mem ((c.tc : Thread Cert.ConvFwdKIdeal.nD Cert.ConvFwdKIdeal.τ).loc Cert.ConvFwdKIdeal.main_v21_1) = v1 c
          ∧ r.2.mem ((c.tc : Thread Cert.ConvFwdKIdeal.nD Cert.ConvFwdKIdeal.τ).loc Cert.ConvFwdKIdeal.main_arg0) = m ((c.tc : Thread Cert.ConvFwdKIdeal.nD Cert.ConvFwdKIdeal.τ).loc Cert.ConvFwdKIdeal.main_arg0)
          ∧ r.2.mem ((c.tc : Thread Cert.ConvFwdKIdeal.nD Cert.ConvFwdKIdeal.τ).loc Cert.ConvFwdKIdeal.main_arg1) = m ((c.tc : Thread Cert.ConvFwdKIdeal.nD Cert.ConvFwdKIdeal.τ).loc Cert.ConvFwdKIdeal.main_arg1)
          ∧ r.2.mem ((c.tc : Thread Cert.ConvFwdKIdeal.nD Cert.ConvFwdKIdeal.τ).loc Cert.ConvFwdKIdeal.main_arg2) = m ((c.tc : Thread Cert.ConvFwdKIdeal.nD Cert.ConvFwdKIdeal.τ).loc Cert.ConvFwdKIdeal.main_arg2))
      ∧ θ_run (Cert.ConvFwdRIdeal.defs (F := Ideal)) (onTc (τ := Cert.ConvFwdRIdeal.τ) (Cert.ConvFwdRIdeal.main (F := Ideal))) ⟨m', fun _ => 0, g'⟩ (fun r => ∀ c : Dev Cert.ConvFwdRIdeal.nD,
          r.2.mem ((c.tc : Thread Cert.ConvFwdRIdeal.nD Cert.ConvFwdRIdeal.τ).loc Cert.ConvFwdRIdeal.main_v29) = v0 c
          ∧ r.2.mem ((c.tc : Thread Cert.ConvFwdRIdeal.nD Cert.ConvFwdRIdeal.τ).loc Cert.ConvFwdRIdeal.main_v30) = v1 c
          ∧ r.2.mem ((c.tc : Thread Cert.ConvFwdRIdeal.nD Cert.ConvFwdRIdeal.τ).loc Cert.ConvFwdRIdeal.main_arg0) = m' ((c.tc : Thread Cert.ConvFwdRIdeal.nD Cert.ConvFwdRIdeal.τ).loc Cert.ConvFwdRIdeal.main_arg0)
          ∧ r.2.mem ((c.tc : Thread Cert.ConvFwdRIdeal.nD Cert.ConvFwdRIdeal.τ).loc Cert.ConvFwdRIdeal.main_arg1) = m' ((c.tc : Thread Cert.ConvFwdRIdeal.nD Cert.ConvFwdRIdeal.τ).loc Cert.ConvFwdRIdeal.main_arg1)
          ∧ r.2.mem ((c.tc : Thread Cert.ConvFwdRIdeal.nD Cert.ConvFwdRIdeal.τ).loc Cert.ConvFwdRIdeal.main_arg2) = m' ((c.tc : Thread Cert.ConvFwdRIdeal.nD Cert.ConvFwdRIdeal.τ).loc Cert.ConvFwdRIdeal.main_arg2))

def preserves_AdamK_AdamKIdeal : Prop :=
  True

def algebraic_AdamKIdeal_AdamRIdeal [hAdamKIdeal : Cert.AdamKIdeal.Facts] [hAdamRIdeal : Cert.AdamRIdeal.Facts] : Prop :=
  ∀ (m : (ℓ : Loc Cert.AdamKIdeal.nD Cert.AdamKIdeal.τ Cert.AdamKIdeal.sig) → Buf (Elt Ideal) ℓ) (g : Dev Cert.AdamKIdeal.nD → PrngReg)
    (m' : (ℓ : Loc Cert.AdamRIdeal.nD Cert.AdamRIdeal.τ Cert.AdamRIdeal.sig) → Buf (Elt Ideal) ℓ) (g' : Dev Cert.AdamRIdeal.nD → PrngReg), Pre_AdamKIdeal m →
    (∀ c : Dev Cert.AdamKIdeal.nD,
      m' ((c.tc : Thread Cert.AdamRIdeal.nD Cert.AdamRIdeal.τ).loc Cert.AdamRIdeal.main_arg0) = m ((c.tc : Thread Cert.AdamKIdeal.nD Cert.AdamKIdeal.τ).loc Cert.AdamKIdeal.main_arg0)
      ∧ m' ((c.tc : Thread Cert.AdamRIdeal.nD Cert.AdamRIdeal.τ).loc Cert.AdamRIdeal.main_arg1) = m ((c.tc : Thread Cert.AdamKIdeal.nD Cert.AdamKIdeal.τ).loc Cert.AdamKIdeal.main_arg1)
      ∧ m' ((c.tc : Thread Cert.AdamRIdeal.nD Cert.AdamRIdeal.τ).loc Cert.AdamRIdeal.main_arg2) = m ((c.tc : Thread Cert.AdamKIdeal.nD Cert.AdamKIdeal.τ).loc Cert.AdamKIdeal.main_arg2)
      ∧ m' ((c.tc : Thread Cert.AdamRIdeal.nD Cert.AdamRIdeal.τ).loc Cert.AdamRIdeal.main_arg3) = m ((c.tc : Thread Cert.AdamKIdeal.nD Cert.AdamKIdeal.τ).loc Cert.AdamKIdeal.main_arg3)) →
    ∃ (v0 : (c : Dev Cert.AdamKIdeal.nD) → Buf (Elt Ideal) ((c.tc : Thread Cert.AdamKIdeal.nD Cert.AdamKIdeal.τ).loc Cert.AdamKIdeal.main_v4_0)) (v1 : (c : Dev Cert.AdamKIdeal.nD) → Buf (Elt Ideal) ((c.tc : Thread Cert.AdamKIdeal.nD Cert.AdamKIdeal.τ).loc Cert.AdamKIdeal.main_v4_1)) (v2 : (c : Dev Cert.AdamKIdeal.nD) → Buf (Elt Ideal) ((c.tc : Thread Cert.AdamKIdeal.nD Cert.AdamKIdeal.τ).loc Cert.AdamKIdeal.main_v4_2)),
      θ_run (Cert.AdamKIdeal.defs (F := Ideal)) (onTc (τ := Cert.AdamKIdeal.τ) (Cert.AdamKIdeal.main (F := Ideal))) ⟨m, fun _ => 0, g⟩ (fun r => ∀ c : Dev Cert.AdamKIdeal.nD,
          r.2.mem ((c.tc : Thread Cert.AdamKIdeal.nD Cert.AdamKIdeal.τ).loc Cert.AdamKIdeal.main_v4_0) = v0 c
          ∧ r.2.mem ((c.tc : Thread Cert.AdamKIdeal.nD Cert.AdamKIdeal.τ).loc Cert.AdamKIdeal.main_v4_1) = v1 c
          ∧ r.2.mem ((c.tc : Thread Cert.AdamKIdeal.nD Cert.AdamKIdeal.τ).loc Cert.AdamKIdeal.main_v4_2) = v2 c
          ∧ r.2.mem ((c.tc : Thread Cert.AdamKIdeal.nD Cert.AdamKIdeal.τ).loc Cert.AdamKIdeal.main_arg0) = m ((c.tc : Thread Cert.AdamKIdeal.nD Cert.AdamKIdeal.τ).loc Cert.AdamKIdeal.main_arg0)
          ∧ r.2.mem ((c.tc : Thread Cert.AdamKIdeal.nD Cert.AdamKIdeal.τ).loc Cert.AdamKIdeal.main_arg1) = m ((c.tc : Thread Cert.AdamKIdeal.nD Cert.AdamKIdeal.τ).loc Cert.AdamKIdeal.main_arg1)
          ∧ r.2.mem ((c.tc : Thread Cert.AdamKIdeal.nD Cert.AdamKIdeal.τ).loc Cert.AdamKIdeal.main_arg2) = m ((c.tc : Thread Cert.AdamKIdeal.nD Cert.AdamKIdeal.τ).loc Cert.AdamKIdeal.main_arg2)
          ∧ r.2.mem ((c.tc : Thread Cert.AdamKIdeal.nD Cert.AdamKIdeal.τ).loc Cert.AdamKIdeal.main_arg3) = m ((c.tc : Thread Cert.AdamKIdeal.nD Cert.AdamKIdeal.τ).loc Cert.AdamKIdeal.main_arg3))
      ∧ θ_run (Cert.AdamRIdeal.defs (F := Ideal)) (onTc (τ := Cert.AdamRIdeal.τ) (Cert.AdamRIdeal.main (F := Ideal))) ⟨m', fun _ => 0, g'⟩ (fun r => ∀ c : Dev Cert.AdamRIdeal.nD,
          r.2.mem ((c.tc : Thread Cert.AdamRIdeal.nD Cert.AdamRIdeal.τ).loc Cert.AdamRIdeal.main_v24) = v0 c
          ∧ r.2.mem ((c.tc : Thread Cert.AdamRIdeal.nD Cert.AdamRIdeal.τ).loc Cert.AdamRIdeal.main_v25) = v1 c
          ∧ r.2.mem ((c.tc : Thread Cert.AdamRIdeal.nD Cert.AdamRIdeal.τ).loc Cert.AdamRIdeal.main_v26) = v2 c
          ∧ r.2.mem ((c.tc : Thread Cert.AdamRIdeal.nD Cert.AdamRIdeal.τ).loc Cert.AdamRIdeal.main_arg0) = m' ((c.tc : Thread Cert.AdamRIdeal.nD Cert.AdamRIdeal.τ).loc Cert.AdamRIdeal.main_arg0)
          ∧ r.2.mem ((c.tc : Thread Cert.AdamRIdeal.nD Cert.AdamRIdeal.τ).loc Cert.AdamRIdeal.main_arg1) = m' ((c.tc : Thread Cert.AdamRIdeal.nD Cert.AdamRIdeal.τ).loc Cert.AdamRIdeal.main_arg1)
          ∧ r.2.mem ((c.tc : Thread Cert.AdamRIdeal.nD Cert.AdamRIdeal.τ).loc Cert.AdamRIdeal.main_arg2) = m' ((c.tc : Thread Cert.AdamRIdeal.nD Cert.AdamRIdeal.τ).loc Cert.AdamRIdeal.main_arg2)
          ∧ r.2.mem ((c.tc : Thread Cert.AdamRIdeal.nD Cert.AdamRIdeal.τ).loc Cert.AdamRIdeal.main_arg3) = m' ((c.tc : Thread Cert.AdamRIdeal.nD Cert.AdamRIdeal.τ).loc Cert.AdamRIdeal.main_arg3))

def Claim : Prop :=
  ∃ (hKernel : Cert.Kernel.Facts) (hKernelIdeal : Cert.KernelIdeal.Facts) (hNormK : Cert.NormK.Facts) (hNormKIdeal : Cert.NormKIdeal.Facts) (hNormRIdeal : Cert.NormRIdeal.Facts) (hDownK : Cert.DownK.Facts) (hDownKIdeal : Cert.DownKIdeal.Facts) (hDownRIdeal : Cert.DownRIdeal.Facts) (hConvK : Cert.ConvK.Facts) (hConvKIdeal : Cert.ConvKIdeal.Facts) (hConvRIdeal : Cert.ConvRIdeal.Facts) (hProjDxK : Cert.ProjDxK.Facts) (hProjDxKIdeal : Cert.ProjDxKIdeal.Facts) (hProjDxRIdeal : Cert.ProjDxRIdeal.Facts) (hProjGDwK : Cert.ProjGDwK.Facts) (hProjGDwKIdeal : Cert.ProjGDwKIdeal.Facts) (hProjGDwRIdeal : Cert.ProjGDwRIdeal.Facts) (hProjADwK : Cert.ProjADwK.Facts) (hProjADwKIdeal : Cert.ProjADwKIdeal.Facts) (hProjADwRIdeal : Cert.ProjADwRIdeal.Facts) (hProjBDwK : Cert.ProjBDwK.Facts) (hProjBDwKIdeal : Cert.ProjBDwKIdeal.Facts) (hProjBDwRIdeal : Cert.ProjBDwRIdeal.Facts) (hProjCDwK : Cert.ProjCDwK.Facts) (hProjCDwKIdeal : Cert.ProjCDwKIdeal.Facts) (hProjCDwRIdeal : Cert.ProjCDwRIdeal.Facts) (hUpDwK : Cert.UpDwK.Facts) (hUpDwKIdeal : Cert.UpDwKIdeal.Facts) (hUpDwRIdeal : Cert.UpDwRIdeal.Facts) (hDownDwK : Cert.DownDwK.Facts) (hDownDwKIdeal : Cert.DownDwKIdeal.Facts) (hDownDwRIdeal : Cert.DownDwRIdeal.Facts) (hProjK : Cert.ProjK.Facts) (hProjKIdeal : Cert.ProjKIdeal.Facts) (hProjRIdeal : Cert.ProjRIdeal.Facts) (hUpK : Cert.UpK.Facts) (hUpKIdeal : Cert.UpKIdeal.Facts) (hUpRIdeal : Cert.UpRIdeal.Facts) (hDownFwdK : Cert.DownFwdK.Facts) (hDownFwdKIdeal : Cert.DownFwdKIdeal.Facts) (hDownFwdRIdeal : Cert.DownFwdRIdeal.Facts) (hMergeK : Cert.MergeK.Facts) (hMergeKIdeal : Cert.MergeKIdeal.Facts) (hMergeRIdeal : Cert.MergeRIdeal.Facts) (hNormFwdK : Cert.NormFwdK.Facts) (hNormFwdKIdeal : Cert.NormFwdKIdeal.Facts) (hNormFwdRIdeal : Cert.NormFwdRIdeal.Facts) (hConvFwdK : Cert.ConvFwdK.Facts) (hConvFwdKIdeal : Cert.ConvFwdKIdeal.Facts) (hConvFwdRIdeal : Cert.ConvFwdRIdeal.Facts) (hAdamK : Cert.AdamK.Facts) (hAdamKIdeal : Cert.AdamKIdeal.Facts) (hAdamRIdeal : Cert.AdamRIdeal.Facts),
    quiescent_Kernel (hKernel := hKernel)
    ∧ quiescent_KernelIdeal (hKernelIdeal := hKernelIdeal)
    ∧ quiescent_NormK (hNormK := hNormK)
    ∧ quiescent_NormKIdeal (hNormKIdeal := hNormKIdeal)
    ∧ quiescent_NormRIdeal (hNormRIdeal := hNormRIdeal)
    ∧ quiescent_DownK (hDownK := hDownK)
    ∧ quiescent_DownKIdeal (hDownKIdeal := hDownKIdeal)
    ∧ quiescent_DownRIdeal (hDownRIdeal := hDownRIdeal)
    ∧ quiescent_ConvK (hConvK := hConvK)
    ∧ quiescent_ConvKIdeal (hConvKIdeal := hConvKIdeal)
    ∧ quiescent_ConvRIdeal (hConvRIdeal := hConvRIdeal)
    ∧ quiescent_ProjDxK (hProjDxK := hProjDxK)
    ∧ quiescent_ProjDxKIdeal (hProjDxKIdeal := hProjDxKIdeal)
    ∧ quiescent_ProjDxRIdeal (hProjDxRIdeal := hProjDxRIdeal)
    ∧ quiescent_ProjGDwK (hProjGDwK := hProjGDwK)
    ∧ quiescent_ProjGDwKIdeal (hProjGDwKIdeal := hProjGDwKIdeal)
    ∧ quiescent_ProjGDwRIdeal (hProjGDwRIdeal := hProjGDwRIdeal)
    ∧ quiescent_ProjADwK (hProjADwK := hProjADwK)
    ∧ quiescent_ProjADwKIdeal (hProjADwKIdeal := hProjADwKIdeal)
    ∧ quiescent_ProjADwRIdeal (hProjADwRIdeal := hProjADwRIdeal)
    ∧ quiescent_ProjBDwK (hProjBDwK := hProjBDwK)
    ∧ quiescent_ProjBDwKIdeal (hProjBDwKIdeal := hProjBDwKIdeal)
    ∧ quiescent_ProjBDwRIdeal (hProjBDwRIdeal := hProjBDwRIdeal)
    ∧ quiescent_ProjCDwK (hProjCDwK := hProjCDwK)
    ∧ quiescent_ProjCDwKIdeal (hProjCDwKIdeal := hProjCDwKIdeal)
    ∧ quiescent_ProjCDwRIdeal (hProjCDwRIdeal := hProjCDwRIdeal)
    ∧ quiescent_UpDwK (hUpDwK := hUpDwK)
    ∧ quiescent_UpDwKIdeal (hUpDwKIdeal := hUpDwKIdeal)
    ∧ quiescent_UpDwRIdeal (hUpDwRIdeal := hUpDwRIdeal)
    ∧ quiescent_DownDwK (hDownDwK := hDownDwK)
    ∧ quiescent_DownDwKIdeal (hDownDwKIdeal := hDownDwKIdeal)
    ∧ quiescent_DownDwRIdeal (hDownDwRIdeal := hDownDwRIdeal)
    ∧ quiescent_ProjK (hProjK := hProjK)
    ∧ quiescent_ProjKIdeal (hProjKIdeal := hProjKIdeal)
    ∧ quiescent_ProjRIdeal (hProjRIdeal := hProjRIdeal)
    ∧ quiescent_UpK (hUpK := hUpK)
    ∧ quiescent_UpKIdeal (hUpKIdeal := hUpKIdeal)
    ∧ quiescent_UpRIdeal (hUpRIdeal := hUpRIdeal)
    ∧ quiescent_DownFwdK (hDownFwdK := hDownFwdK)
    ∧ quiescent_DownFwdKIdeal (hDownFwdKIdeal := hDownFwdKIdeal)
    ∧ quiescent_DownFwdRIdeal (hDownFwdRIdeal := hDownFwdRIdeal)
    ∧ quiescent_MergeK (hMergeK := hMergeK)
    ∧ quiescent_MergeKIdeal (hMergeKIdeal := hMergeKIdeal)
    ∧ quiescent_MergeRIdeal (hMergeRIdeal := hMergeRIdeal)
    ∧ quiescent_NormFwdK (hNormFwdK := hNormFwdK)
    ∧ quiescent_NormFwdKIdeal (hNormFwdKIdeal := hNormFwdKIdeal)
    ∧ quiescent_NormFwdRIdeal (hNormFwdRIdeal := hNormFwdRIdeal)
    ∧ quiescent_ConvFwdK (hConvFwdK := hConvFwdK)
    ∧ quiescent_ConvFwdKIdeal (hConvFwdKIdeal := hConvFwdKIdeal)
    ∧ quiescent_ConvFwdRIdeal (hConvFwdRIdeal := hConvFwdRIdeal)
    ∧ quiescent_AdamK (hAdamK := hAdamK)
    ∧ quiescent_AdamKIdeal (hAdamKIdeal := hAdamKIdeal)
    ∧ quiescent_AdamRIdeal (hAdamRIdeal := hAdamRIdeal)
    ∧ preserves_Kernel_KernelIdeal
    ∧ preserves_NormK_NormKIdeal
    ∧ algebraic_NormKIdeal_NormRIdeal (hNormKIdeal := hNormKIdeal) (hNormRIdeal := hNormRIdeal)
    ∧ preserves_DownK_DownKIdeal
    ∧ algebraic_DownKIdeal_DownRIdeal (hDownKIdeal := hDownKIdeal) (hDownRIdeal := hDownRIdeal)
    ∧ preserves_ConvK_ConvKIdeal
    ∧ algebraic_ConvKIdeal_ConvRIdeal (hConvKIdeal := hConvKIdeal) (hConvRIdeal := hConvRIdeal)
    ∧ preserves_ProjDxK_ProjDxKIdeal
    ∧ algebraic_ProjDxKIdeal_ProjDxRIdeal (hProjDxKIdeal := hProjDxKIdeal) (hProjDxRIdeal := hProjDxRIdeal)
    ∧ preserves_ProjGDwK_ProjGDwKIdeal
    ∧ algebraic_ProjGDwKIdeal_ProjGDwRIdeal (hProjGDwKIdeal := hProjGDwKIdeal) (hProjGDwRIdeal := hProjGDwRIdeal)
    ∧ preserves_ProjADwK_ProjADwKIdeal
    ∧ algebraic_ProjADwKIdeal_ProjADwRIdeal (hProjADwKIdeal := hProjADwKIdeal) (hProjADwRIdeal := hProjADwRIdeal)
    ∧ preserves_ProjBDwK_ProjBDwKIdeal
    ∧ algebraic_ProjBDwKIdeal_ProjBDwRIdeal (hProjBDwKIdeal := hProjBDwKIdeal) (hProjBDwRIdeal := hProjBDwRIdeal)
    ∧ preserves_ProjCDwK_ProjCDwKIdeal
    ∧ algebraic_ProjCDwKIdeal_ProjCDwRIdeal (hProjCDwKIdeal := hProjCDwKIdeal) (hProjCDwRIdeal := hProjCDwRIdeal)
    ∧ preserves_UpDwK_UpDwKIdeal
    ∧ algebraic_UpDwKIdeal_UpDwRIdeal (hUpDwKIdeal := hUpDwKIdeal) (hUpDwRIdeal := hUpDwRIdeal)
    ∧ preserves_DownDwK_DownDwKIdeal
    ∧ algebraic_DownDwKIdeal_DownDwRIdeal (hDownDwKIdeal := hDownDwKIdeal) (hDownDwRIdeal := hDownDwRIdeal)
    ∧ preserves_ProjK_ProjKIdeal
    ∧ algebraic_ProjKIdeal_ProjRIdeal (hProjKIdeal := hProjKIdeal) (hProjRIdeal := hProjRIdeal)
    ∧ preserves_UpK_UpKIdeal
    ∧ algebraic_UpKIdeal_UpRIdeal (hUpKIdeal := hUpKIdeal) (hUpRIdeal := hUpRIdeal)
    ∧ preserves_DownFwdK_DownFwdKIdeal
    ∧ algebraic_DownFwdKIdeal_DownFwdRIdeal (hDownFwdKIdeal := hDownFwdKIdeal) (hDownFwdRIdeal := hDownFwdRIdeal)
    ∧ preserves_MergeK_MergeKIdeal
    ∧ algebraic_MergeKIdeal_MergeRIdeal (hMergeKIdeal := hMergeKIdeal) (hMergeRIdeal := hMergeRIdeal)
    ∧ preserves_NormFwdK_NormFwdKIdeal
    ∧ algebraic_NormFwdKIdeal_NormFwdRIdeal (hNormFwdKIdeal := hNormFwdKIdeal) (hNormFwdRIdeal := hNormFwdRIdeal)
    ∧ preserves_ConvFwdK_ConvFwdKIdeal
    ∧ algebraic_ConvFwdKIdeal_ConvFwdRIdeal (hConvFwdKIdeal := hConvFwdKIdeal) (hConvFwdRIdeal := hConvFwdRIdeal)
    ∧ preserves_AdamK_AdamKIdeal
    ∧ algebraic_AdamKIdeal_AdamRIdeal (hAdamKIdeal := hAdamKIdeal) (hAdamRIdeal := hAdamRIdeal)
-- ==== Kernel.lean ====
abbrev S8x512 : Shape := ⟨2, ![8, 512]⟩
abbrev S8x128 : Shape := ⟨2, ![8, 128]⟩
abbrev S8192x2048 : Shape := ⟨2, ![8192, 2048]⟩
abbrev S2x32x512x128 : Shape := ⟨4, ![2, 32, 512, 128]⟩
abbrev S8192x512 : Shape := ⟨2, ![8192, 512]⟩
abbrev S128x2048 : Shape := ⟨2, ![128, 2048]⟩
abbrev S1x1x512x128 : Shape := ⟨4, ![1, 1, 512, 128]⟩
abbrev S128x512 : Shape := ⟨2, ![128, 512]⟩
abbrev S512x128 : Shape := ⟨2, ![512, 128]⟩
abbrev S1x512 : Shape := ⟨2, ![1, 512]⟩
abbrev S1x128 : Shape := ⟨2, ![1, 128]⟩
abbrev S128x128 : Shape := ⟨2, ![128, 128]⟩
abbrev S384x128 : Shape := ⟨2, ![384, 128]⟩
abbrev S384x384 : Shape := ⟨2, ![384, 384]⟩
abbrev S384x512 : Shape := ⟨2, ![384, 512]⟩
abbrev S128x1024 : Shape := ⟨2, ![128, 1024]⟩
abbrev S128 : Shape := ⟨1, ![128]⟩
abbrev S128x1 : Shape := ⟨2, ![128, 1]⟩
abbrev S128x384 : Shape := ⟨2, ![128, 384]⟩
abbrev S128x256 : Shape := ⟨2, ![128, 256]⟩
abbrev S128x896 : Shape := ⟨2, ![128, 896]⟩
abbrev S112x128 : Shape := ⟨2, ![112, 128]⟩
abbrev S113x128 : Shape := ⟨2, ![113, 128]⟩
abbrev S15x128 : Shape := ⟨2, ![15, 128]⟩
abbrev S128x768 : Shape := ⟨2, ![128, 768]⟩
abbrev S96x128 : Shape := ⟨2, ![96, 128]⟩
abbrev S97x128 : Shape := ⟨2, ![97, 128]⟩
abbrev S31x128 : Shape := ⟨2, ![31, 128]⟩
abbrev S128x640 : Shape := ⟨2, ![128, 640]⟩
abbrev S80x128 : Shape := ⟨2, ![80, 128]⟩
abbrev S81x128 : Shape := ⟨2, ![81, 128]⟩
abbrev S47x128 : Shape := ⟨2, ![47, 128]⟩
abbrev S64x128 : Shape := ⟨2, ![64, 128]⟩
abbrev S65x128 : Shape := ⟨2, ![65, 128]⟩
abbrev S63x128 : Shape := ⟨2, ![63, 128]⟩
abbrev S48x128 : Shape := ⟨2, ![48, 128]⟩
abbrev S49x128 : Shape := ⟨2, ![49, 128]⟩
abbrev S79x128 : Shape := ⟨2, ![79, 128]⟩
abbrev S32x128 : Shape := ⟨2, ![32, 128]⟩
abbrev S33x128 : Shape := ⟨2, ![33, 128]⟩
abbrev S95x128 : Shape := ⟨2, ![95, 128]⟩
abbrev S16x128 : Shape := ⟨2, ![16, 128]⟩
abbrev S17x128 : Shape := ⟨2, ![17, 128]⟩
abbrev S111x128 : Shape := ⟨2, ![111, 128]⟩
abbrev S127x128 : Shape := ⟨2, ![127, 128]⟩
abbrev S256x128 : Shape := ⟨2, ![256, 128]⟩
abbrev S256x512 : Shape := ⟨2, ![256, 512]⟩
abbrev S1152x128 : Shape := ⟨2, ![1152, 128]⟩
abbrev S1152x512 : Shape := ⟨2, ![1152, 512]⟩
abbrev S128x1536 : Shape := ⟨2, ![128, 1536]⟩
abbrev S512 : Shape := ⟨1, ![512]⟩
abbrev S7x128 : Shape := ⟨2, ![7, 128]⟩
abbrev S2x512 : Shape := ⟨2, ![2, 512]⟩
abbrev S6x512 : Shape := ⟨2, ![6, 512]⟩
abbrev S7x512 : Shape := ⟨2, ![7, 512]⟩

abbrev nBuf : Space → Nat
  | .hbm => 8
  | .vmem => 13
  | .smem => 0
  | _ => 0

abbrev bufTy : (tb : Table) → Fin (tcTables nBuf tb) → BufTy
  | .hbm, ⟨0, _⟩ => ⟨S8x512, .f32⟩
  | .hbm, ⟨1, _⟩ => ⟨S8x128, .f32⟩
  | .hbm, ⟨2, _⟩ => ⟨S8192x2048, .f32⟩
  | .hbm, ⟨3, _⟩ => ⟨S2x32x512x128, .f32⟩
  | .hbm, ⟨4, _⟩ => ⟨S8192x512, .f32⟩
  | .hbm, ⟨5, _⟩ => ⟨S8192x2048, .bf16⟩
  | .hbm, ⟨6, _⟩ => ⟨S8x512, .f32⟩
  | .hbm, ⟨7, _⟩ => ⟨S8x128, .f32⟩
  | .local _ .vmem, ⟨0, _⟩ => ⟨S8x512, .f32⟩
  | .local _ .vmem, ⟨1, _⟩ => ⟨S8x128, .f32⟩
  | .local _ .vmem, ⟨2, _⟩ => ⟨S128x2048, .f32⟩
  | .local _ .vmem, ⟨3, _⟩ => ⟨S128x2048, .f32⟩
  | .local _ .vmem, ⟨4, _⟩ => ⟨S1x1x512x128, .f32⟩
  | .local _ .vmem, ⟨5, _⟩ => ⟨S1x1x512x128, .f32⟩
  | .local _ .vmem, ⟨6, _⟩ => ⟨S128x512, .f32⟩
  | .local _ .vmem, ⟨7, _⟩ => ⟨S128x512, .f32⟩
  | .local _ .vmem, ⟨8, _⟩ => ⟨S128x2048, .bf16⟩
  | .local _ .vmem, ⟨9, _⟩ => ⟨S128x2048, .bf16⟩
  | .local _ .vmem, ⟨10, _⟩ => ⟨S8x512, .f32⟩
  | .local _ .vmem, ⟨11, _⟩ => ⟨S8x128, .f32⟩
  | .local _ .vmem, ⟨12, _⟩ => ⟨S512x128, .f32⟩
  | _, _ => ⟨S8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_3 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== NormK.lean ====
abbrev S2x4096x1024 : Shape := ⟨3, ![2, 4096, 1024]⟩
abbrev S1024 : Shape := ⟨1, ![1024]⟩
abbrev S2x1024 : Shape := ⟨2, ![2, 1024]⟩
abbrev S1024x5632 : Shape := ⟨2, ![1024, 5632]⟩
abbrev S2x4096x5632 : Shape := ⟨3, ![2, 4096, 5632]⟩
abbrev S8192x1024 : Shape := ⟨2, ![8192, 1024]⟩
abbrev S1x1024 : Shape := ⟨2, ![1, 1024]⟩
abbrev S2x1x1024 : Shape := ⟨3, ![2, 1, 1024]⟩
abbrev S8192x5632 : Shape := ⟨2, ![8192, 5632]⟩
abbrev S256x1024 : Shape := ⟨2, ![256, 1024]⟩
abbrev S1x1x1024 : Shape := ⟨3, ![1, 1, 1024]⟩
abbrev S256x5632 : Shape := ⟨2, ![256, 5632]⟩
abbrev S256 : Shape := ⟨1, ![256]⟩
abbrev S256x1 : Shape := ⟨2, ![256, 1]⟩

abbrev nBuf : Space → Nat
  | .hbm => 18
  | .vmem => 19
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x5632, .f32⟩
  | .hbm, ⟨5, _⟩ => ⟨S2x4096x5632, .bf16⟩
  | .hbm, ⟨6, _⟩ => ⟨S2x4096x1024, .f32⟩
  | .hbm, ⟨7, _⟩ => ⟨S8192x1024, .f32⟩
  | .hbm, ⟨8, _⟩ => ⟨S1x1024, .f32⟩
  | .hbm, ⟨9, _⟩ => ⟨S2x1x1024, .f32⟩
  | .hbm, ⟨10, _⟩ => ⟨S2x1x1024, .f32⟩
  | .hbm, ⟨11, _⟩ => ⟨S8192x5632, .bf16⟩
  | .hbm, ⟨12, _⟩ => ⟨S8192x1024, .f32⟩
  | .hbm, ⟨13, _⟩ => ⟨S1024x5632, .bf16⟩
  | .hbm, ⟨14, _⟩ => ⟨S8192x1024, .f32⟩
  | .hbm, ⟨15, _⟩ => ⟨S1x1024, .f32⟩
  | .hbm, ⟨16, _⟩ => ⟨S2x1x1024, .f32⟩
  | .hbm, ⟨17, _⟩ => ⟨S2x1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S256x5632, .bf16⟩
  | .local _ .vmem, ⟨8, _⟩ => ⟨S256x5632, .bf16⟩
  | .local _ .vmem, ⟨9, _⟩ => ⟨S256x1024, .f32⟩
  | .local _ .vmem, ⟨10, _⟩ => ⟨S256x1024, .f32⟩
  | .local _ .vmem, ⟨11, _⟩ => ⟨S1024x5632, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== NormRIdeal.lean ====
abbrev S2x4096x1024 : Shape := ⟨3, ![2, 4096, 1024]⟩
abbrev S1024 : Shape := ⟨1, ![1024]⟩
abbrev S2x1024 : Shape := ⟨2, ![2, 1024]⟩
abbrev S1024x5632 : Shape := ⟨2, ![1024, 5632]⟩
abbrev S2x4096x5632 : Shape := ⟨3, ![2, 4096, 5632]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x1x1024 : Shape := ⟨3, ![2, 1, 1024]⟩
abbrev S8192x1024 : Shape := ⟨2, ![8192, 1024]⟩
abbrev S1x1024 : Shape := ⟨2, ![1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x5632, .f32⟩
  | .hbm, ⟨5, _⟩ => ⟨S2x4096x5632, .bf16⟩
  | .hbm, ⟨6, _⟩ => ⟨S2x4096x1024, .f32⟩
  | .hbm, ⟨7, _⟩ => ⟨S2x4096x1024, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S2x4096x1024, .f32⟩
  | .hbm, ⟨23, _⟩ => ⟨S2x4096x1024, .f32⟩
  | .hbm, ⟨24, _⟩ => ⟨S1x1x1024, .f32⟩
  | .hbm, ⟨25, _⟩ => ⟨S2x4096x1024, .f32⟩
  | .hbm, ⟨26, _⟩ => ⟨S2x4096x1024, .f32⟩
  | .hbm, ⟨27, _⟩ => ⟨S2x1x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x4096x1024, .f32⟩
  | .hbm, ⟨32, _⟩ => ⟨S2x4096x1024, .f32⟩
  | .hbm, ⟨33, _⟩ => ⟨S2x1x1024, .f32⟩
  | .hbm, ⟨34, _⟩ => ⟨S2x4096x1024, .f32⟩
  | .hbm, ⟨35, _⟩ => ⟨S2x4096x1024, .f32⟩
  | .hbm, ⟨36, _⟩ => ⟨S2x4096x5632, .f32⟩
  | .hbm, ⟨37, _⟩ => ⟨S2x4096x5632, .f32⟩
  | .hbm, ⟨38, _⟩ => ⟨S2x4096x1024, .f32⟩
  | .hbm, ⟨39, _⟩ => ⟨S_, .f32⟩
  | .hbm, ⟨40, _⟩ => ⟨S2x1024, .f32⟩
  | .hbm, ⟨41, _⟩ => ⟨S2x1x1024, .f32⟩
  | .hbm, ⟨42, _⟩ => ⟨S_, .f32⟩
  | .hbm, ⟨43, _⟩ => ⟨S2x1024, .f32⟩
  | .hbm, ⟨44, _⟩ => ⟨S2x4096x1024, .f32⟩
  | .hbm, ⟨45, _⟩ => ⟨S_, .f32⟩
  | .hbm, ⟨46, _⟩ => ⟨S2x1024, .f32⟩
  | .hbm, ⟨47, _⟩ => ⟨S2x1x1024, .f32⟩
  | .hbm, ⟨48, _⟩ => ⟨S2x4096x1024, .f32⟩
  | .hbm, ⟨49, _⟩ => ⟨S2x4096x1024, .f32⟩
  | .hbm, ⟨50, _⟩ => ⟨S_, .f32⟩
  | .hbm, ⟨51, _⟩ => ⟨S2x1024, .f32⟩
  | .hbm, ⟨52, _⟩ => ⟨S2x4096x1024, .f32⟩
  | .hbm, ⟨53, _⟩ => ⟨S_, .f32⟩
  | .hbm, ⟨54, _⟩ => ⟨S1024, .f32⟩
  | .hbm, ⟨55, _⟩ => ⟨S1x1x1024, .f32⟩
  | .hbm, ⟨56, _⟩ => ⟨S2x4096x1024, .f32⟩
  | .hbm, ⟨57, _⟩ => ⟨S2x4096x1024, .f32⟩
  | .hbm, ⟨58, _⟩ => ⟨S_, .f32⟩
  | .hbm, ⟨59, _⟩ => ⟨S1024, .f32⟩
  | .hbm, ⟨60, _⟩ => ⟨S2x4096x1024, .f32⟩
  | .hbm, ⟨61, _⟩ => ⟨S_, .f32⟩
  | .hbm, ⟨62, _⟩ => ⟨S2x4096, .f32⟩
  | .hbm, ⟨63, _⟩ => ⟨S2x4096x1, .f32⟩
  | .hbm, ⟨64, _⟩ => ⟨S2x4096x1024, .f32⟩
  | .hbm, ⟨65, _⟩ => ⟨S2x4096x1024, .f32⟩
  | .hbm, ⟨66, _⟩ => ⟨S2x4096x1024, .f32⟩
  | .hbm, ⟨67, _⟩ => ⟨S2x4096x1, .f32⟩
  | .hbm, ⟨68, _⟩ => ⟨S_, .f32⟩
  | .hbm, ⟨69, _⟩ => ⟨S2x4096x1, .f32⟩
  | .hbm, ⟨70, _⟩ => ⟨S2x4096x1, .f32⟩
  | .hbm, ⟨71, _⟩ => ⟨S_, .f32⟩
  | .hbm, ⟨72, _⟩ => ⟨S2x4096, .f32⟩
  | .hbm, ⟨73, _⟩ => ⟨S2x4096x1024, .f32⟩
  | .hbm, ⟨74, _⟩ => ⟨S2x4096x1024, .f32⟩
  | .hbm, ⟨75, _⟩ => ⟨S2x4096x1024, .f32⟩
  | .hbm, ⟨76, _⟩ => ⟨S2x4096x1024, .f32⟩
  | .hbm, ⟨77, _⟩ => ⟨S2x4096x1024, .f32⟩
  | .hbm, ⟨78, _⟩ => ⟨S8192x1024, .f32⟩
  | .hbm, ⟨79, _⟩ => ⟨S1x1024, .f32⟩
  | .hbm, ⟨80, _⟩ => ⟨S2x1x1024, .f32⟩
  | .hbm, ⟨81, _⟩ => ⟨S2x1x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_cst_12 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== DownK.lean ====
abbrev S2x4096x2816 : Shape := ⟨3, ![2, 4096, 2816]⟩
abbrev S2x1024 : Shape := ⟨2, ![2, 1024]⟩
abbrev S2816x1024 : Shape := ⟨2, ![2816, 1024]⟩
abbrev S2x4096x1024 : Shape := ⟨3, ![2, 4096, 1024]⟩
abbrev S8192x1024 : Shape := ⟨2, ![8192, 1024]⟩
abbrev S2x1x1024 : Shape := ⟨3, ![2, 1, 1024]⟩
abbrev S8192x2816 : Shape := ⟨2, ![8192, 2816]⟩
abbrev S512x1024 : Shape := ⟨2, ![512, 1024]⟩
abbrev S1x1x1024 : Shape := ⟨3, ![1, 1, 1024]⟩
abbrev S512x2816 : Shape := ⟨2, ![512, 2816]⟩
abbrev S1x1024 : Shape := ⟨2, ![1, 1024]⟩
abbrev S1024 : Shape := ⟨1, ![1024]⟩

abbrev nBuf : Space → Nat
  | .hbm => 14
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S2x1024, .f32⟩
  | .hbm, ⟨2, _⟩ => ⟨S2816x1024, .f32⟩
  | .hbm, ⟨3, _⟩ => ⟨S2x4096x1024, .f32⟩
  | .hbm, ⟨4, _⟩ => ⟨S2x4096x2816, .f32⟩
  | .hbm, ⟨5, _⟩ => ⟨S2x4096x1024, .f32⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S2x1x1024, .f32⟩
  | .hbm, ⟨10, _⟩ => ⟨S2816x1024, .bf16⟩
  | .hbm, ⟨11, _⟩ => ⟨S8192x1024, .bf16⟩
  | .hbm, ⟨12, _⟩ => ⟨S2x1x1024, .f32⟩
  | .hbm, ⟨13, _⟩ => ⟨S8192x2816, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1x1024, .f32⟩
  | .local _ .vmem, ⟨5, _⟩ => ⟨S1x1x1024, .f32⟩
  | .local _ .vmem, ⟨6, _⟩ => ⟨S2816x1024, .bf16⟩
  | .local _ .vmem, ⟨7, _⟩ => ⟨S512x1024, .bf16⟩
  | .local _ .vmem, ⟨8, _⟩ => ⟨S512x1024, .bf16⟩
  | .local _ .vmem, ⟨9, _⟩ => ⟨S1x1x1024, .f32⟩
  | .local _ .vmem, ⟨10, _⟩ => ⟨S1x1x1024, .f32⟩
  | .local _ .vmem, ⟨11, _⟩ => ⟨S512x2816, .f32⟩
  | .local _ .vmem, ⟨12, _⟩ => ⟨S512x2816, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DownRIdeal.lean ====
abbrev S2x4096x2816 : Shape := ⟨3, ![2, 4096, 2816]⟩
abbrev S2x1024 : Shape := ⟨2, ![2, 1024]⟩
abbrev S2816x1024 : Shape := ⟨2, ![2816, 1024]⟩
abbrev S2x4096x1024 : Shape := ⟨3, ![2, 4096, 1024]⟩
abbrev S2x1x1024 : Shape := ⟨3, ![2, 1, 1024]⟩
abbrev S_ : Shape := ⟨0, ![]⟩
abbrev S8192x1024 : Shape := ⟨2, ![8192, 1024]⟩
abbrev S8192x2816 : Shape := ⟨2, ![8192, 2816]⟩

abbrev nBuf : Space → Nat
  | .hbm => 22
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S2x1024, .f32⟩
  | .hbm, ⟨2, _⟩ => ⟨S2816x1024, .f32⟩
  | .hbm, ⟨3, _⟩ => ⟨S2x4096x1024, .f32⟩
  | .hbm, ⟨4, _⟩ => ⟨S2x4096x2816, .f32⟩
  | .hbm, ⟨5, _⟩ => ⟨S2x4096x1024, .f32⟩
  | .hbm, ⟨6, _⟩ => ⟨S2x1x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S2x4096x1024, .f32⟩
  | .hbm, ⟨11, _⟩ => ⟨S2x4096x1024, .f32⟩
  | .hbm, ⟨12, _⟩ => ⟨S_, .f32⟩
  | .hbm, ⟨13, _⟩ => ⟨S2x1024, .f32⟩
  | .hbm, ⟨14, _⟩ => ⟨S2x1x1024, .f32⟩
  | .hbm, ⟨15, _⟩ => ⟨S_, .f32⟩
  | .hbm, ⟨16, _⟩ => ⟨S2x1024, .f32⟩
  | .hbm, ⟨17, _⟩ => ⟨S2x4096x2816, .f32⟩
  | .hbm, ⟨18, _⟩ => ⟨S8192x1024, .f32⟩
  | .hbm, ⟨19, _⟩ => ⟨S8192x1024, .bf16⟩
  | .hbm, ⟨20, _⟩ => ⟨S2x1x1024, .f32⟩
  | .hbm, ⟨21, _⟩ => ⟨S8192x2816, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== ConvK.lean ====
abbrev S3x5632 : Shape := ⟨2, ![3, 5632]⟩
abbrev S5632 : Shape := ⟨1, ![5632]⟩
abbrev S2x4096x5632 : Shape := ⟨3, ![2, 4096, 5632]⟩
abbrev S2x4096x2816 : Shape := ⟨3, ![2, 4096, 2816]⟩
abbrev S1x5632 : Shape := ⟨2, ![1, 5632]⟩
abbrev S_ : Shape := ⟨0, ![]⟩
abbrev S8x5632 : Shape := ⟨2, ![8, 5632]⟩
abbrev S8192x5632 : Shape := ⟨2, ![8192, 5632]⟩
abbrev S8192x2816 : Shape := ⟨2, ![8192, 2816]⟩
abbrev S256x5632 : Shape := ⟨2, ![256, 5632]⟩
abbrev S256x2816 : Shape := ⟨2, ![256, 2816]⟩
abbrev S264x5632 : Shape := ⟨2, ![264, 5632]⟩
abbrev S4x5632 : Shape := ⟨2, ![4, 5632]⟩
abbrev S7x5632 : Shape := ⟨2, ![7, 5632]⟩
abbrev S263x5632 : Shape := ⟨2, ![263, 5632]⟩
abbrev S2x5632 : Shape := ⟨2, ![2, 5632]⟩
abbrev S6x5632 : Shape := ⟨2, ![6, 5632]⟩
abbrev S262x5632 : Shape := ⟨2, ![262, 5632]⟩
abbrev S5x5632 : Shape := ⟨2, ![5, 5632]⟩
abbrev S248x5632 : Shape := ⟨2, ![248, 5632]⟩

abbrev nBuf : Space → Nat
  | .hbm => 37
  | .vmem => 11
  | .smem => 0
  | _ => 0

abbrev bufTy : (tb : Table) → Fin (tcTables nBuf tb) → BufTy
  | .hbm, ⟨0, _⟩ => ⟨S3x5632, .f32⟩
  | .hbm, ⟨1, _⟩ => ⟨S5632, .f32⟩
  | .hbm, ⟨2, _⟩ => ⟨S2x4096x5632, .f32⟩
  | .hbm, ⟨3, _⟩ => ⟨S2x4096x2816, .f32⟩
  | .hbm, ⟨4, _⟩ => ⟨S1x5632, .f32⟩
  | .hbm, ⟨5, _⟩ => ⟨S5632, .f32⟩
  | .hbm, ⟨6, _⟩ => ⟨S1x5632, .f32⟩
  | .hbm, ⟨7, _⟩ => ⟨S5632, .f32⟩
  | .hbm, ⟨8, _⟩ => ⟨S1x5632, .f32⟩
  | .hbm, ⟨9, _⟩ => ⟨S5632, .f32⟩
  | .hbm, ⟨10, _⟩ => ⟨S_, .i32⟩
  | .hbm, ⟨11, _⟩ => ⟨S_, .f32⟩
  | .hbm, ⟨12, _⟩ => ⟨S5632, .f32⟩
  | .hbm, ⟨13, _⟩ => ⟨S_, .i32⟩
  | .hbm, ⟨14, _⟩ => ⟨S_, .f32⟩
  | .hbm, ⟨15, _⟩ => ⟨S5632, .f32⟩
  | .hbm, ⟨16, _⟩ => ⟨S_, .i32⟩
  | .hbm, ⟨17, _⟩ => ⟨S_, .f32⟩
  | .hbm, ⟨18, _⟩ => ⟨S5632, .f32⟩
  | .hbm, ⟨19, _⟩ => ⟨S_, .i32⟩
  | .hbm, ⟨20, _⟩ => ⟨S_, .f32⟩
  | .hbm, ⟨21, _⟩ => ⟨S5632, .f32⟩
  | .hbm, ⟨22, _⟩ => ⟨S_, .f32⟩
  | .hbm, ⟨23, _⟩ => ⟨S5632, .f32⟩
  | .hbm, ⟨24, _⟩ => ⟨S1x5632, .f32⟩
  | .hbm, ⟨25, _⟩ => ⟨S1x5632, .f32⟩
  | .hbm, ⟨26, _⟩ => ⟨S1x5632, .f32⟩
  | .hbm, ⟨27, _⟩ => ⟨S1x5632, .f32⟩
  | .hbm, ⟨28, _⟩ => ⟨S1x5632, .f32⟩
  | .hbm, ⟨29, _⟩ => ⟨S1x5632, .f32⟩
  | .hbm, ⟨30, _⟩ => ⟨S1x5632, .f32⟩
  | .hbm, ⟨31, _⟩ => ⟨S1x5632, .f32⟩
  | .hbm, ⟨32, _⟩ => ⟨S8x5632, .f32⟩
  | .hbm, ⟨33, _⟩ => ⟨S8192x5632, .f32⟩
  | .hbm, ⟨34, _⟩ => ⟨S8192x2816, .f32⟩
  | .hbm, ⟨35, _⟩ => ⟨S8192x5632, .bf16⟩
  | .hbm, ⟨36, _⟩ => ⟨S8x5632, .f32⟩
  | .local _ .vmem, ⟨0, _⟩ => ⟨S8x5632, .f32⟩
  | .local _ .vmem, ⟨1, _⟩ => ⟨S256x5632, .f32⟩
  | .local _ .vmem, ⟨2, _⟩ => ⟨S256x5632, .f32⟩
  | .local _ .vmem, ⟨3, _⟩ => ⟨S8x5632, .f32⟩
  | .local _ .vmem, ⟨4, _⟩ => ⟨S8x5632, .f32⟩
  | .local _ .vmem, ⟨5, _⟩ => ⟨S256x2816, .f32⟩
  | .local _ .vmem, ⟨6, _⟩ => ⟨S256x2816, .f32⟩
  | .local _ .vmem, ⟨7, _⟩ => ⟨S256x5632, .bf16⟩
  | .local _ .vmem, ⟨8, _⟩ => ⟨S256x5632, .bf16⟩
  | .local _ .vmem, ⟨9, _⟩ => ⟨S8x5632, .f32⟩
  | .local _ .vmem, ⟨10, _⟩ => ⟨S8x5632, .f32⟩
  | _, _ => ⟨S3x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_c_1 : Ref sig .tc := ⟨.hbm, 16, rfl⟩
abbrev main_call2_v0 : Ref sig .tc := ⟨.hbm, 17, rfl⟩
abbrev main_v8 : Ref sig .tc := ⟨.hbm, 18, rfl⟩
abbrev main_c_2 : Ref sig .tc := ⟨.hbm, 19, rfl⟩
abbrev main_call3_v0 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22_0 : Ref sig .tc := ⟨.hbm, 35, rfl⟩
abbrev main_v22_1 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c16_i32 : BitVec 32 := 16#32
  let v1 : BitVec 32 := Scalar.muli arg0 c16_i32
  let v2 : BitVec 32 := Scalar.addi v1 v0
  let c32_i32 : BitVec 32 := 32#32
  let v3 : BitVec 32 := Scalar.muli v2 c32_i32
  let c1_i32 : BitVec 32 := 1#32
  let v4 : BitVec 32 := Scalar.subi v3 c1_i32
  let c0_i32 : BitVec 32 := 0#32
  let v5 : BitVec 32 := Scalar.maxsi v4 c0_i32
  let c0_i32_0 : BitVec 32 := 0#32
  let c0_i32_1 : BitVec 32 := 0#32
  ![v5.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ConvRIdeal.lean ====
abbrev S3x5632 : Shape := ⟨2, ![3, 5632]⟩
abbrev S5632 : Shape := ⟨1, ![5632]⟩
abbrev S2x4096x5632 : Shape := ⟨3, ![2, 4096, 5632]⟩
abbrev S2x4096x2816 : Shape := ⟨3, ![2, 4096, 2816]⟩
abbrev S_ : Shape := ⟨0, ![]⟩
abbrev S2x2x5632 : Shape := ⟨3, ![2, 2, 5632]⟩
abbrev S2x4098x5632 : Shape := ⟨3, ![2, 4098, 5632]⟩
abbrev S1x5632 : Shape := ⟨2, ![1, 5632]⟩
abbrev S1x1x5632 : Shape := ⟨3, ![1, 1, 5632]⟩
abbrev S4x5632 : Shape := ⟨2, ![4, 5632]⟩
abbrev S8x5632 : Shape := ⟨2, ![8, 5632]⟩
abbrev S8192x5632 : Shape := ⟨2, ![8192, 5632]⟩

abbrev nBuf : Space → Nat
  | .hbm => 108
  | .vmem => 0
  | .smem => 0
  | _ => 0

abbrev bufTy : (tb : Table) → Fin (tcTables nBuf tb) → BufTy
  | .hbm, ⟨0, _⟩ => ⟨S3x5632, .f32⟩
  | .hbm, ⟨1, _⟩ => ⟨S5632, .f32⟩
  | .hbm, ⟨2, _⟩ => ⟨S2x4096x5632, .f32⟩
  | .hbm, ⟨3, _⟩ => ⟨S2x4096x2816, .f32⟩
  | .hbm, ⟨4, _⟩ => ⟨S_, .f32⟩
  | .hbm, ⟨5, _⟩ => ⟨S2x2x5632, .f32⟩
  | .hbm, ⟨6, _⟩ => ⟨S2x4098x5632, .f32⟩
  | .hbm, ⟨7, _⟩ => ⟨S_, .f32⟩
  | .hbm, ⟨8, _⟩ => ⟨S2x2x5632, .f32⟩
  | .hbm, ⟨9, _⟩ => ⟨S1x5632, .f32⟩
  | .hbm, ⟨10, _⟩ => ⟨S5632, .f32⟩
  | .hbm, ⟨11, _⟩ => ⟨S1x1x5632, .f32⟩
  | .hbm, ⟨12, _⟩ => ⟨S2x4096x5632, .f32⟩
  | .hbm, ⟨13, _⟩ => ⟨S2x4096x5632, .f32⟩
  | .hbm, ⟨14, _⟩ => ⟨S1x5632, .f32⟩
  | .hbm, ⟨15, _⟩ => ⟨S5632, .f32⟩
  | .hbm, ⟨16, _⟩ => ⟨S2x4096x5632, .f32⟩
  | .hbm, ⟨17, _⟩ => ⟨S1x1x5632, .f32⟩
  | .hbm, ⟨18, _⟩ => ⟨S2x4096x5632, .f32⟩
  | .hbm, ⟨19, _⟩ => ⟨S2x4096x5632, .f32⟩
  | .hbm, ⟨20, _⟩ => ⟨S2x4096x5632, .f32⟩
  | .hbm, ⟨21, _⟩ => ⟨S1x5632, .f32⟩
  | .hbm, ⟨22, _⟩ => ⟨S5632, .f32⟩
  | .hbm, ⟨23, _⟩ => ⟨S2x4096x5632, .f32⟩
  | .hbm, ⟨24, _⟩ => ⟨S1x1x5632, .f32⟩
  | .hbm, ⟨25, _⟩ => ⟨S2x4096x5632, .f32⟩
  | .hbm, ⟨26, _⟩ => ⟨S2x4096x5632, .f32⟩
  | .hbm, ⟨27, _⟩ => ⟨S2x4096x5632, .f32⟩
  | .hbm, ⟨28, _⟩ => ⟨S1x1x5632, .f32⟩
  | .hbm, ⟨29, _⟩ => ⟨S2x4096x5632, .f32⟩
  | .hbm, ⟨30, _⟩ => ⟨S2x4096x5632, .f32⟩
  | .hbm, ⟨31, _⟩ => ⟨S2x4096x2816, .f32⟩
  | .hbm, ⟨32, _⟩ => ⟨S2x4096x2816, .f32⟩
  | .hbm, ⟨33, _⟩ => ⟨S2x4096x2816, .f32⟩
  | .hbm, ⟨34, _⟩ => ⟨S2x4096x2816, .f32⟩
  | .hbm, ⟨35, _⟩ => ⟨S_, .f32⟩
  | .hbm, ⟨36, _⟩ => ⟨S2x4096x2816, .f32⟩
  | .hbm, ⟨37, _⟩ => ⟨S2x4096x2816, .f32⟩
  | .hbm, ⟨38, _⟩ => ⟨S_, .f32⟩
  | .hbm, ⟨39, _⟩ => ⟨S2x4096x2816, .f32⟩
  | .hbm, ⟨40, _⟩ => ⟨S2x4096x2816, .f32⟩
  | .hbm, ⟨41, _⟩ => ⟨S_, .f32⟩
  | .hbm, ⟨42, _⟩ => ⟨S2x4096x2816, .f32⟩
  | .hbm, ⟨43, _⟩ => ⟨S2x4096x2816, .f32⟩
  | .hbm, ⟨44, _⟩ => ⟨S2x4096x2816, .f32⟩
  | .hbm, ⟨45, _⟩ => ⟨S2x4096x2816, .f32⟩
  | .hbm, ⟨46, _⟩ => ⟨S2x4096x2816, .f32⟩
  | .hbm, ⟨47, _⟩ => ⟨S2x4096x2816, .f32⟩
  | .hbm, ⟨48, _⟩ => ⟨S2x4096x2816, .f32⟩
  | .hbm, ⟨49, _⟩ => ⟨S2x4096x2816, .f32⟩
  | .hbm, ⟨50, _⟩ => ⟨S2x4096x2816, .f32⟩
  | .hbm, ⟨51, _⟩ => ⟨S2x4096x2816, .f32⟩
  | .hbm, ⟨52, _⟩ => ⟨S2x4096x2816, .f32⟩
  | .hbm, ⟨53, _⟩ => ⟨S2x4096x5632, .f32⟩
  | .hbm, ⟨54, _⟩ => ⟨S_, .f32⟩
  | .hbm, ⟨55, _⟩ => ⟨S5632, .f32⟩
  | .hbm, ⟨56, _⟩ => ⟨S1x1x5632, .f32⟩
  | .hbm, ⟨57, _⟩ => ⟨S_, .f32⟩
  | .hbm, ⟨58, _⟩ => ⟨S5632, .f32⟩
  | .hbm, ⟨59, _⟩ => ⟨S2x4096x5632, .f32⟩
  | .hbm, ⟨60, _⟩ => ⟨S2x4096x5632, .f32⟩
  | .hbm, ⟨61, _⟩ => ⟨S2x4096x5632, .f32⟩
  | .hbm, ⟨62, _⟩ => ⟨S_, .f32⟩
  | .hbm, ⟨63, _⟩ => ⟨S5632, .f32⟩
  | .hbm, ⟨64, _⟩ => ⟨S1x1x5632, .f32⟩
  | .hbm, ⟨65, _⟩ => ⟨S_, .f32⟩
  | .hbm, ⟨66, _⟩ => ⟨S5632, .f32⟩
  | .hbm, ⟨67, _⟩ => ⟨S_, .f32⟩
  | .hbm, ⟨68, _⟩ => ⟨S2x4098x5632, .f32⟩
  | .hbm, ⟨69, _⟩ => ⟨S1x5632, .f32⟩
  | .hbm, ⟨70, _⟩ => ⟨S_, .f32⟩
  | .hbm, ⟨71, _⟩ => ⟨S3x5632, .f32⟩
  | .hbm, ⟨72, _⟩ => ⟨S2x4096x5632, .f32⟩
  | .hbm, ⟨73, _⟩ => ⟨S2x4096x5632, .f32⟩
  | .hbm, ⟨74, _⟩ => ⟨S2x4096x5632, .f32⟩
  | .hbm, ⟨75, _⟩ => ⟨S_, .f32⟩
  | .hbm, ⟨76, _⟩ => ⟨S5632, .f32⟩
  | .hbm, ⟨77, _⟩ => ⟨S1x1x5632, .f32⟩
  | .hbm, ⟨78, _⟩ => ⟨S_, .f32⟩
  | .hbm, ⟨79, _⟩ => ⟨S5632, .f32⟩
  | .hbm, ⟨80, _⟩ => ⟨S_, .f32⟩
  | .hbm, ⟨81, _⟩ => ⟨S2x4098x5632, .f32⟩
  | .hbm, ⟨82, _⟩ => ⟨S2x4098x5632, .f32⟩
  | .hbm, ⟨83, _⟩ => ⟨S1x5632, .f32⟩
  | .hbm, ⟨84, _⟩ => ⟨S_, .f32⟩
  | .hbm, ⟨85, _⟩ => ⟨S3x5632, .f32⟩
  | .hbm, ⟨86, _⟩ => ⟨S3x5632, .f32⟩
  | .hbm, ⟨87, _⟩ => ⟨S2x4096x5632, .f32⟩
  | .hbm, ⟨88, _⟩ => ⟨S2x4096x5632, .f32⟩
  | .hbm, ⟨89, _⟩ => ⟨S2x4096x5632, .f32⟩
  | .hbm, ⟨90, _⟩ => ⟨S_, .f32⟩
  | .hbm, ⟨91, _⟩ => ⟨S5632, .f32⟩
  | .hbm, ⟨92, _⟩ => ⟨S1x1x5632, .f32⟩
  | .hbm, ⟨93, _⟩ => ⟨S_, .f32⟩
  | .hbm, ⟨94, _⟩ => ⟨S5632, .f32⟩
  | .hbm, ⟨95, _⟩ => ⟨S1x5632, .f32⟩
  | .hbm, ⟨96, _⟩ => ⟨S_, .f32⟩
  | .hbm, ⟨97, _⟩ => ⟨S3x5632, .f32⟩
  | .hbm, ⟨98, _⟩ => ⟨S3x5632, .f32⟩
  | .hbm, ⟨99, _⟩ => ⟨S2x2x5632, .f32⟩
  | .hbm, ⟨100, _⟩ => ⟨S2x4096x5632, .f32⟩
  | .hbm, ⟨101, _⟩ => ⟨S2x4096x5632, .f32⟩
  | .hbm, ⟨102, _⟩ => ⟨S1x5632, .f32⟩
  | .hbm, ⟨103, _⟩ => ⟨S_, .f32⟩
  | .hbm, ⟨104, _⟩ => ⟨S4x5632, .f32⟩
  | .hbm, ⟨105, _⟩ => ⟨S8x5632, .f32⟩
  | .hbm, ⟨106, _⟩ => ⟨S8192x5632, .f32⟩
  | .hbm, ⟨107, _⟩ => ⟨S8192x5632, .bf16⟩
  | _, _ => ⟨S3x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v27_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v27_1 : Ref sig .tc := ⟨.hbm, 44, rfl⟩
abbrev main_v27_0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v31 : Ref sig .tc := ⟨.hbm, 52, rfl⟩
abbrev main_v32 : Ref sig .tc := ⟨.hbm, 53, rfl⟩
abbrev main_cst_1 : Ref sig .tc := ⟨.hbm, 54, rfl⟩
abbrev main_v33 : Ref sig .tc := ⟨.hbm, 55, rfl⟩
abbrev main_v34 : Ref sig .tc := ⟨.hbm, 56, rfl⟩
abbrev main_cst_2 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_3 : Ref sig .tc := ⟨.hbm, 62, rfl⟩
abbrev main_v39 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_cst_5 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_cst_13 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩

abbrev nD : Nat := 1
abbrev τ : Topo := Topo.v7x

variable {F : FTy → Type} [FloatOps F]
-- ==== ProjDxK.lean ====
abbrev S2x4096x3072 : Shape := ⟨3, ![2, 4096, 3072]⟩
abbrev S2x4096x2176 : Shape := ⟨3, ![2, 4096, 2176]⟩
abbrev S2x4096x2048 : Shape := ⟨3, ![2, 4096, 2048]⟩
abbrev S2x4096x1664 : Shape := ⟨3, ![2, 4096, 1664]⟩
abbrev S1024x3072 : Shape := ⟨2, ![1024, 3072]⟩
abbrev S1024x2176 : Shape := ⟨2, ![1024, 2176]⟩
abbrev S1024x2048 : Shape := ⟨2, ![1024, 2048]⟩
abbrev S1024x1664 : Shape := ⟨2, ![1024, 1664]⟩
abbrev S8192x3072 : Shape := ⟨2, ![8192, 3072]⟩
abbrev S8192x1024 : Shape := ⟨2, ![8192, 1024]⟩
abbrev S512x3072 : Shape := ⟨2, ![512, 3072]⟩
abbrev S512x1024 : Shape := ⟨2, ![512, 1024]⟩
abbrev S8192x2176 : Shape := ⟨2, ![8192, 2176]⟩
abbrev S512x2176 : Shape := ⟨2, ![512, 2176]⟩
abbrev S8192x2048 : Shape := ⟨2, ![8192, 2048]⟩
abbrev S512x2048 : Shape := ⟨2, ![512, 2048]⟩
abbrev S8192x1664 : Shape := ⟨2, ![8192, 1664]⟩
abbrev S512x1664 : Shape := ⟨2, ![512, 1664]⟩

abbrev nBuf : Space → Nat
  | .hbm => 20
  | .vmem => 26
  | .smem => 0
  | _ => 0

abbrev bufTy : (tb : Table) → Fin (tcTables nBuf tb) → BufTy
  | .hbm, ⟨0, _⟩ => ⟨S2x4096x3072, .bf16⟩
  | .hbm, ⟨1, _⟩ => ⟨S2x4096x2176, .bf16⟩
  | .hbm, ⟨2, _⟩ => ⟨S2x4096x2048, .bf16⟩
  | .hbm, ⟨3, _⟩ => ⟨S2x4096x1664, .bf16⟩
  | .hbm, ⟨4, _⟩ => ⟨S1024x3072, .f32⟩
  | .hbm, ⟨5, _⟩ => ⟨S1024x2176, .f32⟩
  | .hbm, ⟨6, _⟩ => ⟨S1024x2048, .f32⟩
  | .hbm, ⟨7, _⟩ => ⟨S1024x1664, .f32⟩
  | .hbm, ⟨8, _⟩ => ⟨S8192x3072, .bf16⟩
  | .hbm, ⟨9, _⟩ => ⟨S1024x3072, .bf16⟩
  | .hbm, ⟨10, _⟩ => ⟨S8192x1024, .f32⟩
  | .hbm, ⟨11, _⟩ => ⟨S8192x2176, .bf16⟩
  | .hbm, ⟨12, _⟩ => ⟨S1024x2176, .bf16⟩
  | .hbm, ⟨13, _⟩ => ⟨S8192x1024, .f32⟩
  | .hbm, ⟨14, _⟩ => ⟨S8192x2048, .bf16⟩
  | .hbm, ⟨15, _⟩ => ⟨S1024x2048, .bf16⟩
  | .hbm, ⟨16, _⟩ => ⟨S8192x1024, .f32⟩
  | .hbm, ⟨17, _⟩ => ⟨S8192x1664, .bf16⟩
  | .hbm, ⟨18, _⟩ => ⟨S1024x1664, .bf16⟩
  | .hbm, ⟨19, _⟩ => ⟨S8192x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x2176, .bf16⟩
  | .local _ .vmem, ⟨6, _⟩ => ⟨S512x2176, .bf16⟩
  | .local _ .vmem, ⟨7, _⟩ => ⟨S1024x2176, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x2048, .bf16⟩
  | .local _ .vmem, ⟨13, _⟩ => ⟨S512x2048, .bf16⟩
  | .local _ .vmem, ⟨14, _⟩ => ⟨S1024x2048, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1664, .bf16⟩
  | .local _ .vmem, ⟨20, _⟩ => ⟨S512x1664, .bf16⟩
  | .local _ .vmem, ⟨21, _⟩ => ⟨S1024x1664, .bf16⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | _, _ => ⟨S2x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 16, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S512x2176 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 1 → Memref sig .tc .vmem S1024x2176 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![1, 16, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 1 → Memref sig .tc .vmem S1024x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![1, 16, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage3_0 : Fin 2 → Memref sig .tc .vmem S512x1664 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, true]

abbrev stage3_1 : Fin 1 → Memref sig .tc .vmem S1024x1664 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]
-- ==== ProjDxRIdeal.lean ====
abbrev S2x4096x3072 : Shape := ⟨3, ![2, 4096, 3072]⟩
abbrev S2x4096x2176 : Shape := ⟨3, ![2, 4096, 2176]⟩
abbrev S2x4096x2048 : Shape := ⟨3, ![2, 4096, 2048]⟩
abbrev S2x4096x1664 : Shape := ⟨3, ![2, 4096, 1664]⟩
abbrev S1024x3072 : Shape := ⟨2, ![1024, 3072]⟩
abbrev S1024x2176 : Shape := ⟨2, ![1024, 2176]⟩
abbrev S1024x2048 : Shape := ⟨2, ![1024, 2048]⟩
abbrev S1024x1664 : Shape := ⟨2, ![1024, 1664]⟩
abbrev S_ : Shape := ⟨0, ![]⟩
abbrev S2x4096x1024 : Shape := ⟨3, ![2, 4096, 1024]⟩
abbrev S8192x1024 : Shape := ⟨2, ![8192, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2x4096x3072, .bf16⟩
  | .hbm, ⟨1, _⟩ => ⟨S2x4096x2176, .bf16⟩
  | .hbm, ⟨2, _⟩ => ⟨S2x4096x2048, .bf16⟩
  | .hbm, ⟨3, _⟩ => ⟨S2x4096x1664, .bf16⟩
  | .hbm, ⟨4, _⟩ => ⟨S1024x3072, .f32⟩
  | .hbm, ⟨5, _⟩ => ⟨S1024x2176, .f32⟩
  | .hbm, ⟨6, _⟩ => ⟨S1024x2048, .f32⟩
  | .hbm, ⟨7, _⟩ => ⟨S1024x1664, .f32⟩
  | .hbm, ⟨8, _⟩ => ⟨S_, .f32⟩
  | .hbm, ⟨9, _⟩ => ⟨S2x4096x1024, .f32⟩
  | .hbm, ⟨10, _⟩ => ⟨S2x4096x3072, .f32⟩
  | .hbm, ⟨11, _⟩ => ⟨S2x4096x2176, .f32⟩
  | .hbm, ⟨12, _⟩ => ⟨S2x4096x2048, .f32⟩
  | .hbm, ⟨13, _⟩ => ⟨S2x4096x1664, .f32⟩
  | .hbm, ⟨14, _⟩ => ⟨S2x4096x3072, .f32⟩
  | .hbm, ⟨15, _⟩ => ⟨S2x4096x2176, .f32⟩
  | .hbm, ⟨16, _⟩ => ⟨S2x4096x2048, .f32⟩
  | .hbm, ⟨17, _⟩ => ⟨S2x4096x1664, .f32⟩
  | .hbm, ⟨18, _⟩ => ⟨S2x4096x1024, .f32⟩
  | .hbm, ⟨19, _⟩ => ⟨S2x4096x1024, .f32⟩
  | .hbm, ⟨20, _⟩ => ⟨S2x4096x1024, .f32⟩
  | .hbm, ⟨21, _⟩ => ⟨S2x4096x1024, .f32⟩
  | .hbm, ⟨22, _⟩ => ⟨S2x4096x1024, .f32⟩
  | .hbm, ⟨23, _⟩ => ⟨S2x4096x1024, .f32⟩
  | .hbm, ⟨24, _⟩ => ⟨S2x4096x1024, .f32⟩
  | .hbm, ⟨25, _⟩ => ⟨S8192x1024, .f32⟩
  | _, _ => ⟨S2x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== ProjGDwK.lean ====
abbrev S2x4096x1024 : Shape := ⟨3, ![2, 4096, 1024]⟩
abbrev S2x4096x3072 : Shape := ⟨3, ![2, 4096, 3072]⟩
abbrev S8192x1024 : Shape := ⟨2, ![8192, 1024]⟩
abbrev S1024x8192 : Shape := ⟨2, ![1024, 8192]⟩
abbrev S8192x3072 : Shape := ⟨2, ![8192, 3072]⟩
abbrev S1024x3072 : Shape := ⟨2, ![1024, 3072]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x3072, .bf16⟩
  | .hbm, ⟨2, _⟩ => ⟨S8192x1024, .bf16⟩
  | .hbm, ⟨3, _⟩ => ⟨S1024x8192, .bf16⟩
  | .hbm, ⟨4, _⟩ => ⟨S8192x3072, .bf16⟩
  | .hbm, ⟨5, _⟩ => ⟨S1024x3072, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGDwRIdeal.lean ====
abbrev S2x4096x1024 : Shape := ⟨3, ![2, 4096, 1024]⟩
abbrev S2x4096x3072 : Shape := ⟨3, ![2, 4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x3072, .bf16⟩
  | .hbm, ⟨2, _⟩ => ⟨S_, .f32⟩
  | .hbm, ⟨3, _⟩ => ⟨S1024x3072, .f32⟩
  | .hbm, ⟨4, _⟩ => ⟨S2x4096x1024, .f32⟩
  | .hbm, ⟨5, _⟩ => ⟨S2x4096x3072, .f32⟩
  | .hbm, ⟨6, _⟩ => ⟨S2x4096x3072, .f32⟩
  | .hbm, ⟨7, _⟩ => ⟨S3072x1024, .f32⟩
  | .hbm, ⟨8, _⟩ => ⟨S1024x3072, .f32⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjADwK.lean ====
abbrev S2x4096x1024 : Shape := ⟨3, ![2, 4096, 1024]⟩
abbrev S2x4096x2176 : Shape := ⟨3, ![2, 4096, 2176]⟩
abbrev S8192x1024 : Shape := ⟨2, ![8192, 1024]⟩
abbrev S1024x8192 : Shape := ⟨2, ![1024, 8192]⟩
abbrev S8192x2176 : Shape := ⟨2, ![8192, 2176]⟩
abbrev S1024x2176 : Shape := ⟨2, ![1024, 2176]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x2176, .bf16⟩
  | .hbm, ⟨2, _⟩ => ⟨S8192x1024, .bf16⟩
  | .hbm, ⟨3, _⟩ => ⟨S1024x8192, .bf16⟩
  | .hbm, ⟨4, _⟩ => ⟨S8192x2176, .bf16⟩
  | .hbm, ⟨5, _⟩ => ⟨S1024x2176, .f32⟩
  | .local _ .vmem, ⟨0, _⟩ => ⟨S1024x1024, .bf16⟩
  | .local _ .vmem, ⟨1, _⟩ => ⟨S1024x1024, .bf16⟩
  | .local _ .vmem, ⟨2, _⟩ => ⟨S1024x2176, .bf16⟩
  | .local _ .vmem, ⟨3, _⟩ => ⟨S1024x2176, .bf16⟩
  | .local _ .vmem, ⟨4, _⟩ => ⟨S1024x2176, .f32⟩
  | .local _ .vmem, ⟨5, _⟩ => ⟨S1024x2176, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x2176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjADwRIdeal.lean ====
abbrev S2x4096x1024 : Shape := ⟨3, ![2, 4096, 1024]⟩
abbrev S2x4096x2176 : Shape := ⟨3, ![2, 4096, 2176]⟩
abbrev S_ : Shape := ⟨0, ![]⟩
abbrev S1024x2176 : Shape := ⟨2, ![1024, 2176]⟩
abbrev S2176x1024 : Shape := ⟨2, ![2176, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x2176, .bf16⟩
  | .hbm, ⟨2, _⟩ => ⟨S_, .f32⟩
  | .hbm, ⟨3, _⟩ => ⟨S1024x2176, .f32⟩
  | .hbm, ⟨4, _⟩ => ⟨S2x4096x1024, .f32⟩
  | .hbm, ⟨5, _⟩ => ⟨S2x4096x2176, .f32⟩
  | .hbm, ⟨6, _⟩ => ⟨S2x4096x2176, .f32⟩
  | .hbm, ⟨7, _⟩ => ⟨S2176x1024, .f32⟩
  | .hbm, ⟨8, _⟩ => ⟨S1024x2176, .f32⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjBDwK.lean ====
abbrev S2x4096x1024 : Shape := ⟨3, ![2, 4096, 1024]⟩
abbrev S2x4096x2048 : Shape := ⟨3, ![2, 4096, 2048]⟩
abbrev S8192x1024 : Shape := ⟨2, ![8192, 1024]⟩
abbrev S1024x8192 : Shape := ⟨2, ![1024, 8192]⟩
abbrev S8192x2048 : Shape := ⟨2, ![8192, 2048]⟩
abbrev S1024x2048 : Shape := ⟨2, ![1024, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x2048, .bf16⟩
  | .hbm, ⟨2, _⟩ => ⟨S8192x1024, .bf16⟩
  | .hbm, ⟨3, _⟩ => ⟨S1024x8192, .bf16⟩
  | .hbm, ⟨4, _⟩ => ⟨S8192x2048, .bf16⟩
  | .hbm, ⟨5, _⟩ => ⟨S1024x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBDwRIdeal.lean ====
abbrev S2x4096x1024 : Shape := ⟨3, ![2, 4096, 1024]⟩
abbrev S2x4096x2048 : Shape := ⟨3, ![2, 4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x2048, .bf16⟩
  | .hbm, ⟨2, _⟩ => ⟨S_, .f32⟩
  | .hbm, ⟨3, _⟩ => ⟨S1024x2048, .f32⟩
  | .hbm, ⟨4, _⟩ => ⟨S2x4096x1024, .f32⟩
  | .hbm, ⟨5, _⟩ => ⟨S2x4096x2048, .f32⟩
  | .hbm, ⟨6, _⟩ => ⟨S2x4096x2048, .f32⟩
  | .hbm, ⟨7, _⟩ => ⟨S2048x1024, .f32⟩
  | .hbm, ⟨8, _⟩ => ⟨S1024x2048, .f32⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjCDwK.lean ====
abbrev S2x4096x1024 : Shape := ⟨3, ![2, 4096, 1024]⟩
abbrev S2x4096x1664 : Shape := ⟨3, ![2, 4096, 1664]⟩
abbrev S8192x1024 : Shape := ⟨2, ![8192, 1024]⟩
abbrev S1024x8192 : Shape := ⟨2, ![1024, 8192]⟩
abbrev S8192x1664 : Shape := ⟨2, ![8192, 1664]⟩
abbrev S1024x1664 : Shape := ⟨2, ![1024, 1664]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1664, .bf16⟩
  | .hbm, ⟨2, _⟩ => ⟨S8192x1024, .bf16⟩
  | .hbm, ⟨3, _⟩ => ⟨S1024x8192, .bf16⟩
  | .hbm, ⟨4, _⟩ => ⟨S8192x1664, .bf16⟩
  | .hbm, ⟨5, _⟩ => ⟨S1024x1664, .f32⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .f32⟩
  | .local _ .vmem, ⟨5, _⟩ => ⟨S1024x1664, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1664 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjCDwRIdeal.lean ====
abbrev S2x4096x1024 : Shape := ⟨3, ![2, 4096, 1024]⟩
abbrev S2x4096x1664 : Shape := ⟨3, ![2, 4096, 1664]⟩
abbrev S_ : Shape := ⟨0, ![]⟩
abbrev S1024x1664 : Shape := ⟨2, ![1024, 1664]⟩
abbrev S1664x1024 : Shape := ⟨2, ![1664, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1664, .bf16⟩
  | .hbm, ⟨2, _⟩ => ⟨S_, .f32⟩
  | .hbm, ⟨3, _⟩ => ⟨S1024x1664, .f32⟩
  | .hbm, ⟨4, _⟩ => ⟨S2x4096x1024, .f32⟩
  | .hbm, ⟨5, _⟩ => ⟨S2x4096x1664, .f32⟩
  | .hbm, ⟨6, _⟩ => ⟨S2x4096x1664, .f32⟩
  | .hbm, ⟨7, _⟩ => ⟨S1664x1024, .f32⟩
  | .hbm, ⟨8, _⟩ => ⟨S1024x1664, .f32⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDwK.lean ====
abbrev S2x4096x1024 : Shape := ⟨3, ![2, 4096, 1024]⟩
abbrev S2x4096x5632 : Shape := ⟨3, ![2, 4096, 5632]⟩
abbrev S8192x1024 : Shape := ⟨2, ![8192, 1024]⟩
abbrev S1024x8192 : Shape := ⟨2, ![1024, 8192]⟩
abbrev S8192x5632 : Shape := ⟨2, ![8192, 5632]⟩
abbrev S1024x5632 : Shape := ⟨2, ![1024, 5632]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x5632, .bf16⟩
  | .hbm, ⟨2, _⟩ => ⟨S8192x1024, .bf16⟩
  | .hbm, ⟨3, _⟩ => ⟨S1024x8192, .bf16⟩
  | .hbm, ⟨4, _⟩ => ⟨S8192x5632, .bf16⟩
  | .hbm, ⟨5, _⟩ => ⟨S1024x5632, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRIdeal.lean ====
abbrev S2x4096x1024 : Shape := ⟨3, ![2, 4096, 1024]⟩
abbrev S2x4096x5632 : Shape := ⟨3, ![2, 4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x5632, .bf16⟩
  | .hbm, ⟨2, _⟩ => ⟨S_, .f32⟩
  | .hbm, ⟨3, _⟩ => ⟨S1024x5632, .f32⟩
  | .hbm, ⟨4, _⟩ => ⟨S2x4096x1024, .f32⟩
  | .hbm, ⟨5, _⟩ => ⟨S2x4096x5632, .f32⟩
  | .hbm, ⟨6, _⟩ => ⟨S2x4096x5632, .f32⟩
  | .hbm, ⟨7, _⟩ => ⟨S5632x1024, .f32⟩
  | .hbm, ⟨8, _⟩ => ⟨S1024x5632, .f32⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDwK.lean ====
abbrev S2x4096x2816 : Shape := ⟨3, ![2, 4096, 2816]⟩
abbrev S2x4096x1024 : Shape := ⟨3, ![2, 4096, 1024]⟩
abbrev S8192x2816 : Shape := ⟨2, ![8192, 2816]⟩
abbrev S2816x8192 : Shape := ⟨2, ![2816, 8192]⟩
abbrev S8192x1024 : Shape := ⟨2, ![8192, 1024]⟩
abbrev S2816x1024 : Shape := ⟨2, ![2816, 1024]⟩
abbrev S1408x4096 : Shape := ⟨2, ![1408, 4096]⟩
abbrev S4096x512 : Shape := ⟨2, ![4096, 512]⟩
abbrev S1408x512 : Shape := ⟨2, ![1408, 512]⟩

abbrev nBuf : Space → Nat
  | .hbm => 6
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S2x4096x1024, .bf16⟩
  | .hbm, ⟨2, _⟩ => ⟨S8192x2816, .bf16⟩
  | .hbm, ⟨3, _⟩ => ⟨S2816x8192, .bf16⟩
  | .hbm, ⟨4, _⟩ => ⟨S8192x1024, .bf16⟩
  | .hbm, ⟨5, _⟩ => ⟨S2816x1024, .f32⟩
  | .local _ .vmem, ⟨0, _⟩ => ⟨S1408x4096, .bf16⟩
  | .local _ .vmem, ⟨1, _⟩ => ⟨S1408x4096, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRIdeal.lean ====
abbrev S2x4096x2816 : Shape := ⟨3, ![2, 4096, 2816]⟩
abbrev S2x4096x1024 : Shape := ⟨3, ![2, 4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S2x4096x1024, .bf16⟩
  | .hbm, ⟨2, _⟩ => ⟨S_, .f32⟩
  | .hbm, ⟨3, _⟩ => ⟨S2816x1024, .f32⟩
  | .hbm, ⟨4, _⟩ => ⟨S2x4096x2816, .f32⟩
  | .hbm, ⟨5, _⟩ => ⟨S2x4096x1024, .f32⟩
  | .hbm, ⟨6, _⟩ => ⟨S2x4096x1024, .f32⟩
  | .hbm, ⟨7, _⟩ => ⟨S1024x2816, .f32⟩
  | .hbm, ⟨8, _⟩ => ⟨S2816x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjK.lean ====
abbrev S2x4096x1024 : Shape := ⟨3, ![2, 4096, 1024]⟩
abbrev S1024x3072 : Shape := ⟨2, ![1024, 3072]⟩
abbrev S1024x2176 : Shape := ⟨2, ![1024, 2176]⟩
abbrev S1024x2048 : Shape := ⟨2, ![1024, 2048]⟩
abbrev S1024x1664 : Shape := ⟨2, ![1024, 1664]⟩
abbrev S8192x1024 : Shape := ⟨2, ![8192, 1024]⟩
abbrev S8192x3072 : Shape := ⟨2, ![8192, 3072]⟩
abbrev S512x1024 : Shape := ⟨2, ![512, 1024]⟩
abbrev S512x3072 : Shape := ⟨2, ![512, 3072]⟩
abbrev S8192x2176 : Shape := ⟨2, ![8192, 2176]⟩
abbrev S512x2176 : Shape := ⟨2, ![512, 2176]⟩
abbrev S8192x2048 : Shape := ⟨2, ![8192, 2048]⟩
abbrev S512x2048 : Shape := ⟨2, ![512, 2048]⟩
abbrev S8192x1664 : Shape := ⟨2, ![8192, 1664]⟩
abbrev S512x1664 : Shape := ⟨2, ![512, 1664]⟩

abbrev nBuf : Space → Nat
  | .hbm => 14
  | .vmem => 20
  | .smem => 0
  | _ => 0

abbrev bufTy : (tb : Table) → Fin (tcTables nBuf tb) → BufTy
  | .hbm, ⟨0, _⟩ => ⟨S2x4096x1024, .bf16⟩
  | .hbm, ⟨1, _⟩ => ⟨S1024x3072, .f32⟩
  | .hbm, ⟨2, _⟩ => ⟨S1024x2176, .f32⟩
  | .hbm, ⟨3, _⟩ => ⟨S1024x2048, .f32⟩
  | .hbm, ⟨4, _⟩ => ⟨S1024x1664, .f32⟩
  | .hbm, ⟨5, _⟩ => ⟨S8192x1024, .bf16⟩
  | .hbm, ⟨6, _⟩ => ⟨S1024x3072, .bf16⟩
  | .hbm, ⟨7, _⟩ => ⟨S8192x3072, .f32⟩
  | .hbm, ⟨8, _⟩ => ⟨S1024x2176, .bf16⟩
  | .hbm, ⟨9, _⟩ => ⟨S8192x2176, .f32⟩
  | .hbm, ⟨10, _⟩ => ⟨S1024x2048, .bf16⟩
  | .hbm, ⟨11, _⟩ => ⟨S8192x2048, .f32⟩
  | .hbm, ⟨12, _⟩ => ⟨S1024x1664, .bf16⟩
  | .hbm, ⟨13, _⟩ => ⟨S8192x1664, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S512x3072, .f32⟩
  | .local _ .vmem, ⟨4, _⟩ => ⟨S512x3072, .f32⟩
  | .local _ .vmem, ⟨5, _⟩ => ⟨S512x1024, .bf16⟩
  | .local _ .vmem, ⟨6, _⟩ => ⟨S512x1024, .bf16⟩
  | .local _ .vmem, ⟨7, _⟩ => ⟨S1024x2176, .bf16⟩
  | .local _ .vmem, ⟨8, _⟩ => ⟨S512x2176, .f32⟩
  | .local _ .vmem, ⟨9, _⟩ => ⟨S512x2176, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S512x2048, .f32⟩
  | .local _ .vmem, ⟨14, _⟩ => ⟨S512x2048, .f32⟩
  | .local _ .vmem, ⟨15, _⟩ => ⟨S512x1024, .bf16⟩
  | .local _ .vmem, ⟨16, _⟩ => ⟨S512x1024, .bf16⟩
  | .local _ .vmem, ⟨17, _⟩ => ⟨S1024x1664, .bf16⟩
  | .local _ .vmem, ⟨18, _⟩ => ⟨S512x1664, .f32⟩
  | .local _ .vmem, ⟨19, _⟩ => ⟨S512x1664, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 16, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 1 → Memref sig .tc .vmem S1024x2176 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false, true]

abbrev stage1_2 : Fin 2 → Memref sig .tc .vmem S512x2176 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 16, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 1 → Memref sig .tc .vmem S1024x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false, true]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 16, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, true]

abbrev stage3_1 : Fin 1 → Memref sig .tc .vmem S1024x1664 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false, true]

abbrev stage3_2 : Fin 2 → Memref sig .tc .vmem S512x1664 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== ProjRIdeal.lean ====
abbrev S2x4096x1024 : Shape := ⟨3, ![2, 4096, 1024]⟩
abbrev S1024x3072 : Shape := ⟨2, ![1024, 3072]⟩
abbrev S1024x2176 : Shape := ⟨2, ![1024, 2176]⟩
abbrev S1024x2048 : Shape := ⟨2, ![1024, 2048]⟩
abbrev S1024x1664 : Shape := ⟨2, ![1024, 1664]⟩
abbrev S2x4096x3072 : Shape := ⟨3, ![2, 4096, 3072]⟩
abbrev S8192x3072 : Shape := ⟨2, ![8192, 3072]⟩
abbrev S2x4096x2176 : Shape := ⟨3, ![2, 4096, 2176]⟩
abbrev S8192x2176 : Shape := ⟨2, ![8192, 2176]⟩
abbrev S2x4096x2048 : Shape := ⟨3, ![2, 4096, 2048]⟩
abbrev S8192x2048 : Shape := ⟨2, ![8192, 2048]⟩
abbrev S2x4096x1664 : Shape := ⟨3, ![2, 4096, 1664]⟩
abbrev S8192x1664 : Shape := ⟨2, ![8192, 1664]⟩

abbrev nBuf : Space → Nat
  | .hbm => 17
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S1024x3072, .f32⟩
  | .hbm, ⟨2, _⟩ => ⟨S1024x2176, .f32⟩
  | .hbm, ⟨3, _⟩ => ⟨S1024x2048, .f32⟩
  | .hbm, ⟨4, _⟩ => ⟨S1024x1664, .f32⟩
  | .hbm, ⟨5, _⟩ => ⟨S2x4096x1024, .f32⟩
  | .hbm, ⟨6, _⟩ => ⟨S2x4096x3072, .f32⟩
  | .hbm, ⟨7, _⟩ => ⟨S8192x3072, .f32⟩
  | .hbm, ⟨8, _⟩ => ⟨S2x4096x1024, .f32⟩
  | .hbm, ⟨9, _⟩ => ⟨S2x4096x2176, .f32⟩
  | .hbm, ⟨10, _⟩ => ⟨S8192x2176, .f32⟩
  | .hbm, ⟨11, _⟩ => ⟨S2x4096x1024, .f32⟩
  | .hbm, ⟨12, _⟩ => ⟨S2x4096x2048, .f32⟩
  | .hbm, ⟨13, _⟩ => ⟨S8192x2048, .f32⟩
  | .hbm, ⟨14, _⟩ => ⟨S2x4096x1024, .f32⟩
  | .hbm, ⟨15, _⟩ => ⟨S2x4096x1664, .f32⟩
  | .hbm, ⟨16, _⟩ => ⟨S8192x1664, .f32⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== UpK.lean ====
abbrev S2x4096x1024 : Shape := ⟨3, ![2, 4096, 1024]⟩
abbrev S1024x5632 : Shape := ⟨2, ![1024, 5632]⟩
abbrev S8192x1024 : Shape := ⟨2, ![8192, 1024]⟩
abbrev S8192x5632 : Shape := ⟨2, ![8192, 5632]⟩
abbrev S512x1024 : Shape := ⟨2, ![512, 1024]⟩
abbrev S1024x2816 : Shape := ⟨2, ![1024, 2816]⟩
abbrev S512x2816 : Shape := ⟨2, ![512, 2816]⟩

abbrev nBuf : Space → Nat
  | .hbm => 5
  | .vmem => 6
  | .smem => 0
  | _ => 0

abbrev bufTy : (tb : Table) → Fin (tcTables nBuf tb) → BufTy
  | .hbm, ⟨0, _⟩ => ⟨S2x4096x1024, .bf16⟩
  | .hbm, ⟨1, _⟩ => ⟨S1024x5632, .f32⟩
  | .hbm, ⟨2, _⟩ => ⟨S8192x1024, .bf16⟩
  | .hbm, ⟨3, _⟩ => ⟨S1024x5632, .bf16⟩
  | .hbm, ⟨4, _⟩ => ⟨S8192x5632, .f32⟩
  | .local _ .vmem, ⟨0, _⟩ => ⟨S512x1024, .bf16⟩
  | .local _ .vmem, ⟨1, _⟩ => ⟨S512x1024, .bf16⟩
  | .local _ .vmem, ⟨2, _⟩ => ⟨S1024x2816, .bf16⟩
  | .local _ .vmem, ⟨3, _⟩ => ⟨S1024x2816, .bf16⟩
  | .local _ .vmem, ⟨4, _⟩ => ⟨S512x2816, .f32⟩
  | .local _ .vmem, ⟨5, _⟩ => ⟨S512x2816, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRIdeal.lean ====
abbrev S2x4096x1024 : Shape := ⟨3, ![2, 4096, 1024]⟩
abbrev S1024x5632 : Shape := ⟨2, ![1024, 5632]⟩
abbrev S2x4096x5632 : Shape := ⟨3, ![2, 4096, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S1024x5632, .f32⟩
  | .hbm, ⟨2, _⟩ => ⟨S2x4096x1024, .f32⟩
  | .hbm, ⟨3, _⟩ => ⟨S2x4096x5632, .f32⟩
  | .hbm, ⟨4, _⟩ => ⟨S8192x5632, .f32⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownFwdK.lean ====
abbrev S2x4096x2816 : Shape := ⟨3, ![2, 4096, 2816]⟩
abbrev S2816x1024 : Shape := ⟨2, ![2816, 1024]⟩
abbrev S2x4096x1024 : Shape := ⟨3, ![2, 4096, 1024]⟩
abbrev S2x1024 : Shape := ⟨2, ![2, 1024]⟩
abbrev S8192x2816 : Shape := ⟨2, ![8192, 2816]⟩
abbrev S8192x1024 : Shape := ⟨2, ![8192, 1024]⟩
abbrev S2x1x1024 : Shape := ⟨3, ![2, 1, 1024]⟩
abbrev S512x2816 : Shape := ⟨2, ![512, 2816]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 10
  | .vmem => 11
  | .smem => 0
  | _ => 0

abbrev bufTy : (tb : Table) → Fin (tcTables nBuf tb) → BufTy
  | .hbm, ⟨0, _⟩ => ⟨S2x4096x2816, .bf16⟩
  | .hbm, ⟨1, _⟩ => ⟨S2816x1024, .f32⟩
  | .hbm, ⟨2, _⟩ => ⟨S2x4096x1024, .f32⟩
  | .hbm, ⟨3, _⟩ => ⟨S2x1024, .f32⟩
  | .hbm, ⟨4, _⟩ => ⟨S8192x2816, .bf16⟩
  | .hbm, ⟨5, _⟩ => ⟨S2816x1024, .bf16⟩
  | .hbm, ⟨6, _⟩ => ⟨S8192x1024, .f32⟩
  | .hbm, ⟨7, _⟩ => ⟨S2x1x1024, .f32⟩
  | .hbm, ⟨8, _⟩ => ⟨S8192x1024, .f32⟩
  | .hbm, ⟨9, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c4096_i32 : BitVec 32 := 4096#32
  let v1 : BitVec 32 := Scalar.divsi v0 c4096_i32
  let c0_i32 : BitVec 32 := 0#32
  let c0_i32_0 : BitVec 32 := 0#32
  ![v1.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownFwdRIdeal.lean ====
abbrev S2x4096x2816 : Shape := ⟨3, ![2, 4096, 2816]⟩
abbrev S2816x1024 : Shape := ⟨2, ![2816, 1024]⟩
abbrev S2x4096x1024 : Shape := ⟨3, ![2, 4096, 1024]⟩
abbrev S2x1024 : Shape := ⟨2, ![2, 1024]⟩
abbrev S2x1x1024 : Shape := ⟨3, ![2, 1, 1024]⟩
abbrev S8192x1024 : Shape := ⟨2, ![8192, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S2816x1024, .f32⟩
  | .hbm, ⟨2, _⟩ => ⟨S2x4096x1024, .f32⟩
  | .hbm, ⟨3, _⟩ => ⟨S2x1024, .f32⟩
  | .hbm, ⟨4, _⟩ => ⟨S2x4096x2816, .f32⟩
  | .hbm, ⟨5, _⟩ => ⟨S2x4096x1024, .f32⟩
  | .hbm, ⟨6, _⟩ => ⟨S2x1x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MergeK.lean ====
abbrev S2x4096x1024 : Shape := ⟨3, ![2, 4096, 1024]⟩
abbrev S2x4096x512 : Shape := ⟨3, ![2, 4096, 512]⟩
abbrev S2x4096x3072 : Shape := ⟨3, ![2, 4096, 3072]⟩
abbrev S2x1024 : Shape := ⟨2, ![2, 1024]⟩
abbrev S512x1024 : Shape := ⟨2, ![512, 1024]⟩
abbrev S1024x1024 : Shape := ⟨2, ![1024, 1024]⟩
abbrev S8192x1024 : Shape := ⟨2, ![8192, 1024]⟩
abbrev S8192x512 : Shape := ⟨2, ![8192, 512]⟩
abbrev S8192x3072 : Shape := ⟨2, ![8192, 3072]⟩
abbrev S2x1x1024 : Shape := ⟨3, ![2, 1, 1024]⟩
abbrev S512x512 : Shape := ⟨2, ![512, 512]⟩
abbrev S512x3072 : Shape := ⟨2, ![512, 3072]⟩
abbrev S1x1x1024 : Shape := ⟨3, ![1, 1, 1024]⟩
abbrev S1x1024 : Shape := ⟨2, ![1, 1024]⟩

abbrev nBuf : Space → Nat
  | .hbm => 26
  | .vmem => 28
  | .smem => 0
  | _ => 0

abbrev bufTy : (tb : Table) → Fin (tcTables nBuf tb) → BufTy
  | .hbm, ⟨0, _⟩ => ⟨S2x4096x1024, .f32⟩
  | .hbm, ⟨1, _⟩ => ⟨S2x4096x512, .bf16⟩
  | .hbm, ⟨2, _⟩ => ⟨S2x4096x512, .bf16⟩
  | .hbm, ⟨3, _⟩ => ⟨S2x4096x512, .bf16⟩
  | .hbm, ⟨4, _⟩ => ⟨S2x4096x3072, .f32⟩
  | .hbm, ⟨5, _⟩ => ⟨S2x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S8192x1024, .f32⟩
  | .hbm, ⟨11, _⟩ => ⟨S8192x512, .bf16⟩
  | .hbm, ⟨12, _⟩ => ⟨S8192x512, .bf16⟩
  | .hbm, ⟨13, _⟩ => ⟨S8192x512, .bf16⟩
  | .hbm, ⟨14, _⟩ => ⟨S8192x3072, .f32⟩
  | .hbm, ⟨15, _⟩ => ⟨S2x1x1024, .f32⟩
  | .hbm, ⟨16, _⟩ => ⟨S512x1024, .bf16⟩
  | .hbm, ⟨17, _⟩ => ⟨S512x1024, .bf16⟩
  | .hbm, ⟨18, _⟩ => ⟨S512x1024, .bf16⟩
  | .hbm, ⟨19, _⟩ => ⟨S1024x1024, .bf16⟩
  | .hbm, ⟨20, _⟩ => ⟨S8192x1024, .f32⟩
  | .hbm, ⟨21, _⟩ => ⟨S8192x1024, .bf16⟩
  | .hbm, ⟨22, _⟩ => ⟨S8192x1024, .bf16⟩
  | .hbm, ⟨23, _⟩ => ⟨S8192x1024, .bf16⟩
  | .hbm, ⟨24, _⟩ => ⟨S8192x1024, .bf16⟩
  | .hbm, ⟨25, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x3072, .f32⟩
  | .local _ .vmem, ⟨9, _⟩ => ⟨S512x3072, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MergeRIdeal.lean ====
abbrev S2x4096x1024 : Shape := ⟨3, ![2, 4096, 1024]⟩
abbrev S2x4096x512 : Shape := ⟨3, ![2, 4096, 512]⟩
abbrev S2x4096x3072 : Shape := ⟨3, ![2, 4096, 3072]⟩
abbrev S2x1024 : Shape := ⟨2, ![2, 1024]⟩
abbrev S512x1024 : Shape := ⟨2, ![512, 1024]⟩
abbrev S1024x1024 : Shape := ⟨2, ![1024, 1024]⟩
abbrev S_ : Shape := ⟨0, ![]⟩
abbrev S2x4096x3x1024 : Shape := ⟨4, ![2, 4096, 3, 1024]⟩
abbrev S2x4096x1x1024 : Shape := ⟨4, ![2, 4096, 1, 1024]⟩
abbrev S2x1x1024 : Shape := ⟨3, ![2, 1, 1024]⟩
abbrev S8192x1024 : Shape := ⟨2, ![8192, 1024]⟩

abbrev nBuf : Space → Nat
  | .hbm => 52
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x512, .bf16⟩
  | .hbm, ⟨2, _⟩ => ⟨S2x4096x512, .bf16⟩
  | .hbm, ⟨3, _⟩ => ⟨S2x4096x512, .bf16⟩
  | .hbm, ⟨4, _⟩ => ⟨S2x4096x3072, .f32⟩
  | .hbm, ⟨5, _⟩ => ⟨S2x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S2x4096x3072, .f32⟩
  | .hbm, ⟨11, _⟩ => ⟨S2x4096x3072, .f32⟩
  | .hbm, ⟨12, _⟩ => ⟨S_, .f32⟩
  | .hbm, ⟨13, _⟩ => ⟨S2x4096x3072, .f32⟩
  | .hbm, ⟨14, _⟩ => ⟨S2x4096x3072, .f32⟩
  | .hbm, ⟨15, _⟩ => ⟨S_, .f32⟩
  | .hbm, ⟨16, _⟩ => ⟨S2x4096x3072, .f32⟩
  | .hbm, ⟨17, _⟩ => ⟨S2x4096x3072, .f32⟩
  | .hbm, ⟨18, _⟩ => ⟨S2x4096x3x1024, .f32⟩
  | .hbm, ⟨19, _⟩ => ⟨S2x4096x512, .f32⟩
  | .hbm, ⟨20, _⟩ => ⟨S2x4096x1024, .f32⟩
  | .hbm, ⟨21, _⟩ => ⟨S2x4096x512, .f32⟩
  | .hbm, ⟨22, _⟩ => ⟨S2x4096x1024, .f32⟩
  | .hbm, ⟨23, _⟩ => ⟨S2x4096x512, .f32⟩
  | .hbm, ⟨24, _⟩ => ⟨S2x4096x1024, .f32⟩
  | .hbm, ⟨25, _⟩ => ⟨S2x4096x1x1024, .f32⟩
  | .hbm, ⟨26, _⟩ => ⟨S2x4096x1024, .f32⟩
  | .hbm, ⟨27, _⟩ => ⟨S2x4096x1024, .f32⟩
  | .hbm, ⟨28, _⟩ => ⟨S2x4096x1x1024, .f32⟩
  | .hbm, ⟨29, _⟩ => ⟨S2x4096x1024, .f32⟩
  | .hbm, ⟨30, _⟩ => ⟨S2x4096x1024, .f32⟩
  | .hbm, ⟨31, _⟩ => ⟨S2x4096x1024, .f32⟩
  | .hbm, ⟨32, _⟩ => ⟨S2x4096x1x1024, .f32⟩
  | .hbm, ⟨33, _⟩ => ⟨S2x4096x1024, .f32⟩
  | .hbm, ⟨34, _⟩ => ⟨S2x4096x1024, .f32⟩
  | .hbm, ⟨35, _⟩ => ⟨S2x4096x1024, .f32⟩
  | .hbm, ⟨36, _⟩ => ⟨S2x4096x1024, .f32⟩
  | .hbm, ⟨37, _⟩ => ⟨S2x1x1024, .f32⟩
  | .hbm, ⟨38, _⟩ => ⟨S2x4096x1024, .f32⟩
  | .hbm, ⟨39, _⟩ => ⟨S2x4096x1024, .f32⟩
  | .hbm, ⟨40, _⟩ => ⟨S2x4096x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | .hbm, ⟨44, _⟩ => ⟨S8192x1024, .f32⟩
  | .hbm, ⟨45, _⟩ => ⟨S8192x1024, .bf16⟩
  | .hbm, ⟨46, _⟩ => ⟨S8192x1024, .f32⟩
  | .hbm, ⟨47, _⟩ => ⟨S8192x1024, .bf16⟩
  | .hbm, ⟨48, _⟩ => ⟨S8192x1024, .f32⟩
  | .hbm, ⟨49, _⟩ => ⟨S8192x1024, .bf16⟩
  | .hbm, ⟨50, _⟩ => ⟨S8192x1024, .f32⟩
  | .hbm, ⟨51, _⟩ => ⟨S8192x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== NormFwdK.lean ====
abbrev S2x4096x1024 : Shape := ⟨3, ![2, 4096, 1024]⟩
abbrev S1024 : Shape := ⟨1, ![1024]⟩
abbrev S2x1024 : Shape := ⟨2, ![2, 1024]⟩
abbrev S8192x1024 : Shape := ⟨2, ![8192, 1024]⟩
abbrev S1x1024 : Shape := ⟨2, ![1, 1024]⟩
abbrev S2x1x1024 : Shape := ⟨3, ![2, 1, 1024]⟩
abbrev S1024x8192 : Shape := ⟨2, ![1024, 8192]⟩
abbrev S512x1024 : Shape := ⟨2, ![512, 1024]⟩
abbrev S1x1x1024 : Shape := ⟨3, ![1, 1, 1024]⟩
abbrev S1024x512 : Shape := ⟨2, ![1024, 512]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S8192x1024, .f32⟩
  | .hbm, ⟨5, _⟩ => ⟨S1x1024, .f32⟩
  | .hbm, ⟨6, _⟩ => ⟨S2x1x1024, .f32⟩
  | .hbm, ⟨7, _⟩ => ⟨S2x1x1024, .f32⟩
  | .hbm, ⟨8, _⟩ => ⟨S8192x1024, .bf16⟩
  | .hbm, ⟨9, _⟩ => ⟨S1024x8192, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .bf16⟩
  | .local _ .vmem, ⟨8, _⟩ => ⟨S512x1024, .bf16⟩
  | .local _ .vmem, ⟨9, _⟩ => ⟨S1024x512, .bf16⟩
  | .local _ .vmem, ⟨10, _⟩ => ⟨S1024x512, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== NormFwdRIdeal.lean ====
abbrev S2x4096x1024 : Shape := ⟨3, ![2, 4096, 1024]⟩
abbrev S1024 : Shape := ⟨1, ![1024]⟩
abbrev S2x1024 : Shape := ⟨2, ![2, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x1x1024 : Shape := ⟨3, ![2, 1, 1024]⟩
abbrev S8192x1024 : Shape := ⟨2, ![8192, 1024]⟩
abbrev S1024x8192 : Shape := ⟨2, ![1024, 8192]⟩

abbrev nBuf : Space → Nat
  | .hbm => 32
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S2x4096x1024, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x1024, .f32⟩
  | .hbm, ⟨16, _⟩ => ⟨S2x4096x1024, .f32⟩
  | .hbm, ⟨17, _⟩ => ⟨S1x1x1024, .f32⟩
  | .hbm, ⟨18, _⟩ => ⟨S2x4096x1024, .f32⟩
  | .hbm, ⟨19, _⟩ => ⟨S2x4096x1024, .f32⟩
  | .hbm, ⟨20, _⟩ => ⟨S2x1x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x4096x1024, .f32⟩
  | .hbm, ⟨25, _⟩ => ⟨S2x4096x1024, .f32⟩
  | .hbm, ⟨26, _⟩ => ⟨S2x1x1024, .f32⟩
  | .hbm, ⟨27, _⟩ => ⟨S2x4096x1024, .f32⟩
  | .hbm, ⟨28, _⟩ => ⟨S2x4096x1024, .f32⟩
  | .hbm, ⟨29, _⟩ => ⟨S8192x1024, .f32⟩
  | .hbm, ⟨30, _⟩ => ⟨S8192x1024, .bf16⟩
  | .hbm, ⟨31, _⟩ => ⟨S1024x8192, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== ConvFwdK.lean ====
abbrev S3x5632 : Shape := ⟨2, ![3, 5632]⟩
abbrev S5632 : Shape := ⟨1, ![5632]⟩
abbrev S2x4096x5632 : Shape := ⟨3, ![2, 4096, 5632]⟩
abbrev S1x5632 : Shape := ⟨2, ![1, 5632]⟩
abbrev S_ : Shape := ⟨0, ![]⟩
abbrev S8x5632 : Shape := ⟨2, ![8, 5632]⟩
abbrev S8192x5632 : Shape := ⟨2, ![8192, 5632]⟩
abbrev S8192x2816 : Shape := ⟨2, ![8192, 2816]⟩
abbrev S2816x8192 : Shape := ⟨2, ![2816, 8192]⟩
abbrev S256x5632 : Shape := ⟨2, ![256, 5632]⟩
abbrev S256x2816 : Shape := ⟨2, ![256, 2816]⟩
abbrev S2816x256 : Shape := ⟨2, ![2816, 256]⟩
abbrev S264x5632 : Shape := ⟨2, ![264, 5632]⟩

abbrev nBuf : Space → Nat
  | .hbm => 35
  | .vmem => 9
  | .smem => 0
  | _ => 0

abbrev bufTy : (tb : Table) → Fin (tcTables nBuf tb) → BufTy
  | .hbm, ⟨0, _⟩ => ⟨S3x5632, .f32⟩
  | .hbm, ⟨1, _⟩ => ⟨S5632, .f32⟩
  | .hbm, ⟨2, _⟩ => ⟨S2x4096x5632, .f32⟩
  | .hbm, ⟨3, _⟩ => ⟨S1x5632, .f32⟩
  | .hbm, ⟨4, _⟩ => ⟨S5632, .f32⟩
  | .hbm, ⟨5, _⟩ => ⟨S1x5632, .f32⟩
  | .hbm, ⟨6, _⟩ => ⟨S5632, .f32⟩
  | .hbm, ⟨7, _⟩ => ⟨S1x5632, .f32⟩
  | .hbm, ⟨8, _⟩ => ⟨S5632, .f32⟩
  | .hbm, ⟨9, _⟩ => ⟨S_, .i32⟩
  | .hbm, ⟨10, _⟩ => ⟨S_, .f32⟩
  | .hbm, ⟨11, _⟩ => ⟨S5632, .f32⟩
  | .hbm, ⟨12, _⟩ => ⟨S_, .i32⟩
  | .hbm, ⟨13, _⟩ => ⟨S_, .f32⟩
  | .hbm, ⟨14, _⟩ => ⟨S5632, .f32⟩
  | .hbm, ⟨15, _⟩ => ⟨S_, .i32⟩
  | .hbm, ⟨16, _⟩ => ⟨S_, .f32⟩
  | .hbm, ⟨17, _⟩ => ⟨S5632, .f32⟩
  | .hbm, ⟨18, _⟩ => ⟨S_, .i32⟩
  | .hbm, ⟨19, _⟩ => ⟨S_, .f32⟩
  | .hbm, ⟨20, _⟩ => ⟨S5632, .f32⟩
  | .hbm, ⟨21, _⟩ => ⟨S_, .f32⟩
  | .hbm, ⟨22, _⟩ => ⟨S5632, .f32⟩
  | .hbm, ⟨23, _⟩ => ⟨S1x5632, .f32⟩
  | .hbm, ⟨24, _⟩ => ⟨S1x5632, .f32⟩
  | .hbm, ⟨25, _⟩ => ⟨S1x5632, .f32⟩
  | .hbm, ⟨26, _⟩ => ⟨S1x5632, .f32⟩
  | .hbm, ⟨27, _⟩ => ⟨S1x5632, .f32⟩
  | .hbm, ⟨28, _⟩ => ⟨S1x5632, .f32⟩
  | .hbm, ⟨29, _⟩ => ⟨S1x5632, .f32⟩
  | .hbm, ⟨30, _⟩ => ⟨S1x5632, .f32⟩
  | .hbm, ⟨31, _⟩ => ⟨S8x5632, .f32⟩
  | .hbm, ⟨32, _⟩ => ⟨S8192x5632, .f32⟩
  | .hbm, ⟨33, _⟩ => ⟨S8192x2816, .bf16⟩
  | .hbm, ⟨34, _⟩ => ⟨S2816x8192, .bf16⟩
  | .local _ .vmem, ⟨0, _⟩ => ⟨S8x5632, .f32⟩
  | .local _ .vmem, ⟨1, _⟩ => ⟨S256x5632, .f32⟩
  | .local _ .vmem, ⟨2, _⟩ => ⟨S256x5632, .f32⟩
  | .local _ .vmem, ⟨3, _⟩ => ⟨S8x5632, .f32⟩
  | .local _ .vmem, ⟨4, _⟩ => ⟨S8x5632, .f32⟩
  | .local _ .vmem, ⟨5, _⟩ => ⟨S256x2816, .bf16⟩
  | .local _ .vmem, ⟨6, _⟩ => ⟨S256x2816, .bf16⟩
  | .local _ .vmem, ⟨7, _⟩ => ⟨S2816x256, .bf16⟩
  | .local _ .vmem, ⟨8, _⟩ => ⟨S2816x256, .bf16⟩
  | _, _ => ⟨S3x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_c_1 : Ref sig .tc := ⟨.hbm, 15, rfl⟩
abbrev main_call2_v0 : Ref sig .tc := ⟨.hbm, 16, rfl⟩
abbrev main_v8 : Ref sig .tc := ⟨.hbm, 17, rfl⟩
abbrev main_c_2 : Ref sig .tc := ⟨.hbm, 18, rfl⟩
abbrev main_call3_v0 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

abbrev stage0_0 : Fin 1 → Memref sig .tc .vmem S8x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2816x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvFwdRIdeal.lean ====
abbrev S3x5632 : Shape := ⟨2, ![3, 5632]⟩
abbrev S5632 : Shape := ⟨1, ![5632]⟩
abbrev S2x4096x5632 : Shape := ⟨3, ![2, 4096, 5632]⟩
abbrev S_ : Shape := ⟨0, ![]⟩
abbrev S2x2x5632 : Shape := ⟨3, ![2, 2, 5632]⟩
abbrev S2x4098x5632 : Shape := ⟨3, ![2, 4098, 5632]⟩
abbrev S1x5632 : Shape := ⟨2, ![1, 5632]⟩
abbrev S1x1x5632 : Shape := ⟨3, ![1, 1, 5632]⟩
abbrev S2x4096x2816 : Shape := ⟨3, ![2, 4096, 2816]⟩
abbrev S8192x2816 : Shape := ⟨2, ![8192, 2816]⟩
abbrev S2816x8192 : Shape := ⟨2, ![2816, 8192]⟩

abbrev nBuf : Space → Nat
  | .hbm => 43
  | .vmem => 0
  | .smem => 0
  | _ => 0

abbrev bufTy : (tb : Table) → Fin (tcTables nBuf tb) → BufTy
  | .hbm, ⟨0, _⟩ => ⟨S3x5632, .f32⟩
  | .hbm, ⟨1, _⟩ => ⟨S5632, .f32⟩
  | .hbm, ⟨2, _⟩ => ⟨S2x4096x5632, .f32⟩
  | .hbm, ⟨3, _⟩ => ⟨S_, .f32⟩
  | .hbm, ⟨4, _⟩ => ⟨S2x2x5632, .f32⟩
  | .hbm, ⟨5, _⟩ => ⟨S2x4098x5632, .f32⟩
  | .hbm, ⟨6, _⟩ => ⟨S1x5632, .f32⟩
  | .hbm, ⟨7, _⟩ => ⟨S5632, .f32⟩
  | .hbm, ⟨8, _⟩ => ⟨S1x1x5632, .f32⟩
  | .hbm, ⟨9, _⟩ => ⟨S2x4096x5632, .f32⟩
  | .hbm, ⟨10, _⟩ => ⟨S2x4096x5632, .f32⟩
  | .hbm, ⟨11, _⟩ => ⟨S1x5632, .f32⟩
  | .hbm, ⟨12, _⟩ => ⟨S5632, .f32⟩
  | .hbm, ⟨13, _⟩ => ⟨S2x4096x5632, .f32⟩
  | .hbm, ⟨14, _⟩ => ⟨S1x1x5632, .f32⟩
  | .hbm, ⟨15, _⟩ => ⟨S2x4096x5632, .f32⟩
  | .hbm, ⟨16, _⟩ => ⟨S2x4096x5632, .f32⟩
  | .hbm, ⟨17, _⟩ => ⟨S2x4096x5632, .f32⟩
  | .hbm, ⟨18, _⟩ => ⟨S1x5632, .f32⟩
  | .hbm, ⟨19, _⟩ => ⟨S5632, .f32⟩
  | .hbm, ⟨20, _⟩ => ⟨S2x4096x5632, .f32⟩
  | .hbm, ⟨21, _⟩ => ⟨S1x1x5632, .f32⟩
  | .hbm, ⟨22, _⟩ => ⟨S2x4096x5632, .f32⟩
  | .hbm, ⟨23, _⟩ => ⟨S2x4096x5632, .f32⟩
  | .hbm, ⟨24, _⟩ => ⟨S2x4096x5632, .f32⟩
  | .hbm, ⟨25, _⟩ => ⟨S1x1x5632, .f32⟩
  | .hbm, ⟨26, _⟩ => ⟨S2x4096x5632, .f32⟩
  | .hbm, ⟨27, _⟩ => ⟨S2x4096x5632, .f32⟩
  | .hbm, ⟨28, _⟩ => ⟨S2x4096x2816, .f32⟩
  | .hbm, ⟨29, _⟩ => ⟨S2x4096x2816, .f32⟩
  | .hbm, ⟨30, _⟩ => ⟨S2x4096x2816, .f32⟩
  | .hbm, ⟨31, _⟩ => ⟨S2x4096x2816, .f32⟩
  | .hbm, ⟨32, _⟩ => ⟨S_, .f32⟩
  | .hbm, ⟨33, _⟩ => ⟨S2x4096x2816, .f32⟩
  | .hbm, ⟨34, _⟩ => ⟨S2x4096x2816, .f32⟩
  | .hbm, ⟨35, _⟩ => ⟨S_, .f32⟩
  | .hbm, ⟨36, _⟩ => ⟨S2x4096x2816, .f32⟩
  | .hbm, ⟨37, _⟩ => ⟨S2x4096x2816, .f32⟩
  | .hbm, ⟨38, _⟩ => ⟨S2x4096x2816, .f32⟩
  | .hbm, ⟨39, _⟩ => ⟨S2x4096x2816, .f32⟩
  | .hbm, ⟨40, _⟩ => ⟨S8192x2816, .f32⟩
  | .hbm, ⟨41, _⟩ => ⟨S8192x2816, .bf16⟩
  | .hbm, ⟨42, _⟩ => ⟨S2816x8192, .bf16⟩
  | _, _ => ⟨S3x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== AdamK.lean ====
abbrev S2x1024x1536 : Shape := ⟨3, ![2, 1024, 1536]⟩
abbrev S2048x1536 : Shape := ⟨2, ![2048, 1536]⟩
abbrev S256x1536 : Shape := ⟨2, ![256, 1536]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRIdeal.lean ====
abbrev S2x1024x1536 : Shape := ⟨3, ![2, 1024, 1536]⟩
abbrev S_ : Shape := ⟨0, ![]⟩
abbrev S2048x1536 : Shape := ⟨2, ![2048, 1536]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S_, .f32⟩
  | .hbm, ⟨5, _⟩ => ⟨S2x1024x1536, .f32⟩
  | .hbm, ⟨6, _⟩ => ⟨S2x1024x1536, .f32⟩
  | .hbm, ⟨7, _⟩ => ⟨S_, .f32⟩
  | .hbm, ⟨8, _⟩ => ⟨S2x1024x1536, .f32⟩
  | .hbm, ⟨9, _⟩ => ⟨S2x1024x1536, .f32⟩
  | .hbm, ⟨10, _⟩ => ⟨S2x1024x1536, .f32⟩
  | .hbm, ⟨11, _⟩ => ⟨S_, .f32⟩
  | .hbm, ⟨12, _⟩ => ⟨S2x1024x1536, .f32⟩
  | .hbm, ⟨13, _⟩ => ⟨S2x1024x1536, .f32⟩
  | .hbm, ⟨14, _⟩ => ⟨S2x1024x1536, .f32⟩
  | .hbm, ⟨15, _⟩ => ⟨S_, .f32⟩
  | .hbm, ⟨16, _⟩ => ⟨S2x1024x1536, .f32⟩
  | .hbm, ⟨17, _⟩ => ⟨S2x1024x1536, .f32⟩
  | .hbm, ⟨18, _⟩ => ⟨S2x1024x1536, .f32⟩
  | .hbm, ⟨19, _⟩ => ⟨S_, .f32⟩
  | .hbm, ⟨20, _⟩ => ⟨S2x1024x1536, .f32⟩
  | .hbm, ⟨21, _⟩ => ⟨S2x1024x1536, .f32⟩
  | .hbm, ⟨22, _⟩ => ⟨S_, .f32⟩
  | .hbm, ⟨23, _⟩ => ⟨S2x1024x1536, .f32⟩
  | .hbm, ⟨24, _⟩ => ⟨S2x1024x1536, .f32⟩
  | .hbm, ⟨25, _⟩ => ⟨S2x1024x1536, .f32⟩
  | .hbm, ⟨26, _⟩ => ⟨S_, .f32⟩
  | .hbm, ⟨27, _⟩ => ⟨S2x1024x1536, .f32⟩
  | .hbm, ⟨28, _⟩ => ⟨S2x1024x1536, .f32⟩
  | .hbm, ⟨29, _⟩ => ⟨S2x1024x1536, .f32⟩
  | .hbm, ⟨30, _⟩ => ⟨S_, .f32⟩
  | .hbm, ⟨31, _⟩ => ⟨S2x1024x1536, .f32⟩
  | .hbm, ⟨32, _⟩ => ⟨S2x1024x1536, .f32⟩
  | .hbm, ⟨33, _⟩ => ⟨S2x1024x1536, .f32⟩
  | .hbm, ⟨34, _⟩ => ⟨S_, .f32⟩
  | .hbm, ⟨35, _⟩ => ⟨S2x1024x1536, .f32⟩
  | .hbm, ⟨36, _⟩ => ⟨S2x1024x1536, .f32⟩
  | .hbm, ⟨37, _⟩ => ⟨S2048x1536, .f32⟩
  | .hbm, ⟨38, _⟩ => ⟨S2048x1536, .f32⟩
  | .hbm, ⟨39, _⟩ => ⟨S2048x1536, .f32⟩
  | _, _ => ⟨S2x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.SumRows.lean ====
/- A sum over the first two axes of a three-axis array, at an index of what is left: the array's elements over
   those two axes, the last coordinate the index's. -/
module

public import Idealize.ShloMosaic.Lib.Pipeline.ValueKit

@[expose] public section

noncomputable section

open Idealize.ShloMosaic
open scoped BigOperators

namespace Cert.SumRows

variable {p q r : Nat}

/-- Which elements are summed at `j`: those whose last coordinate is `j`'s. -/
theorem dropped (h : (⟨3, ![p, q, r]⟩ : Shape).ReducesTo [0, 1] ⟨1, ![r]⟩) (j : (⟨1, ![r]⟩ : Shape).Idx)
    (i : (⟨3, ![p, q, r]⟩ : Shape).Idx) : h.drop i = j ↔ ∃ k : Fin p × Fin q, ix3 k.1 k.2 (j 0) = i := by
  refine ⟨fun e => ⟨(i 0, i 1), ?_⟩, ?_⟩
  · funext b
    match b with
    | ⟨0, _⟩ => rfl
    | ⟨1, _⟩ => rfl
    | ⟨2, _⟩ => exact Fin.ext (congrArg Fin.val (congrFun e 0)).symm
  · rintro ⟨k, rfl⟩
    funext b
    match b with
    | ⟨0, _⟩ => rfl

theorem at_index (h : (⟨3, ![p, q, r]⟩ : Shape).ReducesTo [0, 1] ⟨1, ![r]⟩) (v : (⟨3, ![p, q, r]⟩ : Shape).Idx → EReal)
    (init : EReal) (j : (⟨1, ![r]⟩ : Shape).Idx) :
    Ideal.hostReduceAdd h v init j = init + ∑ a : Fin p, ∑ s : Fin q, v (ix3 a s (j 0)) := by
  rw [← Fintype.sum_prod_type' fun (a : Fin p) (s : Fin q) => v (ix3 a s (j 0))]
  refine congrArg (init + ·) ?_
  exact Finset.sum_filter_eq_sum_of_fiber _
    (fun k : Fin p × Fin q => (ix3 k.1 k.2 (j 0) : (⟨3, ![p, q, r]⟩ : Shape).Idx))
    (fun _ _ e => Prod.ext (congrFun e 0) (congrFun e 1)) (dropped h j) v

end Cert.SumRows

end
-- ==== Proof.Norm.lean ====
/- The backward call of the modulated norm (`normmod_bwd` taking its row gradient through `w_up`): its
   four result arrays are the reference's four terms — `dx` tile by tile, `dw` one run of all tiles,
   `dshift` and `dscale` a run of sixteen tiles per batch row. -/
module

public import proofs.«01_k».proof.Proof.Gen.NormKIdeal.Frame
public import proofs.«01_k».proof.Proof.Gen.NormRIdeal.Run
public import proofs.«01_k».proof.Proof.SumRows
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)
open scoped BigOperators

namespace Cert.NormKIdeal.Val

open Cert.NormKIdeal Cert.NormKIdeal.Gen

variable (m : (ℓ : Loc nD τ sig) → Buf (Elt Ideal) ℓ)

/-! ## The reference's terms -/

/-- The gradient of the modulated rows, `du @ w_upᵀ`. -/
def DY (du : FVec Ideal Cert.NormRIdeal.S2x4096x5632 .bf16) (wu : FVec Ideal Cert.NormRIdeal.S1024x5632 .f32) :
    FVec Ideal Cert.NormRIdeal.S2x4096x1024 .f32 :=
  Host.dotGeneral Cert.NormRIdeal.dot_S2x4096x5632_S1024x5632_S2x4096x1024_2_1_01_0_n_n none
    (extf .f32 du Cert.NormRIdeal.Gen.bitsLt_bf16_f32) wu

/-- The mean square of each row, with the norm's `eps` added. -/
def MS (x : FVec Ideal Cert.NormRIdeal.S2x4096x1024 .f32) : FVec Ideal Cert.NormRIdeal.S2x4096x1 .f32 :=
  addf (Host.divf (broadcastInDim Cert.NormRIdeal.S2x4096x1 ![0, 1] Cert.NormRIdeal.Gen.bcast_S2x4096_S2x4096x1_0_1
      (Host.reduceAdd (mulf x x) (constant Cert.NormRIdeal.S_ .f32 0x00000000#32)
        Cert.NormRIdeal.Gen.reducesTo_S2x4096x1024_S2x4096_d2 Cert.NormRIdeal.Gen.h_S_))
      (broadcastInDim Cert.NormRIdeal.S2x4096x1 ![] Cert.NormRIdeal.Gen.bcast_S_S2x4096x1
        (constant Cert.NormRIdeal.S_ .f32 0x44800000#32)))
    (broadcastInDim Cert.NormRIdeal.S2x4096x1 ![] Cert.NormRIdeal.Gen.bcast_S_S2x4096x1
      (constant Cert.NormRIdeal.S_ .f32 0x358637BD#32))

/-- A row vector per batch row, along the positions. -/
abbrev ALONG (g : FVec Ideal Cert.NormRIdeal.S2x1x1024 .f32) : FVec Ideal Cert.NormRIdeal.S2x4096x1024 .f32 :=
  broadcastInDim Cert.NormRIdeal.S2x4096x1024 ![0, 1, 2] Cert.NormRIdeal.Gen.bcast_S2x1x1024_S2x4096x1024_0_1_2 g

/-- The norm's weight along all rows. -/
abbrev WROWS (w : FVec Ideal Cert.NormRIdeal.S1024 .f32) : FVec Ideal Cert.NormRIdeal.S2x4096x1024 .f32 :=
  broadcastInDim Cert.NormRIdeal.S2x4096x1024 ![0, 1, 2] Cert.NormRIdeal.Gen.bcast_S1x1x1024_S2x4096x1024_0_1_2
    (broadcastInDim Cert.NormRIdeal.S1x1x1024 ![2] Cert.NormRIdeal.Gen.bcast_S1024_S1x1x1024_2 w)

/-- The gradient of the normed rows. -/
abbrev DN (sc : FVec Ideal Cert.NormRIdeal.S2x1024 .f32) (dy : FVec Ideal Cert.NormRIdeal.S2x4096x1024 .f32) :
    FVec Ideal Cert.NormRIdeal.S2x4096x1024 .f32 :=
  mulf dy (ALONG (addf (broadcastInDim Cert.NormRIdeal.S2x1x1024 ![] Cert.NormRIdeal.Gen.bcast_S_S2x1x1024
      (constant Cert.NormRIdeal.S_ .f32 0x3F800000#32))
    (broadcastInDim Cert.NormRIdeal.S2x1x1024 ![0, 2] Cert.NormRIdeal.Gen.bcast_S2x1024_S2x1x1024_0_2 sc)))

/-- The rows over their root mean square. -/
abbrev XN (x : FVec Ideal Cert.NormRIdeal.S2x4096x1024 .f32) : FVec Ideal Cert.NormRIdeal.S2x4096x1024 .f32 :=
  mulf x (broadcastInDim Cert.NormRIdeal.S2x4096x1024 ![0, 1, 2] Cert.NormRIdeal.Gen.bcast_S2x4096x1_S2x4096x1024_0_1_2
    (Host.rsqrt (MS x)))

/-- Each row's share of the gradient that goes through its mean square. -/
abbrev CROW (x : FVec Ideal Cert.NormRIdeal.S2x4096x1024 .f32) (w : FVec Ideal Cert.NormRIdeal.S1024 .f32)
    (dn : FVec Ideal Cert.NormRIdeal.S2x4096x1024 .f32) : FVec Ideal Cert.NormRIdeal.S2x4096x1024 .f32 :=
  broadcastInDim Cert.NormRIdeal.S2x4096x1024 ![0, 1] Cert.NormRIdeal.Gen.bcast_S2x4096_S2x4096x1024_0_1
    (Host.reduceAdd (Host.divf (mulf
        (shapeCast _ (Host.reduceAdd (mulf x (mulf dn (WROWS w))) (constant Cert.NormRIdeal.S_ .f32 0x00000000#32)
          Cert.NormRIdeal.Gen.reducesTo_S2x4096x1024_S2x4096_d2 Cert.NormRIdeal.Gen.h_S_)
          Cert.NormRIdeal.Gen.shapeCasts_S2x4096_S2x4096x1)
        (mulf (broadcastInDim Cert.NormRIdeal.S2x4096x1 ![] Cert.NormRIdeal.Gen.bcast_S_S2x4096x1
            (constant Cert.NormRIdeal.S_ .f32 0xBF000000#32))
          (Host.divf (Host.rsqrt (MS x)) (MS x))))
        (broadcastInDim Cert.NormRIdeal.S2x4096x1 ![] Cert.NormRIdeal.Gen.bcast_S_S2x4096x1
          (constant Cert.NormRIdeal.S_ .f32 0x44800000#32)))
      (constant Cert.NormRIdeal.S_ .f32 0x00000000#32) Cert.NormRIdeal.Gen.reducesTo_S2x4096x1_S2x4096_d2
      Cert.NormRIdeal.Gen.h_S_)

/-- The gradient of the rows, the residual's gradient added. -/
abbrev DX (x : FVec Ideal Cert.NormRIdeal.S2x4096x1024 .f32) (w : FVec Ideal Cert.NormRIdeal.S1024 .f32)
    (sc : FVec Ideal Cert.NormRIdeal.S2x1024 .f32) (dy dres : FVec Ideal Cert.NormRIdeal.S2x4096x1024 .f32) :
    FVec Ideal Cert.NormRIdeal.S8192x1024 .f32 :=
  shapeCast _ (addf (addf (addf dres (mulf (mulf (DN sc dy) (WROWS w))
      (broadcastInDim Cert.NormRIdeal.S2x4096x1024 ![0, 1, 2] Cert.NormRIdeal.Gen.bcast_S2x4096x1_S2x4096x1024_0_1_2
        (Host.rsqrt (MS x))))) (mulf x (CROW x w (DN sc dy)))) (mulf (CROW x w (DN sc dy)) x))
    Cert.NormRIdeal.Gen.shapeCasts_S2x4096x1024_S8192x1024

/-- The gradient of the norm's weight. -/
abbrev DW (x : FVec Ideal Cert.NormRIdeal.S2x4096x1024 .f32) (sc : FVec Ideal Cert.NormRIdeal.S2x1024 .f32)
    (dy : FVec Ideal Cert.NormRIdeal.S2x4096x1024 .f32) : FVec Ideal Cert.NormRIdeal.S1x1024 .f32 :=
  shapeCast _ (Host.reduceAdd (shapeCast _ (Host.reduceAdd (mulf (XN x) (DN sc dy))
      (constant Cert.NormRIdeal.S_ .f32 0x00000000#32) Cert.NormRIdeal.Gen.reducesTo_S2x4096x1024_S1024_d0_1 Cert.NormRIdeal.Gen.h_S_)
      Cert.NormRIdeal.Gen.shapeCasts_S1024_S1x1x1024)
    (constant Cert.NormRIdeal.S_ .f32 0x00000000#32) Cert.NormRIdeal.Gen.reducesTo_S1x1x1024_S1024_d0_1 Cert.NormRIdeal.Gen.h_S_)
    Cert.NormRIdeal.Gen.shapeCasts_S1024_S1x1024

/-- The sum of the rows of each batch row. -/
abbrev ROWSUM (z : FVec Ideal Cert.NormRIdeal.S2x4096x1024 .f32) : FVec Ideal Cert.NormRIdeal.S2x1x1024 .f32 :=
  shapeCast _ (Host.reduceAdd (shapeCast _ (Host.reduceAdd z
      (constant Cert.NormRIdeal.S_ .f32 0x00000000#32) Cert.NormRIdeal.Gen.reducesTo_S2x4096x1024_S2x1024_d1 Cert.NormRIdeal.Gen.h_S_)
      Cert.NormRIdeal.Gen.shapeCasts_S2x1024_S2x1x1024)
    (constant Cert.NormRIdeal.S_ .f32 0x00000000#32) Cert.NormRIdeal.Gen.reducesTo_S2x1x1024_S2x1024_d1 Cert.NormRIdeal.Gen.h_S_)
    Cert.NormRIdeal.Gen.shapeCasts_S2x1024_S2x1x1024

/-! ## The blocks the body reads -/

theorem idx : ∀ t : Fin cfg0.N, win0_0.index t = ![t.val, 0] ∧ win0_1.index t = ![0, 0]
    ∧ win0_2.index t = ![t.val / 16, 0, 0] ∧ win0_3.index t = ![t.val / 16, 0, 0] ∧ win0_4.index t = ![t.val, 0]
    ∧ win0_5.index t = ![t.val, 0] ∧ win0_6.index t = ![0, 0] ∧ win0_7.index t = ![t.val, 0]
    ∧ win0_8.index t = ![0, 0] ∧ win0_9.index t = ![t.val / 16, 0, 0] ∧ win0_10.index t = ![t.val / 16, 0, 0] :=
  (by decide +kernel : ∀ t : Fin grid0.N, _)

theorem bound (t : Fin cfg0.N) : t.val < 32 := lt_of_lt_of_eq t.isLt N_0

/-- Row `4096 a + s` of an array of 8192 rows is position `s` of batch row `a`. -/
theorem rows (X : FVec Ideal S2x4096x1024 .f32) (i : S8192x1024.Idx) (a : Fin 2) (s : Fin 4096)
    (h : (i 0).val = a.val * 4096 + s.val) :
    shapeCast S8192x1024 X shapeCasts_S2x4096x1024_S8192x1024 i = X (ix3 a s (i 1)) := by
  pointwise
  blk_ext

theorem wideRows (X : FVec Ideal S2x4096x5632 .bf16) (i : S8192x5632.Idx) (a : Fin 2) (s : Fin 4096)
    (h : (i 0).val = a.val * 4096 + s.val) :
    shapeCast S8192x5632 X shapeCasts_S2x4096x5632_S8192x5632 i = X (ix3 a s (i 1)) := by
  pointwise
  blk_ext

theorem perBatch (X : FVec Ideal S2x1024 .f32) (i : S2x1x1024.Idx) :
    shapeCast S2x1x1024 X shapeCasts_S2x1024_S2x1x1024 i = X (ix2 (i 0) (i 2)) := by
  pointwise
  blk_ext

theorem op0 (c : Dev nD) (i : S8192x1024.Idx) (a : Fin 2) (s : Fin 4096) (h : (i 0).val = a.val * 4096 + s.val) :
    (V m c main_v0 : FVec Ideal S8192x1024 .f32) i
      = (m ((c : Thread nD τ).loc main_arg0) : FVec Ideal S2x4096x1024 .f32) (ix3 a s (i 1)) := by
  entry_read
  exact rows _ i a s h

theorem op1 (c : Dev nD) (i : S1x1024.Idx) :
    (V m c main_v1 : FVec Ideal S1x1024 .f32) i = (m ((c : Thread nD τ).loc main_arg1) : FVec Ideal S1024 .f32) (ix1 (i 1)) := by
  entry_read
  show broadcastInDim S1x1024 ![1] bcast_S1024_S1x1024_1 (m ((c : Thread nD τ).loc main_arg1) : FVec Ideal S1024 .f32) i = _
  pointwise
  blk_ext

theorem op3 (c : Dev nD) (i : S2x1x1024.Idx) : (V m c main_v3 : FVec Ideal S2x1x1024 .f32) i
    = (m ((c : Thread nD τ).loc main_arg3) : FVec Ideal S2x1024 .f32) (ix2 (i 0) (i 2)) := by
  entry_read
  exact perBatch _ i

theorem op4 (c : Dev nD) (i : S8192x5632.Idx) (a : Fin 2) (s : Fin 4096) (h : (i 0).val = a.val * 4096 + s.val) :
    (V m c main_v4 : FVec Ideal S8192x5632 .bf16) i
      = (m ((c : Thread nD τ).loc main_arg5) : FVec Ideal S2x4096x5632 .bf16) (ix3 a s (i 1)) := by
  entry_read
  exact wideRows _ i a s h

theorem op5 (c : Dev nD) (i : S8192x1024.Idx) (a : Fin 2) (s : Fin 4096) (h : (i 0).val = a.val * 4096 + s.val) :
    (V m c main_v5 : FVec Ideal S8192x1024 .f32) i
      = (m ((c : Thread nD τ).loc main_arg6) : FVec Ideal S2x4096x1024 .f32) (ix3 a s (i 1)) := by
  entry_read
  exact rows _ i a s h

theorem op6 (c : Dev nD) (i : S1024x5632.Idx) : (V m c main_v6 : FVec Ideal S1024x5632 .bf16) i
    = (m ((c : Thread nD τ).loc main_arg4) : FVec Ideal S1024x5632 .f32) i := by
  entry_read
  rfl

theorem blk0 (c : Dev nD) (t : Fin cfg0.N) (x : S256x1024.Idx) (a : Fin 2) (s : Fin 4096) (j : Fin 1024)
    (h : t.val * 256 + (x 0).val = a.val * 4096 + s.val) (hj : (x 1).val = j.val) :
    (iblk m c 0 t : FVec Ideal S256x1024 .f32) x
      = (m ((c : Thread nD τ).loc main_arg0) : FVec Ideal S2x4096x1024 .f32) (ix3 a s j) := by
  blk_simp [iblk]
  refine (op0 m c _ a s (by blk_simp [idx t]; omega)).trans ?_
  blk_ext [idx t]

theorem blk1 (c : Dev nD) (t : Fin cfg0.N) (x : S1x1024.Idx) (j : Fin 1024) (hj : (x 1).val = j.val) :
    (iblk m c 1 t : FVec Ideal S1x1024 .f32) x = (m ((c : Thread nD τ).loc main_arg1) : FVec Ideal S1024 .f32) (ix1 j) := by
  blk_simp [iblk]
  refine (op1 m c _).trans ?_
  blk_ext [idx t]

theorem blk3 (c : Dev nD) (t : Fin cfg0.N) (x : S1x1x1024.Idx) (a : Fin 2) (j : Fin 1024)
    (h : t.val / 16 = a.val) (hj : (x 2).val = j.val) : (iblk m c 3 t : FVec Ideal S1x1x1024 .f32) x
    = (m ((c : Thread nD τ).loc main_arg3) : FVec Ideal S2x1024 .f32) (ix2 a j) := by
  blk_simp [iblk]
  refine (op3 m c _).trans ?_
  blk_ext [idx t]

theorem blk4 (c : Dev nD) (t : Fin cfg0.N) (x : S256x5632.Idx) (a : Fin 2) (s : Fin 4096) (j : Fin 5632)
    (h : t.val * 256 + (x 0).val = a.val * 4096 + s.val) (hj : (x 1).val = j.val) :
    (iblk m c 4 t : FVec Ideal S256x5632 .bf16) x
      = (m ((c : Thread nD τ).loc main_arg5) : FVec Ideal S2x4096x5632 .bf16) (ix3 a s j) := by
  blk_simp [iblk]
  refine (op4 m c _ a s (by blk_simp [idx t]; omega)).trans ?_
  blk_ext [idx t]

theorem blk5 (c : Dev nD) (t : Fin cfg0.N) (x : S256x1024.Idx) (a : Fin 2) (s : Fin 4096) (j : Fin 1024)
    (h : t.val * 256 + (x 0).val = a.val * 4096 + s.val) (hj : (x 1).val = j.val) :
    (iblk m c 5 t : FVec Ideal S256x1024 .f32) x
      = (m ((c : Thread nD τ).loc main_arg6) : FVec Ideal S2x4096x1024 .f32) (ix3 a s j) := by
  blk_simp [iblk]
  refine (op5 m c _ a s (by blk_simp [idx t]; omega)).trans ?_
  blk_ext [idx t]

theorem blk6 (c : Dev nD) (t : Fin cfg0.N) (x i : S1024x5632.Idx) (h0 : (x 0).val = (i 0).val) (h1 : (x 1).val = (i 1).val) :
    (iblk m c 6 t : FVec Ideal S1024x5632 .bf16) x
      = (m ((c : Thread nD τ).loc main_arg4) : FVec Ideal S1024x5632 .f32) i := by
  blk_simp [iblk]
  refine (op6 m c _).trans ?_
  blk_ext [idx t]

/-! ## What a point computes -/

/-- The product the body takes its row gradient through. -/
theorem dy_at (c : Dev nD) (t : Fin cfg0.N) (x : S256x1024.Idx) (a : Fin 2) (s : Fin 4096) (j : Fin 1024)
    (h : t.val * 256 + (x 0).val = a.val * 4096 + s.val) (hj : (x 1).val = j.val) :
    k0_pay6 (iblk m c 4 t) (iblk m c 6 t) x
      = DY (m ((c : Thread nD τ).loc main_arg5)) (m ((c : Thread nD τ).loc main_arg4)) (ix3 a s j) := by
  pointwise [k0_pay6, DY]
  reads_congr
  · refine blk4 m c t _ _ _ _ ?_ ?_ <;> (try dsimp only) <;> first | exact h | rfl
  · refine blk6 m c t _ _ ?_ ?_ <;> (try dsimp only) <;> first | exact hj | rfl

theorem ms_at (c : Dev nD) (t : Fin cfg0.N) (x : S256x1.Idx) (a : Fin 2) (s : Fin 4096) (z : Fin 1)
    (h : t.val * 256 + (x 0).val = a.val * 4096 + s.val) :
    k0_pay10 (iblk m c 0 t) x = MS (m ((c : Thread nD τ).loc main_arg0)) (ix3 a s z) := by
  pointwise [k0_pay10, k0_pay7, MS]
  reads_congr
  · refine blk0 m c t _ _ _ _ ?_ ?_ <;> (try dsimp only) <;> first | exact h | rfl

theorem reassoc (a b c d : EReal) : a + (b + c + d) = a + b + c + d := by
  rw [← add_assoc, ← add_assoc]

set_option maxHeartbeats 1000000 in
theorem dx_at (c : Dev nD) (t : Fin cfg0.N) (y : S256x1024.Idx) (i : S8192x1024.Idx)
    (h0 : (i 0).val = t.val * 256 + (y 0).val) (h1 : (i 1).val = (y 1).val) :
    k0_pay17 (k0_pay6 (iblk m c 4 t) (iblk m c 6 t)) (k0_pay7 (iblk m c 0 t)) (k0_pay8 (iblk m c 1 t))
        (k0_pay9 (iblk m c 3 t)) (k0_pay11 (iblk m c 0 t)) (k0_pay12 (iblk m c 0 t))
        (FloatOps.ofBits FTy.f32 1065353216#32) (iblk m c 5 t) y
      = DX (m ((c : Thread nD τ).loc main_arg0)) (m ((c : Thread nD τ).loc main_arg1)) (m ((c : Thread nD τ).loc main_arg3))
        (DY (m ((c : Thread nD τ).loc main_arg5)) (m ((c : Thread nD τ).loc main_arg4))) (m ((c : Thread nD τ).loc main_arg6)) i := by
  have ht := bound t
  have hy : (y 0).val < 256 := (y 0).isLt
  pointwise [k0_pay17, k0_pay7, k0_pay8, k0_pay9, k0_pay11, k0_pay12, k0_pay16, DX]
  refine (reassoc _ _ _ _).trans ?_
  reads_congr
  all_goals first
    | refine blk5 m c t _ _ _ _ ?_ ?_ <;> (try blk_simp) <;> (try dsimp only) <;> omega
    | refine blk0 m c t _ _ _ _ ?_ ?_ <;> (try blk_simp) <;> (try dsimp only) <;> omega
    | refine dy_at m c t _ _ _ _ ?_ ?_ <;> (try blk_simp) <;> (try dsimp only) <;> omega
    | refine blk3 m c t _ _ _ ?_ ?_ <;> (try blk_simp) <;> (try dsimp only) <;> omega
    | refine blk1 m c t _ _ ?_ <;> (try blk_simp) <;> (try dsimp only) <;> omega
    | refine ms_at m c t _ _ _ _ ?_ <;> (try blk_simp) <;> (try dsimp only) <;> omega

theorem final7 (c : Dev nD) : (dats m 0 c).arrAt 7 (cfgs 0).N
    = DX (m ((c : Thread nD τ).loc main_arg0)) (m ((c : Thread nD τ).loc main_arg1)) (m ((c : Thread nD τ).loc main_arg3))
        (DY (m ((c : Thread nD τ).loc main_arg5)) (m ((c : Thread nD τ).loc main_arg4))) (m ((c : Thread nD τ).loc main_arg6)) := by
  refine (dats m 0 c).arrAt_eq_of_covers 7 _ (by decide +kernel) fun t _ y => ?_
  have hy0 : ((((View.whole main_v7_0).slice (win0_7.rect t)).emb y) 0).val = t.val * 256 + (y 0).val := by
    blk_simp [idx t]
  have hy1 : ((((View.whole main_v7_0).slice (win0_7.rect t)).emb y) 1).val = (y 1).val := by
    blk_simp [idx t]
  blk_simp
  rw [after0_7]
  by_cases h0 : t.val % 32 = 0
  · have h1 : t.val % 16 = 0 := by omega
    rw [outsAt0_A m c t h0 h1]
    frame_out
    exact dx_at m c t y _ hy0 hy1
  · by_cases h1 : t.val % 16 = 0
    · rw [outsAt0_C m c t h0 h1]
      frame_out
      exact dx_at m c t y _ hy0 hy1
    · rw [outsAt0_B m c t h0 h1]
      frame_out
      exact dx_at m c t y _ hy0 hy1

/-- The run of the weight's gradient: zero at the first tile, a tile's rows added at each. -/
theorem stepW (dy : FVec Ideal S256x1024 .f32) (sc : FVec Ideal S1x1024 .f32) (xn : FVec Ideal S256x1024 .f32)
    (one : Ideal .f32) (acc : Vec Ideal S1x1024 .f32) (j : S1x1024.Idx) :
    k0_pay18 dy sc xn one acc j = acc j + k0_pay18 dy sc xn one (fun _ => 0) j := by
  pointwise [k0_pay18]

theorem zeroW (j : S1x1024.Idx) : k0_pay3 (F := Ideal) j = 0 := by
  pointwise! [k0_pay3]

theorem DW_at (x : FVec Ideal Cert.NormRIdeal.S2x4096x1024 .f32) (sc : FVec Ideal Cert.NormRIdeal.S2x1024 .f32)
    (dy : FVec Ideal Cert.NormRIdeal.S2x4096x1024 .f32) (i : Cert.NormRIdeal.S1x1024.Idx) : DW x sc dy i
      = ∑ a : Fin 2, ∑ s : Fin 4096, x (ix3 a s (i 1)) * Ideal.rsqrt (MS x (ix3 a s 0))
          * (dy (ix3 a s (i 1)) * (1 + sc (ix2 a (i 1)))) := by
  unfold DW
  pointwise
  rw [SumRows.at_index]
  pointwise
  rw [SumRows.at_index]
  pointwise
  simp only [Fin.sum_univ_one, Fin.isValue]

theorem final8 (c : Dev nD) : (dats m 0 c).arrAt 8 (cfgs 0).N
    = DW (m ((c : Thread nD τ).loc main_arg0)) (m ((c : Thread nD τ).loc main_arg3))
        (DY (m ((c : Thread nD τ).loc main_arg5)) (m ((c : Thread nD τ).loc main_arg4))) := by
  refine (dats m 0 c).arrAt_eq_of_covers 8 _ (by decide +kernel) fun t hf y => ?_
  blk_simp
  have hr := Pipeline.eq_sum_fin_of_reset_step_apply_of_flush (fun n h => (outsAt0 m c n h).2.1) 32 (fun _ => 0)
    (fun p => k0_pay18 (k0_pay6 (iblk m c 4 p) (iblk m c 6 p)) (k0_pay9 (iblk m c 3 p)) (k0_pay13 (iblk m c 0 p))
        (FloatOps.ofBits FTy.f32 1065353216#32) (fun _ => 0))
    (fun t h j => by rw [outsAt0_A m c t h (by omega)]; frame_out; rw [stepW, zeroW])
    (fun t h j => by
      by_cases h1 : t.val % 16 = 0
      · rw [outsAt0_C m c t h h1]; frame_out; rw [stepW]
      · rw [outsAt0_B m c t h h1]; frame_out; rw [stepW])
    t ((flush0_8 t).mp hf)
  rw [after0_8, hr, zero_add]
  rw [DW_at]
  pointwise [k0_pay18, k0_pay13, k0_pay9, k0_pay7, k0_pay11, k0_pay16]
  refine Fin.sum_points_lanes_congr 16 fun p k ha hl => ?_
  have hq : (⟨32 * (t.val / 32) + p.val, Pipeline.run_point_lt_of_flush t ((flush0_8 t).mp hf) p⟩ : Fin cfg0.N)
      = ⟨p.val, lt_of_lt_of_eq p.isLt N_0.symm⟩ := Fin.ext (by have := bound t; dsimp only; omega)
  rw [hq]
  reads_congr
  · refine blk0 m c _ _ _ _ _ ?_ ?_ <;> blk_simp [idx t] <;> (try dsimp only) <;> omega
  · refine ms_at m c _ _ _ _ _ ?_ <;> blk_simp <;> (try dsimp only) <;> omega
  · refine dy_at m c _ _ _ _ _ ?_ ?_ <;> blk_simp [idx t] <;> (try dsimp only) <;> omega
  · refine blk3 m c _ _ _ _ ?_ ?_ <;> blk_simp [idx t] <;> (try dsimp only) <;> omega

/-! ## The two runs per batch row -/

theorem stepS (dy : FVec Ideal S256x1024 .f32) (acc : Vec Ideal S1x1x1024 .f32) (j : S1x1x1024.Idx) :
    k0_pay1 (k0_pay19 dy acc) j = acc j + k0_pay1 (k0_pay19 dy fun _ => 0) j := by
  pointwise [k0_pay1, k0_pay19]

theorem zeroS (j : S1x1x1024.Idx) : k0_pay4 (F := Ideal) j = 0 := by
  pointwise! [k0_pay4]

theorem stepC (z : FVec Ideal S1x1024 .f32) (acc : Vec Ideal S1x1x1024 .f32) (j : S1x1x1024.Idx) :
    k0_pay2 z acc j = acc j + k0_pay2 z (fun _ => 0) j := by
  pointwise [k0_pay2]

theorem zeroC (j : S1x1x1024.Idx) : k0_pay5 (F := Ideal) j = 0 := by
  pointwise! [k0_pay5]

theorem final9 (c : Dev nD) : (dats m 0 c).arrAt 9 (cfgs 0).N
    = ROWSUM (DY (m ((c : Thread nD τ).loc main_arg5)) (m ((c : Thread nD τ).loc main_arg4))) := by
  refine (dats m 0 c).arrAt_eq_of_covers 9 _ (by decide +kernel) fun t hf y => ?_
  blk_simp
  have hr := Pipeline.eq_sum_fin_of_reset_step_apply_of_flush (fun n h => (outsAt0 m c n h).2.2.1) 16 (fun _ => 0)
    (fun p => k0_pay1 (k0_pay19 (k0_pay6 (iblk m c 4 p) (iblk m c 6 p)) (fun _ => 0)))
    (fun t h j => by
      by_cases h0 : t.val % 32 = 0
      · rw [outsAt0_A m c t h0 h]; frame_out; rw [stepS, zeroS]
      · rw [outsAt0_C m c t h0 h]; frame_out; rw [stepS, zeroS])
    (fun t h j => by rw [outsAt0_B m c t (by omega) h]; frame_out; rw [stepS])
    t ((flush0_9 t).mp hf)
  rw [after0_9, hr, zero_add]
  pointwise [k0_pay1, k0_pay19, ROWSUM]
  simp only [Fin.sum_univ_one, Fin.isValue]
  refine Fin.sum_mul_add_congr fun p k hl => ?_
  have ht := bound t
  reads_congr
  · refine dy_at m c _ _ _ _ _ ?_ ?_ <;> blk_simp [idx t] <;> (try dsimp only) <;> omega

theorem final10 (c : Dev nD) : (dats m 0 c).arrAt 10 (cfgs 0).N
    = ROWSUM (mulf (mulf (XN (m ((c : Thread nD τ).loc main_arg0))) (WROWS (m ((c : Thread nD τ).loc main_arg1))))
        (DY (m ((c : Thread nD τ).loc main_arg5)) (m ((c : Thread nD τ).loc main_arg4)))) := by
  refine (dats m 0 c).arrAt_eq_of_covers 10 _ (by decide +kernel) fun t hf y => ?_
  blk_simp
  have hr := Pipeline.eq_sum_fin_of_reset_step_apply_of_flush (fun n h => (outsAt0 m c n h).2.2.2) 16 (fun _ => 0)
    (fun p => k0_pay2 (k0_pay15 (k0_pay6 (iblk m c 4 p) (iblk m c 6 p)) (k0_pay14 (iblk m c 0 p) (iblk m c 1 p)))
      (fun _ => 0))
    (fun t h j => by
      by_cases h0 : t.val % 32 = 0
      · rw [outsAt0_A m c t h0 h]; frame_out; rw [stepC, zeroC]
      · rw [outsAt0_C m c t h0 h]; frame_out; rw [stepC, zeroC])
    (fun t h j => by rw [outsAt0_B m c t (by omega) h]; frame_out; rw [stepC])
    t ((flush0_10 t).mp hf)
  rw [after0_10, hr, zero_add]
  pointwise [k0_pay2, k0_pay15, k0_pay14, k0_pay13, k0_pay7, k0_pay8, k0_pay11, ROWSUM]
  simp only [Fin.sum_univ_one, Fin.isValue]
  refine Fin.sum_mul_add_congr fun p k hl => ?_
  have ht := bound t
  reads_congr
  · refine blk0 m c _ _ _ _ _ ?_ ?_ <;> blk_simp [idx t] <;> (try dsimp only) <;> omega
  · refine ms_at m c _ _ _ _ _ ?_ <;> blk_simp [idx t] <;> (try dsimp only) <;> omega
  · refine blk1 m c _ _ _ ?_ <;> blk_simp [idx t] <;> (try dsimp only) <;> omega
  · refine dy_at m c _ _ _ _ _ ?_ ?_ <;> blk_simp [idx t] <;> (try dsimp only) <;> omega

end Cert.NormKIdeal.Val

end
-- ==== Proof.Down.lean ====
/- The backward call of the down projection (`resid_down_bwd`): its three result arrays are the
   reference's three terms — `df` and `dact` tile by tile, `dgate2` a run of eight tiles per batch row. -/
module

public import proofs.«01_k».proof.Proof.Gen.DownKIdeal.Frame
public import proofs.«01_k».proof.Proof.Gen.DownRIdeal.Run
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)
open scoped BigOperators

namespace Cert.DownKIdeal.Val

open Cert.DownKIdeal Cert.DownKIdeal.Gen

variable (m : (ℓ : Loc nD τ sig) → Buf (Elt Ideal) ℓ)

/-- The reference's `gate * dx`, before it is reshaped. -/
abbrev GDX (g : FVec Ideal Cert.DownRIdeal.S2x1024 .f32) (dx : FVec Ideal Cert.DownRIdeal.S2x4096x1024 .f32) :
    FVec Ideal Cert.DownRIdeal.S2x4096x1024 .f32 :=
  mulf (broadcastInDim Cert.DownRIdeal.S2x4096x1024 ![0, 1, 2] Cert.DownRIdeal.Gen.bcast_S2x1x1024_S2x4096x1024_0_1_2
    (broadcastInDim Cert.DownRIdeal.S2x1x1024 ![0, 2] Cert.DownRIdeal.Gen.bcast_S2x1024_S2x1x1024_0_2 g)) dx

/-- The reference's gradient of the projection's result. -/
abbrev DF (g : FVec Ideal Cert.DownRIdeal.S2x1024 .f32) (dx : FVec Ideal Cert.DownRIdeal.S2x4096x1024 .f32) :
    FVec Ideal Cert.DownRIdeal.S8192x1024 .bf16 :=
  truncf .bf16 (shapeCast _ (GDX g dx) Cert.DownRIdeal.Gen.shapeCasts_S2x4096x1024_S8192x1024)
    Cert.DownRIdeal.Gen.bitsLt_bf16_f32

/-- The down projection itself, `act @ w_down`. -/
def FOUT (a : FVec Ideal Cert.DownRIdeal.S2x4096x2816 .bf16) (w : FVec Ideal Cert.DownRIdeal.S2816x1024 .f32) :
    FVec Ideal Cert.DownRIdeal.S2x4096x1024 .f32 :=
  Host.dotGeneral Cert.DownRIdeal.dot_S2x4096x2816_S2816x1024_S2x4096x1024_2_0_01_1_n_n none
    (extf .f32 a Cert.DownRIdeal.Gen.bitsLt_bf16_f32) w

/-- The reference's gradient of the gate. -/
abbrev DGATE (a : FVec Ideal Cert.DownRIdeal.S2x4096x2816 .bf16) (w : FVec Ideal Cert.DownRIdeal.S2816x1024 .f32)
    (dx : FVec Ideal Cert.DownRIdeal.S2x4096x1024 .f32) : FVec Ideal Cert.DownRIdeal.S2x1x1024 .f32 :=
  shapeCast _ (Host.reduceAdd (shapeCast _ (Host.reduceAdd (mulf dx (FOUT a w))
      (constant Cert.DownRIdeal.S_ .f32 0x00000000#32) Cert.DownRIdeal.Gen.reducesTo_S2x4096x1024_S2x1024_d1 Cert.DownRIdeal.Gen.h_S_)
      Cert.DownRIdeal.Gen.shapeCasts_S2x1024_S2x1x1024)
    (constant Cert.DownRIdeal.S_ .f32 0x00000000#32) Cert.DownRIdeal.Gen.reducesTo_S2x1x1024_S2x1024_d1 Cert.DownRIdeal.Gen.h_S_)
    Cert.DownRIdeal.Gen.shapeCasts_S2x1024_S2x1x1024

/-- The reference's gradient of the projection's operand. -/
abbrev DACT (g : FVec Ideal Cert.DownRIdeal.S2x1024 .f32) (w : FVec Ideal Cert.DownRIdeal.S2816x1024 .f32)
    (dx : FVec Ideal Cert.DownRIdeal.S2x4096x1024 .f32) : FVec Ideal Cert.DownRIdeal.S8192x2816 .f32 :=
  shapeCast _ (Host.dotGeneral Cert.DownRIdeal.dot_S2x4096x1024_S2816x1024_S2x4096x2816_2_1_01_0_n_n none (GDX g dx) w)
    Cert.DownRIdeal.Gen.shapeCasts_S2x4096x2816_S8192x2816

/-- Where each window stands at point `t`. -/
theorem idx : ∀ t : Fin cfg0.N, win0_0.index t = ![t.val, 0] ∧ win0_1.index t = ![t.val, 0]
    ∧ win0_2.index t = ![t.val / 8, 0, 0] ∧ win0_3.index t = ![0, 0] ∧ win0_4.index t = ![t.val, 0]
    ∧ win0_5.index t = ![t.val / 8, 0, 0] ∧ win0_6.index t = ![t.val, 0] :=
  (by decide +kernel : ∀ t : Fin grid0.N, _)

theorem bound (t : Fin cfg0.N) : t.val < 16 := lt_of_lt_of_eq t.isLt N_0

/-- Row `4096 a + s` of an array of 8192 rows is position `s` of batch row `a`. -/
theorem rows (X : FVec Ideal S2x4096x1024 .f32) (i : S8192x1024.Idx) (a : Fin 2) (s : Fin 4096)
    (h : (i 0).val = a.val * 4096 + s.val) :
    shapeCast S8192x1024 X shapeCasts_S2x4096x1024_S8192x1024 i = X (ix3 a s (i 1)) := by
  pointwise
  blk_ext

theorem op0 (c : Dev nD) (i : S8192x1024.Idx) (a : Fin 2) (s : Fin 4096) (h : (i 0).val = a.val * 4096 + s.val) :
    (V m c main_v4 : FVec Ideal S8192x1024 .f32) i
      = (m ((c : Thread nD τ).loc main_arg3) : FVec Ideal S2x4096x1024 .f32) (ix3 a s (i 1)) := by
  entry_read
  exact rows _ i a s h

theorem op1 (c : Dev nD) (i : S8192x1024.Idx) (a : Fin 2) (s : Fin 4096) (h : (i 0).val = a.val * 4096 + s.val) :
    (V m c main_v3 : FVec Ideal S8192x1024 .bf16) i
      = FOUT (m ((c : Thread nD τ).loc main_arg0)) (m ((c : Thread nD τ).loc main_arg2)) (ix3 a s (i 1)) := by
  entry_read
  exact rows (FOUT (m ((c : Thread nD τ).loc main_arg0)) (m ((c : Thread nD τ).loc main_arg2))) i a s h

theorem op2 (c : Dev nD) (i : S2x1x1024.Idx) : (V m c main_v5 : FVec Ideal S2x1x1024 .f32) i
    = (m ((c : Thread nD τ).loc main_arg1) : FVec Ideal S2x1024 .f32) (ix2 (i 0) (i 2)) := by
  entry_read
  show shapeCast S2x1x1024 (m ((c : Thread nD τ).loc main_arg1) : FVec Ideal S2x1024 .f32) _ i = _
  pointwise
  blk_ext

theorem op3 (c : Dev nD) (i : S2816x1024.Idx) : (V m c main_v6 : FVec Ideal S2816x1024 .bf16) i
    = (m ((c : Thread nD τ).loc main_arg2) : FVec Ideal S2816x1024 .f32) i := by
  entry_read
  rfl

theorem blk0 (c : Dev nD) (t : Fin cfg0.N) (x : S512x1024.Idx) (a : Fin 2) (s : Fin 4096) (j : Fin 1024)
    (h : t.val * 512 + (x 0).val = a.val * 4096 + s.val) (hj : (x 1).val = j.val) :
    (iblk m c 0 t : FVec Ideal S512x1024 .f32) x
      = (m ((c : Thread nD τ).loc main_arg3) : FVec Ideal S2x4096x1024 .f32) (ix3 a s j) := by
  blk_simp [iblk]
  refine (op0 m c _ a s (by blk_simp [idx t]; omega)).trans ?_
  blk_ext [idx t]

theorem blk1 (c : Dev nD) (t : Fin cfg0.N) (x : S512x1024.Idx) (a : Fin 2) (s : Fin 4096) (j : Fin 1024)
    (h : t.val * 512 + (x 0).val = a.val * 4096 + s.val) (hj : (x 1).val = j.val) :
    (iblk m c 1 t : FVec Ideal S512x1024 .bf16) x
      = FOUT (m ((c : Thread nD τ).loc main_arg0)) (m ((c : Thread nD τ).loc main_arg2)) (ix3 a s j) := by
  blk_simp [iblk]
  refine (op1 m c _ a s (by blk_simp [idx t]; omega)).trans ?_
  blk_ext [idx t]

theorem blk2 (c : Dev nD) (t : Fin cfg0.N) (x : S1x1x1024.Idx) (a : Fin 2) (j : Fin 1024)
    (h : t.val / 8 = a.val) (hj : (x 2).val = j.val) : (iblk m c 2 t : FVec Ideal S1x1x1024 .f32) x
    = (m ((c : Thread nD τ).loc main_arg1) : FVec Ideal S2x1024 .f32) (ix2 a j) := by
  blk_simp [iblk]
  refine (op2 m c _).trans ?_
  blk_ext [idx t]

theorem blk3 (c : Dev nD) (t : Fin cfg0.N) (x i : S2816x1024.Idx) (h : ∀ a, (x a).val = (i a).val) :
    (iblk m c 3 t : FVec Ideal S2816x1024 .bf16) x
      = (m ((c : Thread nD τ).loc main_arg2) : FVec Ideal S2816x1024 .f32) i := by
  have h0 := h 0
  have h1 := h 1
  blk_simp [iblk]
  refine (op3 m c _).trans ?_
  blk_ext [idx t]

theorem final4 (c : Dev nD) : (dats m 0 c).arrAt 4 (cfgs 0).N
    = DF (m ((c : Thread nD τ).loc main_arg1)) (m ((c : Thread nD τ).loc main_arg3)) := by
  refine (dats m 0 c).arrAt_eq_of_covers 4 _ (by decide +kernel) fun t _ y => ?_
  blk_simp
  rw [after0_4]
  have hp : k0_pay3 (iblk m c 0 t) (iblk m c 2 t) y
      = DF (m ((c : Thread nD τ).loc main_arg1)) (m ((c : Thread nD τ).loc main_arg3)) (((cfg0.win 4).blk t).view.emb y) := by
    pointwise [k0_pay3, k0_pay2, DF, GDX]
    reads_congr
    · refine blk2 m c t _ _ _ ?_ ?_ <;> blk_simp [idx t] <;> idx_bounds <;> (try dsimp only) <;> omega
    · refine blk0 m c t _ _ _ _ ?_ ?_ <;> blk_simp [idx t] <;> idx_bounds <;> (try dsimp only) <;> omega
  by_cases h : t.val % 8 = 0
  · rw [outsAt0_A m c t h]
    frame_out
    exact hp
  · rw [outsAt0_B m c t h]
    frame_out
    exact hp

theorem final6 (c : Dev nD) : (dats m 0 c).arrAt 6 (cfgs 0).N
    = DACT (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  have hp : k0_pay5 (iblk m c 0 t) (iblk m c 2 t) (iblk m c 3 t) y
      = DACT (m ((c : Thread nD τ).loc main_arg1)) (m ((c : Thread nD τ).loc main_arg2)) (m ((c : Thread nD τ).loc main_arg3))
        (((cfg0.win 6).blk t).view.emb y) := by
    pointwise [k0_pay5, k0_pay3, k0_pay2, DACT, GDX]
    reads_congr
    · refine blk2 m c t _ _ _ ?_ ?_ <;> blk_simp [idx t] <;> idx_bounds <;> (try dsimp only) <;> omega
    · refine blk0 m c t _ _ _ _ ?_ ?_ <;> blk_simp [idx t] <;> idx_bounds <;> (try dsimp only) <;> omega
    · refine blk3 m c t _ _ (Fin.forall_fin_two.mpr ⟨?_, ?_⟩) <;> blk_simp [idx t] <;> idx_bounds <;> (try dsimp only) <;> omega
  by_cases h : t.val % 8 = 0
  · rw [outsAt0_A m c t h]
    frame_out
    exact hp
  · rw [outsAt0_B m c t h]
    frame_out
    exact hp

theorem zero5 (j : S1x1x1024.Idx) : k0_pay1 (F := Ideal) j = 0 := by
  pointwise! [k0_pay1]

theorem step5 (x : Vec Ideal S512x1024 .f32) (acc : Vec Ideal S1x1x1024 .f32) (f : Vec Ideal S512x1024 .bf16)
    (j : S1x1x1024.Idx) : k0_pay4 x acc f j = acc j + k0_pay4 x (fun _ => 0) f j := by
  pointwise [k0_pay4]

theorem final5 (c : Dev nD) : (dats m 0 c).arrAt 5 (cfgs 0).N
    = DGATE (m ((c : Thread nD τ).loc main_arg0)) (m ((c : Thread nD τ).loc main_arg2)) (m ((c : Thread nD τ).loc main_arg3)) := by
  refine (dats m 0 c).arrAt_eq_of_covers 5 _ (by decide +kernel) fun t hf y => ?_
  blk_simp
  rw [after0_5, Pipeline.eq_sum_fin_of_reset_step_apply_of_flush (fun n h => (outsAt0 m c n h).2.1) 8 (fun _ => 0) _
    (fun t h j => by rw [outsAt0_A m c t h]; frame_out; rw [step5, zero5])
    (fun t h j => by rw [outsAt0_B m c t h]; frame_out; rw [step5])
    t ((flush0_5 t).mp hf) _, zero_add]
  pointwise [k0_pay4, k0_pay2, DGATE]
  simp only [Fin.sum_univ_one, Fin.isValue]
  refine Fin.sum_mul_add_congr fun s k hl => ?_
  reads_congr
  · refine blk0 m c _ _ _ _ _ ?_ ?_ <;> blk_simp [idx t] <;> idx_bounds <;> (try dsimp only) <;> omega
  · refine blk1 m c _ _ _ _ _ ?_ ?_ <;> blk_simp [idx t] <;> idx_bounds <;> (try dsimp only) <;> omega

end Cert.DownKIdeal.Val

end
-- ==== Proof.ConvRef.lean ====
/- The reference's gradient of the causal depthwise convolution and the gated product, at an index. -/
module

public import proofs.«01_k».proof.Proof.Gen.ConvRIdeal.Run
public import proofs.«01_k».proof.Proof.SumRows
public import Idealize.ShloMosaic.Lib.Pipeline.ValueKit

@[expose] public section

set_option maxRecDepth 65536

noncomputable section

open Idealize.ShloMosaic Idealize.ShloMosaic.TcCoe Idealize.SL.Sem
open scoped BigOperators

namespace Cert.ConvRIdeal.Val

open Cert.ConvRIdeal Cert.ConvRIdeal.Gen

variable (cw : FVec Ideal S3x5632 .f32) (cb : FVec Ideal S5632 .f32) (u : FVec Ideal S2x4096x5632 .f32)
  (d : FVec Ideal S2x4096x2816 .f32)

/-! ## At an index -/

/-- The rows the convolution meets, two rows of zeros before position 0. -/
def ROW (a : Fin 2) (n : Nat) (j : Fin 5632) : EReal :=
  if h : 2 ≤ n ∧ n < 4098 then u (ix3 a ⟨n - 2, by omega⟩ j) else 0

/-- The convolution with its bias: taps 2, 0 and 1 meet the position, the one two before and the one before. -/
def PRE (a : Fin 2) (s : Fin 4096) (j : Fin 5632) : EReal :=
  cw (ix2 2 j) * u (ix3 a s j) + cw (ix2 0 j) * ROW u a s.val j + cw (ix2 1 j) * ROW u a (s.val + 1) j + cb (ix1 j)

/-- The logistic function, as both programs spell it. -/
def SIG (z : EReal) : EReal := Ideal.div 1 (1 + Ideal.exp (-z))

/-- The gradient of the gate's half of the convolution. -/
def DGATE (a : Fin 2) (s : Fin 4096) (j : Fin 2816) : EReal :=
  let z := PRE cw cb u a s ⟨j.val, by omega⟩
  let g := d (ix3 a s j) * PRE cw cb u a s ⟨2816 + j.val, by omega⟩
  g * SIG z + z * g * (SIG z * (1 - SIG z))

/-- The gradient of the other half. -/
def DVAL (a : Fin 2) (s : Fin 4096) (j : Fin 2816) : EReal :=
  let z := PRE cw cb u a s ⟨j.val, by omega⟩
  z * SIG z * d (ix3 a s j)

/-- The gradient of the convolution. -/
def DPRE (a : Fin 2) (s : Fin 4096) (j : Fin 5632) : EReal :=
  if h : j.val < 2816 then DGATE cw cb u d a s ⟨j.val, h⟩ else DVAL cw cb u d a s ⟨j.val - 2816, by omega⟩

/-- The same, zero after the last position. -/
def DROW (a : Fin 2) (n : Nat) (j : Fin 5632) : EReal :=
  if h : n < 4096 then DPRE cw cb u d a ⟨n, h⟩ j else 0

/-- The gradient of the rows. -/
def DU (a : Fin 2) (s : Fin 4096) (j : Fin 5632) : EReal :=
  cw (ix2 2 j) * DPRE cw cb u d a s j
    + (cw (ix2 1 j) * DROW cw cb u d a (s.val + 1) j + cw (ix2 0 j) * DROW cw cb u d a (s.val + 2) j)

/-- The gradients of the three taps and of the bias, over four rows of zeros. -/
def DC (i : Fin 8) (j : Fin 5632) : EReal :=
  if i.val = 0 then ∑ a : Fin 2, ∑ s : Fin 4096, DPRE cw cb u d a s j * ROW u a s.val j
  else if i.val = 1 then ∑ a : Fin 2, ∑ s : Fin 4096, DPRE cw cb u d a s j * ROW u a (s.val + 1) j
  else if i.val = 2 then ∑ a : Fin 2, ∑ s : Fin 4096, DPRE cw cb u d a s j * u (ix3 a s j)
  else if i.val = 3 then ∑ a : Fin 2, ∑ s : Fin 4096, DPRE cw cb u d a s j
  else 0

/-! ## The reference's terms -/

abbrev ZERO : FVec Ideal S_ .f32 := constant S_ .f32 0x00000000#32

def UP : FVec Ideal S2x4098x5632 .f32 :=
  concatenate S2x4098x5632 1 [⟨S2x2x5632, broadcastInDim S2x2x5632 ![] bcast_S_S2x2x5632 ZERO⟩, ⟨S2x4096x5632, u⟩]
    concatenates_S2x2x5632_S2x4096x5632_S2x4098x5632_d1

abbrev ALONG (x : FVec Ideal S5632 .f32) : FVec Ideal S2x4096x5632 .f32 :=
  broadcastInDim S2x4096x5632 ![0, 1, 2] bcast_S1x1x5632_S2x4096x5632_0_1_2
    (broadcastInDim S1x1x5632 ![2] bcast_S5632_S1x1x5632_2 x)

abbrev TAP0 : FVec Ideal S5632 .f32 :=
  shapeCast _ (extractStridedSlice S1x5632 ![0, 0] cw slices_S3x5632_S1x5632_0_0) shapeCasts_S1x5632_S5632

abbrev TAP1 : FVec Ideal S5632 .f32 :=
  shapeCast _ (extractStridedSlice S1x5632 ![1, 0] cw slices_S3x5632_S1x5632_1_0) shapeCasts_S1x5632_S5632

abbrev TAP2 : FVec Ideal S5632 .f32 :=
  shapeCast _ (extractStridedSlice S1x5632 ![2, 0] cw slices_S3x5632_S1x5632_2_0) shapeCasts_S1x5632_S5632

abbrev UP0 : FVec Ideal S2x4096x5632 .f32 :=
  extractStridedSlice S2x4096x5632 ![0, 0, 0] (UP u) slices_S2x4098x5632_S2x4096x5632_0_0_0

abbrev UP1 : FVec Ideal S2x4096x5632 .f32 :=
  extractStridedSlice S2x4096x5632 ![0, 1, 0] (UP u) slices_S2x4098x5632_S2x4096x5632_0_1_0

def H : FVec Ideal S2x4096x5632 .f32 :=
  addf (addf (addf (mulf (ALONG (TAP2 cw)) u) (mulf (ALONG (TAP0 cw)) (UP0 u))) (mulf (ALONG (TAP1 cw)) (UP1 u)))
    (ALONG cb)

abbrev GATE : FVec Ideal S2x4096x2816 .f32 :=
  extractStridedSlice S2x4096x2816 ![0, 0, 0] (H cw cb u) slices_S2x4096x5632_S2x4096x2816_0_0_0

abbrev VAL : FVec Ideal S2x4096x2816 .f32 :=
  extractStridedSlice S2x4096x2816 ![0, 0, 2816] (H cw cb u) slices_S2x4096x5632_S2x4096x2816_0_0_2816

abbrev ONES : FVec Ideal S2x4096x2816 .f32 :=
  broadcastInDim S2x4096x2816 ![] bcast_S_S2x4096x2816 (constant S_ .f32 0x3F800000#32)

abbrev LOGISTIC (x : FVec Ideal S2x4096x2816 .f32) : FVec Ideal S2x4096x2816 .f32 :=
  Host.divf ONES (addf ONES (Host.exp (Host.negf x)))

def DH : FVec Ideal S2x4096x5632 .f32 :=
  concatenate S2x4096x5632 2
    [⟨S2x4096x2816, addf (mulf (mulf d (VAL cw cb u)) (LOGISTIC (GATE cw cb u)))
        (mulf (mulf (GATE cw cb u) (mulf d (VAL cw cb u)))
          (mulf (LOGISTIC (GATE cw cb u)) (subf ONES (LOGISTIC (GATE cw cb u)))))⟩,
     ⟨S2x4096x2816, mulf (mulf (GATE cw cb u) (LOGISTIC (GATE cw cb u))) d⟩]
    concatenates_S2x4096x2816_S2x4096x2816_S2x4096x5632_d2

def DUARR : FVec Ideal S8192x5632 .bf16 :=
  truncf .bf16 (shapeCast _ (addf (mulf (ALONG (TAP2 cw)) (DH cw cb u d))
    (extractStridedSlice S2x4096x5632 ![0, 2, 0]
      (addf (pad S2x4098x5632 ![0, 1, 0] ![0, 1, 0] ![0, 0, 0] (mulf (ALONG (TAP1 cw)) (DH cw cb u d)) ZERO
          pads_S2x4096x5632_S2x4098x5632_000_110_000 h_S_)
        (pad S2x4098x5632 ![0, 0, 0] ![0, 2, 0] ![0, 0, 0] (mulf (ALONG (TAP0 cw)) (DH cw cb u d)) ZERO
          pads_S2x4096x5632_S2x4098x5632_000_020_000 h_S_)) slices_S2x4098x5632_S2x4096x5632_0_2_0))
    shapeCasts_S2x4096x5632_S8192x5632) bitsLt_bf16_f32

def SUMS (z : FVec Ideal S2x4096x5632 .f32) : FVec Ideal S1x5632 .f32 :=
  broadcastInDim S1x5632 ![1] bcast_S5632_S1x5632_1
    (Host.reduceAdd (shapeCast _ (Host.reduceAdd z ZERO reducesTo_S2x4096x5632_S5632_d0_1 h_S_) shapeCasts_S5632_S1x1x5632)
      ZERO reducesTo_S1x1x5632_S5632_d0_1 h_S_)

def DCARR : FVec Ideal S8x5632 .f32 :=
  concatenate S8x5632 0
    [⟨S3x5632, addf (addf
        (pad S3x5632 ![1, 0] ![1, 0] ![0, 0] (SUMS (mulf (DH cw cb u d) (UP1 u))) ZERO pads_S1x5632_S3x5632_110_000 h_S_)
        (pad S3x5632 ![0, 0] ![2, 0] ![0, 0] (SUMS (mulf (DH cw cb u d) (UP0 u))) ZERO pads_S1x5632_S3x5632_020_000 h_S_))
        (pad S3x5632 ![2, 0] ![0, 0] ![0, 0] (SUMS (mulf (DH cw cb u d) u)) ZERO pads_S1x5632_S3x5632_200_000 h_S_)⟩,
     ⟨S1x5632, SUMS (DH cw cb u d)⟩, ⟨S4x5632, broadcastInDim S4x5632 ![] bcast_S_S4x5632 ZERO⟩]
    concatenates_S3x5632_S1x5632_S4x5632_S8x5632_d0

theorem out0 (m : (ℓ : Loc nD τ sig) → Buf (Elt Ideal) ℓ) (c : Dev nD) : Value.res_main_v72 m c
    = DUARR (m ((c : Thread nD τ).loc main_arg0)) (m ((c : Thread nD τ).loc main_arg1)) (m ((c : Thread nD τ).loc main_arg2))
        (m ((c : Thread nD τ).loc main_arg3)) := rfl

theorem out1 (m : (ℓ : Loc nD τ sig) → Buf (Elt Ideal) ℓ) (c : Dev nD) : Value.res_main_v70 m c
    = DCARR (m ((c : Thread nD τ).loc main_arg0)) (m ((c : Thread nD τ).loc main_arg1)) (m ((c : Thread nD τ).loc main_arg2))
        (m ((c : Thread nD τ).loc main_arg3)) := rfl

/-! ## The terms at an index -/

theorem up_at (a : Fin 2) (n : Fin 4098) (j : Fin 5632) : UP u (ix3 a n j) = ROW u a n.val j := by
  pointwise [UP, ROW]
  have hn : n.val < 4098 := n.isLt
  by_cases h : 2 ≤ n.val
  · rw [dif_neg (by omega), dif_pos h]
  · rw [dif_pos (by omega), dif_neg h]

theorem h_at (a : Fin 2) (s : Fin 4096) (j : Fin 5632) : H cw cb u (ix3 a s j) = PRE cw cb u a s j := by
  pointwise [H, PRE, up_at]
  simp only [Nat.add_comm 1]

theorem dh_at (a : Fin 2) (s : Fin 4096) (j : Fin 5632) : DH cw cb u d (ix3 a s j) = DPRE cw cb u d a s j := by
  pointwise [DH, DPRE, DGATE, DVAL, SIG, h_at]

theorem du_at (i : S8192x5632.Idx) (a : Fin 2) (s : Fin 4096) (h : (i 0).val = a.val * 4096 + s.val) :
    DUARR cw cb u d i = DU cw cb u d a s (i 1) := by
  have hi : (i 0).val < 8192 := (i 0).isLt
  obtain rfl : a = ⟨(i 0).val / 4096, Nat.div_lt_of_lt_mul hi⟩ := Fin.ext (by dsimp only; omega)
  obtain rfl : s = ⟨(i 0).val % 4096, Nat.mod_lt _ (by decide)⟩ := Fin.ext (by dsimp only; omega)
  pointwise [DUARR, DU, dh_at, DROW]
  have e1 : (i 0).val % 4096 + 2 - 1 = (i 0).val % 4096 + 1 := rfl
  simp only [e1, Nat.add_comm 2]
  split_ifs <;> first | (exfalso; omega) | rfl | pointwise [mul_zero]

theorem sums_at (z : FVec Ideal S2x4096x5632 .f32) (i : S1x5632.Idx) :
    SUMS z i = ∑ a : Fin 2, ∑ s : Fin 4096, z (ix3 a s (i 1)) := by
  unfold SUMS
  pointwise
  rw [SumRows.at_index]
  pointwise
  rw [SumRows.at_index]
  pointwise
  simp only [Fin.sum_univ_one, Fin.isValue]

theorem dc_at (i : S8x5632.Idx) : DCARR cw cb u d i = DC cw cb u d (i 0) (i 1) := by
  pointwise [DCARR, DC, sums_at, dh_at, up_at]
  simp only [Nat.add_comm 1]
  split_ifs <;> first | (exfalso; omega) | rfl | simp only [zero_add, add_zero]

end Cert.ConvRIdeal.Val

end
-- ==== Proof.Conv.lean ====
/- The backward call of the convolution and the gate (`convglu_bwd`): its tiles run from the last position of each batch
   row to the first, and what a tile gives the two positions before it is carried to the next tile run. -/
module

public import proofs.«01_k».proof.Proof.Gen.ConvKIdeal.Frame
public import proofs.«01_k».proof.Proof.ConvRef
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)
open scoped BigOperators

namespace Cert.ConvKIdeal.Val

open Cert.ConvKIdeal Cert.ConvKIdeal.Gen
open Cert.ConvRIdeal.Val (ROW PRE SIG DGATE DVAL DPRE DROW DU DC)

variable (m : (ℓ : Loc nD τ sig) → Buf (Elt Ideal) ℓ)

/-! ## The blocks the body reads -/

/-- The tile of its batch row that a point runs. -/
abbrev tile (t : Fin cfg0.N) : Nat := 15 - t.val % 16

theorem idx : ∀ t : Fin cfg0.N, win0_0.index t = ![0, 0] ∧ win0_1.index t = ![t.val / 16 * 16 + tile t, 0]
    ∧ win0_2.index t = ![(t.val / 16 * 16 + tile t) * 32 - 1, 0] ∧ win0_3.index t = ![t.val / 16 * 16 + tile t, 0]
    ∧ win0_4.index t = ![t.val / 16 * 16 + tile t, 0] ∧ win0_5.index t = ![0, 0] :=
  (by decide +kernel : ∀ t : Fin grid0.N, _)

/-- Whether a point's tile has one before it in its batch row, as the body asks. -/
theorem inner : ∀ t : Fin cfg0.N, Scalar.cmpi .sgt (Scalar.subi 15#32 (BitVec.ofNat 32 (grid0.coords t 1).val)) 0#32
    = if t.val % 16 = 15 then 0#1 else 1#1 :=
  (by decide +kernel : ∀ t : Fin grid0.N, _)

theorem bound (t : Fin cfg0.N) : t.val < 32 := lt_of_lt_of_eq t.isLt N_0

theorem rows (X : FVec Ideal S2x4096x5632 .f32) (i : S8192x5632.Idx) (a : Fin 2) (s : Fin 4096)
    (h : (i 0).val = a.val * 4096 + s.val) :
    shapeCast S8192x5632 X shapeCasts_S2x4096x5632_S8192x5632 i = X (ix3 a s (i 1)) := by
  pointwise
  blk_ext

theorem halfRows (X : FVec Ideal S2x4096x2816 .f32) (i : S8192x2816.Idx) (a : Fin 2) (s : Fin 4096)
    (h : (i 0).val = a.val * 4096 + s.val) :
    shapeCast S8192x2816 X shapeCasts_S2x4096x2816_S8192x2816 i = X (ix3 a s (i 1)) := by
  pointwise
  blk_ext

theorem opU (c : Dev nD) (i : S8192x5632.Idx) (a : Fin 2) (s : Fin 4096) (h : (i 0).val = a.val * 4096 + s.val) :
    (V m c main_v20 : FVec Ideal S8192x5632 .f32) i
      = (m ((c : Thread nD τ).loc main_arg2) : FVec Ideal S2x4096x5632 .f32) (ix3 a s (i 1)) := by
  entry_read
  exact rows _ i a s h

theorem opD (c : Dev nD) (i : S8192x2816.Idx) (a : Fin 2) (s : Fin 4096) (h : (i 0).val = a.val * 4096 + s.val) :
    (V m c main_v21 : FVec Ideal S8192x2816 .f32) i
      = (m ((c : Thread nD τ).loc main_arg3) : FVec Ideal S2x4096x2816 .f32) (ix3 a s (i 1)) := by
  entry_read
  exact halfRows _ i a s h

theorem cat8 (p q r s e f g h : FVec Ideal S1x5632 .f32) (k : Fin 8) (j : Fin 5632) (hk : k.val < 4) :
    concatenate S8x5632 0 [⟨S1x5632, p⟩, ⟨S1x5632, q⟩, ⟨S1x5632, r⟩, ⟨S1x5632, s⟩, ⟨S1x5632, e⟩, ⟨S1x5632, f⟩, ⟨S1x5632, g⟩,
      ⟨S1x5632, h⟩] concatenates_S1x5632_S1x5632_S1x5632_S1x5632_S1x5632_S1x5632_S1x5632_S1x5632_S8x5632_d0 (ix2 k j)
      = if k.val = 0 then p (ix2 0 j) else if k.val = 1 then q (ix2 0 j)
        else if k.val = 2 then r (ix2 0 j) else s (ix2 0 j) := by
  pointwise
  repeat' split
  all_goals first | (exfalso; omega) | rfl | (refine congrArg _ ?_; blk_ext)

/-- The parameters' first rows: the three taps, then the bias. -/
theorem opP (c : Dev nD) (k : Fin 8) (j : Fin 5632) (h : k.val < 4) :
    (V m c main_v19 : FVec Ideal S8x5632 .f32) (ix2 k j)
      = if k.val = 0 then (m ((c : Thread nD τ).loc main_arg0) : FVec Ideal S3x5632 .f32) (ix2 0 j)
        else if k.val = 1 then (m ((c : Thread nD τ).loc main_arg0) : FVec Ideal S3x5632 .f32) (ix2 1 j)
        else if k.val = 2 then (m ((c : Thread nD τ).loc main_arg0) : FVec Ideal S3x5632 .f32) (ix2 2 j)
        else (m ((c : Thread nD τ).loc main_arg1) : FVec Ideal S5632 .f32) (ix1 j) := by
  show StableHlo.after ([hostOps0, hostOps0_1, hostOps0_2, hostOps0_3, hostOps0_4, hostOps0_5, hostOps0_6, hostOps0_7, hostOps0_8].flatten)
      (fun b => m (c, b)) (Proc.tc.devRef main_v19) (ix2 k j) = _
  simp only [hostOps0, hostOps0_1, hostOps0_2, hostOps0_3, hostOps0_4, hostOps0_5, hostOps0_6, hostOps0_7, hostOps0_8,
    List.flatten_cons, List.flatten_nil, List.cons_append, List.nil_append, List.append_nil,
    StableHlo.TRef.binary, StableHlo.TRef.nullary, StableHlo.TRef.unary, StableHlo.TRef.toBuf, StableHlo.TRef.ofBuf, cast_eq]
  after_results
  refine (cat8 _ _ _ _ _ _ _ _ k j h).trans ?_
  dsimp only [Matrix.cons_val]
  after_results_simp
  pointwise

theorem blkT (c : Dev nD) (t : Fin cfg0.N) (x : S8x5632.Idx) (k : Fin 3) (j : Fin 5632) (h : (x 0).val = k.val)
    (hj : (x 1).val = j.val) : (iblk m c 0 t : FVec Ideal S8x5632 .f32) x
      = (m ((c : Thread nD τ).loc main_arg0) : FVec Ideal S3x5632 .f32) (ix2 k j) := by
  have hk := k.isLt
  have e : (iblk m c 0 t : FVec Ideal S8x5632 .f32) x
      = (V m c main_v19 : FVec Ideal S8x5632 .f32) (ix2 ⟨k.val, by omega⟩ j) := by
    blk_simp [iblk]
    blk_ext [idx t]
  rw [e, opP m c _ j (by dsimp only; omega)]
  fin_cases k <;> rfl

theorem blkB (c : Dev nD) (t : Fin cfg0.N) (x : S8x5632.Idx) (j : Fin 5632) (h : (x 0).val = 3)
    (hj : (x 1).val = j.val) : (iblk m c 0 t : FVec Ideal S8x5632 .f32) x
      = (m ((c : Thread nD τ).loc main_arg1) : FVec Ideal S5632 .f32) (ix1 j) := by
  have e : (iblk m c 0 t : FVec Ideal S8x5632 .f32) x
      = (V m c main_v19 : FVec Ideal S8x5632 .f32) (ix2 3 j) := by
    blk_simp [iblk]
    blk_ext [idx t]
  rw [e, opP m c _ j (by decide)]
  rfl

theorem blkU (c : Dev nD) (t : Fin cfg0.N) (x : S256x5632.Idx) (a : Fin 2) (s : Fin 4096) (j : Fin 5632)
    (h : (t.val / 16 * 16 + tile t) * 256 + (x 0).val = a.val * 4096 + s.val) (hj : (x 1).val = j.val) :
    (iblk m c 1 t : FVec Ideal S256x5632 .f32) x
      = (m ((c : Thread nD τ).loc main_arg2) : FVec Ideal S2x4096x5632 .f32) (ix3 a s j) := by
  blk_simp [iblk]
  refine (opU m c _ a s (by blk_simp [idx t]; omega)).trans ?_
  blk_ext [idx t]

theorem blkH (c : Dev nD) (t : Fin cfg0.N) (x : S8x5632.Idx) (a : Fin 2) (s : Fin 4096) (j : Fin 5632)
    (h : ((t.val / 16 * 16 + tile t) * 32 - 1) * 8 + (x 0).val = a.val * 4096 + s.val) (hj : (x 1).val = j.val) :
    (iblk m c 2 t : FVec Ideal S8x5632 .f32) x
      = (m ((c : Thread nD τ).loc main_arg2) : FVec Ideal S2x4096x5632 .f32) (ix3 a s j) := by
  blk_simp [iblk]
  refine (opU m c _ a s (by blk_simp [idx t]; omega)).trans ?_
  blk_ext [idx t]

theorem blkD (c : Dev nD) (t : Fin cfg0.N) (x : S256x2816.Idx) (a : Fin 2) (s : Fin 4096) (j : Fin 2816)
    (h : (t.val / 16 * 16 + tile t) * 256 + (x 0).val = a.val * 4096 + s.val) (hj : (x 1).val = j.val) :
    (iblk m c 3 t : FVec Ideal S256x2816 .f32) x
      = (m ((c : Thread nD τ).loc main_arg3) : FVec Ideal S2x4096x2816 .f32) (ix3 a s j) := by
  blk_simp [iblk]
  refine (opD m c _ a s (by blk_simp [idx t]; omega)).trans ?_
  blk_ext [idx t]

/-! ## What a point computes -/

/-- The tile's rows after the eight before it: row `n + 6` of them is the row `n` that the convolution meets. -/
theorem row_at (c : Dev nD) (t : Fin cfg0.N) (x : S264x5632.Idx) (a : Fin 2) (n : Nat) (j : Fin 5632)
    (ha : t.val / 16 = a.val) (hn : tile t * 256 + (x 0).val = n + 6) (h6 : 6 ≤ (x 0).val) (hj : (x 1).val = j.val) :
    k0_pay9 (grid0.coords t) (iblk m c 1 t) (iblk m c 2 t) x = ROW (m ((c : Thread nD τ).loc main_arg2)) a n j := by
  have ht := bound t
  have hx : (x 0).val < 264 := (x 0).isLt
  have hT : tile t = 15 - t.val % 16 := rfl
  pointwise [k0_pay9, inner t, ROW]
  by_cases h8 : (x 0).val < 8
  · rw [dif_pos h8]
    by_cases h15 : t.val % 16 = 15
    · rw [if_pos h15, dif_neg (by omega)]
      rfl
    · rw [if_neg h15, dif_pos ⟨by omega, by omega⟩]
      refine Eq.trans (b := (iblk m c 2 t : FVec Ideal S8x5632 .f32) (ix2 ⟨(x 0).val, h8⟩ (x 1))) rfl ?_
      refine blkH m c t _ _ _ _ ?_ hj
      dsimp only
      show ((t.val / 16 * 16 + tile t) * 32 - 1) * 8 + (x 0).val = _
      omega
  · rw [dif_neg h8, dif_pos ⟨by omega, by omega⟩]
    pointwise [k0_pay8]
    refine blkU m c t _ _ _ _ ?_ hj
    show (t.val / 16 * 16 + tile t) * 256 + ((x 0).val - 8) = _
    dsimp only
    omega

theorem pre_at (c : Dev nD) (t : Fin cfg0.N) (x : S256x5632.Idx) (a : Fin 2) (s : Fin 4096) (j : Fin 5632)
    (ha : t.val / 16 = a.val) (hs : tile t * 256 + (x 0).val = s.val) (hj : (x 1).val = j.val) :
    k0_pay15 (grid0.coords t) (iblk m c 0 t) (iblk m c 1 t) (iblk m c 2 t) x
      = PRE (m ((c : Thread nD τ).loc main_arg0)) (m ((c : Thread nD τ).loc main_arg1))
          (m ((c : Thread nD τ).loc main_arg2)) a s j := by
  have ht := bound t
  have hx : (x 0).val < 256 := (x 0).isLt
  have hT : tile t = 15 - t.val % 16 := rfl
  pointwise [k0_pay15, k0_pay10, k0_pay11, k0_pay13, k0_pay7, k0_pay8, k0_pay12, k0_pay14, PRE]
  have e2 := blkT m c t (ix2 2 (x 1)) 2 j rfl hj
  have e0 := blkT m c t (ix2 0 (x 1)) 0 j rfl hj
  have e1 := blkT m c t (ix2 1 (x 1)) 1 j rfl hj
  have eB := blkB m c t (ix2 3 (x 1)) j rfl hj
  have eU := blkU m c t x a s j (by omega) hj
  have r0 := row_at m c t (ix2 ⟨6 + (x 0).val, by omega⟩ (x 1)) a s.val j ha
    (by show tile t * 256 + (6 + (x 0).val) = _; omega) (Nat.le_add_right 6 _) hj
  have r1 := row_at m c t (ix2 ⟨7 + (x 0).val, by omega⟩ (x 1)) a (s.val + 1) j ha
    (by show tile t * 256 + (7 + (x 0).val) = _; omega) (by show 6 ≤ 7 + (x 0).val; omega) hj
  exact congrArg₂ (· + ·) (congrArg₂ (· + ·) (congrArg₂ (· + ·) (congrArg₂ (· * ·) e2 eU) (congrArg₂ (· * ·) e0 r0))
    (congrArg₂ (· * ·) e1 r1)) eB

theorem neg_of_sub (z : EReal) : 0 - z = -z := by
  rw [sub_eq_add_neg, zero_add]

/-- The gate's part of the body, of any rows `Z` and any gradient `dd`. -/
theorem gate_at (Z : FVec Ideal S256x5632 .f32) (dd : FVec Ideal S256x2816 .f32) (r : Fin 256) (j : Fin 5632) :
    k0_pay19 Z (extractStridedSlice S256x2816 ![0, 0] Z slices_S256x5632_o0_0_S256x2816)
        (exp (subf (broadcast S256x2816 (Scalar.ofBits .f32 0x00000000#32))
          (extractStridedSlice S256x2816 ![0, 0] Z slices_S256x5632_o0_0_S256x2816))) k0_pay18 dd (ix2 r j)
      = if h : j.val < 2816 then
          dd (ix2 r ⟨j.val, h⟩) * Z (ix2 r ⟨2816 + j.val, by omega⟩) * SIG (Z (ix2 r j))
            + Z (ix2 r j) * (dd (ix2 r ⟨j.val, h⟩) * Z (ix2 r ⟨2816 + j.val, by omega⟩))
              * (SIG (Z (ix2 r j)) * (1 - SIG (Z (ix2 r j))))
        else Z (ix2 r ⟨j.val - 2816, by omega⟩) * SIG (Z (ix2 r ⟨j.val - 2816, by omega⟩)) * dd (ix2 r ⟨j.val - 2816, by omega⟩) := by
  pointwise [k0_pay19, k0_pay18, SIG, neg_of_sub]
  by_cases hj : j.val < 2816
  · simp only [dif_pos hj, zero_add]
    rw [mul_assoc (Z (ix2 r j) * _)]
  · simp only [dif_neg hj, add_zero]

/-- The gradient of the convolution at the tile's positions. -/
abbrev P (c : Dev nD) (t : Fin cfg0.N) : FVec Ideal S256x5632 .f32 :=
  k0_pay19 (k0_pay15 (grid0.coords t) (iblk m c 0 t) (iblk m c 1 t) (iblk m c 2 t))
    (k0_pay16 (grid0.coords t) (iblk m c 0 t) (iblk m c 1 t) (iblk m c 2 t))
    (k0_pay17 (grid0.coords t) (iblk m c 0 t) (iblk m c 1 t) (iblk m c 2 t)) k0_pay18 (iblk m c 3 t)

/-- The reference's gradient of the convolution, as a function of the arrays that the launch starts from. -/
abbrev D (c : Dev nD) : Fin 2 → Nat → Fin 5632 → EReal :=
  DROW (m ((c : Thread nD τ).loc main_arg0)) (m ((c : Thread nD τ).loc main_arg1))
    (m ((c : Thread nD τ).loc main_arg2)) (m ((c : Thread nD τ).loc main_arg3))

theorem dpre_at (c : Dev nD) (t : Fin cfg0.N) (r : Fin 256) (a : Fin 2) (n : Nat) (j : Fin 5632)
    (ha : t.val / 16 = a.val) (hn : tile t * 256 + r.val = n) : P m c t (ix2 r j) = D m c a n j := by
  have ht := bound t
  have hr := r.isLt
  have hT : tile t = 15 - t.val % 16 := rfl
  have hn' : n < 4096 := by omega
  have z := fun k => pre_at m c t (ix2 r k) a ⟨n, hn'⟩ k ha hn rfl
  have d := fun k => blkD m c t (ix2 r k) a ⟨n, hn'⟩ k (by show (t.val / 16 * 16 + tile t) * 256 + r.val = _; dsimp only; omega) rfl
  refine (gate_at (k0_pay15 (grid0.coords t) (iblk m c 0 t) (iblk m c 1 t) (iblk m c 2 t)) (iblk m c 3 t) r j).trans ?_
  simp only [D, DROW, dif_pos hn', DPRE, DGATE, DVAL, z, d]

/-- What a tile's positions give the positions `k` of the tile's rows after the eight before it. -/
theorem spread_at (T1 T0 : FVec Ideal S1x5632 .f32) (v34 : FVec Ideal S256x5632 .f32) (v35 v38 v39 v45 : FVec Ideal S256x2816 .f32)
    (cst : Ideal .f32) (h0 : cst = 0) (k : Fin 264) (j : Fin 5632) :
    k0_pay1 (k0_pay20 T1 v34 v35 v38 v39 v45) (k0_pay22 T0 v34 v35 v38 v39 v45) cst k0_pay24 (ix2 k j)
      = (if h : 7 ≤ k.val ∧ k.val < 263 then T1 (ix2 0 j) * k0_pay19 v34 v35 v38 v39 v45 (ix2 ⟨k.val - 7, by omega⟩ j) else 0)
        + (if h : 6 ≤ k.val ∧ k.val < 262 then T0 (ix2 0 j) * k0_pay19 v34 v35 v38 v39 v45 (ix2 ⟨k.val - 6, by omega⟩ j) else 0) := by
  subst h0
  have hk := k.isLt
  pointwise [k0_pay1, k0_pay20, k0_pay22, k0_pay24]
  congr 1 <;> (repeat' split) <;> first | (exfalso; omega) | rfl

/-- What the body leaves of a tile's own gradient in the tile's rows after the eight before it. -/
abbrev SP (c : Dev nD) (t : Fin cfg0.N) (cst : Ideal .f32) : FVec Ideal S264x5632 .f32 :=
  k0_pay1 (k0_pay20 (k0_pay13 (iblk m c 0 t)) (k0_pay15 (grid0.coords t) (iblk m c 0 t) (iblk m c 1 t) (iblk m c 2 t))
      (k0_pay16 (grid0.coords t) (iblk m c 0 t) (iblk m c 1 t) (iblk m c 2 t))
      (k0_pay17 (grid0.coords t) (iblk m c 0 t) (iblk m c 1 t) (iblk m c 2 t)) k0_pay18 (iblk m c 3 t))
    (k0_pay22 (k0_pay11 (iblk m c 0 t)) (k0_pay15 (grid0.coords t) (iblk m c 0 t) (iblk m c 1 t) (iblk m c 2 t))
      (k0_pay16 (grid0.coords t) (iblk m c 0 t) (iblk m c 1 t) (iblk m c 2 t))
      (k0_pay17 (grid0.coords t) (iblk m c 0 t) (iblk m c 1 t) (iblk m c 2 t)) k0_pay18 (iblk m c 3 t))
    cst k0_pay24

abbrev CW (c : Dev nD) : FVec Ideal S3x5632 .f32 := m ((c : Thread nD τ).loc main_arg0)

theorem sp_at (c : Dev nD) (t : Fin cfg0.N) (cst : Ideal .f32) (hz : cst = 0) (k : Fin 264) (a : Fin 2) (j : Fin 5632)
    (ha : t.val / 16 = a.val) : SP m c t cst (ix2 k j)
      = (if 7 ≤ k.val ∧ k.val < 263 then CW m c (ix2 1 j) * D m c a (tile t * 256 + (k.val - 7)) j else 0)
        + (if 6 ≤ k.val ∧ k.val < 262 then CW m c (ix2 0 j) * D m c a (tile t * 256 + (k.val - 6)) j else 0) := by
  have e0 : k0_pay11 (iblk m c 0 t) (ix2 0 j) = CW m c (ix2 0 j) := by
    pointwise [k0_pay11, k0_pay7]
    exact blkT m c t _ 0 j rfl rfl
  have e1 : k0_pay13 (iblk m c 0 t) (ix2 0 j) = CW m c (ix2 1 j) := by
    pointwise [k0_pay13, k0_pay7]
    exact blkT m c t _ 1 j rfl rfl
  refine (spread_at _ _ _ _ _ _ _ _ hz k j).trans ?_
  congr 1
  · split_ifs with h
    · exact congrArg₂ (· * ·) e1 (dpre_at m c t ⟨k.val - 7, by omega⟩ a _ j ha rfl)
    · rfl
  · split_ifs with h
    · exact congrArg₂ (· * ·) e0 (dpre_at m c t ⟨k.val - 6, by omega⟩ a _ j ha rfl)
    · rfl

/-- What tile `n` gives the last eight positions before it. -/
def CAR (c : Dev nD) (a : Fin 2) (n k : Nat) (j : Fin 5632) : EReal :=
  (if 7 ≤ k then CW m c (ix2 1 j) * D m c a (n * 256 + (k - 7)) j else 0)
    + (if 6 ≤ k then CW m c (ix2 0 j) * D m c a (n * 256 + (k - 6)) j else 0)

theorem car_end (c : Dev nD) (a : Fin 2) (k : Nat) (j : Fin 5632) : CAR m c a 16 k j = 0 := by
  unfold CAR
  simp only [D, DROW, dif_neg (show ¬ 16 * 256 + (k - 7) < 4096 by omega), dif_neg (show ¬ 16 * 256 + (k - 6) < 4096 by omega),
    mul_zero, ite_self, add_zero]

/-- The scratch after a point, of whatever it held before. -/
abbrev SC (c : Dev nD) (t : Fin cfg0.N) : FVec Ideal S8x5632 .f32 :=
  k0_pay3 (k0_pay20 (k0_pay13 (iblk m c 0 t)) (k0_pay15 (grid0.coords t) (iblk m c 0 t) (iblk m c 1 t) (iblk m c 2 t))
      (k0_pay16 (grid0.coords t) (iblk m c 0 t) (iblk m c 1 t) (iblk m c 2 t))
      (k0_pay17 (grid0.coords t) (iblk m c 0 t) (iblk m c 1 t) (iblk m c 2 t)) k0_pay18 (iblk m c 3 t))
    (k0_pay22 (k0_pay11 (iblk m c 0 t)) (k0_pay15 (grid0.coords t) (iblk m c 0 t) (iblk m c 1 t) (iblk m c 2 t))
      (k0_pay16 (grid0.coords t) (iblk m c 0 t) (iblk m c 1 t) (iblk m c 2 t))
      (k0_pay17 (grid0.coords t) (iblk m c 0 t) (iblk m c 1 t) (iblk m c 2 t)) k0_pay18 (iblk m c 3 t))
    (FloatOps.ofBits FTy.f32 0#32) k0_pay24

theorem carry_at (c : Dev nD) (t : Fin cfg0.N) (k : Fin 8) (a : Fin 2) (j : Fin 5632) (ha : t.val / 16 = a.val) :
    SC m c t (ix2 k j) = CAR m c a (tile t) k.val j := by
  have hk := k.isLt
  pointwise [SC, k0_pay3]
  refine (sp_at m c t 0 rfl ⟨k.val, by omega⟩ a j ha).trans ?_
  unfold CAR
  dsimp only
  congr 1 <;> (repeat' split) <;> first | (exfalso; omega) | rfl

theorem put_at (T2 : FVec Ideal S1x5632 .f32) (PP : FVec Ideal S256x5632 .f32) (v75 : FVec Ideal S264x5632 .f32)
    (v82 : FVec Ideal S256x5632 .f32) (cst : Ideal .f32) (v86 : FVec Ideal S6x5632 .f32) (acc : FVec Ideal S8x5632 .f32)
    (r : Fin 256) (j : Fin 5632) :
    k0_pay2 T2 PP v75 v82 cst v86 acc (ix2 r j)
      = T2 (ix2 0 j) * PP (ix2 r j) + k0_pay1 v75 v82 cst v86 (ix2 ⟨8 + r.val, by omega⟩ j)
        + (if h : 248 ≤ r.val then acc (ix2 ⟨r.val - 248, by omega⟩ j) else 0) := by
  have hr := r.isLt
  pointwise [k0_pay2]
  by_cases h : r.val < 248
  · rw [dif_pos h, dif_neg (by omega), add_zero]
  · rw [dif_neg h, dif_pos (by omega)]
    have e : 248 + (r.val - 248) = r.val := by omega
    simp only [e]

/-- The rows' gradient at a point, over what the point before left in the scratch. -/
theorem du_pt (c : Dev nD) (t : Fin cfg0.N) (acc : FVec Ideal S8x5632 .f32) (r : Fin 256) (j : Fin 5632) (a : Fin 2) (s : Fin 4096)
    (ha : t.val / 16 = a.val) (hs : tile t * 256 + r.val = s.val)
    (hacc : ∀ k : Fin 8, acc (ix2 k j) = CAR m c a (tile t + 1) k.val j) :
    k0_pay2 (k0_pay10 (iblk m c 0 t)) (P m c t)
        (k0_pay20 (k0_pay13 (iblk m c 0 t)) (k0_pay15 (grid0.coords t) (iblk m c 0 t) (iblk m c 1 t) (iblk m c 2 t))
          (k0_pay16 (grid0.coords t) (iblk m c 0 t) (iblk m c 1 t) (iblk m c 2 t))
          (k0_pay17 (grid0.coords t) (iblk m c 0 t) (iblk m c 1 t) (iblk m c 2 t)) k0_pay18 (iblk m c 3 t))
        (k0_pay22 (k0_pay11 (iblk m c 0 t)) (k0_pay15 (grid0.coords t) (iblk m c 0 t) (iblk m c 1 t) (iblk m c 2 t))
          (k0_pay16 (grid0.coords t) (iblk m c 0 t) (iblk m c 1 t) (iblk m c 2 t))
          (k0_pay17 (grid0.coords t) (iblk m c 0 t) (iblk m c 1 t) (iblk m c 2 t)) k0_pay18 (iblk m c 3 t))
        (FloatOps.ofBits FTy.f32 0#32) k0_pay24 acc (ix2 r j)
      = DU (m ((c : Thread nD τ).loc main_arg0)) (m ((c : Thread nD τ).loc main_arg1))
          (m ((c : Thread nD τ).loc main_arg2)) (m ((c : Thread nD τ).loc main_arg3)) a s j := by
  have hr := r.isLt
  have hs' := s.isLt
  have hz : (FloatOps.ofBits FTy.f32 0#32 : Ideal .f32) = 0 := by pointwise
  have e2 : k0_pay10 (iblk m c 0 t) (ix2 0 j) = CW m c (ix2 2 j) := by
    pointwise [k0_pay10, k0_pay7]
    exact blkT m c t _ 2 _ rfl rfl
  have p : P m c t (ix2 r j) = D m c a s.val j := dpre_at m c t _ a _ _ ha hs
  have q := sp_at m c t _ hz ⟨8 + r.val, by omega⟩ a j ha
  have hD : D m c a s.val j = DPRE (m ((c : Thread nD τ).loc main_arg0)) (m ((c : Thread nD τ).loc main_arg1))
      (m ((c : Thread nD τ).loc main_arg2)) (m ((c : Thread nD τ).loc main_arg3)) a s j := dif_pos hs'
  have n1 : tile t * 256 + (8 + r.val - 7) = s.val + 1 := by omega
  have n2 : tile t * 256 + (8 + r.val - 6) = s.val + 2 := by omega
  refine (put_at _ _ _ _ _ _ _ r j).trans ?_
  rw [e2, p]
  refine (congrArg₂ (· + ·) (congrArg (_ + ·) q) rfl).trans ?_
  dsimp only
  rw [n1, n2]
  unfold DU
  rw [← hD]
  by_cases h : 248 ≤ r.val
  · rw [dif_pos h, hacc]
    unfold CAR
    dsimp only
    by_cases h4 : r.val < 254
    · rw [if_pos ⟨by omega, by omega⟩, if_pos ⟨by omega, by omega⟩, if_neg (by omega), if_neg (by omega), add_zero, add_zero]
    · by_cases h5 : r.val = 254
      · rw [if_pos ⟨by omega, by omega⟩, if_neg (by omega), if_neg (by omega), if_pos (by omega), add_zero, zero_add, add_assoc,
          show (tile t + 1) * 256 + (r.val - 248 - 6) = s.val + 2 by omega]
      · rw [if_neg (by omega), if_neg (by omega), if_pos (by omega), if_pos (by omega), add_zero, add_zero,
          show (tile t + 1) * 256 + (r.val - 248 - 7) = s.val + 1 by omega,
          show (tile t + 1) * 256 + (r.val - 248 - 6) = s.val + 2 by omega]
  · rw [dif_neg h, if_pos ⟨by omega, by omega⟩, if_pos ⟨by omega, by omega⟩, add_zero]

/-- What the point before leaves in the scratch: what the next tile of the batch row gives. -/
theorem left_at (c : Dev nD) (t : Fin cfg0.N) (k : Fin 8) (a : Fin 2) (j : Fin 5632) (ha : t.val / 16 = a.val) :
    (outsAt0 m c t.val t.isLt).2.2 (ix2 k j) = CAR m c a (tile t) k.val j := by
  refine Eq.trans ?_ (carry_at m c t k a j ha)
  by_cases h0 : t.val % 32 = 0
  · rw [outsAt0_A m c t h0 (by omega)]
    frame_out
  · by_cases h1 : t.val % 16 = 0
    · rw [outsAt0_C m c t h0 h1]
      frame_out
    · rw [outsAt0_B m c t h0 h1]
      frame_out

theorem du_block (c : Dev nD) (t : Fin cfg0.N) (acc : FVec Ideal S8x5632 .f32) (y : S256x5632.Idx) (i : S8192x5632.Idx)
    (h0 : (i 0).val = (t.val / 16 * 16 + tile t) * 256 + (y 0).val) (h1 : (i 1).val = (y 1).val)
    (hacc : ∀ (k : Fin 8) (a : Fin 2) (j : Fin 5632), t.val / 16 = a.val → acc (ix2 k j) = CAR m c a (tile t + 1) k.val j) :
    k0_pay2 (k0_pay10 (iblk m c 0 t)) (P m c t)
        (k0_pay20 (k0_pay13 (iblk m c 0 t)) (k0_pay15 (grid0.coords t) (iblk m c 0 t) (iblk m c 1 t) (iblk m c 2 t))
          (k0_pay16 (grid0.coords t) (iblk m c 0 t) (iblk m c 1 t) (iblk m c 2 t))
          (k0_pay17 (grid0.coords t) (iblk m c 0 t) (iblk m c 1 t) (iblk m c 2 t)) k0_pay18 (iblk m c 3 t))
        (k0_pay22 (k0_pay11 (iblk m c 0 t)) (k0_pay15 (grid0.coords t) (iblk m c 0 t) (iblk m c 1 t) (iblk m c 2 t))
          (k0_pay16 (grid0.coords t) (iblk m c 0 t) (iblk m c 1 t) (iblk m c 2 t))
          (k0_pay17 (grid0.coords t) (iblk m c 0 t) (iblk m c 1 t) (iblk m c 2 t)) k0_pay18 (iblk m c 3 t))
        (FloatOps.ofBits FTy.f32 0#32) k0_pay24 acc y
      = Cert.ConvRIdeal.Val.DUARR (m ((c : Thread nD τ).loc main_arg0)) (m ((c : Thread nD τ).loc main_arg1))
        (m ((c : Thread nD τ).loc main_arg2)) (m ((c : Thread nD τ).loc main_arg3)) i := by
  obtain ⟨r, l, rfl⟩ : ∃ (r : Fin 256) (l : Fin 5632), y = ix2 r l :=
    ⟨y 0, y 1, by funext d; fin_cases d <;> rfl⟩
  have h0' : (i 0).val = (t.val / 16 * 16 + tile t) * 256 + r.val := h0
  have ht := bound t
  have hr := r.isLt
  have hT : tile t = 15 - t.val % 16 := rfl
  have e := Cert.ConvRIdeal.Val.du_at (m ((c : Thread nD τ).loc main_arg0)) (m ((c : Thread nD τ).loc main_arg1))
    (m ((c : Thread nD τ).loc main_arg2)) (m ((c : Thread nD τ).loc main_arg3)) i ⟨t.val / 16, by omega⟩
    ⟨tile t * 256 + r.val, by omega⟩ (by dsimp only; omega)
  have hj : i 1 = l := Fin.ext h1
  rw [hj] at e
  exact (du_pt m c t acc r l _ _ rfl rfl fun k => hacc k _ _ rfl).trans e.symm

theorem final4 (c : Dev nD) : (dats m 0 c).arrAt 4 (cfgs 0).N
    = Cert.ConvRIdeal.Val.DUARR (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  have ht := bound t
  have hT : tile t = 15 - t.val % 16 := rfl
  have hy0 : ((((View.whole main_v22_0).slice (win0_4.rect t)).emb y) 0).val = (t.val / 16 * 16 + tile t) * 256 + (y 0).val := by
    blk_simp [idx t]
  have hy1 : ((((View.whole main_v22_0).slice (win0_4.rect t)).emb y) 1).val = (y 1).val := by
    blk_simp [idx t]
  have first : t.val % 16 = 0 → ∀ (k : Fin 8) (a : Fin 2) (j : Fin 5632), t.val / 16 = a.val →
      k0_pay6 (F := Ideal) (ix2 k j) = CAR m c a (tile t + 1) k.val j := fun h k a j _ => by
    rw [show tile t + 1 = 16 by omega, car_end]
    pointwise [k0_pay6]
  blk_simp
  rw [after0_4]
  by_cases h0 : t.val % 32 = 0
  · have h1 : t.val % 16 = 0 := by omega
    rw [outsAt0_A m c t h0 h1]
    frame_out
    exact du_block m c t _ y _ hy0 hy1 (first h1)
  · by_cases h1 : t.val % 16 = 0
    · rw [outsAt0_C m c t h0 h1]
      frame_out
      exact du_block m c t _ y _ hy0 hy1 (first h1)
    · rw [outsAt0_B m c t h0 h1]
      frame_out
      refine du_block m c t _ y _ hy0 hy1 fun k a j ha => ?_
      have hb : t.val - 1 < cfg0.N := by have := t.isLt; omega
      have hl := left_at m c ⟨t.val - 1, hb⟩ k a j (by dsimp only; omega)
      rw [show tile ⟨t.val - 1, hb⟩ = tile t + 1 by dsimp only [tile]; omega] at hl
      exact (congrFun (Memref.IsWhole.read_unread _ _) _).trans hl

/-! ## The run of the parameters' gradient -/

theorem step (v12 v60 : FVec Ideal S256x5632 .f32) (v80 : FVec Ideal S8x5632 .f32) (v85 : FVec Ideal S1x5632 .f32)
    (acc : Vec Ideal S8x5632 .f32) (j : S8x5632.Idx) :
    k0_pay4 v12 v60 v80 v85 acc j = acc j + k0_pay4 v12 v60 v80 v85 (fun _ => 0) j := by
  pointwise [k0_pay4]

theorem zero (j : S8x5632.Idx) : k0_pay5 (F := Ideal) j = 0 := by
  pointwise! [k0_pay5]

theorem total_at (v12 v23 v28 v34 : FVec Ideal S256x5632 .f32) (v35 v38 v39 v45 : FVec Ideal S256x2816 .f32)
    (k : Fin 8) (j : Fin 5632) :
    k0_pay4 v12 (k0_pay19 v34 v35 v38 v39 v45) (k0_pay21 v28 v34 v35 v38 v39 v45) (k0_pay23 v23 v34 v35 v38 v39 v45)
        (fun _ => 0) (ix2 k j)
      = if k.val = 0 then ∑ r : Fin 256, k0_pay19 v34 v35 v38 v39 v45 (ix2 r j) * v23 (ix2 r j)
        else if k.val = 1 then ∑ r : Fin 256, k0_pay19 v34 v35 v38 v39 v45 (ix2 r j) * v28 (ix2 r j)
        else if k.val = 2 then ∑ r : Fin 256, k0_pay19 v34 v35 v38 v39 v45 (ix2 r j) * v12 (ix2 r j)
        else if k.val = 3 then ∑ r : Fin 256, k0_pay19 v34 v35 v38 v39 v45 (ix2 r j)
        else 0 := by
  pointwise [k0_pay4, k0_pay21, k0_pay23]
  have hk := k.isLt
  rcases (by omega : k.val = 0 ∨ k.val = 1 ∨ k.val = 2 ∨ k.val = 3 ∨ 4 ≤ k.val) with h | h | h | h | h <;>
  · (repeat' split) <;> first | (exfalso; omega) | simp only [zero_add, add_zero]

/-- The points run each batch row's tiles from the last to the first. -/
theorem sum_tiles (f : Fin 2 → Nat → EReal) :
    ∑ p : Fin 32, ∑ r : Fin 256, f ⟨p.val / 16, by omega⟩ ((15 - p.val % 16) * 256 + r.val)
      = ∑ a : Fin 2, ∑ s : Fin 4096, f a s.val := by
  have inv : Function.Involutive fun p : Fin 32 => (⟨p.val / 16 * 16 + (15 - p.val % 16), by omega⟩ : Fin 32) := fun p =>
    Fin.ext (by dsimp only; omega)
  rw [← Equiv.sum_comp inv.toPerm]
  refine Fin.sum_points_lanes_congr 16 fun p r ha hl => ?_
  show f ⟨(p.val / 16 * 16 + (15 - p.val % 16)) / 16, _⟩ ((15 - (p.val / 16 * 16 + (15 - p.val % 16)) % 16) * 256 + r.val) = _
  have e1 : (p.val / 16 * 16 + (15 - p.val % 16)) / 16 = p.val / 16 := by omega
  have e2 : 15 - (p.val / 16 * 16 + (15 - p.val % 16)) % 16 = p.val % 16 := by omega
  simp only [e1, e2]

/-- What a point adds to the parameters' gradient. -/
abbrev TOT (c : Dev nD) (t : Fin cfg0.N) : FVec Ideal S8x5632 .f32 :=
  k0_pay4 (k0_pay8 (iblk m c 1 t)) (P m c t)
    (k0_pay21 (k0_pay14 (grid0.coords t) (iblk m c 1 t) (iblk m c 2 t))
      (k0_pay15 (grid0.coords t) (iblk m c 0 t) (iblk m c 1 t) (iblk m c 2 t))
      (k0_pay16 (grid0.coords t) (iblk m c 0 t) (iblk m c 1 t) (iblk m c 2 t))
      (k0_pay17 (grid0.coords t) (iblk m c 0 t) (iblk m c 1 t) (iblk m c 2 t)) k0_pay18 (iblk m c 3 t))
    (k0_pay23 (k0_pay12 (grid0.coords t) (iblk m c 1 t) (iblk m c 2 t))
      (k0_pay15 (grid0.coords t) (iblk m c 0 t) (iblk m c 1 t) (iblk m c 2 t))
      (k0_pay16 (grid0.coords t) (iblk m c 0 t) (iblk m c 1 t) (iblk m c 2 t))
      (k0_pay17 (grid0.coords t) (iblk m c 0 t) (iblk m c 1 t) (iblk m c 2 t)) k0_pay18 (iblk m c 3 t))
    (fun _ => 0)

/-- The summand of the parameters' gradient at a position. -/
def TERM (c : Dev nD) (k : Nat) (j : Fin 5632) (a : Fin 2) (n : Nat) : EReal :=
  if k = 0 then D m c a n j * ROW (m ((c : Thread nD τ).loc main_arg2)) a n j
  else if k = 1 then D m c a n j * ROW (m ((c : Thread nD τ).loc main_arg2)) a (n + 1) j
  else if k = 2 then D m c a n j * ROW (m ((c : Thread nD τ).loc main_arg2)) a (n + 2) j
  else if k = 3 then D m c a n j else 0

theorem tot_at (c : Dev nD) (t : Fin cfg0.N) (k : Fin 8) (j : Fin 5632) (a : Fin 2) (ha : t.val / 16 = a.val) :
    TOT m c t (ix2 k j) = ∑ r : Fin 256, TERM m c k.val j a (tile t * 256 + r.val) := by
  have ht := bound t
  have hT : tile t = 15 - t.val % 16 := rfl
  have p := fun r : Fin 256 => dpre_at m c t r a _ j ha rfl
  have r0 : ∀ r : Fin 256, k0_pay12 (grid0.coords t) (iblk m c 1 t) (iblk m c 2 t) (ix2 r j)
      = ROW (m ((c : Thread nD τ).loc main_arg2)) a (tile t * 256 + r.val) j := fun r => by
    pointwise [k0_pay12]
    exact row_at m c t _ a _ j ha (by show tile t * 256 + (6 + r.val) = _; omega) (Nat.le_add_right 6 _) rfl
  have r1 : ∀ r : Fin 256, k0_pay14 (grid0.coords t) (iblk m c 1 t) (iblk m c 2 t) (ix2 r j)
      = ROW (m ((c : Thread nD τ).loc main_arg2)) a (tile t * 256 + r.val + 1) j := fun r => by
    pointwise [k0_pay14]
    exact row_at m c t _ a _ j ha (by show tile t * 256 + (7 + r.val) = _; omega) (by show 6 ≤ 7 + r.val; omega) rfl
  have r2 : ∀ r : Fin 256, k0_pay8 (iblk m c 1 t) (ix2 r j)
      = ROW (m ((c : Thread nD τ).loc main_arg2)) a (tile t * 256 + r.val + 2) j := fun r => by
    have hr := r.isLt
    pointwise [k0_pay8, ROW]
    rw [dif_pos (by omega)]
    refine blkU m c t _ _ _ _ ?_ rfl
    show (t.val / 16 * 16 + tile t) * 256 + r.val = _
    dsimp only
    omega
  refine (total_at _ _ _ _ _ _ _ _ k j).trans ?_
  unfold TERM
  simp only [r0, r1, r2]
  split_ifs
  · exact Finset.sum_congr rfl fun r _ => congrArg₂ (· * ·) (p r) rfl
  · exact Finset.sum_congr rfl fun r _ => congrArg₂ (· * ·) (p r) rfl
  · exact Finset.sum_congr rfl fun r _ => congrArg₂ (· * ·) (p r) rfl
  · exact Finset.sum_congr rfl fun r _ => p r
  · exact (Finset.sum_const_zero).symm

theorem dc_eq (c : Dev nD) (i : S8x5632.Idx) (k : Fin 8) (j : Fin 5632) (h0 : (i 0).val = k.val) (h1 : (i 1).val = j.val) :
    Cert.ConvRIdeal.Val.DCARR (m ((c : Thread nD τ).loc main_arg0)) (m ((c : Thread nD τ).loc main_arg1))
        (m ((c : Thread nD τ).loc main_arg2)) (m ((c : Thread nD τ).loc main_arg3)) i
      = ∑ a : Fin 2, ∑ s : Fin 4096, TERM m c k.val j a s.val := by
  obtain rfl : i = ix2 k j := by
    funext d
    match d with
    | ⟨0, _⟩ => exact Fin.ext h0
    | ⟨1, _⟩ => exact Fin.ext h1
  refine (Cert.ConvRIdeal.Val.dc_at _ _ _ _ _).trans ?_
  show DC _ _ _ _ k j = _
  unfold DC TERM
  have hD : ∀ (a : Fin 2) (s : Fin 4096) (j : Fin 5632), D m c a s.val j
      = DPRE (m ((c : Thread nD τ).loc main_arg0)) (m ((c : Thread nD τ).loc main_arg1))
      (m ((c : Thread nD τ).loc main_arg2)) (m ((c : Thread nD τ).loc main_arg3)) a s j := fun a s j => dif_pos s.isLt
  have hR : ∀ (a : Fin 2) (s : Fin 4096) (j : Fin 5632), ROW (m ((c : Thread nD τ).loc main_arg2)) a (s.val + 2) j
      = (m ((c : Thread nD τ).loc main_arg2) : FVec Ideal S2x4096x5632 .f32) (ix3 a s j) := fun a s j =>
    dif_pos ⟨by omega, by omega⟩
  split_ifs
  · exact Finset.sum_congr rfl fun a _ => Finset.sum_congr rfl fun s _ => by rw [hD]
  · exact Finset.sum_congr rfl fun a _ => Finset.sum_congr rfl fun s _ => by rw [hD]
  · exact Finset.sum_congr rfl fun a _ => Finset.sum_congr rfl fun s _ => by rw [hD, hR]
  · exact Finset.sum_congr rfl fun a _ => Finset.sum_congr rfl fun s _ => by rw [hD]
  · simp only [Finset.sum_const_zero]

theorem final5 (c : Dev nD) : (dats m 0 c).arrAt 5 (cfgs 0).N
    = Cert.ConvRIdeal.Val.DCARR (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp
  have hr := Pipeline.eq_sum_fin_of_reset_step_apply_of_flush (fun n h => (outsAt0 m c n h).2.1) 32 (fun _ => 0)
    (fun p => TOT m c p)
    (fun t h j => by rw [outsAt0_A m c t h (by omega)]; frame_out; rw [step, zero])
    (fun t h j => by
      by_cases h1 : t.val % 16 = 0
      · rw [outsAt0_C m c t h h1]; frame_out; rw [step]
      · rw [outsAt0_B m c t h h1]; frame_out; rw [step])
    t ((flush0_5 t).mp hf)
  rw [after0_5, hr, zero_add]
  obtain ⟨k, l, rfl⟩ : ∃ (k : Fin 8) (l : Fin 5632), y = ix2 k l :=
    ⟨y 0, y 1, by funext d; fin_cases d <;> rfl⟩
  have key : ∑ p : Fin 32, TOT m c ⟨32 * (t.val / 32) + p.val,
        Pipeline.run_point_lt_of_flush t ((flush0_5 t).mp hf) p⟩ (ix2 k l)
      = ∑ a : Fin 2, ∑ s : Fin 4096, TERM m c k.val l a s.val := by
    refine Eq.trans (Finset.sum_congr rfl fun p _ => ?_) (sum_tiles (TERM m c k.val l))
    have hq : (⟨32 * (t.val / 32) + p.val, Pipeline.run_point_lt_of_flush t ((flush0_5 t).mp hf) p⟩ : Fin cfg0.N)
        = ⟨p.val, lt_of_lt_of_eq p.isLt N_0.symm⟩ := Fin.ext (by have := bound t; dsimp only; omega)
    rw [hq]
    exact tot_at m c _ k l _ rfl
  exact key.trans (dc_eq m c _ k l (by blk_simp [idx t]) (by blk_simp [idx t])).symm

end Cert.ConvKIdeal.Val

end
-- ==== Proof.Products.lean ====
/- Products of the rows of a (2, 4096, k) array with a matrix, at any widths: the reference's form, and the row of the
   reshaped array that an entry reads. -/
module

public import Idealize.ShloMosaic.Lib.Pipeline.ValueKit
public import Idealize.ShloMosaic.Lib.StackMember

@[expose] public section

set_option maxRecDepth 65536

noncomputable section

open Idealize.ShloMosaic Idealize.ShloMosaic.TcCoe
open scoped BigOperators

namespace Cert.Products

variable {b t k n : ℕ}

/-- A reshape that joins the first two axes reads the entry of the sequence and the position. -/
theorem rows {α : Type} (hc : Shape.ShapeCasts ⟨3, ![b, t, n]⟩ ⟨2, ![b * t, n]⟩) (X : Shape.Idx ⟨3, ![b, t, n]⟩ → α)
    (i : Shape.Idx ⟨2, ![b * t, n]⟩) (a : Fin b) (s : Fin t) (h : (i 0).val = a.val * t + s.val) :
    shapeCast ⟨2, ![b * t, n]⟩ X hc i = X (ix3 a s (i 1)) := by
  refine shapeCast_apply X hc _ _ ?_
  rw [Shape.rowMajor_val_three, Shape.rowMajor_val_two]
  show (a.val * t + s.val) * n + (i 1).val = (i 0).val * n + (i 1).val
  rw [h]

/-- An entry of a product with a matrix. -/
theorem nn {φ₁ φ₂ : FTy} (w : DotDims.WF ⟨3, ![b, t, k]⟩ ⟨2, ![k, n]⟩ ⟨3, ![b, t, n]⟩ [2] [0] [0, 1] [1] [] [])
    (X : FVec Ideal ⟨3, ![b, t, k]⟩ φ₁) (Y : FVec Ideal ⟨2, ![k, n]⟩ φ₂) (a : Fin b) (s : Fin t) (j : Fin n) :
    Host.dotGeneral (⟨[2], [0], [0, 1], [1], [], [], w⟩ : DotDims _ _ _) none X Y (ix3 a s j)
      = ∑ l : Fin k, X (ix3 a s l) * Y (ix2 l j) := by
  show FloatOps.dotGeneral _ none _ X Y (ix3 a s j) = _
  rw [Ideal.dotGeneral_apply,
    ← Equiv.sum_comp (ValueIdx.contrEquiv1 (⟨[2], [0], [0, 1], [1], [], [], w⟩ : DotDims _ _ _) k rfl rfl).symm]
  refine Finset.sum_congr rfl fun c _ => ?_
  have e := ValueIdx.contrEquiv1_symm_val
    (⟨[2], [0], [0, 1], [1], [], [], w⟩ : DotDims ⟨3, ![b, t, k]⟩ ⟨2, ![k, n]⟩ ⟨3, ![b, t, n]⟩) k rfl rfl c
  congr 2
  · funext ax; apply Fin.ext
    match ax with
    | ⟨0, _⟩ => simp [DotDims.lhsIdx]; rfl
    | ⟨1, _⟩ => simp [DotDims.lhsIdx]; rfl
    | ⟨2, _⟩ => simp [DotDims.lhsIdx]; exact e
  · funext ax; apply Fin.ext
    match ax with
    | ⟨0, _⟩ => simp [DotDims.rhsIdx]; exact e
    | ⟨1, _⟩ => simp [DotDims.rhsIdx]; rfl

/-- An entry of a product with a transposed matrix. -/
theorem nt {φ₁ φ₂ : FTy} (w : DotDims.WF ⟨3, ![b, t, k]⟩ ⟨2, ![n, k]⟩ ⟨3, ![b, t, n]⟩ [2] [1] [0, 1] [0] [] [])
    (X : FVec Ideal ⟨3, ![b, t, k]⟩ φ₁) (Y : FVec Ideal ⟨2, ![n, k]⟩ φ₂) (a : Fin b) (s : Fin t) (j : Fin n) :
    Host.dotGeneral (⟨[2], [1], [0, 1], [0], [], [], w⟩ : DotDims _ _ _) none X Y (ix3 a s j)
      = ∑ l : Fin k, X (ix3 a s l) * Y (ix2 j l) := by
  show FloatOps.dotGeneral _ none _ X Y (ix3 a s j) = _
  rw [Ideal.dotGeneral_apply,
    ← Equiv.sum_comp (ValueIdx.contrEquiv1 (⟨[2], [1], [0, 1], [0], [], [], w⟩ : DotDims _ _ _) k rfl rfl).symm]
  refine Finset.sum_congr rfl fun c _ => ?_
  have e := ValueIdx.contrEquiv1_symm_val
    (⟨[2], [1], [0, 1], [0], [], [], w⟩ : DotDims ⟨3, ![b, t, k]⟩ ⟨2, ![n, k]⟩ ⟨3, ![b, t, n]⟩) k rfl rfl c
  congr 2
  · funext ax; apply Fin.ext
    match ax with
    | ⟨0, _⟩ => simp [DotDims.lhsIdx]; rfl
    | ⟨1, _⟩ => simp [DotDims.lhsIdx]; rfl
    | ⟨2, _⟩ => simp [DotDims.lhsIdx]; exact e
  · funext ax; apply Fin.ext
    match ax with
    | ⟨0, _⟩ => simp [DotDims.rhsIdx]; rfl
    | ⟨1, _⟩ => simp [DotDims.rhsIdx]; exact e

end Cert.Products

end
-- ==== Proof.ProjDx.lean ====
/- The gradient at the input projections' operand: four calls in a row, each adding its product with a transposed
   weight to what the call before it left. A call is read at any contents of the buffers it is entered with; the
   chain then puts the four together. -/
module

public import proofs.«01_k».proof.Proof.Gen.ProjDxKIdeal.Frame
public import proofs.«01_k».proof.Proof.Gen.ProjDxRIdeal.Run
public import proofs.«01_k».proof.Proof.Products
public import Idealize.ShloMosaic.Lib.Pipeline.ValueKit

@[expose] public section

set_option maxRecDepth 65536

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

namespace Cert.ProjDxKIdeal.Val

open Cert.ProjDxKIdeal Cert.ProjDxKIdeal.Gen

/-- One entry of a product with a transposed weight. -/
def nt {n : ℕ} (A : FVec Ideal ⟨2, ![8192, n]⟩ .bf16) (B : FVec Ideal ⟨2, ![1024, n]⟩ .bf16) (i : S8192x1024.Idx) : EReal :=
  ∑ j : Fin n, (A (ix2 (i 0) j) : EReal) * B (ix2 (i 1) j)

/-! ## One call at any entry contents -/

section Call

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0] :=
  (by decide +kernel : ∀ t : Fin grid0.N, _)

theorem idx1 : ∀ t : Fin cfg1.N, win1_0.index t = ![t.val, 0] ∧ win1_1.index t = ![0, 0]
    ∧ win1_2.index t = ![t.val, 0] ∧ win1_3.index t = ![t.val, 0] :=
  (by decide +kernel : ∀ t : Fin grid1.N, _)

theorem idx2 : ∀ t : Fin cfg2.N, win2_0.index t = ![t.val, 0] ∧ win2_1.index t = ![0, 0]
    ∧ win2_2.index t = ![t.val, 0] ∧ win2_3.index t = ![t.val, 0] :=
  (by decide +kernel : ∀ t : Fin grid2.N, _)

theorem idx3 : ∀ t : Fin cfg3.N, win3_0.index t = ![t.val, 0] ∧ win3_1.index t = ![0, 0]
    ∧ win3_2.index t = ![t.val, 0] ∧ win3_3.index t = ![t.val, 0] :=
  (by decide +kernel : ∀ t : Fin grid3.N, _)

theorem call0 (c : Dev nD) : (dat0 V c).arrAt 2 cfg0.N = nt (V c main_v0) (V c main_v1) := by
  refine (dat0 V c).arrAt_eq_of_covers 2 _ (by decide +kernel) fun t _ y => ?_
  blk_simp
  rw [after0_2]
  frame_out
  unfold nt
  pointwise [k0_pay1]
  show (_ : EReal) = _
  refine Finset.sum_congr rfl fun j _ => ?_
  congr 1
  · blk_simp [iblk0]
    blk_ext [idx0 t]
  · blk_simp [iblk0]
    blk_ext [idx0 t]

theorem call1 (c : Dev nD) : (dat1 V c).arrAt 3 cfg1.N
    = fun i => nt (V c main_v3) (V c main_v4) i + (V c main_v2 : FVec Ideal S8192x1024 .f32) i := by
  refine (dat1 V c).arrAt_eq_of_covers 3 _ (by decide +kernel) fun t _ y => ?_
  blk_simp
  rw [after1_3]
  frame_out
  unfold nt
  pointwise [k1_pay1]
  show (_ : EReal) = _
  congr 1
  · refine Finset.sum_congr rfl fun j _ => ?_
    congr 1
    · blk_simp [iblk1]
      blk_ext [idx1 t]
    · blk_simp [iblk1]
      blk_ext [idx1 t]

theorem call2 (c : Dev nD) : (dat2 V c).arrAt 3 cfg2.N
    = fun i => nt (V c main_v6) (V c main_v7) i + (V c main_v5 : FVec Ideal S8192x1024 .f32) i := by
  refine (dat2 V c).arrAt_eq_of_covers 3 _ (by decide +kernel) fun t _ y => ?_
  blk_simp
  rw [after2_3]
  frame_out
  unfold nt
  pointwise [k2_pay1]
  show (_ : EReal) = _
  congr 1
  · refine Finset.sum_congr rfl fun j _ => ?_
    congr 1
    · blk_simp [iblk2]
      blk_ext [idx2 t]
    · blk_simp [iblk2]
      blk_ext [idx2 t]

theorem call3 (c : Dev nD) : (dat3 V c).arrAt 3 cfg3.N
    = fun i => nt (V c main_v9) (V c main_v10) i + (V c main_v8 : FVec Ideal S8192x1024 .f32) i := by
  refine (dat3 V c).arrAt_eq_of_covers 3 _ (by decide +kernel) fun t _ y => ?_
  blk_simp
  rw [after3_3]
  frame_out
  unfold nt
  pointwise [k3_pay1]
  show (_ : EReal) = _
  congr 1
  · refine Finset.sum_congr rfl fun j _ => ?_
    congr 1
    · blk_simp [iblk3]
      blk_ext [idx3 t]
    · blk_simp [iblk3]
      blk_ext [idx3 t]

end Call

variable (m : (ℓ : Loc nD τ sig) → Buf (Elt Ideal) ℓ) (ρ : Dev nD → PrngReg)

/-! ## What each call is entered with -/

theorem in0 (c : Dev nD) : (V1 m ρ c main_v0 : FVec Ideal S8192x3072 .bf16)
    = shapeCast S8192x3072 (m ((c : Thread nD τ).loc main_arg0) : FVec Ideal S2x4096x3072 .bf16)
        shapeCasts_S2x4096x3072_S8192x3072 := by
  show StableHlo.after hostOps0 (W0 m ρ c) (Proc.devRef .tc main_v0) = _
  after_results
  rw [W0_args m ρ c main_arg0 (by decide)]
  rfl

theorem wt0 (c : Dev nD) : (V1 m ρ c main_v1 : FVec Ideal S1024x3072 .bf16)
    = (m ((c : Thread nD τ).loc main_arg4) : FVec Ideal S1024x3072 .f32) := by
  show StableHlo.after hostOps0 (W0 m ρ c) (Proc.devRef .tc main_v1) = _
  after_results
  rw [W0_args m ρ c main_arg4 (by decide)]
  rfl

theorem in1 (c : Dev nD) : (V3 m ρ c main_v3 : FVec Ideal S8192x2176 .bf16)
    = shapeCast S8192x2176 (m ((c : Thread nD τ).loc main_arg1) : FVec Ideal S2x4096x2176 .bf16)
        shapeCasts_S2x4096x2176_S8192x2176 := by
  show StableHlo.after hostOps1 (W2 m ρ c) (Proc.devRef .tc main_v3) = _
  after_results
  rw [W2_args m ρ c main_arg1 (by decide)]
  rfl

theorem wt1 (c : Dev nD) : (V3 m ρ c main_v4 : FVec Ideal S1024x2176 .bf16)
    = (m ((c : Thread nD τ).loc main_arg5) : FVec Ideal S1024x2176 .f32) := by
  show StableHlo.after hostOps1 (W2 m ρ c) (Proc.devRef .tc main_v4) = _
  after_results
  rw [W2_args m ρ c main_arg5 (by decide)]
  rfl

theorem in2 (c : Dev nD) : (V5 m ρ c main_v6 : FVec Ideal S8192x2048 .bf16)
    = shapeCast S8192x2048 (m ((c : Thread nD τ).loc main_arg2) : FVec Ideal S2x4096x2048 .bf16)
        shapeCasts_S2x4096x2048_S8192x2048 := by
  show StableHlo.after hostOps2 (W4 m ρ c) (Proc.devRef .tc main_v6) = _
  after_results
  rw [W4_args m ρ c main_arg2 (by decide)]
  rfl

theorem wt2 (c : Dev nD) : (V5 m ρ c main_v7 : FVec Ideal S1024x2048 .bf16)
    = (m ((c : Thread nD τ).loc main_arg6) : FVec Ideal S1024x2048 .f32) := by
  show StableHlo.after hostOps2 (W4 m ρ c) (Proc.devRef .tc main_v7) = _
  after_results
  rw [W4_args m ρ c main_arg6 (by decide)]
  rfl

theorem in3 (c : Dev nD) : (V7 m ρ c main_v9 : FVec Ideal S8192x1664 .bf16)
    = shapeCast S8192x1664 (m ((c : Thread nD τ).loc main_arg3) : FVec Ideal S2x4096x1664 .bf16)
        shapeCasts_S2x4096x1664_S8192x1664 := by
  show StableHlo.after hostOps3 (W6 m ρ c) (Proc.devRef .tc main_v9) = _
  after_results
  rw [W6_args m ρ c main_arg3 (by decide)]
  rfl

theorem wt3 (c : Dev nD) : (V7 m ρ c main_v10 : FVec Ideal S1024x1664 .bf16)
    = (m ((c : Thread nD τ).loc main_arg7) : FVec Ideal S1024x1664 .f32) := by
  show StableHlo.after hostOps3 (W6 m ρ c) (Proc.devRef .tc main_v10) = _
  after_results
  rw [W6_args m ρ c main_arg7 (by decide)]
  rfl

theorem chain1 (c : Dev nD) : (V3 m ρ c main_v2 : FVec Ideal S8192x1024 .f32)
    = (dat0 (V1 m ρ) c).arrAt 2 cfg0.N :=
  (W3_of m ρ c main_v2 (by decide)).trans (W2_arr m ρ c 2)

theorem chain2 (c : Dev nD) : (V5 m ρ c main_v5 : FVec Ideal S8192x1024 .f32)
    = (dat1 (V3 m ρ) c).arrAt 3 cfg1.N :=
  (W5_of m ρ c main_v5 (by decide)).trans (W4_arr m ρ c 3)

theorem chain3 (c : Dev nD) : (V7 m ρ c main_v8 : FVec Ideal S8192x1024 .f32)
    = (dat2 (V5 m ρ) c).arrAt 3 cfg2.N :=
  (W7_of m ρ c main_v8 (by decide)).trans (W6_arr m ρ c 3)

/-! ## The four products together -/

theorem nt_eq {n : ℕ} (wf : DotDims.WF ⟨3, ![2, 4096, n]⟩ ⟨2, ![1024, n]⟩ ⟨3, ![2, 4096, 1024]⟩ [2] [1] [0, 1] [0] [] [])
    (hc : Shape.ShapeCasts ⟨3, ![2, 4096, n]⟩ ⟨2, ![8192, n]⟩) (X : FVec Ideal ⟨3, ![2, 4096, n]⟩ .bf16)
    (w : FVec Ideal ⟨2, ![1024, n]⟩ .f32) (i : S8192x1024.Idx) (a : Fin 2) (s : Fin 4096)
    (h : (i 0).val = a.val * 4096 + s.val) :
    nt (shapeCast ⟨2, ![8192, n]⟩ X hc) w i
      = Host.dotGeneral (⟨[2], [1], [0, 1], [0], [], [], wf⟩ : DotDims _ _ _) none
          (extf .f32 X Cert.ProjDxRIdeal.Gen.bitsLt_bf16_f32) w (ix3 a s (i 1)) := by
  refine Eq.trans ?_ (Cert.Products.nt wf _ w _ _ (i 1)).symm
  exact Finset.sum_congr rfl fun j _ => congrArg (fun z : EReal => z * w (ix2 (i 1) j))
    (Cert.Products.rows (b := 2) (t := 4096) hc X (ix2 (i 0) j) _ _ h)

/-- The reference's gradient. -/
abbrev DH (d0 : FVec Ideal Cert.ProjDxRIdeal.S2x4096x3072 .bf16) (d1 : FVec Ideal Cert.ProjDxRIdeal.S2x4096x2176 .bf16)
    (d2 : FVec Ideal Cert.ProjDxRIdeal.S2x4096x2048 .bf16) (d3 : FVec Ideal Cert.ProjDxRIdeal.S2x4096x1664 .bf16)
    (w0 : FVec Ideal Cert.ProjDxRIdeal.S1024x3072 .f32) (w1 : FVec Ideal Cert.ProjDxRIdeal.S1024x2176 .f32)
    (w2 : FVec Ideal Cert.ProjDxRIdeal.S1024x2048 .f32) (w3 : FVec Ideal Cert.ProjDxRIdeal.S1024x1664 .f32) :
    FVec Ideal Cert.ProjDxRIdeal.S8192x1024 .f32 :=
  shapeCast _ (addf (addf (addf
    (Host.dotGeneral Cert.ProjDxRIdeal.dot_S2x4096x1664_S1024x1664_S2x4096x1024_2_1_01_0_n_n none
      (extf .f32 d3 Cert.ProjDxRIdeal.Gen.bitsLt_bf16_f32) w3)
    (Host.dotGeneral Cert.ProjDxRIdeal.dot_S2x4096x2048_S1024x2048_S2x4096x1024_2_1_01_0_n_n none
      (extf .f32 d2 Cert.ProjDxRIdeal.Gen.bitsLt_bf16_f32) w2))
    (Host.dotGeneral Cert.ProjDxRIdeal.dot_S2x4096x2176_S1024x2176_S2x4096x1024_2_1_01_0_n_n none
      (extf .f32 d1 Cert.ProjDxRIdeal.Gen.bitsLt_bf16_f32) w1))
    (Host.dotGeneral Cert.ProjDxRIdeal.dot_S2x4096x3072_S1024x3072_S2x4096x1024_2_1_01_0_n_n none
      (extf .f32 d0 Cert.ProjDxRIdeal.Gen.bitsLt_bf16_f32) w0)) Cert.ProjDxRIdeal.Gen.shapeCasts_S2x4096x1024_S8192x1024

theorem final (c : Dev nD) : (dat3 (V7 m ρ) c).arrAt 3 cfg3.N
    = DH (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  rw [call3, chain3, call2, chain2, call1, chain1, call0, in0, in1, in2, in3, wt0, wt1, wt2, wt3]
  funext i
  have hi : (i 0).val < 8192 := (i 0).isLt
  have h : (i 0).val = (⟨(i 0).val / 4096, by omega⟩ : Fin 2).val * 4096
      + (⟨(i 0).val % 4096, by omega⟩ : Fin 4096).val := by dsimp only; omega
  refine Eq.trans ?_ (Cert.Products.rows (b := 2) (t := 4096) _ _ i _ _ h).symm
  dsimp only
  rw [nt_eq Cert.ProjDxRIdeal.Gen.dot_S2x4096x3072_S1024x3072_S2x4096x1024_2_1_01_0_n_n_wf _ _ _ i _ _ h,
    nt_eq Cert.ProjDxRIdeal.Gen.dot_S2x4096x2176_S1024x2176_S2x4096x1024_2_1_01_0_n_n_wf _ _ _ i _ _ h,
    nt_eq Cert.ProjDxRIdeal.Gen.dot_S2x4096x2048_S1024x2048_S2x4096x1024_2_1_01_0_n_n_wf _ _ _ i _ _ h,
    nt_eq Cert.ProjDxRIdeal.Gen.dot_S2x4096x1664_S1024x1664_S2x4096x1024_2_1_01_0_n_n_wf _ _ _ i _ _ h,
    ← add_assoc, ← add_assoc]
  rfl

set_option backward.isDefEq.respectTransparency.types false in
/-- The run's end contents of every unscoped buffer. -/
theorem ends : θ_run defs (onTc (τ := τ) (main (F := Ideal))) ⟨m, fun _ => 0, ρ⟩ (fun r => ∀ c : Dev nD,
    ∀ b ∈ Pipeline.ucRefs τ sig, r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) :
              sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ))
        ⊢ bigSep Finset.univ (fun _ : Dev nD => (BI.emp : sProp (MT nD τ sig Unit (Elt Ideal) ℕ (UR sig nD τ) ℕ)))
        from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => h)

/-- The result array and the arguments at the run's end. -/
theorem run : θ_run defs (onTc (τ := τ) (main (F := Ideal))) ⟨m, fun _ => 0, ρ⟩ (fun r => ∀ c : Dev nD,
    r.2.mem ((c.tc : Thread nD τ).loc main_v11)
      = DH (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
    ∧ ∀ a ∈ argRefs, r.2.mem ((c.tc : Thread nD τ).loc a) = m ((c.tc : Thread nD τ).loc a)) :=
  (θ_run defs _ _).mono (fun r h c =>
    ⟨(h c _ (mem_uc main_v11 (by decide))).trans ((W8_arr m ρ c 3).trans (final m ρ c)),
      fun a ha => (h c _ (mem_uc a ((by decide : ∀ a ∈ argRefs, ¬ (Proc.devRef .tc a : DevRef τ sig).isScoped) a ha))).trans
        (W8_args m ρ c a ha)⟩) (ends m ρ)

end Cert.ProjDxKIdeal.Val

end
-- ==== Proof.ProjGDw.lean ====
/- The weight's gradient of an input projection (`proj_g_dw`): the kernel adds the products of two halves of the
   rows in its scratch and writes the sum after the second; the reference contracts batch and position at once. -/
module

public import proofs.«01_k».proof.Proof.Gen.ProjGDwKIdeal.Frame
public import proofs.«01_k».proof.Proof.Gen.ProjGDwRIdeal.Run
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)
open scoped BigOperators

namespace Cert.ProjGDwKIdeal.Val

open Cert.ProjGDwKIdeal Cert.ProjGDwKIdeal.Gen

variable (m : (ℓ : Loc nD τ sig) → Buf (Elt Ideal) ℓ)

/-- The reference's gradient of the weight. -/
abbrev DW (h : FVec Ideal Cert.ProjGDwRIdeal.S2x4096x1024 .bf16) (du : FVec Ideal Cert.ProjGDwRIdeal.S2x4096x3072 .bf16) :
    FVec Ideal Cert.ProjGDwRIdeal.S1024x3072 .f32 :=
  transpose Cert.ProjGDwRIdeal.S1024x3072 [1, 0]
    (Host.dotGeneral Cert.ProjGDwRIdeal.dot_S2x4096x3072_S2x4096x1024_S3072x1024_01_01_2_2_n_n none
      (extf .f32 du Cert.ProjGDwRIdeal.Gen.bitsLt_bf16_f32) (extf .f32 h Cert.ProjGDwRIdeal.Gen.bitsLt_bf16_f32))
    Cert.ProjGDwRIdeal.Gen.transposes_S3072x1024_S1024x3072_1_0

theorem idx : ∀ t : Fin cfg0.N, win0_0.index t = ![0, t.val % 2] ∧ win0_1.index t = ![t.val % 2, t.val / 2]
    ∧ win0_2.index t = ![0, t.val / 2] :=
  (by decide +kernel : ∀ t : Fin grid0.N, _)

theorem bound (t : Fin cfg0.N) : t.val < 12 := lt_of_lt_of_eq t.isLt N_0

theorem DW_at (h : FVec Ideal Cert.ProjGDwRIdeal.S2x4096x1024 .bf16) (du : FVec Ideal Cert.ProjGDwRIdeal.S2x4096x3072 .bf16)
    (i : Cert.ProjGDwRIdeal.S1024x3072.Idx) :
    DW h du i = ∑ a : Fin 2, ∑ s : Fin 4096, (du (ix3 a s (i 1)) : EReal) * h (ix3 a s (i 0)) := by
  pointwise [DW]

theorem op0 (c : Dev nD) (i : S1024x8192.Idx) (a : Fin 2) (s : Fin 4096) (h : (i 1).val = a.val * 4096 + s.val) :
    (V m c main_v1 : FVec Ideal S1024x8192 .bf16) i
      = (m ((c : Thread nD τ).loc main_arg0) : FVec Ideal S2x4096x1024 .bf16) (ix3 a s (i 0)) := by
  entry_read
  pointwise
  blk_ext

theorem op1 (c : Dev nD) (i : S8192x3072.Idx) (a : Fin 2) (s : Fin 4096) (h : (i 0).val = a.val * 4096 + s.val) :
    (V m c main_v2 : FVec Ideal S8192x3072 .bf16) i
      = (m ((c : Thread nD τ).loc main_arg1) : FVec Ideal S2x4096x3072 .bf16) (ix3 a s (i 1)) := by
  entry_read
  pointwise
  blk_ext

theorem blk0 (c : Dev nD) (t : Fin cfg0.N) (x : S1024x4096.Idx) (a : Fin 2) (s : Fin 4096) (j : Fin 1024)
    (h : t.val % 2 = a.val) (hs : (x 1).val = s.val) (hj : (x 0).val = j.val) :
    (iblk m c 0 t : FVec Ideal S1024x4096 .bf16) x
      = (m ((c : Thread nD τ).loc main_arg0) : FVec Ideal S2x4096x1024 .bf16) (ix3 a s j) := by
  blk_simp [iblk]
  refine (op0 m c _ a s (by blk_simp [idx t]; omega)).trans ?_
  blk_ext [idx t]

theorem blk1 (c : Dev nD) (t : Fin cfg0.N) (x : S4096x512.Idx) (a : Fin 2) (s : Fin 4096) (j : Fin 3072)
    (h : t.val % 2 = a.val) (hs : (x 0).val = s.val) (hj : t.val / 2 * 512 + (x 1).val = j.val) :
    (iblk m c 1 t : FVec Ideal S4096x512 .bf16) x
      = (m ((c : Thread nD τ).loc main_arg1) : FVec Ideal S2x4096x3072 .bf16) (ix3 a s j) := by
  blk_simp [iblk]
  refine (op1 m c _ a s (by blk_simp [idx t]; omega)).trans ?_
  blk_ext [idx t]

theorem first (l : FVec Ideal S1024x4096 .bf16) (r : FVec Ideal S4096x512 .bf16) (j : S1024x512.Idx) :
    k0_pay2 (F := Ideal) l r j = ∑ s : Fin 4096, (l (ix2 (j 0) s) : EReal) * r (ix2 s (j 1)) := by
  pointwise [k0_pay2, k0_pay1]

theorem second (l : FVec Ideal S1024x4096 .bf16) (r : FVec Ideal S4096x512 .bf16) (acc : FVec Ideal S1024x512 .f32)
    (j : S1024x512.Idx) : k0_pay3 l r acc j = acc j + k0_pay2 l r j := by
  pointwise [k0_pay3, k0_pay2, k0_pay1]

theorem final2 (c : Dev nD) : (dats m 0 c).arrAt 2 (cfgs 0).N
    = DW (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have ho : (outsAt0 m c t.val t.isLt).1 = (outsAt0 m c t.val t.isLt).2 := by
    rw [outsAt0_B m c t (by omega) ht ht]
    frame_out
  have hr := Pipeline.eq_sum_fin_of_reset_step_apply_of_flush (fun n h => (outsAt0 m c n h).2) 2 (fun _ => 0)
    (fun p => k0_pay2 (iblk m c 0 p) (iblk m c 1 p))
    (fun t h j => by rw [outsAt0_A m c t h (by omega) (by omega)]; frame_out; rw [zero_add])
    (fun t h j => by rw [outsAt0_B m c t h (by omega) (by omega)]; frame_out; rw [second]; exact congrArg (· + _) (congrFun (Memref.IsWhole.read_unread _ _) j))
    t ht
  blk_simp
  rw [after0_2, ho, hr, zero_add, DW_at]
  show (_ : EReal) = _
  refine Finset.sum_congr rfl fun p _ => ?_
  rw [first]
  refine Finset.sum_congr rfl fun s _ => ?_
  rw [mul_comm]
  have hb := bound t
  have hp := p.isLt
  congr 1
  · refine blk1 m c _ _ _ _ _ ?_ ?_ ?_ <;> (try blk_simp [idx t]) <;> (try dsimp only) <;> omega
  · refine blk0 m c _ _ _ _ _ ?_ ?_ ?_ <;> (try blk_simp [idx t]) <;> (try dsimp only) <;> omega

end Cert.ProjGDwKIdeal.Val

end
-- ==== Proof.ProjADw.lean ====
/- The weight's gradient of an input projection (`proj_a_dw`): the kernel adds the products of eight
   tiles of the rows in its scratch and writes the sum after the last; the reference contracts batch and position at once. -/
module

public import proofs.«01_k».proof.Proof.Gen.ProjADwKIdeal.Frame
public import proofs.«01_k».proof.Proof.Gen.ProjADwRIdeal.Run
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)
open scoped BigOperators

namespace Cert.ProjADwKIdeal.Val

open Cert.ProjADwKIdeal Cert.ProjADwKIdeal.Gen

variable (m : (ℓ : Loc nD τ sig) → Buf (Elt Ideal) ℓ)

/-- The reference's gradient of the weight. -/
abbrev DW (h : FVec Ideal Cert.ProjADwRIdeal.S2x4096x1024 .bf16) (du : FVec Ideal Cert.ProjADwRIdeal.S2x4096x2176 .bf16) :
    FVec Ideal Cert.ProjADwRIdeal.S1024x2176 .f32 :=
  transpose Cert.ProjADwRIdeal.S1024x2176 [1, 0]
    (Host.dotGeneral Cert.ProjADwRIdeal.dot_S2x4096x2176_S2x4096x1024_S2176x1024_01_01_2_2_n_n none
      (extf .f32 du Cert.ProjADwRIdeal.Gen.bitsLt_bf16_f32) (extf .f32 h Cert.ProjADwRIdeal.Gen.bitsLt_bf16_f32))
    Cert.ProjADwRIdeal.Gen.transposes_S2176x1024_S1024x2176_1_0

theorem idx : ∀ t : Fin cfg0.N, win0_0.index t = ![0, t.val] ∧ win0_1.index t = ![t.val, 0]
    ∧ win0_2.index t = ![0, 0] :=
  (by decide +kernel : ∀ t : Fin grid0.N, _)

theorem bound (t : Fin cfg0.N) : t.val < 8 := lt_of_lt_of_eq t.isLt N_0

theorem DW_at (h : FVec Ideal Cert.ProjADwRIdeal.S2x4096x1024 .bf16) (du : FVec Ideal Cert.ProjADwRIdeal.S2x4096x2176 .bf16)
    (i : Cert.ProjADwRIdeal.S1024x2176.Idx) :
    DW h du i = ∑ a : Fin 2, ∑ s : Fin 4096, (du (ix3 a s (i 1)) : EReal) * h (ix3 a s (i 0)) := by
  pointwise [DW]

theorem op0 (c : Dev nD) (i : S1024x8192.Idx) (a : Fin 2) (s : Fin 4096) (h : (i 1).val = a.val * 4096 + s.val) :
    (V m c main_v1 : FVec Ideal S1024x8192 .bf16) i
      = (m ((c : Thread nD τ).loc main_arg0) : FVec Ideal S2x4096x1024 .bf16) (ix3 a s (i 0)) := by
  entry_read
  pointwise
  blk_ext

theorem op1 (c : Dev nD) (i : S8192x2176.Idx) (a : Fin 2) (s : Fin 4096) (h : (i 0).val = a.val * 4096 + s.val) :
    (V m c main_v2 : FVec Ideal S8192x2176 .bf16) i
      = (m ((c : Thread nD τ).loc main_arg1) : FVec Ideal S2x4096x2176 .bf16) (ix3 a s (i 1)) := by
  entry_read
  pointwise
  blk_ext

theorem blk0 (c : Dev nD) (t : Fin cfg0.N) (x : S1024x1024.Idx) (a : Fin 2) (s : Fin 4096) (j : Fin 1024)
    (h : t.val * 1024 + (x 1).val = a.val * 4096 + s.val) (hj : (x 0).val = j.val) :
    (iblk m c 0 t : FVec Ideal S1024x1024 .bf16) x
      = (m ((c : Thread nD τ).loc main_arg0) : FVec Ideal S2x4096x1024 .bf16) (ix3 a s j) := by
  blk_simp [iblk]
  refine (op0 m c _ a s (by blk_simp [idx t]; omega)).trans ?_
  blk_ext [idx t]

theorem blk1 (c : Dev nD) (t : Fin cfg0.N) (x : S1024x2176.Idx) (a : Fin 2) (s : Fin 4096) (j : Fin 2176)
    (h : t.val * 1024 + (x 0).val = a.val * 4096 + s.val) (hj : (x 1).val = j.val) :
    (iblk m c 1 t : FVec Ideal S1024x2176 .bf16) x
      = (m ((c : Thread nD τ).loc main_arg1) : FVec Ideal S2x4096x2176 .bf16) (ix3 a s j) := by
  blk_simp [iblk]
  refine (op1 m c _ a s (by blk_simp [idx t]; omega)).trans ?_
  blk_ext [idx t]

theorem first (l : FVec Ideal S1024x1024 .bf16) (r : FVec Ideal S1024x2176 .bf16) (j : S1024x2176.Idx) :
    k0_pay2 (F := Ideal) l r j = ∑ s : Fin 1024, (l (ix2 (j 0) s) : EReal) * r (ix2 s (j 1)) := by
  pointwise [k0_pay2, k0_pay1]

theorem second (l : FVec Ideal S1024x1024 .bf16) (r : FVec Ideal S1024x2176 .bf16) (acc : FVec Ideal S1024x2176 .f32)
    (j : S1024x2176.Idx) : k0_pay3 l r acc j = acc j + k0_pay2 l r j := by
  pointwise [k0_pay3, k0_pay2, k0_pay1]

theorem final2 (c : Dev nD) : (dats m 0 c).arrAt 2 (cfgs 0).N
    = DW (m ((c : Thread nD τ).loc main_arg0)) (m ((c : Thread nD τ).loc main_arg1)) := by
  refine (dats m 0 c).arrAt_eq_of_covers 2 _ (by decide +kernel) fun t hf y => ?_
  have ht : t.val % 8 = 7 := (flush0_2 t).mp hf
  have hb := bound t
  have ho : (outsAt0 m c t.val t.isLt).1 = (outsAt0 m c t.val t.isLt).2 := by
    rw [outsAt0_C m c t (by omega) (by omega) ht]
    frame_out
  have hr := Pipeline.eq_sum_fin_of_reset_step_apply_of_flush (fun n h => (outsAt0 m c n h).2) 8 (fun _ => 0)
    (fun p => k0_pay2 (iblk m c 0 p) (iblk m c 1 p))
    (fun t h j => by
      have := bound t
      rw [outsAt0_A m c t h (by omega) (by omega)]; frame_out; rw [zero_add])
    (fun t h j => by
      by_cases h7 : t.val % 8 = 7
      · rw [outsAt0_C m c t h (by omega) h7]; frame_out; rw [second]
        exact congrArg (· + _) (congrFun (Memref.IsWhole.read_unread _ _) j)
      · rw [outsAt0_B m c t h (by omega) h7]; frame_out; rw [second]
        exact congrArg (· + _) (congrFun (Memref.IsWhole.read_unread _ _) j))
    t ht
  blk_simp
  rw [after0_2, ho, hr, zero_add, DW_at]
  show (_ : EReal) = _
  simp only [first]
  refine Fin.sum_points_lanes_congr 4 fun p k ha hl => ?_
  have hp := p.isLt
  rw [mul_comm]
  congr 1
  · refine blk1 m c _ _ _ _ _ ?_ ?_ <;> (try blk_simp [idx t]) <;> (try dsimp only) <;> omega
  · refine blk0 m c _ _ _ _ _ ?_ ?_ <;> (try blk_simp [idx t]) <;> (try dsimp only) <;> omega

end Cert.ProjADwKIdeal.Val

end
-- ==== Proof.ProjBDw.lean ====
/- The weight's gradient of an input projection (`proj_b_dw`): the kernel adds the products of two halves of the
   rows in its scratch and writes the sum after the second; the reference contracts batch and position at once. -/
module

public import proofs.«01_k».proof.Proof.Gen.ProjBDwKIdeal.Frame
public import proofs.«01_k».proof.Proof.Gen.ProjBDwRIdeal.Run
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)
open scoped BigOperators

namespace Cert.ProjBDwKIdeal.Val

open Cert.ProjBDwKIdeal Cert.ProjBDwKIdeal.Gen

variable (m : (ℓ : Loc nD τ sig) → Buf (Elt Ideal) ℓ)

/-- The reference's gradient of the weight. -/
abbrev DW (h : FVec Ideal Cert.ProjBDwRIdeal.S2x4096x1024 .bf16) (du : FVec Ideal Cert.ProjBDwRIdeal.S2x4096x2048 .bf16) :
    FVec Ideal Cert.ProjBDwRIdeal.S1024x2048 .f32 :=
  transpose Cert.ProjBDwRIdeal.S1024x2048 [1, 0]
    (Host.dotGeneral Cert.ProjBDwRIdeal.dot_S2x4096x2048_S2x4096x1024_S2048x1024_01_01_2_2_n_n none
      (extf .f32 du Cert.ProjBDwRIdeal.Gen.bitsLt_bf16_f32) (extf .f32 h Cert.ProjBDwRIdeal.Gen.bitsLt_bf16_f32))
    Cert.ProjBDwRIdeal.Gen.transposes_S2048x1024_S1024x2048_1_0

theorem idx : ∀ t : Fin cfg0.N, win0_0.index t = ![0, t.val % 2] ∧ win0_1.index t = ![t.val % 2, t.val / 2]
    ∧ win0_2.index t = ![0, t.val / 2] :=
  (by decide +kernel : ∀ t : Fin grid0.N, _)

theorem bound (t : Fin cfg0.N) : t.val < 8 := lt_of_lt_of_eq t.isLt N_0

theorem DW_at (h : FVec Ideal Cert.ProjBDwRIdeal.S2x4096x1024 .bf16) (du : FVec Ideal Cert.ProjBDwRIdeal.S2x4096x2048 .bf16)
    (i : Cert.ProjBDwRIdeal.S1024x2048.Idx) :
    DW h du i = ∑ a : Fin 2, ∑ s : Fin 4096, (du (ix3 a s (i 1)) : EReal) * h (ix3 a s (i 0)) := by
  pointwise [DW]

theorem op0 (c : Dev nD) (i : S1024x8192.Idx) (a : Fin 2) (s : Fin 4096) (h : (i 1).val = a.val * 4096 + s.val) :
    (V m c main_v1 : FVec Ideal S1024x8192 .bf16) i
      = (m ((c : Thread nD τ).loc main_arg0) : FVec Ideal S2x4096x1024 .bf16) (ix3 a s (i 0)) := by
  entry_read
  pointwise
  blk_ext

theorem op1 (c : Dev nD) (i : S8192x2048.Idx) (a : Fin 2) (s : Fin 4096) (h : (i 0).val = a.val * 4096 + s.val) :
    (V m c main_v2 : FVec Ideal S8192x2048 .bf16) i
      = (m ((c : Thread nD τ).loc main_arg1) : FVec Ideal S2x4096x2048 .bf16) (ix3 a s (i 1)) := by
  entry_read
  pointwise
  blk_ext

theorem blk0 (c : Dev nD) (t : Fin cfg0.N) (x : S1024x4096.Idx) (a : Fin 2) (s : Fin 4096) (j : Fin 1024)
    (h : t.val % 2 = a.val) (hs : (x 1).val = s.val) (hj : (x 0).val = j.val) :
    (iblk m c 0 t : FVec Ideal S1024x4096 .bf16) x
      = (m ((c : Thread nD τ).loc main_arg0) : FVec Ideal S2x4096x1024 .bf16) (ix3 a s j) := by
  blk_simp [iblk]
  refine (op0 m c _ a s (by blk_simp [idx t]; omega)).trans ?_
  blk_ext [idx t]

theorem blk1 (c : Dev nD) (t : Fin cfg0.N) (x : S4096x512.Idx) (a : Fin 2) (s : Fin 4096) (j : Fin 2048)
    (h : t.val % 2 = a.val) (hs : (x 0).val = s.val) (hj : t.val / 2 * 512 + (x 1).val = j.val) :
    (iblk m c 1 t : FVec Ideal S4096x512 .bf16) x
      = (m ((c : Thread nD τ).loc main_arg1) : FVec Ideal S2x4096x2048 .bf16) (ix3 a s j) := by
  blk_simp [iblk]
  refine (op1 m c _ a s (by blk_simp [idx t]; omega)).trans ?_
  blk_ext [idx t]

theorem first (l : FVec Ideal S1024x4096 .bf16) (r : FVec Ideal S4096x512 .bf16) (j : S1024x512.Idx) :
    k0_pay2 (F := Ideal) l r j = ∑ s : Fin 4096, (l (ix2 (j 0) s) : EReal) * r (ix2 s (j 1)) := by
  pointwise [k0_pay2, k0_pay1]

theorem second (l : FVec Ideal S1024x4096 .bf16) (r : FVec Ideal S4096x512 .bf16) (acc : FVec Ideal S1024x512 .f32)
    (j : S1024x512.Idx) : k0_pay3 l r acc j = acc j + k0_pay2 l r j := by
  pointwise [k0_pay3, k0_pay2, k0_pay1]

theorem final2 (c : Dev nD) : (dats m 0 c).arrAt 2 (cfgs 0).N
    = DW (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have ho : (outsAt0 m c t.val t.isLt).1 = (outsAt0 m c t.val t.isLt).2 := by
    rw [outsAt0_B m c t (by omega) ht ht]
    frame_out
  have hr := Pipeline.eq_sum_fin_of_reset_step_apply_of_flush (fun n h => (outsAt0 m c n h).2) 2 (fun _ => 0)
    (fun p => k0_pay2 (iblk m c 0 p) (iblk m c 1 p))
    (fun t h j => by rw [outsAt0_A m c t h (by omega) (by omega)]; frame_out; rw [zero_add])
    (fun t h j => by rw [outsAt0_B m c t h (by omega) (by omega)]; frame_out; rw [second]; exact congrArg (· + _) (congrFun (Memref.IsWhole.read_unread _ _) j))
    t ht
  blk_simp
  rw [after0_2, ho, hr, zero_add, DW_at]
  show (_ : EReal) = _
  refine Finset.sum_congr rfl fun p _ => ?_
  rw [first]
  refine Finset.sum_congr rfl fun s _ => ?_
  rw [mul_comm]
  have hb := bound t
  have hp := p.isLt
  congr 1
  · refine blk1 m c _ _ _ _ _ ?_ ?_ ?_ <;> (try blk_simp [idx t]) <;> (try dsimp only) <;> omega
  · refine blk0 m c _ _ _ _ _ ?_ ?_ ?_ <;> (try blk_simp [idx t]) <;> (try dsimp only) <;> omega

end Cert.ProjBDwKIdeal.Val

end
-- ==== Proof.ProjCDw.lean ====
/- The weight's gradient of an input projection (`proj_c_dw`): the kernel adds the products of eight
   tiles of the rows in its scratch and writes the sum after the last; the reference contracts batch and position at once. -/
module

public import proofs.«01_k».proof.Proof.Gen.ProjCDwKIdeal.Frame
public import proofs.«01_k».proof.Proof.Gen.ProjCDwRIdeal.Run
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)
open scoped BigOperators

namespace Cert.ProjCDwKIdeal.Val

open Cert.ProjCDwKIdeal Cert.ProjCDwKIdeal.Gen

variable (m : (ℓ : Loc nD τ sig) → Buf (Elt Ideal) ℓ)

/-- The reference's gradient of the weight. -/
abbrev DW (h : FVec Ideal Cert.ProjCDwRIdeal.S2x4096x1024 .bf16) (du : FVec Ideal Cert.ProjCDwRIdeal.S2x4096x1664 .bf16) :
    FVec Ideal Cert.ProjCDwRIdeal.S1024x1664 .f32 :=
  transpose Cert.ProjCDwRIdeal.S1024x1664 [1, 0]
    (Host.dotGeneral Cert.ProjCDwRIdeal.dot_S2x4096x1664_S2x4096x1024_S1664x1024_01_01_2_2_n_n none
      (extf .f32 du Cert.ProjCDwRIdeal.Gen.bitsLt_bf16_f32) (extf .f32 h Cert.ProjCDwRIdeal.Gen.bitsLt_bf16_f32))
    Cert.ProjCDwRIdeal.Gen.transposes_S1664x1024_S1024x1664_1_0

theorem idx : ∀ t : Fin cfg0.N, win0_0.index t = ![0, t.val] ∧ win0_1.index t = ![t.val, 0]
    ∧ win0_2.index t = ![0, 0] :=
  (by decide +kernel : ∀ t : Fin grid0.N, _)

theorem bound (t : Fin cfg0.N) : t.val < 8 := lt_of_lt_of_eq t.isLt N_0

theorem DW_at (h : FVec Ideal Cert.ProjCDwRIdeal.S2x4096x1024 .bf16) (du : FVec Ideal Cert.ProjCDwRIdeal.S2x4096x1664 .bf16)
    (i : Cert.ProjCDwRIdeal.S1024x1664.Idx) :
    DW h du i = ∑ a : Fin 2, ∑ s : Fin 4096, (du (ix3 a s (i 1)) : EReal) * h (ix3 a s (i 0)) := by
  pointwise [DW]

theorem op0 (c : Dev nD) (i : S1024x8192.Idx) (a : Fin 2) (s : Fin 4096) (h : (i 1).val = a.val * 4096 + s.val) :
    (V m c main_v1 : FVec Ideal S1024x8192 .bf16) i
      = (m ((c : Thread nD τ).loc main_arg0) : FVec Ideal S2x4096x1024 .bf16) (ix3 a s (i 0)) := by
  entry_read
  pointwise
  blk_ext

theorem op1 (c : Dev nD) (i : S8192x1664.Idx) (a : Fin 2) (s : Fin 4096) (h : (i 0).val = a.val * 4096 + s.val) :
    (V m c main_v2 : FVec Ideal S8192x1664 .bf16) i
      = (m ((c : Thread nD τ).loc main_arg1) : FVec Ideal S2x4096x1664 .bf16) (ix3 a s (i 1)) := by
  entry_read
  pointwise
  blk_ext

theorem blk0 (c : Dev nD) (t : Fin cfg0.N) (x : S1024x1024.Idx) (a : Fin 2) (s : Fin 4096) (j : Fin 1024)
    (h : t.val * 1024 + (x 1).val = a.val * 4096 + s.val) (hj : (x 0).val = j.val) :
    (iblk m c 0 t : FVec Ideal S1024x1024 .bf16) x
      = (m ((c : Thread nD τ).loc main_arg0) : FVec Ideal S2x4096x1024 .bf16) (ix3 a s j) := by
  blk_simp [iblk]
  refine (op0 m c _ a s (by blk_simp [idx t]; omega)).trans ?_
  blk_ext [idx t]

theorem blk1 (c : Dev nD) (t : Fin cfg0.N) (x : S1024x1664.Idx) (a : Fin 2) (s : Fin 4096) (j : Fin 1664)
    (h : t.val * 1024 + (x 0).val = a.val * 4096 + s.val) (hj : (x 1).val = j.val) :
    (iblk m c 1 t : FVec Ideal S1024x1664 .bf16) x
      = (m ((c : Thread nD τ).loc main_arg1) : FVec Ideal S2x4096x1664 .bf16) (ix3 a s j) := by
  blk_simp [iblk]
  refine (op1 m c _ a s (by blk_simp [idx t]; omega)).trans ?_
  blk_ext [idx t]

theorem first (l : FVec Ideal S1024x1024 .bf16) (r : FVec Ideal S1024x1664 .bf16) (j : S1024x1664.Idx) :
    k0_pay2 (F := Ideal) l r j = ∑ s : Fin 1024, (l (ix2 (j 0) s) : EReal) * r (ix2 s (j 1)) := by
  pointwise [k0_pay2, k0_pay1]

theorem second (l : FVec Ideal S1024x1024 .bf16) (r : FVec Ideal S1024x1664 .bf16) (acc : FVec Ideal S1024x1664 .f32)
    (j : S1024x1664.Idx) : k0_pay3 l r acc j = acc j + k0_pay2 l r j := by
  pointwise [k0_pay3, k0_pay2, k0_pay1]

theorem final2 (c : Dev nD) : (dats m 0 c).arrAt 2 (cfgs 0).N
    = DW (m ((c : Thread nD τ).loc main_arg0)) (m ((c : Thread nD τ).loc main_arg1)) := by
  refine (dats m 0 c).arrAt_eq_of_covers 2 _ (by decide +kernel) fun t hf y => ?_
  have ht : t.val % 8 = 7 := (flush0_2 t).mp hf
  have hb := bound t
  have ho : (outsAt0 m c t.val t.isLt).1 = (outsAt0 m c t.val t.isLt).2 := by
    rw [outsAt0_C m c t (by omega) (by omega) ht]
    frame_out
  have hr := Pipeline.eq_sum_fin_of_reset_step_apply_of_flush (fun n h => (outsAt0 m c n h).2) 8 (fun _ => 0)
    (fun p => k0_pay2 (iblk m c 0 p) (iblk m c 1 p))
    (fun t h j => by
      have := bound t
      rw [outsAt0_A m c t h (by omega) (by omega)]; frame_out; rw [zero_add])
    (fun t h j => by
      by_cases h7 : t.val % 8 = 7
      · rw [outsAt0_C m c t h (by omega) h7]; frame_out; rw [second]
        exact congrArg (· + _) (congrFun (Memref.IsWhole.read_unread _ _) j)
      · rw [outsAt0_B m c t h (by omega) h7]; frame_out; rw [second]
        exact congrArg (· + _) (congrFun (Memref.IsWhole.read_unread _ _) j))
    t ht
  blk_simp
  rw [after0_2, ho, hr, zero_add, DW_at]
  show (_ : EReal) = _
  simp only [first]
  refine Fin.sum_points_lanes_congr 4 fun p k ha hl => ?_
  have hp := p.isLt
  rw [mul_comm]
  congr 1
  · refine blk1 m c _ _ _ _ _ ?_ ?_ <;> (try blk_simp [idx t]) <;> (try dsimp only) <;> omega
  · refine blk0 m c _ _ _ _ _ ?_ ?_ <;> (try blk_simp [idx t]) <;> (try dsimp only) <;> omega

end Cert.ProjCDwKIdeal.Val

end
-- ==== Proof.UpDw.lean ====
/- The weight's gradient of the up projection (`ffn_up_dw`): the kernel adds the products of two halves of the
   rows in its scratch and writes the sum after the second; the reference contracts batch and position at once. -/
module

public import proofs.«01_k».proof.Proof.Gen.UpDwKIdeal.Frame
public import proofs.«01_k».proof.Proof.Gen.UpDwRIdeal.Run
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)
open scoped BigOperators

namespace Cert.UpDwKIdeal.Val

open Cert.UpDwKIdeal Cert.UpDwKIdeal.Gen

variable (m : (ℓ : Loc nD τ sig) → Buf (Elt Ideal) ℓ)

/-- The reference's gradient of the weight. -/
abbrev DW (h : FVec Ideal Cert.UpDwRIdeal.S2x4096x1024 .bf16) (du : FVec Ideal Cert.UpDwRIdeal.S2x4096x5632 .bf16) :
    FVec Ideal Cert.UpDwRIdeal.S1024x5632 .f32 :=
  transpose Cert.UpDwRIdeal.S1024x5632 [1, 0]
    (Host.dotGeneral Cert.UpDwRIdeal.dot_S2x4096x5632_S2x4096x1024_S5632x1024_01_01_2_2_n_n none
      (extf .f32 du Cert.UpDwRIdeal.Gen.bitsLt_bf16_f32) (extf .f32 h Cert.UpDwRIdeal.Gen.bitsLt_bf16_f32))
    Cert.UpDwRIdeal.Gen.transposes_S5632x1024_S1024x5632_1_0

theorem idx : ∀ t : Fin cfg0.N, win0_0.index t = ![0, t.val % 2] ∧ win0_1.index t = ![t.val % 2, t.val / 2]
    ∧ win0_2.index t = ![0, t.val / 2] :=
  (by decide +kernel : ∀ t : Fin grid0.N, _)

theorem bound (t : Fin cfg0.N) : t.val < 22 := lt_of_lt_of_eq t.isLt N_0

theorem DW_at (h : FVec Ideal Cert.UpDwRIdeal.S2x4096x1024 .bf16) (du : FVec Ideal Cert.UpDwRIdeal.S2x4096x5632 .bf16)
    (i : Cert.UpDwRIdeal.S1024x5632.Idx) :
    DW h du i = ∑ a : Fin 2, ∑ s : Fin 4096, (du (ix3 a s (i 1)) : EReal) * h (ix3 a s (i 0)) := by
  pointwise [DW]

theorem op0 (c : Dev nD) (i : S1024x8192.Idx) (a : Fin 2) (s : Fin 4096) (h : (i 1).val = a.val * 4096 + s.val) :
    (V m c main_v1 : FVec Ideal S1024x8192 .bf16) i
      = (m ((c : Thread nD τ).loc main_arg0) : FVec Ideal S2x4096x1024 .bf16) (ix3 a s (i 0)) := by
  entry_read
  pointwise
  blk_ext

theorem op1 (c : Dev nD) (i : S8192x5632.Idx) (a : Fin 2) (s : Fin 4096) (h : (i 0).val = a.val * 4096 + s.val) :
    (V m c main_v2 : FVec Ideal S8192x5632 .bf16) i
      = (m ((c : Thread nD τ).loc main_arg1) : FVec Ideal S2x4096x5632 .bf16) (ix3 a s (i 1)) := by
  entry_read
  pointwise
  blk_ext

theorem blk0 (c : Dev nD) (t : Fin cfg0.N) (x : S1024x4096.Idx) (a : Fin 2) (s : Fin 4096) (j : Fin 1024)
    (h : t.val % 2 = a.val) (hs : (x 1).val = s.val) (hj : (x 0).val = j.val) :
    (iblk m c 0 t : FVec Ideal S1024x4096 .bf16) x
      = (m ((c : Thread nD τ).loc main_arg0) : FVec Ideal S2x4096x1024 .bf16) (ix3 a s j) := by
  blk_simp [iblk]
  refine (op0 m c _ a s (by blk_simp [idx t]; omega)).trans ?_
  blk_ext [idx t]

theorem blk1 (c : Dev nD) (t : Fin cfg0.N) (x : S4096x512.Idx) (a : Fin 2) (s : Fin 4096) (j : Fin 5632)
    (h : t.val % 2 = a.val) (hs : (x 0).val = s.val) (hj : t.val / 2 * 512 + (x 1).val = j.val) :
    (iblk m c 1 t : FVec Ideal S4096x512 .bf16) x
      = (m ((c : Thread nD τ).loc main_arg1) : FVec Ideal S2x4096x5632 .bf16) (ix3 a s j) := by
  blk_simp [iblk]
  refine (op1 m c _ a s (by blk_simp [idx t]; omega)).trans ?_
  blk_ext [idx t]

theorem first (l : FVec Ideal S1024x4096 .bf16) (r : FVec Ideal S4096x512 .bf16) (j : S1024x512.Idx) :
    k0_pay2 (F := Ideal) l r j = ∑ s : Fin 4096, (l (ix2 (j 0) s) : EReal) * r (ix2 s (j 1)) := by
  pointwise [k0_pay2, k0_pay1]

theorem second (l : FVec Ideal S1024x4096 .bf16) (r : FVec Ideal S4096x512 .bf16) (acc : FVec Ideal S1024x512 .f32)
    (j : S1024x512.Idx) : k0_pay3 l r acc j = acc j + k0_pay2 l r j := by
  pointwise [k0_pay3, k0_pay2, k0_pay1]

theorem final2 (c : Dev nD) : (dats m 0 c).arrAt 2 (cfgs 0).N
    = DW (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have ho : (outsAt0 m c t.val t.isLt).1 = (outsAt0 m c t.val t.isLt).2 := by
    rw [outsAt0_B m c t (by omega) ht ht]
    frame_out
  have hr := Pipeline.eq_sum_fin_of_reset_step_apply_of_flush (fun n h => (outsAt0 m c n h).2) 2 (fun _ => 0)
    (fun p => k0_pay2 (iblk m c 0 p) (iblk m c 1 p))
    (fun t h j => by rw [outsAt0_A m c t h (by omega) (by omega)]; frame_out; rw [zero_add])
    (fun t h j => by rw [outsAt0_B m c t h (by omega) (by omega)]; frame_out; rw [second]; exact congrArg (· + _) (congrFun (Memref.IsWhole.read_unread _ _) j))
    t ht
  blk_simp
  rw [after0_2, ho, hr, zero_add, DW_at]
  show (_ : EReal) = _
  refine Finset.sum_congr rfl fun p _ => ?_
  rw [first]
  refine Finset.sum_congr rfl fun s _ => ?_
  rw [mul_comm]
  have hb := bound t
  have hp := p.isLt
  congr 1
  · refine blk1 m c _ _ _ _ _ ?_ ?_ ?_ <;> (try blk_simp [idx t]) <;> (try dsimp only) <;> omega
  · refine blk0 m c _ _ _ _ _ ?_ ?_ ?_ <;> (try blk_simp [idx t]) <;> (try dsimp only) <;> omega

end Cert.UpDwKIdeal.Val

end
-- ==== Proof.DownDw.lean ====
/- The weight's gradient of the down projection (`ffn_down_dw`): the kernel adds the products of two halves of the
   rows in its scratch and writes the sum after the second; the reference contracts batch and position at once. -/
module

public import proofs.«01_k».proof.Proof.Gen.DownDwKIdeal.Frame
public import proofs.«01_k».proof.Proof.Gen.DownDwRIdeal.Run
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)
open scoped BigOperators

namespace Cert.DownDwKIdeal.Val

open Cert.DownDwKIdeal Cert.DownDwKIdeal.Gen

variable (m : (ℓ : Loc nD τ sig) → Buf (Elt Ideal) ℓ)

/-- The reference's gradient of the weight. -/
abbrev DW (h : FVec Ideal Cert.DownDwRIdeal.S2x4096x2816 .bf16) (du : FVec Ideal Cert.DownDwRIdeal.S2x4096x1024 .bf16) :
    FVec Ideal Cert.DownDwRIdeal.S2816x1024 .f32 :=
  transpose Cert.DownDwRIdeal.S2816x1024 [1, 0]
    (Host.dotGeneral Cert.DownDwRIdeal.dot_S2x4096x1024_S2x4096x2816_S1024x2816_01_01_2_2_n_n none
      (extf .f32 du Cert.DownDwRIdeal.Gen.bitsLt_bf16_f32) (extf .f32 h Cert.DownDwRIdeal.Gen.bitsLt_bf16_f32))
    Cert.DownDwRIdeal.Gen.transposes_S1024x2816_S2816x1024_1_0

theorem idx : ∀ t : Fin cfg0.N, win0_0.index t = ![t.val / 2 % 2, t.val % 2]
    ∧ win0_1.index t = ![t.val % 2, t.val / 4] ∧ win0_2.index t = ![t.val / 2 % 2, t.val / 4] :=
  (by decide +kernel : ∀ t : Fin grid0.N, _)

theorem bound (t : Fin cfg0.N) : t.val < 8 := lt_of_lt_of_eq t.isLt N_0

theorem DW_at (h : FVec Ideal Cert.DownDwRIdeal.S2x4096x2816 .bf16) (du : FVec Ideal Cert.DownDwRIdeal.S2x4096x1024 .bf16)
    (i : Cert.DownDwRIdeal.S2816x1024.Idx) :
    DW h du i = ∑ a : Fin 2, ∑ s : Fin 4096, (du (ix3 a s (i 1)) : EReal) * h (ix3 a s (i 0)) := by
  pointwise [DW]

theorem op0 (c : Dev nD) (i : S2816x8192.Idx) (a : Fin 2) (s : Fin 4096) (h : (i 1).val = a.val * 4096 + s.val) :
    (V m c main_v1 : FVec Ideal S2816x8192 .bf16) i
      = (m ((c : Thread nD τ).loc main_arg0) : FVec Ideal S2x4096x2816 .bf16) (ix3 a s (i 0)) := by
  entry_read
  pointwise
  blk_ext

theorem op1 (c : Dev nD) (i : S8192x1024.Idx) (a : Fin 2) (s : Fin 4096) (h : (i 0).val = a.val * 4096 + s.val) :
    (V m c main_v2 : FVec Ideal S8192x1024 .bf16) i
      = (m ((c : Thread nD τ).loc main_arg1) : FVec Ideal S2x4096x1024 .bf16) (ix3 a s (i 1)) := by
  entry_read
  pointwise
  blk_ext

theorem blk0 (c : Dev nD) (t : Fin cfg0.N) (x : S1408x4096.Idx) (a : Fin 2) (s : Fin 4096) (j : Fin 2816)
    (h : t.val % 2 = a.val) (hs : (x 1).val = s.val) (hj : t.val / 2 % 2 * 1408 + (x 0).val = j.val) :
    (iblk m c 0 t : FVec Ideal S1408x4096 .bf16) x
      = (m ((c : Thread nD τ).loc main_arg0) : FVec Ideal S2x4096x2816 .bf16) (ix3 a s j) := by
  blk_simp [iblk]
  refine (op0 m c _ a s (by blk_simp [idx t]; omega)).trans ?_
  blk_ext [idx t]

theorem blk1 (c : Dev nD) (t : Fin cfg0.N) (x : S4096x512.Idx) (a : Fin 2) (s : Fin 4096) (j : Fin 1024)
    (h : t.val % 2 = a.val) (hs : (x 0).val = s.val) (hj : t.val / 4 * 512 + (x 1).val = j.val) :
    (iblk m c 1 t : FVec Ideal S4096x512 .bf16) x
      = (m ((c : Thread nD τ).loc main_arg1) : FVec Ideal S2x4096x1024 .bf16) (ix3 a s j) := by
  blk_simp [iblk]
  refine (op1 m c _ a s (by blk_simp [idx t]; omega)).trans ?_
  blk_ext [idx t]

theorem first (l : FVec Ideal S1408x4096 .bf16) (r : FVec Ideal S4096x512 .bf16) (j : S1408x512.Idx) :
    k0_pay2 (F := Ideal) l r j = ∑ s : Fin 4096, (l (ix2 (j 0) s) : EReal) * r (ix2 s (j 1)) := by
  pointwise [k0_pay2, k0_pay1]

theorem second (l : FVec Ideal S1408x4096 .bf16) (r : FVec Ideal S4096x512 .bf16) (acc : FVec Ideal S1408x512 .f32)
    (j : S1408x512.Idx) : k0_pay3 l r acc j = acc j + k0_pay2 l r j := by
  pointwise [k0_pay3, k0_pay2, k0_pay1]

theorem final2 (c : Dev nD) : (dats m 0 c).arrAt 2 (cfgs 0).N
    = DW (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have ho : (outsAt0 m c t.val t.isLt).1 = (outsAt0 m c t.val t.isLt).2 := by
    rw [outsAt0_B m c t (by omega) ht ht]
    frame_out
  have hr := Pipeline.eq_sum_fin_of_reset_step_apply_of_flush (fun n h => (outsAt0 m c n h).2) 2 (fun _ => 0)
    (fun p => k0_pay2 (iblk m c 0 p) (iblk m c 1 p))
    (fun t h j => by rw [outsAt0_A m c t h (by omega) (by omega)]; frame_out; rw [zero_add])
    (fun t h j => by rw [outsAt0_B m c t h (by omega) (by omega)]; frame_out; rw [second]; exact congrArg (· + _) (congrFun (Memref.IsWhole.read_unread _ _) j))
    t ht
  blk_simp
  rw [after0_2, ho, hr, zero_add, DW_at]
  show (_ : EReal) = _
  refine Finset.sum_congr rfl fun p _ => ?_
  rw [first]
  refine Finset.sum_congr rfl fun s _ => ?_
  rw [mul_comm]
  have hb := bound t
  have hp := p.isLt
  congr 1
  · refine blk1 m c _ _ _ _ _ ?_ ?_ ?_ <;> (try blk_simp [idx t]) <;> (try dsimp only) <;> omega
  · refine blk0 m c _ _ _ _ _ ?_ ?_ ?_ <;> (try blk_simp [idx t]) <;> (try dsimp only) <;> omega

end Cert.DownDwKIdeal.Val

end
-- ==== Proof.Proj.lean ====
/- The input projections: four calls in a row, each a product of the normed tokens with one weight. A call is read at
   any contents of the buffers it is entered with. -/
module

public import proofs.«01_k».proof.Proof.Gen.ProjKIdeal.Frame
public import proofs.«01_k».proof.Proof.Gen.ProjRIdeal.Run
public import proofs.«01_k».proof.Proof.Products
public import Idealize.ShloMosaic.Lib.Pipeline.ValueKit

@[expose] public section

set_option maxRecDepth 65536

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

namespace Cert.ProjKIdeal.Val

open Cert.ProjKIdeal Cert.ProjKIdeal.Gen

/-- A product with a weight. -/
def nn {n : ℕ} (A : FVec Ideal S8192x1024 .bf16) (B : FVec Ideal ⟨2, ![1024, n]⟩ .bf16) (i : Shape.Idx ⟨2, ![8192, n]⟩) : EReal :=
  ∑ j : Fin 1024, (A (ix2 (i 0) j) : EReal) * B (ix2 j (i 1))

/-! ## One call at any entry contents -/

section Call

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0] :=
  (by decide +kernel : ∀ t : Fin grid0.N, _)

theorem idx1 : ∀ t : Fin cfg1.N, win1_0.index t = ![t.val, 0] ∧ win1_1.index t = ![0, 0] ∧ win1_2.index t = ![t.val, 0] :=
  (by decide +kernel : ∀ t : Fin grid1.N, _)

theorem idx2 : ∀ t : Fin cfg2.N, win2_0.index t = ![t.val, 0] ∧ win2_1.index t = ![0, 0] ∧ win2_2.index t = ![t.val, 0] :=
  (by decide +kernel : ∀ t : Fin grid2.N, _)

theorem idx3 : ∀ t : Fin cfg3.N, win3_0.index t = ![t.val, 0] ∧ win3_1.index t = ![0, 0] ∧ win3_2.index t = ![t.val, 0] :=
  (by decide +kernel : ∀ t : Fin grid3.N, _)

theorem call0 (c : Dev nD) : (dat0 V c).arrAt 2 cfg0.N = nn (V c main_v0) (V c main_v1) := by
  refine (dat0 V c).arrAt_eq_of_covers 2 _ (by decide +kernel) fun t _ y => ?_
  blk_simp
  rw [after0_2]
  frame_out
  unfold nn
  pointwise [k0_pay1]
  show (_ : EReal) = _
  refine Finset.sum_congr rfl fun j _ => ?_
  congr 1 <;> blk_simp [iblk0] <;> blk_ext [idx0 t]

theorem call1 (c : Dev nD) : (dat1 V c).arrAt 2 cfg1.N = nn (V c main_v0) (V c main_v3) := by
  refine (dat1 V c).arrAt_eq_of_covers 2 _ (by decide +kernel) fun t _ y => ?_
  blk_simp
  rw [after1_2]
  frame_out
  unfold nn
  pointwise [k1_pay1]
  show (_ : EReal) = _
  refine Finset.sum_congr rfl fun j _ => ?_
  congr 1 <;> blk_simp [iblk1] <;> blk_ext [idx1 t]

theorem call2 (c : Dev nD) : (dat2 V c).arrAt 2 cfg2.N = nn (V c main_v0) (V c main_v5) := by
  refine (dat2 V c).arrAt_eq_of_covers 2 _ (by decide +kernel) fun t _ y => ?_
  blk_simp
  rw [after2_2]
  frame_out
  unfold nn
  pointwise [k2_pay1]
  show (_ : EReal) = _
  refine Finset.sum_congr rfl fun j _ => ?_
  congr 1 <;> blk_simp [iblk2] <;> blk_ext [idx2 t]

theorem call3 (c : Dev nD) : (dat3 V c).arrAt 2 cfg3.N = nn (V c main_v0) (V c main_v7) := by
  refine (dat3 V c).arrAt_eq_of_covers 2 _ (by decide +kernel) fun t _ y => ?_
  blk_simp
  rw [after3_2]
  frame_out
  unfold nn
  pointwise [k3_pay1]
  show (_ : EReal) = _
  refine Finset.sum_congr rfl fun j _ => ?_
  congr 1 <;> blk_simp [iblk3] <;> blk_ext [idx3 t]

end Call

/-! ## The reference's product -/

/-- The reference's projection, at any width. -/
abbrev PR {n : ℕ} (w : DotDims.WF ⟨3, ![2, 4096, 1024]⟩ ⟨2, ![1024, n]⟩ ⟨3, ![2, 4096, n]⟩ [2] [0] [0, 1] [1] [] [])
    (hc : Shape.ShapeCasts ⟨3, ![2, 4096, n]⟩ ⟨2, ![8192, n]⟩) (X : FVec Ideal ⟨3, ![2, 4096, 1024]⟩ .bf16)
    (Y : FVec Ideal ⟨2, ![1024, n]⟩ .f32) : FVec Ideal ⟨2, ![8192, n]⟩ .f32 :=
  shapeCast _ (Host.dotGeneral (⟨[2], [0], [0, 1], [1], [], [], w⟩ : DotDims _ _ _) none
    (extf .f32 X Cert.ProjRIdeal.Gen.bitsLt_bf16_f32) Y) hc

theorem nn_eq {n : ℕ} (w) (hc) (X : FVec Ideal ⟨3, ![2, 4096, 1024]⟩ .bf16) (Y : FVec Ideal ⟨2, ![1024, n]⟩ .f32) :
    nn (shapeCast S8192x1024 X shapeCasts_S2x4096x1024_S8192x1024) Y = PR w hc X Y := by
  funext i
  have hi : (i 0).val < 8192 := (i 0).isLt
  have h : (i 0).val = (⟨(i 0).val / 4096, by omega⟩ : Fin 2).val * 4096
      + (⟨(i 0).val % 4096, by omega⟩ : Fin 4096).val := by dsimp only; omega
  refine Eq.trans ?_ (Cert.Products.rows (b := 2) (t := 4096) hc _ i _ _ h).symm
  refine Eq.trans ?_ (Cert.Products.nn w _ Y _ _ (i 1)).symm
  exact Finset.sum_congr rfl fun j _ => congrArg (fun z : EReal => z * Y (ix2 j (i 1)))
    (Cert.Products.rows (b := 2) (t := 4096) shapeCasts_S2x4096x1024_S8192x1024 X (ix2 (i 0) j) _ _ h)

variable (m : (ℓ : Loc nD τ sig) → Buf (Elt Ideal) ℓ) (ρ : Dev nD → PrngReg)

/-! ## What each call is entered with -/

/-- The tokens, reshaped once before the first call. -/
abbrev tokens (c : Dev nD) : FVec Ideal S8192x1024 .bf16 :=
  shapeCast S8192x1024 (m ((c : Thread nD τ).loc main_arg0) : FVec Ideal S2x4096x1024 .bf16)
    shapeCasts_S2x4096x1024_S8192x1024

theorem in0 (c : Dev nD) : (V1 m ρ c main_v0 : FVec Ideal S8192x1024 .bf16) = tokens m c := by
  show StableHlo.after hostOps0 (W0 m ρ c) (Proc.devRef .tc main_v0) = _
  after_results
  rw [W0_args m ρ c main_arg0 (by decide)]
  rfl

theorem in1 (c : Dev nD) : (V3 m ρ c main_v0 : FVec Ideal S8192x1024 .bf16) = tokens m c :=
  (W3_of m ρ c main_v0 (by decide)).trans ((W2_of m ρ c main_v0 (by decide)).trans (in0 m ρ c))

theorem in2 (c : Dev nD) : (V5 m ρ c main_v0 : FVec Ideal S8192x1024 .bf16) = tokens m c :=
  (W5_of m ρ c main_v0 (by decide)).trans ((W4_of m ρ c main_v0 (by decide)).trans (in1 m ρ c))

theorem in3 (c : Dev nD) : (V7 m ρ c main_v0 : FVec Ideal S8192x1024 .bf16) = tokens m c :=
  (W7_of m ρ c main_v0 (by decide)).trans ((W6_of m ρ c main_v0 (by decide)).trans (in2 m ρ c))

theorem wt0 (c : Dev nD) : (V1 m ρ c main_v1 : FVec Ideal S1024x3072 .bf16)
    = (m ((c : Thread nD τ).loc main_arg1) : FVec Ideal S1024x3072 .f32) := by
  show StableHlo.after hostOps0 (W0 m ρ c) (Proc.devRef .tc main_v1) = _
  after_results
  rw [W0_args m ρ c main_arg1 (by decide)]
  rfl

theorem wt1 (c : Dev nD) : (V3 m ρ c main_v3 : FVec Ideal S1024x2176 .bf16)
    = (m ((c : Thread nD τ).loc main_arg2) : FVec Ideal S1024x2176 .f32) := by
  show StableHlo.after hostOps1 (W2 m ρ c) (Proc.devRef .tc main_v3) = _
  after_results
  rw [W2_args m ρ c main_arg2 (by decide)]
  rfl

theorem wt2 (c : Dev nD) : (V5 m ρ c main_v5 : FVec Ideal S1024x2048 .bf16)
    = (m ((c : Thread nD τ).loc main_arg3) : FVec Ideal S1024x2048 .f32) := by
  show StableHlo.after hostOps2 (W4 m ρ c) (Proc.devRef .tc main_v5) = _
  after_results
  rw [W4_args m ρ c main_arg3 (by decide)]
  rfl

theorem wt3 (c : Dev nD) : (V7 m ρ c main_v7 : FVec Ideal S1024x1664 .bf16)
    = (m ((c : Thread nD τ).loc main_arg4) : FVec Ideal S1024x1664 .f32) := by
  show StableHlo.after hostOps3 (W6 m ρ c) (Proc.devRef .tc main_v7) = _
  after_results
  rw [W6_args m ρ c main_arg4 (by decide)]
  rfl

/-! ## The results at the end -/

theorem final0 (c : Dev nD) : W8 m ρ c (Proc.devRef .tc main_v2)
    = PR Cert.ProjRIdeal.Gen.dot_S2x4096x1024_S1024x3072_S2x4096x3072_2_0_01_1_n_n_wf
        Cert.ProjRIdeal.Gen.shapeCasts_S2x4096x3072_S8192x3072 (m ((c : Thread nD τ).loc main_arg0))
        (m ((c : Thread nD τ).loc main_arg1)) := by
  refine (W8_of m ρ c main_v2 (by decide)).trans
    ((W7_of m ρ c main_v2 (by decide)).trans
    ((W6_of m ρ c main_v2 (by decide)).trans
    ((W5_of m ρ c main_v2 (by decide)).trans
    ((W4_of m ρ c main_v2 (by decide)).trans
    ((W3_of m ρ c main_v2 (by decide)).trans
    (?_))))))
  refine (W2_arr m ρ c 2).trans ?_
  rw [call0, in0, wt0]
  exact nn_eq _ _ _ _

theorem final1 (c : Dev nD) : W8 m ρ c (Proc.devRef .tc main_v4)
    = PR Cert.ProjRIdeal.Gen.dot_S2x4096x1024_S1024x2176_S2x4096x2176_2_0_01_1_n_n_wf
        Cert.ProjRIdeal.Gen.shapeCasts_S2x4096x2176_S8192x2176 (m ((c : Thread nD τ).loc main_arg0))
        (m ((c : Thread nD τ).loc main_arg2)) := by
  refine (W8_of m ρ c main_v4 (by decide)).trans
    ((W7_of m ρ c main_v4 (by decide)).trans
    ((W6_of m ρ c main_v4 (by decide)).trans
    ((W5_of m ρ c main_v4 (by decide)).trans
    (?_))))
  refine (W4_arr m ρ c 2).trans ?_
  rw [call1, in1, wt1]
  exact nn_eq _ _ _ _

theorem final2 (c : Dev nD) : W8 m ρ c (Proc.devRef .tc main_v6)
    = PR Cert.ProjRIdeal.Gen.dot_S2x4096x1024_S1024x2048_S2x4096x2048_2_0_01_1_n_n_wf
        Cert.ProjRIdeal.Gen.shapeCasts_S2x4096x2048_S8192x2048 (m ((c : Thread nD τ).loc main_arg0))
        (m ((c : Thread nD τ).loc main_arg3)) := by
  refine (W8_of m ρ c main_v6 (by decide)).trans
    ((W7_of m ρ c main_v6 (by decide)).trans
    (?_))
  refine (W6_arr m ρ c 2).trans ?_
  rw [call2, in2, wt2]
  exact nn_eq _ _ _ _

theorem final3 (c : Dev nD) : W8 m ρ c (Proc.devRef .tc main_v8)
    = PR Cert.ProjRIdeal.Gen.dot_S2x4096x1024_S1024x1664_S2x4096x1664_2_0_01_1_n_n_wf
        Cert.ProjRIdeal.Gen.shapeCasts_S2x4096x1664_S8192x1664 (m ((c : Thread nD τ).loc main_arg0))
        (m ((c : Thread nD τ).loc main_arg4)) := by
  refine ?_
  refine (W8_arr m ρ c 2).trans ?_
  rw [call3, in3, wt3]
  exact nn_eq _ _ _ _

set_option backward.isDefEq.respectTransparency.types false in
/-- The run's end contents of every unscoped buffer. -/
theorem ends : θ_run defs (onTc (τ := τ) (main (F := Ideal))) ⟨m, fun _ => 0, ρ⟩ (fun r => ∀ c : Dev nD,
    ∀ b ∈ Pipeline.ucRefs τ sig, r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) :
              sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ))
        ⊢ bigSep Finset.univ (fun _ : Dev nD => (BI.emp : sProp (MT nD τ sig Unit (Elt Ideal) ℕ (UR sig nD τ) ℕ)))
        from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => h)

/-- A result array at the run's end. -/
theorem run : θ_run defs (onTc (τ := τ) (main (F := Ideal))) ⟨m, fun _ => 0, ρ⟩ (fun r => ∀ c : Dev nD,
    (∀ b ∈ [main_v2, main_v4, main_v6, main_v8], r.2.mem ((c.tc : Thread nD τ).loc b) = W8 m ρ c (Proc.devRef .tc b))
    ∧ ∀ a ∈ argRefs, r.2.mem ((c.tc : Thread nD τ).loc a) = m ((c.tc : Thread nD τ).loc a)) :=
  (θ_run defs _ _).mono (fun r h c =>
    ⟨fun b hb => h c _ (mem_uc b ((by decide : ∀ b ∈ [main_v2, main_v4, main_v6, main_v8],
        ¬ (Proc.devRef .tc b : DevRef τ sig).isScoped) b hb)),
      fun a ha => (h c _ (mem_uc a ((by decide : ∀ a ∈ argRefs, ¬ (Proc.devRef .tc a : DevRef τ sig).isScoped) a ha))).trans
        (W8_args m ρ c a ha)⟩) (ends m ρ)

end Cert.ProjKIdeal.Val

end
-- ==== Proof.Up.lean ====
/- The up projection (`ffn_up`): each tile is a product of 512 rows and half of the weight's columns. -/
module

public import proofs.«01_k».proof.Proof.Gen.UpKIdeal.Frame
public import proofs.«01_k».proof.Proof.Gen.UpRIdeal.Run
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)
open scoped BigOperators

namespace Cert.UpKIdeal.Val

open Cert.UpKIdeal Cert.UpKIdeal.Gen

variable (m : (ℓ : Loc nD τ sig) → Buf (Elt Ideal) ℓ)

/-- The reference's projection. -/
abbrev UP (h : FVec Ideal Cert.UpRIdeal.S2x4096x1024 .bf16) (w : FVec Ideal Cert.UpRIdeal.S1024x5632 .f32) :
    FVec Ideal Cert.UpRIdeal.S8192x5632 .f32 :=
  shapeCast _ (Host.dotGeneral Cert.UpRIdeal.dot_S2x4096x1024_S1024x5632_S2x4096x5632_2_0_01_1_n_n none
    (extf .f32 h Cert.UpRIdeal.Gen.bitsLt_bf16_f32) w) Cert.UpRIdeal.Gen.shapeCasts_S2x4096x5632_S8192x5632

theorem idx : ∀ t : Fin cfg0.N, win0_0.index t = ![t.val % 16, 0] ∧ win0_1.index t = ![0, t.val / 16]
    ∧ win0_2.index t = ![t.val % 16, t.val / 16] :=
  (by decide +kernel : ∀ t : Fin grid0.N, _)

theorem rows (X : FVec Ideal S2x4096x1024 .bf16) (i : S8192x1024.Idx) (a : Fin 2) (s : Fin 4096)
    (h : (i 0).val = a.val * 4096 + s.val) : shapeCast S8192x1024 X shapeCasts_S2x4096x1024_S8192x1024 i = X (ix3 a s (i 1)) := by
  pointwise
  blk_ext

theorem op0 (c : Dev nD) (i : S8192x1024.Idx) (a : Fin 2) (s : Fin 4096) (h : (i 0).val = a.val * 4096 + s.val) :
    (V m c main_v0 : FVec Ideal S8192x1024 .bf16) i
      = (m ((c : Thread nD τ).loc main_arg0) : FVec Ideal S2x4096x1024 .bf16) (ix3 a s (i 1)) := by
  entry_read
  exact rows _ i a s h

theorem op1 (c : Dev nD) (i : S1024x5632.Idx) : (V m c main_v1 : FVec Ideal S1024x5632 .bf16) i
    = (m ((c : Thread nD τ).loc main_arg1) : FVec Ideal S1024x5632 .f32) i := by
  entry_read
  rfl

theorem blk0 (c : Dev nD) (t : Fin cfg0.N) (x : S512x1024.Idx) (a : Fin 2) (s : Fin 4096) (j : Fin 1024)
    (h : t.val % 16 * 512 + (x 0).val = a.val * 4096 + s.val) (hj : (x 1).val = j.val) :
    (iblk m c 0 t : FVec Ideal S512x1024 .bf16) x
      = (m ((c : Thread nD τ).loc main_arg0) : FVec Ideal S2x4096x1024 .bf16) (ix3 a s j) := by
  blk_simp [iblk]
  refine (op0 m c _ a s (by blk_simp [idx t]; omega)).trans ?_
  blk_ext [idx t]

theorem blk1 (c : Dev nD) (t : Fin cfg0.N) (x : S1024x2816.Idx) (i : S1024x5632.Idx) (h0 : (x 0).val = (i 0).val)
    (h1 : t.val / 16 * 2816 + (x 1).val = (i 1).val) : (iblk m c 1 t : FVec Ideal S1024x2816 .bf16) x
      = (m ((c : Thread nD τ).loc main_arg1) : FVec Ideal S1024x5632 .f32) i := by
  blk_simp [iblk]
  refine (op1 m c _).trans ?_
  blk_ext [idx t]

theorem final2 (c : Dev nD) : (dats m 0 c).arrAt 2 (cfgs 0).N
    = UP (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, UP]
  reads_congr
  · refine blk0 m c t _ _ _ _ ?_ ?_ <;> blk_simp [idx t] <;> idx_bounds <;> (try dsimp only) <;> omega
  · refine blk1 m c t _ _ ?_ ?_ <;> blk_simp [idx t] <;> (try dsimp only) <;> omega

end Cert.UpKIdeal.Val

end
-- ==== Proof.DownFwd.lean ====
/- The down projection with its gated residual (`ffn_down`): a tile of 512 rows at a time, its product and
   the residual plus the gated product. -/
module

public import proofs.«01_k».proof.Proof.Gen.DownFwdKIdeal.Frame
public import proofs.«01_k».proof.Proof.Gen.DownFwdRIdeal.Run
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)
open scoped BigOperators

namespace Cert.DownFwdKIdeal.Val

open Cert.DownFwdKIdeal Cert.DownFwdKIdeal.Gen

variable (m : (ℓ : Loc nD τ sig) → Buf (Elt Ideal) ℓ)

/-- The reference's projection. -/
def F (a : FVec Ideal Cert.DownFwdRIdeal.S2x4096x2816 .bf16) (w : FVec Ideal Cert.DownFwdRIdeal.S2816x1024 .f32) :
    FVec Ideal Cert.DownFwdRIdeal.S2x4096x1024 .f32 :=
  Host.dotGeneral Cert.DownFwdRIdeal.dot_S2x4096x2816_S2816x1024_S2x4096x1024_2_0_01_1_n_n none
    (extf .f32 a Cert.DownFwdRIdeal.Gen.bitsLt_bf16_f32) w

/-- The reference's residual plus gated projection. -/
abbrev OUT (x : FVec Ideal Cert.DownFwdRIdeal.S2x4096x1024 .f32) (g : FVec Ideal Cert.DownFwdRIdeal.S2x1024 .f32)
    (f : FVec Ideal Cert.DownFwdRIdeal.S2x4096x1024 .f32) : FVec Ideal Cert.DownFwdRIdeal.S8192x1024 .f32 :=
  shapeCast _ (addf x (mulf (broadcastInDim Cert.DownFwdRIdeal.S2x4096x1024 ![0, 1, 2]
    Cert.DownFwdRIdeal.Gen.bcast_S2x1x1024_S2x4096x1024_0_1_2
    (broadcastInDim Cert.DownFwdRIdeal.S2x1x1024 ![0, 2] Cert.DownFwdRIdeal.Gen.bcast_S2x1024_S2x1x1024_0_2 g)) f))
    Cert.DownFwdRIdeal.Gen.shapeCasts_S2x4096x1024_S8192x1024

/-- The reference's projection as it is handed on. -/
abbrev FLAT (f : FVec Ideal Cert.DownFwdRIdeal.S2x4096x1024 .f32) : FVec Ideal Cert.DownFwdRIdeal.S8192x1024 .bf16 :=
  truncf .bf16 (shapeCast _ f Cert.DownFwdRIdeal.Gen.shapeCasts_S2x4096x1024_S8192x1024)
    Cert.DownFwdRIdeal.Gen.bitsLt_bf16_f32

theorem idx : ∀ t : Fin cfg0.N, win0_0.index t = ![t.val, 0] ∧ win0_1.index t = ![0, 0]
    ∧ win0_2.index t = ![t.val, 0] ∧ win0_3.index t = ![t.val / 8, 0, 0] ∧ win0_4.index t = ![t.val, 0]
    ∧ win0_5.index t = ![t.val, 0] :=
  (by decide +kernel : ∀ t : Fin grid0.N, _)

theorem bound (t : Fin cfg0.N) : t.val < 16 := lt_of_lt_of_eq t.isLt N_0

theorem wideRows (X : FVec Ideal S2x4096x2816 .bf16) (i : S8192x2816.Idx) (a : Fin 2) (s : Fin 4096)
    (h : (i 0).val = a.val * 4096 + s.val) : shapeCast S8192x2816 X shapeCasts_S2x4096x2816_S8192x2816 i = X (ix3 a s (i 1)) := by
  pointwise
  blk_ext

theorem rows (X : FVec Ideal S2x4096x1024 .f32) (i : S8192x1024.Idx) (a : Fin 2) (s : Fin 4096)
    (h : (i 0).val = a.val * 4096 + s.val) : shapeCast S8192x1024 X shapeCasts_S2x4096x1024_S8192x1024 i = X (ix3 a s (i 1)) := by
  pointwise
  blk_ext

theorem op0 (c : Dev nD) (i : S8192x2816.Idx) (a : Fin 2) (s : Fin 4096) (h : (i 0).val = a.val * 4096 + s.val) :
    (V m c main_v0 : FVec Ideal S8192x2816 .bf16) i
      = (m ((c : Thread nD τ).loc main_arg0) : FVec Ideal S2x4096x2816 .bf16) (ix3 a s (i 1)) := by
  entry_read
  exact wideRows _ i a s h

theorem op1 (c : Dev nD) (i : S2816x1024.Idx) : (V m c main_v1 : FVec Ideal S2816x1024 .bf16) i
    = (m ((c : Thread nD τ).loc main_arg1) : FVec Ideal S2816x1024 .f32) i := by
  entry_read
  rfl

theorem op2 (c : Dev nD) (i : S8192x1024.Idx) (a : Fin 2) (s : Fin 4096) (h : (i 0).val = a.val * 4096 + s.val) :
    (V m c main_v2 : FVec Ideal S8192x1024 .f32) i
      = (m ((c : Thread nD τ).loc main_arg2) : FVec Ideal S2x4096x1024 .f32) (ix3 a s (i 1)) := by
  entry_read
  exact rows _ i a s h

theorem op3 (c : Dev nD) (i : S2x1x1024.Idx) : (V m c main_v3 : FVec Ideal S2x1x1024 .f32) i
    = (m ((c : Thread nD τ).loc main_arg3) : FVec Ideal S2x1024 .f32) (ix2 (i 0) (i 2)) := by
  entry_read
  show shapeCast S2x1x1024 (m ((c : Thread nD τ).loc main_arg3) : FVec Ideal S2x1024 .f32) _ i = _
  pointwise
  blk_ext

theorem blk0 (c : Dev nD) (t : Fin cfg0.N) (x : S512x2816.Idx) (a : Fin 2) (s : Fin 4096) (j : Fin 2816)
    (h : t.val * 512 + (x 0).val = a.val * 4096 + s.val) (hj : (x 1).val = j.val) :
    (iblk m c 0 t : FVec Ideal S512x2816 .bf16) x
      = (m ((c : Thread nD τ).loc main_arg0) : FVec Ideal S2x4096x2816 .bf16) (ix3 a s j) := by
  blk_simp [iblk]
  refine (op0 m c _ a s (by blk_simp [idx t]; omega)).trans ?_
  blk_ext [idx t]

theorem blk1 (c : Dev nD) (t : Fin cfg0.N) (x i : S2816x1024.Idx) (h0 : (x 0).val = (i 0).val)
    (h1 : (x 1).val = (i 1).val) : (iblk m c 1 t : FVec Ideal S2816x1024 .bf16) x
      = (m ((c : Thread nD τ).loc main_arg1) : FVec Ideal S2816x1024 .f32) i := by
  blk_simp [iblk]
  refine (op1 m c _).trans ?_
  blk_ext [idx t]

theorem blk2 (c : Dev nD) (t : Fin cfg0.N) (x : S512x1024.Idx) (a : Fin 2) (s : Fin 4096) (j : Fin 1024)
    (h : t.val * 512 + (x 0).val = a.val * 4096 + s.val) (hj : (x 1).val = j.val) :
    (iblk m c 2 t : FVec Ideal S512x1024 .f32) x
      = (m ((c : Thread nD τ).loc main_arg2) : FVec Ideal S2x4096x1024 .f32) (ix3 a s j) := by
  blk_simp [iblk]
  refine (op2 m c _ a s (by blk_simp [idx t]; omega)).trans ?_
  blk_ext [idx t]

theorem blk3 (c : Dev nD) (t : Fin cfg0.N) (x : S1x1x1024.Idx) (a : Fin 2) (j : Fin 1024)
    (h : t.val / 8 = a.val) (hj : (x 2).val = j.val) : (iblk m c 3 t : FVec Ideal S1x1x1024 .f32) x
    = (m ((c : Thread nD τ).loc main_arg3) : FVec Ideal S2x1024 .f32) (ix2 a j) := by
  blk_simp [iblk]
  refine (op3 m c _).trans ?_
  blk_ext [idx t]

/-- A tile of the product, as far as its row reaches into the whole. -/
theorem prod_at (c : Dev nD) (t : Fin cfg0.N) (y : S512x1024.Idx) (a : Fin 2) (s : Fin 4096) (j : Fin 1024)
    (h : t.val * 512 + (y 0).val = a.val * 4096 + s.val) (hj : (y 1).val = j.val) :
    k0_pay1 (iblk m c 0 t) (iblk m c 1 t) y
      = F (m ((c : Thread nD τ).loc main_arg0)) (m ((c : Thread nD τ).loc main_arg1)) (ix3 a s j) := by
  pointwise [k0_pay1, F]
  reads_congr
  · refine blk0 m c t _ _ _ _ ?_ ?_ <;> (try dsimp only) <;> first | exact h | rfl
  · refine blk1 m c t _ _ ?_ ?_ <;> (try dsimp only) <;> first | exact hj | rfl

theorem final4 (c : Dev nD) : (dats m 0 c).arrAt 4 (cfgs 0).N
    = OUT (m ((c : Thread nD τ).loc main_arg2)) (m ((c : Thread nD τ).loc main_arg3))
        (F (m ((c : Thread nD τ).loc main_arg0)) (m ((c : Thread nD τ).loc main_arg1))) := by
  refine (dats m 0 c).arrAt_eq_of_covers 4 _ (by decide +kernel) fun t _ y => ?_
  have ht := bound t
  blk_simp
  rw [after0_4]
  frame_out
  pointwise [k0_pay2, OUT]
  reads_congr
  · refine blk2 m c t _ _ _ _ ?_ ?_ <;> blk_simp [idx t] <;> idx_bounds <;> (try dsimp only) <;> omega
  · refine blk3 m c t _ _ _ ?_ ?_ <;> blk_simp [idx t] <;> idx_bounds <;> (try dsimp only) <;> omega
  · refine prod_at m c t _ _ _ _ ?_ ?_ <;> blk_simp [idx t] <;> idx_bounds <;> (try dsimp only) <;> omega

theorem final5 (c : Dev nD) : (dats m 0 c).arrAt 5 (cfgs 0).N
    = FLAT (F (m ((c : Thread nD τ).loc main_arg0)) (m ((c : Thread nD τ).loc main_arg1))) := by
  refine (dats m 0 c).arrAt_eq_of_covers 5 _ (by decide +kernel) fun t _ y => ?_
  have ht := bound t
  blk_simp
  rw [after0_5]
  frame_out
  pointwise [k0_pay3, FLAT]
  reads_congr
  · refine prod_at m c t _ _ _ _ ?_ ?_ <;> blk_simp [idx t] <;> idx_bounds <;> (try dsimp only) <;> omega

end Cert.DownFwdKIdeal.Val

end
-- ==== Proof.Merge.lean ====
/- The merge of the three branches (`merge_fwd`): a tile of 512 rows at a time, the branches' projections, their sum under
   the gates, the output projection and the residual plus its gated product. -/
module

public import proofs.«01_k».proof.Proof.Gen.MergeKIdeal.Frame
public import proofs.«01_k».proof.Proof.Gen.MergeRIdeal.Run
public import proofs.«01_k».proof.Proof.Products
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)
open scoped BigOperators

namespace Cert.MergeRIdeal.Val

open Cert.MergeRIdeal Cert.MergeRIdeal.Gen

/-! ## The reference's terms -/

/-- A branch's projection. -/
def Y (o : FVec Ideal S2x4096x512 .bf16) (w : FVec Ideal S512x1024 .f32) : FVec Ideal S2x4096x1024 .f32 :=
  Host.dotGeneral dot_S2x4096x512_S512x1024_S2x4096x1024_2_0_01_1_n_n none (extf .f32 o bitsLt_bf16_f32) w

/-- The gates, one row of each branch's per position. -/
abbrev GATES (pg : FVec Ideal S2x4096x3072 .f32) : FVec Ideal S2x4096x3x1024 .f32 :=
  shapeCast _ (Host.divf (broadcastInDim S2x4096x3072 ![] bcast_S_S2x4096x3072 (constant S_ .f32 0x3F800000#32))
    (addf (broadcastInDim S2x4096x3072 ![] bcast_S_S2x4096x3072 (constant S_ .f32 0x3F800000#32)) (Host.exp (Host.negf pg))))
    shapeCasts_S2x4096x3072_S2x4096x3x1024

def GA (pg : FVec Ideal S2x4096x3072 .f32) : FVec Ideal S2x4096x1024 .f32 :=
  shapeCast _ (extractStridedSlice S2x4096x1x1024 ![0, 0, 0, 0] (GATES pg) slices_S2x4096x3x1024_S2x4096x1x1024_0_0_0_0)
    shapeCasts_S2x4096x1x1024_S2x4096x1024

def GB (pg : FVec Ideal S2x4096x3072 .f32) : FVec Ideal S2x4096x1024 .f32 :=
  shapeCast _ (extractStridedSlice S2x4096x1x1024 ![0, 0, 1, 0] (GATES pg) slices_S2x4096x3x1024_S2x4096x1x1024_0_0_1_0)
    shapeCasts_S2x4096x1x1024_S2x4096x1024

def GC (pg : FVec Ideal S2x4096x3072 .f32) : FVec Ideal S2x4096x1024 .f32 :=
  shapeCast _ (extractStridedSlice S2x4096x1x1024 ![0, 0, 2, 0] (GATES pg) slices_S2x4096x3x1024_S2x4096x1x1024_0_0_2_0)
    shapeCasts_S2x4096x1x1024_S2x4096x1024

/-- The logistic function, as both programs spell it. -/
def SIG (z : EReal) : EReal := Ideal.div 1 (1 + Ideal.exp (-z))

theorem ga_at (pg : FVec Ideal S2x4096x3072 .f32) (a : Fin 2) (s : Fin 4096) (j : Fin 1024) :
    GA pg (ix3 a s j) = SIG (pg (ix3 a s ⟨j.val, by omega⟩)) := by
  pointwise [GA, SIG]

theorem gb_at (pg : FVec Ideal S2x4096x3072 .f32) (a : Fin 2) (s : Fin 4096) (j : Fin 1024) :
    GB pg (ix3 a s j) = SIG (pg (ix3 a s ⟨1024 + j.val, by omega⟩)) := by
  pointwise [GB, SIG]

theorem gc_at (pg : FVec Ideal S2x4096x3072 .f32) (a : Fin 2) (s : Fin 4096) (j : Fin 1024) :
    GC pg (ix3 a s j) = SIG (pg (ix3 a s ⟨2048 + j.val, by omega⟩)) := by
  pointwise [GC, SIG]

/-- The branches under their gates. -/
def MERGED (oa ob oc : FVec Ideal S2x4096x512 .bf16) (pg : FVec Ideal S2x4096x3072 .f32) (wa wb wc : FVec Ideal S512x1024 .f32) :
    FVec Ideal S2x4096x1024 .f32 :=
  addf (addf (mulf (GA pg) (Y oa wa)) (mulf (GB pg) (Y ob wb))) (mulf (GC pg) (Y oc wc))

/-- The output projection. -/
def MIX (z : FVec Ideal S2x4096x1024 .f32) (wo : FVec Ideal S1024x1024 .f32) : FVec Ideal S2x4096x1024 .f32 :=
  Host.dotGeneral dot_S2x4096x1024_S1024x1024_S2x4096x1024_2_0_01_1_n_n none z wo

/-- The residual plus the gated projection. -/
abbrev OUT (x : FVec Ideal S2x4096x1024 .f32) (g : FVec Ideal S2x1024 .f32) (f : FVec Ideal S2x4096x1024 .f32) :
    FVec Ideal S8192x1024 .f32 :=
  shapeCast _ (addf x (mulf (broadcastInDim S2x4096x1024 ![0, 1, 2] bcast_S2x1x1024_S2x4096x1024_0_1_2
    (broadcastInDim S2x1x1024 ![0, 2] bcast_S2x1024_S2x1x1024_0_2 g)) f)) shapeCasts_S2x4096x1024_S8192x1024

/-- Rows as they are handed on. -/
abbrev FLAT (f : FVec Ideal S2x4096x1024 .f32) : FVec Ideal S8192x1024 .bf16 :=
  truncf .bf16 (shapeCast _ f shapeCasts_S2x4096x1024_S8192x1024) bitsLt_bf16_f32

theorem out_at (x : FVec Ideal S2x4096x1024 .f32) (g : FVec Ideal S2x1024 .f32) (f : FVec Ideal S2x4096x1024 .f32)
    (i : S8192x1024.Idx) (a : Fin 2) (s : Fin 4096) (h : (i 0).val = a.val * 4096 + s.val) :
    OUT x g f i = x (ix3 a s (i 1)) + g (ix2 a (i 1)) * f (ix3 a s (i 1)) := by
  refine (Products.rows shapeCasts_S2x4096x1024_S8192x1024 _ i a s h).trans ?_
  pointwise

end Cert.MergeRIdeal.Val

namespace Cert.MergeKIdeal.Val

open Cert.MergeKIdeal Cert.MergeKIdeal.Gen
open Cert.MergeRIdeal.Val (Y GA GB GC SIG MERGED MIX OUT FLAT out_at ga_at gb_at gc_at)

variable (m : (ℓ : Loc nD τ sig) → Buf (Elt Ideal) ℓ)

/-! ## The blocks the body reads -/

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val / 8, 0, 0]
    ∧ win0_6.index t = ![0, 0] ∧ win0_7.index t = ![0, 0] ∧ win0_8.index t = ![0, 0] ∧ win0_9.index t = ![0, 0]
    ∧ win0_10.index t = ![t.val, 0] ∧ win0_11.index t = ![t.val, 0] ∧ win0_12.index t = ![t.val, 0]
    ∧ win0_13.index t = ![t.val, 0] ∧ win0_14.index t = ![t.val, 0] ∧ win0_15.index t = ![t.val, 0] :=
  (by decide +kernel : ∀ t : Fin grid0.N, _)

theorem bound (t : Fin cfg0.N) : t.val < 16 := lt_of_lt_of_eq t.isLt N_0

theorem op5 (c : Dev nD) (i : S2x1x1024.Idx) : (V m c main_v5 : FVec Ideal S2x1x1024 .f32) i
    = (m ((c : Thread nD τ).loc main_arg5) : FVec Ideal S2x1024 .f32) (ix2 (i 0) (i 2)) := by
  entry_read
  show shapeCast S2x1x1024 (m ((c : Thread nD τ).loc main_arg5) : FVec Ideal S2x1024 .f32) _ i = _
  pointwise
  blk_ext

section Rows

variable (c : Dev nD) (a : Fin 2) (s : Fin 4096)

theorem op0 (i : S8192x1024.Idx) (h : (i 0).val = a.val * 4096 + s.val) : (V m c main_v0 : FVec Ideal S8192x1024 .f32) i
    = (m ((c : Thread nD τ).loc main_arg0) : FVec Ideal S2x4096x1024 .f32) (ix3 a s (i 1)) := by
  entry_read
  exact Products.rows shapeCasts_S2x4096x1024_S8192x1024 _ i a s h

theorem op1 (i : S8192x512.Idx) (h : (i 0).val = a.val * 4096 + s.val) : (V m c main_v1 : FVec Ideal S8192x512 .bf16) i
    = (m ((c : Thread nD τ).loc main_arg1) : FVec Ideal S2x4096x512 .bf16) (ix3 a s (i 1)) := by
  entry_read
  exact Products.rows shapeCasts_S2x4096x512_S8192x512 _ i a s h

theorem op2 (i : S8192x512.Idx) (h : (i 0).val = a.val * 4096 + s.val) : (V m c main_v2 : FVec Ideal S8192x512 .bf16) i
    = (m ((c : Thread nD τ).loc main_arg2) : FVec Ideal S2x4096x512 .bf16) (ix3 a s (i 1)) := by
  entry_read
  exact Products.rows shapeCasts_S2x4096x512_S8192x512 _ i a s h

theorem op3 (i : S8192x512.Idx) (h : (i 0).val = a.val * 4096 + s.val) : (V m c main_v3 : FVec Ideal S8192x512 .bf16) i
    = (m ((c : Thread nD τ).loc main_arg3) : FVec Ideal S2x4096x512 .bf16) (ix3 a s (i 1)) := by
  entry_read
  exact Products.rows shapeCasts_S2x4096x512_S8192x512 _ i a s h

theorem op4 (i : S8192x3072.Idx) (h : (i 0).val = a.val * 4096 + s.val) : (V m c main_v4 : FVec Ideal S8192x3072 .f32) i
    = (m ((c : Thread nD τ).loc main_arg4) : FVec Ideal S2x4096x3072 .f32) (ix3 a s (i 1)) := by
  entry_read
  exact Products.rows shapeCasts_S2x4096x3072_S8192x3072 _ i a s h

variable (t : Fin cfg0.N)

theorem blk0 (x : S512x1024.Idx) (j : Fin 1024) (h : t.val * 512 + (x 0).val = a.val * 4096 + s.val) (hj : (x 1).val = j.val) :
    (iblk m c 0 t : FVec Ideal S512x1024 .f32) x
      = (m ((c : Thread nD τ).loc main_arg0) : FVec Ideal S2x4096x1024 .f32) (ix3 a s j) := by
  blk_simp [iblk]
  refine (op0 m c a s _ (by blk_simp [idx t]; omega)).trans ?_
  blk_ext [idx t]

theorem blk1 (x : S512x512.Idx) (j : Fin 512) (h : t.val * 512 + (x 0).val = a.val * 4096 + s.val) (hj : (x 1).val = j.val) :
    (iblk m c 1 t : FVec Ideal S512x512 .bf16) x
      = (m ((c : Thread nD τ).loc main_arg1) : FVec Ideal S2x4096x512 .bf16) (ix3 a s j) := by
  blk_simp [iblk]
  refine (op1 m c a s _ (by blk_simp [idx t]; omega)).trans ?_
  blk_ext [idx t]

theorem blk2 (x : S512x512.Idx) (j : Fin 512) (h : t.val * 512 + (x 0).val = a.val * 4096 + s.val) (hj : (x 1).val = j.val) :
    (iblk m c 2 t : FVec Ideal S512x512 .bf16) x
      = (m ((c : Thread nD τ).loc main_arg2) : FVec Ideal S2x4096x512 .bf16) (ix3 a s j) := by
  blk_simp [iblk]
  refine (op2 m c a s _ (by blk_simp [idx t]; omega)).trans ?_
  blk_ext [idx t]

theorem blk3 (x : S512x512.Idx) (j : Fin 512) (h : t.val * 512 + (x 0).val = a.val * 4096 + s.val) (hj : (x 1).val = j.val) :
    (iblk m c 3 t : FVec Ideal S512x512 .bf16) x
      = (m ((c : Thread nD τ).loc main_arg3) : FVec Ideal S2x4096x512 .bf16) (ix3 a s j) := by
  blk_simp [iblk]
  refine (op3 m c a s _ (by blk_simp [idx t]; omega)).trans ?_
  blk_ext [idx t]

theorem blk4 (x : S512x3072.Idx) (j : Fin 3072) (h : t.val * 512 + (x 0).val = a.val * 4096 + s.val) (hj : (x 1).val = j.val) :
    (iblk m c 4 t : FVec Ideal S512x3072 .f32) x
      = (m ((c : Thread nD τ).loc main_arg4) : FVec Ideal S2x4096x3072 .f32) (ix3 a s j) := by
  blk_simp [iblk]
  refine (op4 m c a s _ (by blk_simp [idx t]; omega)).trans ?_
  blk_ext [idx t]

end Rows

theorem blk5 (c : Dev nD) (t : Fin cfg0.N) (x : S1x1x1024.Idx) (a : Fin 2) (j : Fin 1024)
    (h : t.val / 8 = a.val) (hj : (x 2).val = j.val) : (iblk m c 5 t : FVec Ideal S1x1x1024 .f32) x
    = (m ((c : Thread nD τ).loc main_arg5) : FVec Ideal S2x1024 .f32) (ix2 a j) := by
  blk_simp [iblk]
  refine (op5 m c _).trans ?_
  blk_ext [idx t]

section Weights

variable (c : Dev nD) (t : Fin cfg0.N)

theorem blk6 (x i : S512x1024.Idx) (h0 : (x 0).val = (i 0).val) (h1 : (x 1).val = (i 1).val) :
    (iblk m c 6 t : FVec Ideal S512x1024 .bf16) x = (m ((c : Thread nD τ).loc main_arg6) : FVec Ideal S512x1024 .f32) i := by
  have e : ∀ i, (V m c main_v6 : FVec Ideal S512x1024 .bf16) i = (m ((c : Thread nD τ).loc main_arg6) : FVec Ideal S512x1024 .f32) i :=
    fun i => by entry_read; rfl
  blk_simp [iblk]
  refine (e _).trans ?_
  blk_ext [idx t]

theorem blk7 (x i : S512x1024.Idx) (h0 : (x 0).val = (i 0).val) (h1 : (x 1).val = (i 1).val) :
    (iblk m c 7 t : FVec Ideal S512x1024 .bf16) x = (m ((c : Thread nD τ).loc main_arg7) : FVec Ideal S512x1024 .f32) i := by
  have e : ∀ i, (V m c main_v7 : FVec Ideal S512x1024 .bf16) i = (m ((c : Thread nD τ).loc main_arg7) : FVec Ideal S512x1024 .f32) i :=
    fun i => by entry_read; rfl
  blk_simp [iblk]
  refine (e _).trans ?_
  blk_ext [idx t]

theorem blk8 (x i : S512x1024.Idx) (h0 : (x 0).val = (i 0).val) (h1 : (x 1).val = (i 1).val) :
    (iblk m c 8 t : FVec Ideal S512x1024 .bf16) x = (m ((c : Thread nD τ).loc main_arg8) : FVec Ideal S512x1024 .f32) i := by
  have e : ∀ i, (V m c main_v8 : FVec Ideal S512x1024 .bf16) i = (m ((c : Thread nD τ).loc main_arg8) : FVec Ideal S512x1024 .f32) i :=
    fun i => by entry_read; rfl
  blk_simp [iblk]
  refine (e _).trans ?_
  blk_ext [idx t]

theorem blk9 (x i : S1024x1024.Idx) (h0 : (x 0).val = (i 0).val) (h1 : (x 1).val = (i 1).val) :
    (iblk m c 9 t : FVec Ideal S1024x1024 .bf16) x = (m ((c : Thread nD τ).loc main_arg9) : FVec Ideal S1024x1024 .f32) i := by
  have e : ∀ i, (V m c main_v9 : FVec Ideal S1024x1024 .bf16) i = (m ((c : Thread nD τ).loc main_arg9) : FVec Ideal S1024x1024 .f32) i :=
    fun i => by entry_read; rfl
  blk_simp [iblk]
  refine (e _).trans ?_
  blk_ext [idx t]

end Weights

/-! ## What a point computes -/

/-- A branch's projection of a tile's rows, of any blocks that hold the rows and the weight. -/
theorem branch (B : FVec Ideal S512x512 .bf16) (W : FVec Ideal S512x1024 .bf16)
    (o : FVec Ideal Cert.MergeRIdeal.S2x4096x512 .bf16) (w : FVec Ideal Cert.MergeRIdeal.S512x1024 .f32)
    (y : S512x1024.Idx) (a : Fin 2) (s : Fin 4096) (j : Fin 1024)
    (hB : ∀ l : Fin 512, B (ix2 (y 0) l) = o (ix3 a s l)) (hW : ∀ l : Fin 512, W (ix2 l (y 1)) = w (ix2 l j)) :
    k0_pay8 B W y = Y o w (ix3 a s j) := by
  pointwise [k0_pay8, Y]
  reads_congr
  · exact hB _
  · exact hW _

section Point

variable (c : Dev nD) (t : Fin cfg0.N) (y : S512x1024.Idx) (a : Fin 2) (s : Fin 4096) (j : Fin 1024)
  (h : t.val * 512 + (y 0).val = a.val * 4096 + s.val) (hj : (y 1).val = j.val)

abbrev YA : FVec Ideal Cert.MergeRIdeal.S2x4096x1024 .f32 := Y (m ((c : Thread nD τ).loc main_arg1)) (m ((c : Thread nD τ).loc main_arg6))

abbrev YB : FVec Ideal Cert.MergeRIdeal.S2x4096x1024 .f32 := Y (m ((c : Thread nD τ).loc main_arg2)) (m ((c : Thread nD τ).loc main_arg7))

abbrev YC : FVec Ideal Cert.MergeRIdeal.S2x4096x1024 .f32 := Y (m ((c : Thread nD τ).loc main_arg3)) (m ((c : Thread nD τ).loc main_arg8))

abbrev Z : FVec Ideal Cert.MergeRIdeal.S2x4096x1024 .f32 :=
  MERGED (m ((c : Thread nD τ).loc main_arg1)) (m ((c : Thread nD τ).loc main_arg2)) (m ((c : Thread nD τ).loc main_arg3))
    (m ((c : Thread nD τ).loc main_arg4)) (m ((c : Thread nD τ).loc main_arg6)) (m ((c : Thread nD τ).loc main_arg7))
    (m ((c : Thread nD τ).loc main_arg8))

include h hj

theorem ya_at : k0_pay8 (iblk m c 1 t) (iblk m c 6 t) y = YA m c (ix3 a s j) :=
  branch _ _ _ _ y a s j (fun l => blk1 m c a s t _ l h rfl) (fun l => blk6 m c t _ _ rfl hj)

theorem yb_at : k0_pay9 (iblk m c 2 t) (iblk m c 7 t) y = YB m c (ix3 a s j) :=
  branch _ _ _ _ y a s j (fun l => blk2 m c a s t _ l h rfl) (fun l => blk7 m c t _ _ rfl hj)

theorem yc_at : k0_pay10 (iblk m c 3 t) (iblk m c 8 t) y = YC m c (ix3 a s j) :=
  branch _ _ _ _ y a s j (fun l => blk3 m c a s t _ l h rfl) (fun l => blk8 m c t _ _ rfl hj)

theorem merged_at : k0_pay11 (iblk m c 4 t) (iblk m c 1 t) (iblk m c 6 t) (iblk m c 2 t) (iblk m c 7 t) (iblk m c 3 t)
    (iblk m c 8 t) y = Z m c (ix3 a s j) := by
  have hy : (y 1).val < 1024 := (y 1).isLt
  have neg : ∀ z : EReal, 0 - z = -z := fun z => by rw [sub_eq_add_neg, zero_add]
  have g := fun (x : S512x3072.Idx) (k : Fin 3072) (h0 : (x 0).val = (y 0).val) (h1 : (x 1).val = k.val) =>
    blk4 m c a s t x k (by omega) h1
  unfold Z MERGED
  pointwise [k0_pay11, ga_at, gb_at, gc_at, SIG, neg]
  rw [ya_at m c t y a s j h hj, yb_at m c t y a s j h hj, yc_at m c t y a s j h hj]
  reads_congr
  all_goals first
    | rfl
    | refine g _ _ ?_ ?_ <;> (try blk_simp) <;> (try dsimp only) <;> omega

end Point

theorem mix_at (c : Dev nD) (t : Fin cfg0.N) (y : S512x1024.Idx) (a : Fin 2) (s : Fin 4096) (j : Fin 1024)
    (h : t.val * 512 + (y 0).val = a.val * 4096 + s.val) (hj : (y 1).val = j.val) :
    k0_pay1 (k0_pay12 (iblk m c 9 t)) (k0_pay13 (iblk m c 4 t) (iblk m c 1 t) (iblk m c 6 t) (iblk m c 2 t) (iblk m c 7 t)
      (iblk m c 3 t) (iblk m c 8 t)) (constant S512x1024 .f32 0x00000000#32) y
      = MIX (Z m c) (m ((c : Thread nD τ).loc main_arg9)) (ix3 a s j) := by
  pointwise [k0_pay1, k0_pay12, k0_pay13, MIX]
  reads_congr
  · exact merged_at m c t _ a s _ h rfl
  · exact blk9 m c t _ _ rfl hj

/-- The body's last sum, of any values before it. -/
theorem put (v33 : FVec Ideal S1024x1024 .bf16) (v34 : FVec Ideal S512x1024 .bf16) (cst v36 : FVec Ideal S512x1024 .f32)
    (v38 : FVec Ideal S1x1x1024 .f32) (y : S512x1024.Idx) :
    k0_pay2 v33 v34 cst v36 v38 y = v36 y + v38 (ix3 0 0 (y 1)) * k0_pay1 v33 v34 cst y := by
  pointwise [k0_pay2]

/-! ## The results -/

theorem final11 (c : Dev nD) : (dats m 0 c).arrAt 11 (cfgs 0).N
    = FLAT (YA m c) := by
  refine (dats m 0 c).arrAt_eq_of_covers 11 _ (by decide +kernel) fun t _ y => ?_
  have ht := bound t
  blk_simp
  rw [after0_11]
  frame_out
  pointwise [k0_pay3, FLAT]
  reads_congr
  · refine ya_at m c t _ _ _ _ ?_ ?_ <;> blk_simp [idx t] <;> idx_bounds <;> (try dsimp only) <;> omega

theorem final12 (c : Dev nD) : (dats m 0 c).arrAt 12 (cfgs 0).N
    = FLAT (YB m c) := by
  refine (dats m 0 c).arrAt_eq_of_covers 12 _ (by decide +kernel) fun t _ y => ?_
  have ht := bound t
  blk_simp
  rw [after0_12]
  frame_out
  pointwise [k0_pay4, FLAT]
  reads_congr
  · refine yb_at m c t _ _ _ _ ?_ ?_ <;> blk_simp [idx t] <;> idx_bounds <;> (try dsimp only) <;> omega

theorem final13 (c : Dev nD) : (dats m 0 c).arrAt 13 (cfgs 0).N
    = FLAT (YC m c) := by
  refine (dats m 0 c).arrAt_eq_of_covers 13 _ (by decide +kernel) fun t _ y => ?_
  have ht := bound t
  blk_simp
  rw [after0_13]
  frame_out
  pointwise [k0_pay5, FLAT]
  reads_congr
  · refine yc_at m c t _ _ _ _ ?_ ?_ <;> blk_simp [idx t] <;> idx_bounds <;> (try dsimp only) <;> omega

theorem final14 (c : Dev nD) : (dats m 0 c).arrAt 14 (cfgs 0).N
    = FLAT (Z m c) := by
  refine (dats m 0 c).arrAt_eq_of_covers 14 _ (by decide +kernel) fun t _ y => ?_
  have ht := bound t
  blk_simp
  rw [after0_14]
  frame_out
  pointwise [k0_pay6, FLAT]
  reads_congr
  · refine merged_at m c t _ _ _ _ ?_ ?_ <;> blk_simp [idx t] <;> idx_bounds <;> (try dsimp only) <;> omega

end Cert.MergeKIdeal.Val

end
-- ==== Proof.MergeOut.lean ====
/- The two results of the merge that read the mixed rows. -/
module

public import proofs.«01_k».proof.Proof.Gen.MergeKIdeal.Frame
public import proofs.«01_k».proof.Proof.Gen.MergeRIdeal.Run
public import proofs.«01_k».proof.Proof.Products
public import proofs.«01_k».proof.Proof.Merge
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)
open scoped BigOperators

namespace Cert.MergeKIdeal.Val

open Cert.MergeKIdeal Cert.MergeKIdeal.Gen
open Cert.MergeRIdeal.Val (Y GA GB GC SIG MERGED MIX OUT FLAT out_at ga_at gb_at gc_at)

variable (m : (ℓ : Loc nD τ sig) → Buf (Elt Ideal) ℓ)

/-! ## The results that read the mixed rows -/

theorem mix_tile (c : Dev nD) (t : Fin cfg0.N) (y : S512x1024.Idx) (i : S8192x1024.Idx)
    (h0 : (i 0).val = t.val * 512 + (y 0).val) (h1 : (i 1).val = (y 1).val) :
    k0_pay1 (k0_pay12 (iblk m c 9 t)) (k0_pay13 (iblk m c 4 t) (iblk m c 1 t) (iblk m c 6 t) (iblk m c 2 t) (iblk m c 7 t)
      (iblk m c 3 t) (iblk m c 8 t)) (constant S512x1024 .f32 0x00000000#32) y
      = FLAT (MIX (Z m c) (m ((c : Thread nD τ).loc main_arg9))) i := by
  have ht := bound t
  have hy : (y 0).val < 512 := (y 0).isLt
  have h : t.val * 512 + (y 0).val = t.val / 8 * 4096 + (t.val % 8 * 512 + (y 0).val) := by omega
  have e := mix_at m c t y ⟨t.val / 8, by omega⟩ ⟨t.val % 8 * 512 + (y 0).val, by omega⟩ (i 1) h h1.symm
  refine e.trans ?_
  exact (Products.rows Cert.MergeRIdeal.Gen.shapeCasts_S2x4096x1024_S8192x1024 _ i
    ⟨t.val / 8, by omega⟩ ⟨t.val % 8 * 512 + (y 0).val, by omega⟩ (by dsimp only; omega)).symm

theorem out_tile (c : Dev nD) (t : Fin cfg0.N) (y : S512x1024.Idx) (i : S8192x1024.Idx)
    (h0 : (i 0).val = t.val * 512 + (y 0).val) (h1 : (i 1).val = (y 1).val) :
    k0_pay2 (k0_pay12 (iblk m c 9 t)) (k0_pay13 (iblk m c 4 t) (iblk m c 1 t) (iblk m c 6 t) (iblk m c 2 t) (iblk m c 7 t)
      (iblk m c 3 t) (iblk m c 8 t)) (constant S512x1024 .f32 0x00000000#32) (iblk m c 0 t) (iblk m c 5 t) y
      = OUT (m ((c : Thread nD τ).loc main_arg0)) (m ((c : Thread nD τ).loc main_arg5))
          (MIX (Z m c) (m ((c : Thread nD τ).loc main_arg9))) i := by
  have ht := bound t
  have hy : (y 0).val < 512 := (y 0).isLt
  have h : t.val * 512 + (y 0).val = t.val / 8 * 4096 + (t.val % 8 * 512 + (y 0).val) := by omega
  have e := mix_at m c t y ⟨t.val / 8, by omega⟩ ⟨t.val % 8 * 512 + (y 0).val, by omega⟩ (i 1) h h1.symm
  have e0 := blk0 m c ⟨t.val / 8, by omega⟩ ⟨t.val % 8 * 512 + (y 0).val, by omega⟩ t y (i 1) h h1.symm
  have e5 := blk5 m c t (ix3 0 0 (y 1)) ⟨t.val / 8, by omega⟩ (i 1) rfl h1.symm
  rw [put, e, e0, e5, out_at _ _ _ i ⟨t.val / 8, by omega⟩ ⟨t.val % 8 * 512 + (y 0).val, by omega⟩ (by dsimp only; omega)]

theorem final10 (c : Dev nD) : (dats m 0 c).arrAt 10 (cfgs 0).N
    = OUT (m ((c : Thread nD τ).loc main_arg0)) (m ((c : Thread nD τ).loc main_arg5))
        (MIX (Z m c) (m ((c : Thread nD τ).loc main_arg9))) := by
  refine (dats m 0 c).arrAt_eq_of_covers 10 _ (by decide +kernel) fun t _ y => ?_
  have ht := bound t
  blk_simp
  rw [after0_10]
  unfold_out out0_10
  frame_out
  refine out_tile m c t y _ ?_ ?_ <;> blk_simp [idx t]

theorem final15 (c : Dev nD) : (dats m 0 c).arrAt 15 (cfgs 0).N
    = FLAT (MIX (Z m c) (m ((c : Thread nD τ).loc main_arg9))) := by
  refine (dats m 0 c).arrAt_eq_of_covers 15 _ (by decide +kernel) fun t _ y => ?_
  have ht := bound t
  blk_simp
  rw [after0_15]
  unfold_out out0_15
  frame_out
  show k0_pay1 (F := Ideal) _ _ _ y = _
  refine mix_tile m c t y _ ?_ ?_ <;> blk_simp [idx t]

end Cert.MergeKIdeal.Val

end
-- ==== Proof.NormFwd.lean ====
/- The modulated norm of the forward pass (`norm1_fwd`): a tile of 512 rows at a time, as it is and transposed. -/
module

public import proofs.«01_k».proof.Proof.Gen.NormFwdKIdeal.Frame
public import proofs.«01_k».proof.Proof.Gen.NormFwdRIdeal.Run
public import proofs.«01_k».proof.Proof.Products
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)
open scoped BigOperators

namespace Cert.NormFwdKIdeal.Val

open Cert.NormFwdKIdeal Cert.NormFwdKIdeal.Gen

variable (m : (ℓ : Loc nD τ sig) → Buf (Elt Ideal) ℓ)

/-! ## The reference's terms -/

/-- One over the root mean square of each row, the norm's `eps` added. -/
def RMS (x : FVec Ideal Cert.NormFwdRIdeal.S2x4096x1024 .f32) : FVec Ideal Cert.NormFwdRIdeal.S2x4096x1 .f32 :=
  Host.rsqrt (addf (Host.divf (broadcastInDim Cert.NormFwdRIdeal.S2x4096x1 ![0, 1] Cert.NormFwdRIdeal.Gen.bcast_S2x4096_S2x4096x1_0_1
      (Host.reduceAdd (mulf x x) (constant Cert.NormFwdRIdeal.S_ .f32 0x00000000#32)
        Cert.NormFwdRIdeal.Gen.reducesTo_S2x4096x1024_S2x4096_d2 Cert.NormFwdRIdeal.Gen.h_S_))
      (broadcastInDim Cert.NormFwdRIdeal.S2x4096x1 ![] Cert.NormFwdRIdeal.Gen.bcast_S_S2x4096x1
        (constant Cert.NormFwdRIdeal.S_ .f32 0x44800000#32)))
    (broadcastInDim Cert.NormFwdRIdeal.S2x4096x1 ![] Cert.NormFwdRIdeal.Gen.bcast_S_S2x4096x1
      (constant Cert.NormFwdRIdeal.S_ .f32 0x358637BD#32)))

/-- The modulated rows. -/
def H (x : FVec Ideal Cert.NormFwdRIdeal.S2x4096x1024 .f32) (w : FVec Ideal Cert.NormFwdRIdeal.S1024 .f32)
    (sh sc : FVec Ideal Cert.NormFwdRIdeal.S2x1024 .f32) : FVec Ideal Cert.NormFwdRIdeal.S8192x1024 .bf16 :=
  truncf .bf16 (shapeCast _ (addf (mulf (mulf (mulf x
      (broadcastInDim Cert.NormFwdRIdeal.S2x4096x1024 ![0, 1, 2] Cert.NormFwdRIdeal.Gen.bcast_S2x4096x1_S2x4096x1024_0_1_2 (RMS x)))
      (broadcastInDim Cert.NormFwdRIdeal.S2x4096x1024 ![0, 1, 2] Cert.NormFwdRIdeal.Gen.bcast_S1x1x1024_S2x4096x1024_0_1_2
        (broadcastInDim Cert.NormFwdRIdeal.S1x1x1024 ![2] Cert.NormFwdRIdeal.Gen.bcast_S1024_S1x1x1024_2 w)))
      (broadcastInDim Cert.NormFwdRIdeal.S2x4096x1024 ![0, 1, 2] Cert.NormFwdRIdeal.Gen.bcast_S2x1x1024_S2x4096x1024_0_1_2
        (addf (broadcastInDim Cert.NormFwdRIdeal.S2x1x1024 ![] Cert.NormFwdRIdeal.Gen.bcast_S_S2x1x1024
            (constant Cert.NormFwdRIdeal.S_ .f32 0x3F800000#32))
          (broadcastInDim Cert.NormFwdRIdeal.S2x1x1024 ![0, 2] Cert.NormFwdRIdeal.Gen.bcast_S2x1024_S2x1x1024_0_2 sc))))
      (broadcastInDim Cert.NormFwdRIdeal.S2x4096x1024 ![0, 1, 2] Cert.NormFwdRIdeal.Gen.bcast_S2x1x1024_S2x4096x1024_0_1_2
        (broadcastInDim Cert.NormFwdRIdeal.S2x1x1024 ![0, 2] Cert.NormFwdRIdeal.Gen.bcast_S2x1024_S2x1x1024_0_2 sh)))
    Cert.NormFwdRIdeal.Gen.shapeCasts_S2x4096x1024_S8192x1024) Cert.NormFwdRIdeal.Gen.bitsLt_bf16_f32

/-- The modulated rows, transposed. -/
def HT (x : FVec Ideal Cert.NormFwdRIdeal.S2x4096x1024 .f32) (w : FVec Ideal Cert.NormFwdRIdeal.S1024 .f32)
    (sh sc : FVec Ideal Cert.NormFwdRIdeal.S2x1024 .f32) : FVec Ideal Cert.NormFwdRIdeal.S1024x8192 .bf16 :=
  transpose Cert.NormFwdRIdeal.S1024x8192 [1, 0] (H x w sh sc) Cert.NormFwdRIdeal.Gen.transposes_S8192x1024_S1024x8192_1_0

/-! ## The blocks the body reads -/

theorem idx : ∀ t : Fin cfg0.N, win0_0.index t = ![t.val, 0] ∧ win0_1.index t = ![0, 0]
    ∧ win0_2.index t = ![t.val / 8, 0, 0] ∧ win0_3.index t = ![t.val / 8, 0, 0] ∧ win0_4.index t = ![t.val, 0]
    ∧ win0_5.index t = ![0, t.val] :=
  (by decide +kernel : ∀ t : Fin grid0.N, _)

theorem bound (t : Fin cfg0.N) : t.val < 16 := lt_of_lt_of_eq t.isLt N_0

theorem perBatch (X : FVec Ideal S2x1024 .f32) (i : S2x1x1024.Idx) :
    shapeCast S2x1x1024 X shapeCasts_S2x1024_S2x1x1024 i = X (ix2 (i 0) (i 2)) := by
  pointwise
  blk_ext

theorem op0 (c : Dev nD) (i : S8192x1024.Idx) (a : Fin 2) (s : Fin 4096) (h : (i 0).val = a.val * 4096 + s.val) :
    (V m c main_v0 : FVec Ideal S8192x1024 .f32) i
      = (m ((c : Thread nD τ).loc main_arg0) : FVec Ideal S2x4096x1024 .f32) (ix3 a s (i 1)) := by
  entry_read
  exact Products.rows shapeCasts_S2x4096x1024_S8192x1024 _ i a s h

theorem op1 (c : Dev nD) (i : S1x1024.Idx) :
    (V m c main_v1 : FVec Ideal S1x1024 .f32) i = (m ((c : Thread nD τ).loc main_arg1) : FVec Ideal S1024 .f32) (ix1 (i 1)) := by
  entry_read
  show broadcastInDim S1x1024 ![1] bcast_S1024_S1x1024_1 (m ((c : Thread nD τ).loc main_arg1) : FVec Ideal S1024 .f32) i = _
  pointwise
  blk_ext

theorem op2 (c : Dev nD) (i : S2x1x1024.Idx) : (V m c main_v2 : FVec Ideal S2x1x1024 .f32) i
    = (m ((c : Thread nD τ).loc main_arg2) : FVec Ideal S2x1024 .f32) (ix2 (i 0) (i 2)) := by
  entry_read
  exact perBatch _ i

theorem op3 (c : Dev nD) (i : S2x1x1024.Idx) : (V m c main_v3 : FVec Ideal S2x1x1024 .f32) i
    = (m ((c : Thread nD τ).loc main_arg3) : FVec Ideal S2x1024 .f32) (ix2 (i 0) (i 2)) := by
  entry_read
  exact perBatch _ i

theorem blk0 (c : Dev nD) (t : Fin cfg0.N) (x : S512x1024.Idx) (a : Fin 2) (s : Fin 4096) (j : Fin 1024)
    (h : t.val * 512 + (x 0).val = a.val * 4096 + s.val) (hj : (x 1).val = j.val) :
    (iblk m c 0 t : FVec Ideal S512x1024 .f32) x
      = (m ((c : Thread nD τ).loc main_arg0) : FVec Ideal S2x4096x1024 .f32) (ix3 a s j) := by
  blk_simp [iblk]
  refine (op0 m c _ a s (by blk_simp [idx t]; omega)).trans ?_
  blk_ext [idx t]

theorem blk1 (c : Dev nD) (t : Fin cfg0.N) (x : S1x1024.Idx) (j : Fin 1024) (hj : (x 1).val = j.val) :
    (iblk m c 1 t : FVec Ideal S1x1024 .f32) x = (m ((c : Thread nD τ).loc main_arg1) : FVec Ideal S1024 .f32) (ix1 j) := by
  blk_simp [iblk]
  refine (op1 m c _).trans ?_
  blk_ext [idx t]

theorem blk2 (c : Dev nD) (t : Fin cfg0.N) (x : S1x1x1024.Idx) (a : Fin 2) (j : Fin 1024)
    (h : t.val / 8 = a.val) (hj : (x 2).val = j.val) : (iblk m c 2 t : FVec Ideal S1x1x1024 .f32) x
    = (m ((c : Thread nD τ).loc main_arg2) : FVec Ideal S2x1024 .f32) (ix2 a j) := by
  blk_simp [iblk]
  refine (op2 m c _).trans ?_
  blk_ext [idx t]

theorem blk3 (c : Dev nD) (t : Fin cfg0.N) (x : S1x1x1024.Idx) (a : Fin 2) (j : Fin 1024)
    (h : t.val / 8 = a.val) (hj : (x 2).val = j.val) : (iblk m c 3 t : FVec Ideal S1x1x1024 .f32) x
    = (m ((c : Thread nD τ).loc main_arg3) : FVec Ideal S2x1024 .f32) (ix2 a j) := by
  blk_simp [iblk]
  refine (op3 m c _).trans ?_
  blk_ext [idx t]

/-! ## What a point computes -/

/-- A tile's rows, whichever way round they are stored. -/
theorem tile_at (c : Dev nD) (t : Fin cfg0.N) (y : S512x1024.Idx) (i : S8192x1024.Idx)
    (h0 : (i 0).val = t.val * 512 + (y 0).val) (h1 : (i 1).val = (y 1).val) :
    k0_pay1 (iblk m c 0 t) (iblk m c 1 t) (iblk m c 2 t) (iblk m c 3 t) y
      = H (m ((c : Thread nD τ).loc main_arg0)) (m ((c : Thread nD τ).loc main_arg1))
          (m ((c : Thread nD τ).loc main_arg2)) (m ((c : Thread nD τ).loc main_arg3)) i := by
  have ht := bound t
  have hy : (y 0).val < 512 := (y 0).isLt
  pointwise [k0_pay1, H, RMS]
  reads_congr
  all_goals first
    | refine blk0 m c t _ _ _ _ ?_ ?_ <;> (try blk_simp) <;> (try dsimp only) <;> omega
    | refine blk1 m c t _ _ ?_ <;> (try blk_simp) <;> (try dsimp only) <;> omega
    | refine blk2 m c t _ _ _ ?_ ?_ <;> (try blk_simp) <;> (try dsimp only) <;> omega
    | refine blk3 m c t _ _ _ ?_ ?_ <;> (try blk_simp) <;> (try dsimp only) <;> omega

theorem final4 (c : Dev nD) : (dats m 0 c).arrAt 4 (cfgs 0).N
    = H (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  have ht := bound t
  blk_simp
  rw [after0_4]
  frame_out
  show k0_pay1 (F := Ideal) _ _ _ _ y = _
  refine tile_at m c t y _ ?_ ?_ <;> blk_simp [idx t]

theorem final5 (c : Dev nD) : (dats m 0 c).arrAt 5 (cfgs 0).N
    = HT (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  have ht := bound t
  blk_simp
  rw [after0_5]
  frame_out
  pointwise [k0_pay3, HT]
  refine tile_at m c t _ _ ?_ ?_ <;> blk_simp [idx t]

end Cert.NormFwdKIdeal.Val

end
-- ==== Proof.ConvFwd.lean ====
/- The forward call of the convolution and the gate (`convglu_fwd`): a tile of 256 positions at a time, as it is and
   transposed, with the eight positions before the tile. -/
module

public import proofs.«01_k».proof.Proof.Gen.ConvFwdKIdeal.Frame
public import proofs.«01_k».proof.Proof.Gen.ConvFwdRIdeal.Run
public import proofs.«01_k».proof.Proof.ConvRef
public import proofs.«01_k».proof.Proof.Products
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)
open scoped BigOperators

namespace Cert.ConvFwdRIdeal.Val

open Cert.ConvFwdRIdeal Cert.ConvFwdRIdeal.Gen
open Cert.ConvRIdeal.Val (PRE SIG GATE VAL LOGISTIC h_at)

variable (cw : FVec Ideal S3x5632 .f32) (cb : FVec Ideal S5632 .f32) (u : FVec Ideal S2x4096x5632 .f32)

/-- The gated product, in the terms of the backward pass's convolution. -/
def ACT : FVec Ideal S8192x2816 .bf16 :=
  truncf .bf16 (shapeCast _ (mulf (mulf (GATE cw cb u) (LOGISTIC (GATE cw cb u))) (VAL cw cb u))
    shapeCasts_S2x4096x2816_S8192x2816) bitsLt_bf16_f32

def ACTT : FVec Ideal S2816x8192 .bf16 :=
  transpose S2816x8192 [1, 0] (ACT cw cb u) transposes_S8192x2816_S2816x8192_1_0

theorem out0 (m : (ℓ : Loc nD τ sig) → Buf (Elt Ideal) ℓ) (c : Dev nD) : Value.res_main_v29 m c
    = ACT (m ((c : Thread nD τ).loc main_arg0)) (m ((c : Thread nD τ).loc main_arg1)) (m ((c : Thread nD τ).loc main_arg2)) := rfl

theorem out1 (m : (ℓ : Loc nD τ sig) → Buf (Elt Ideal) ℓ) (c : Dev nD) : Value.res_main_v30 m c
    = ACTT (m ((c : Thread nD τ).loc main_arg0)) (m ((c : Thread nD τ).loc main_arg1)) (m ((c : Thread nD τ).loc main_arg2)) := rfl

theorem act_at (i : S8192x2816.Idx) (a : Fin 2) (s : Fin 4096) (j : Fin 2816) (h : (i 0).val = a.val * 4096 + s.val)
    (hj : (i 1).val = j.val) : ACT cw cb u i
      = PRE cw cb u a s ⟨j.val, by omega⟩ * SIG (PRE cw cb u a s ⟨j.val, by omega⟩) * PRE cw cb u a s ⟨2816 + j.val, by omega⟩ := by
  obtain rfl : j = i 1 := Fin.ext hj.symm
  have e := Products.rows shapeCasts_S2x4096x2816_S8192x2816
    (mulf (mulf (GATE cw cb u) (LOGISTIC (GATE cw cb u))) (VAL cw cb u)) i a s h
  refine e.trans ?_
  pointwise [SIG, h_at]

end Cert.ConvFwdRIdeal.Val

namespace Cert.ConvFwdKIdeal.Val

open Cert.ConvFwdKIdeal Cert.ConvFwdKIdeal.Gen
open Cert.ConvRIdeal.Val (ROW PRE SIG)
open Cert.ConvFwdRIdeal.Val (ACT ACTT act_at)

variable (m : (ℓ : Loc nD τ sig) → Buf (Elt Ideal) ℓ)

/-! ## The blocks the body reads -/

theorem idx : ∀ t : Fin cfg0.N, win0_0.index t = ![0, 0] ∧ win0_1.index t = ![t.val, 0]
    ∧ win0_2.index t = ![if t.val = 0 then 0 else t.val * 32 - 1, 0] ∧ win0_3.index t = ![t.val, 0] ∧ win0_4.index t = ![0, t.val] :=
  (by decide +kernel : ∀ t : Fin grid0.N, _)

/-- Whether a point's tile has one before it in its batch row, as the body asks. -/
theorem inner : ∀ t : Fin cfg0.N, Scalar.cmpi .sgt (BitVec.ofNat 32 (grid0.coords t 1).val) 0#32
    = if t.val % 16 = 0 then 0#1 else 1#1 :=
  (by decide +kernel : ∀ t : Fin grid0.N, _)

theorem bound (t : Fin cfg0.N) : t.val < 32 := lt_of_lt_of_eq t.isLt N_0

theorem opU (c : Dev nD) (i : S8192x5632.Idx) (a : Fin 2) (s : Fin 4096) (h : (i 0).val = a.val * 4096 + s.val) :
    (V m c main_v20 : FVec Ideal S8192x5632 .f32) i
      = (m ((c : Thread nD τ).loc main_arg2) : FVec Ideal S2x4096x5632 .f32) (ix3 a s (i 1)) := by
  entry_read
  exact Products.rows shapeCasts_S2x4096x5632_S8192x5632 _ i a s h

theorem cat8 (p q r s e f g h : FVec Ideal S1x5632 .f32) (k : Fin 8) (j : Fin 5632) (hk : k.val < 4) :
    concatenate S8x5632 0 [⟨S1x5632, p⟩, ⟨S1x5632, q⟩, ⟨S1x5632, r⟩, ⟨S1x5632, s⟩, ⟨S1x5632, e⟩, ⟨S1x5632, f⟩, ⟨S1x5632, g⟩,
      ⟨S1x5632, h⟩] concatenates_S1x5632_S1x5632_S1x5632_S1x5632_S1x5632_S1x5632_S1x5632_S1x5632_S8x5632_d0 (ix2 k j)
      = if k.val = 0 then p (ix2 0 j) else if k.val = 1 then q (ix2 0 j)
        else if k.val = 2 then r (ix2 0 j) else s (ix2 0 j) := by
  pointwise
  repeat' split
  all_goals first | (exfalso; omega) | rfl | (refine congrArg _ ?_; blk_ext)

/-- The parameters' first rows: the three taps, then the bias. -/
theorem opP (c : Dev nD) (k : Fin 8) (j : Fin 5632) (h : k.val < 4) :
    (V m c main_v19 : FVec Ideal S8x5632 .f32) (ix2 k j)
      = if k.val = 0 then (m ((c : Thread nD τ).loc main_arg0) : FVec Ideal S3x5632 .f32) (ix2 0 j)
        else if k.val = 1 then (m ((c : Thread nD τ).loc main_arg0) : FVec Ideal S3x5632 .f32) (ix2 1 j)
        else if k.val = 2 then (m ((c : Thread nD τ).loc main_arg0) : FVec Ideal S3x5632 .f32) (ix2 2 j)
        else (m ((c : Thread nD τ).loc main_arg1) : FVec Ideal S5632 .f32) (ix1 j) := by
  show StableHlo.after ([hostOps0, hostOps0_1, hostOps0_2, hostOps0_3, hostOps0_4, hostOps0_5, hostOps0_6, hostOps0_7, hostOps0_8].flatten)
      (fun b => m (c, b)) (Proc.tc.devRef main_v19) (ix2 k j) = _
  simp only [hostOps0, hostOps0_1, hostOps0_2, hostOps0_3, hostOps0_4, hostOps0_5, hostOps0_6, hostOps0_7, hostOps0_8,
    List.flatten_cons, List.flatten_nil, List.cons_append, List.nil_append, List.append_nil,
    StableHlo.TRef.binary, StableHlo.TRef.nullary, StableHlo.TRef.unary, StableHlo.TRef.toBuf, StableHlo.TRef.ofBuf, cast_eq]
  after_results
  refine (cat8 _ _ _ _ _ _ _ _ k j h).trans ?_
  dsimp only [Matrix.cons_val]
  after_results_simp
  pointwise

theorem blkT (c : Dev nD) (t : Fin cfg0.N) (x : S8x5632.Idx) (k : Fin 3) (j : Fin 5632) (h : (x 0).val = k.val)
    (hj : (x 1).val = j.val) : (iblk m c 0 t : FVec Ideal S8x5632 .f32) x
      = (m ((c : Thread nD τ).loc main_arg0) : FVec Ideal S3x5632 .f32) (ix2 k j) := by
  have hk := k.isLt
  have e : (iblk m c 0 t : FVec Ideal S8x5632 .f32) x
      = (V m c main_v19 : FVec Ideal S8x5632 .f32) (ix2 ⟨k.val, by omega⟩ j) := by
    blk_simp [iblk]
    blk_ext [idx t]
  rw [e, opP m c _ j (by dsimp only; omega)]
  fin_cases k <;> rfl

theorem blkB (c : Dev nD) (t : Fin cfg0.N) (x : S8x5632.Idx) (j : Fin 5632) (h : (x 0).val = 3)
    (hj : (x 1).val = j.val) : (iblk m c 0 t : FVec Ideal S8x5632 .f32) x
      = (m ((c : Thread nD τ).loc main_arg1) : FVec Ideal S5632 .f32) (ix1 j) := by
  have e : (iblk m c 0 t : FVec Ideal S8x5632 .f32) x
      = (V m c main_v19 : FVec Ideal S8x5632 .f32) (ix2 3 j) := by
    blk_simp [iblk]
    blk_ext [idx t]
  rw [e, opP m c _ j (by decide)]
  rfl

theorem blkU (c : Dev nD) (t : Fin cfg0.N) (x : S256x5632.Idx) (a : Fin 2) (s : Fin 4096) (j : Fin 5632)
    (h : t.val * 256 + (x 0).val = a.val * 4096 + s.val) (hj : (x 1).val = j.val) :
    (iblk m c 1 t : FVec Ideal S256x5632 .f32) x
      = (m ((c : Thread nD τ).loc main_arg2) : FVec Ideal S2x4096x5632 .f32) (ix3 a s j) := by
  blk_simp [iblk]
  refine (opU m c _ a s (by blk_simp [idx t]; omega)).trans ?_
  blk_ext [idx t]

theorem blkH (c : Dev nD) (t : Fin cfg0.N) (x : S8x5632.Idx) (a : Fin 2) (s : Fin 4096) (j : Fin 5632) (h0 : t.val ≠ 0)
    (h : (t.val * 32 - 1) * 8 + (x 0).val = a.val * 4096 + s.val) (hj : (x 1).val = j.val) :
    (iblk m c 2 t : FVec Ideal S8x5632 .f32) x
      = (m ((c : Thread nD τ).loc main_arg2) : FVec Ideal S2x4096x5632 .f32) (ix3 a s j) := by
  have e := idx t
  rw [if_neg h0] at e
  blk_simp [iblk]
  refine (opU m c _ a s (by blk_simp [e]; omega)).trans ?_
  blk_ext [e]

/-! ## What a point computes -/

/-- The tile's rows after the eight before it, of any blocks. -/
def ROWS (b : BitVec 1) (U : FVec Ideal S256x5632 .f32) (L : FVec Ideal S8x5632 .f32) : FVec Ideal S264x5632 .f32 :=
  concatenate S264x5632 0 [⟨S8x5632, Scalar.select b (shapeCast S8x5632 L shapeCasts_S8x5632_S8x5632)
    (broadcast S8x5632 (Scalar.ofBits .f32 0x00000000#32))⟩, ⟨S256x5632, shapeCast S256x5632 U shapeCasts_S256x5632_S256x5632⟩]
    concatenates_S8x5632_S256x5632_S264x5632_d0

/-- The convolution of a tile, of any blocks. -/
def CONV (b : BitVec 1) (P : FVec Ideal S8x5632 .f32) (U : FVec Ideal S256x5632 .f32) (L : FVec Ideal S8x5632 .f32) :
    FVec Ideal S256x5632 .f32 :=
  let p : FVec Ideal S8x5632 .f32 := shapeCast S8x5632 P shapeCasts_S8x5632_S8x5632
  addf (addf (addf
      (mulf (broadcastTo S256x5632 (extractStridedSlice S1x5632 ![2, 0] p slices_S8x5632_o2_0_S1x5632) broadcasts_S1x5632_S256x5632)
        (shapeCast S256x5632 U shapeCasts_S256x5632_S256x5632))
      (mulf (broadcastTo S256x5632 (extractStridedSlice S1x5632 ![0, 0] p slices_S8x5632_o0_0_S1x5632) broadcasts_S1x5632_S256x5632)
        (extractStridedSlice S256x5632 ![6, 0] (ROWS b U L) slices_S264x5632_o6_0_S256x5632)))
      (mulf (broadcastTo S256x5632 (extractStridedSlice S1x5632 ![1, 0] p slices_S8x5632_o1_0_S1x5632) broadcasts_S1x5632_S256x5632)
        (extractStridedSlice S256x5632 ![7, 0] (ROWS b U L) slices_S264x5632_o7_0_S256x5632)))
    (broadcastTo S256x5632 (extractStridedSlice S1x5632 ![3, 0] p slices_S8x5632_o3_0_S1x5632) broadcasts_S1x5632_S256x5632)

/-- The gated product of any rows. -/
def GLU (Z : FVec Ideal S256x5632 .f32) : FVec Ideal S256x2816 .f32 :=
  mulf (mulf (extractStridedSlice S256x2816 ![0, 0] Z slices_S256x5632_o0_0_S256x2816)
      (divf (broadcast S256x2816 (Scalar.ofBits .f32 0x3F800000#32))
        (addf (broadcast S256x2816 (Scalar.ofBits .f32 0x3F800000#32))
          (exp (subf (broadcast S256x2816 (Scalar.ofBits .f32 0x00000000#32))
            (extractStridedSlice S256x2816 ![0, 0] Z slices_S256x5632_o0_0_S256x2816))))))
    (extractStridedSlice S256x2816 ![0, 2816] Z slices_S256x5632_o0_2816_S256x2816)

theorem body_eq (i : grid0.Coords) (P : FVec Ideal S8x5632 .f32) (U : FVec Ideal S256x5632 .f32) (L : FVec Ideal S8x5632 .f32) :
    k0_pay1 i P U L = GLU (CONV (Scalar.cmpi .sgt (BitVec.ofNat 32 (i 1).val) 0#32) P U L) := rfl

theorem neg_of_sub (z : EReal) : 0 - z = -z := by
  rw [sub_eq_add_neg, zero_add]

theorem glu_at (Z : FVec Ideal S256x5632 .f32) (r : Fin 256) (j : Fin 2816) : GLU Z (ix2 r j)
    = Z (ix2 r ⟨j.val, by omega⟩) * SIG (Z (ix2 r ⟨j.val, by omega⟩)) * Z (ix2 r ⟨2816 + j.val, by omega⟩) := by
  pointwise [GLU, SIG, neg_of_sub]

/-- Whether a point's tile has one before it, as the body computes it. -/
abbrev B (t : Fin cfg0.N) : BitVec 1 := Scalar.cmpi .sgt (BitVec.ofNat 32 (grid0.coords t 1).val) 0#32

/-- Row `n + 6` of a tile's rows after the eight before it is the row `n` that the convolution meets. -/
theorem row_at (c : Dev nD) (t : Fin cfg0.N) (x : S264x5632.Idx) (a : Fin 2) (n : Nat) (j : Fin 5632)
    (ha : t.val / 16 = a.val) (hn : t.val % 16 * 256 + (x 0).val = n + 6) (h6 : 6 ≤ (x 0).val) (hj : (x 1).val = j.val) :
    ROWS (B t) (iblk m c 1 t) (iblk m c 2 t) x = ROW (m ((c : Thread nD τ).loc main_arg2)) a n j := by
  have ht := bound t
  have hx : (x 0).val < 264 := (x 0).isLt
  have hB : B t = if t.val % 16 = 0 then 0#1 else 1#1 := inner t
  generalize B t = b at hB
  subst hB
  pointwise [ROWS, ROW]
  by_cases h8 : (x 0).val < 8
  · rw [dif_pos h8]
    by_cases h15 : t.val % 16 = 0
    · rw [if_pos h15, dif_neg (by omega)]
      rfl
    · rw [if_neg h15, dif_pos ⟨by omega, by omega⟩]
      refine Eq.trans (b := (iblk m c 2 t : FVec Ideal S8x5632 .f32) (ix2 ⟨(x 0).val, h8⟩ (x 1))) rfl ?_
      refine blkH m c t _ _ _ _ (by omega) ?_ hj
      dsimp only
      show (t.val * 32 - 1) * 8 + (x 0).val = _
      omega
  · rw [dif_neg h8, dif_pos ⟨by omega, by omega⟩]
    refine blkU m c t _ _ _ _ ?_ hj
    show t.val * 256 + ((x 0).val - 8) = _
    dsimp only
    omega

theorem pre_at (c : Dev nD) (t : Fin cfg0.N) (x : S256x5632.Idx) (a : Fin 2) (s : Fin 4096) (j : Fin 5632)
    (ha : t.val / 16 = a.val) (hs : t.val % 16 * 256 + (x 0).val = s.val) (hj : (x 1).val = j.val) :
    CONV (B t) (iblk m c 0 t) (iblk m c 1 t) (iblk m c 2 t) x
      = PRE (m ((c : Thread nD τ).loc main_arg0)) (m ((c : Thread nD τ).loc main_arg1))
          (m ((c : Thread nD τ).loc main_arg2)) a s j := by
  have ht := bound t
  have hx : (x 0).val < 256 := (x 0).isLt
  pointwise [CONV, PRE]
  have e2 := blkT m c t (ix2 2 (x 1)) 2 j rfl hj
  have e0 := blkT m c t (ix2 0 (x 1)) 0 j rfl hj
  have e1 := blkT m c t (ix2 1 (x 1)) 1 j rfl hj
  have eB := blkB m c t (ix2 3 (x 1)) j rfl hj
  have eU := blkU m c t x a s j (by omega) hj
  have r0 := row_at m c t (ix2 ⟨6 + (x 0).val, by omega⟩ (x 1)) a s.val j ha
    (by show t.val % 16 * 256 + (6 + (x 0).val) = _; omega) (Nat.le_add_right 6 _) hj
  have r1 := row_at m c t (ix2 ⟨7 + (x 0).val, by omega⟩ (x 1)) a (s.val + 1) j ha
    (by show t.val % 16 * 256 + (7 + (x 0).val) = _; omega) (by show 6 ≤ 7 + (x 0).val; omega) hj
  exact congrArg₂ (· + ·) (congrArg₂ (· + ·) (congrArg₂ (· + ·) (congrArg₂ (· * ·) e2 eU) (congrArg₂ (· * ·) e0 r0))
    (congrArg₂ (· * ·) e1 r1)) eB

/-- A tile's rows, whichever way round they are stored. -/
theorem tile_at (c : Dev nD) (t : Fin cfg0.N) (y : S256x2816.Idx) (i : S8192x2816.Idx)
    (h0 : (i 0).val = t.val * 256 + (y 0).val) (h1 : (i 1).val = (y 1).val) :
    k0_pay1 (grid0.coords t) (iblk m c 0 t) (iblk m c 1 t) (iblk m c 2 t) y
      = ACT (m ((c : Thread nD τ).loc main_arg0)) (m ((c : Thread nD τ).loc main_arg1)) (m ((c : Thread nD τ).loc main_arg2)) i := by
  obtain ⟨r, l, rfl⟩ : ∃ (r : Fin 256) (l : Fin 2816), y = ix2 r l :=
    ⟨y 0, y 1, by funext d; fin_cases d <;> rfl⟩
  have h0' : (i 0).val = t.val * 256 + r.val := h0
  have ht := bound t
  have hr := r.isLt
  have z := fun k => pre_at m c t (ix2 r k) ⟨t.val / 16, by omega⟩ ⟨t.val % 16 * 256 + r.val, by omega⟩ k rfl rfl rfl
  have e := act_at (m ((c : Thread nD τ).loc main_arg0)) (m ((c : Thread nD τ).loc main_arg1)) (m ((c : Thread nD τ).loc main_arg2))
    i ⟨t.val / 16, by omega⟩ ⟨t.val % 16 * 256 + r.val, by omega⟩ l (by dsimp only; omega) h1
  rw [body_eq, e]
  refine (glu_at _ r l).trans ?_
  simp only [z]

theorem final3 (c : Dev nD) : (dats m 0 c).arrAt 3 (cfgs 0).N
    = ACT (m ((c : Thread nD τ).loc main_arg0)) (m ((c : Thread nD τ).loc main_arg1)) (m ((c : Thread nD τ).loc main_arg2)) := by
  refine (dats m 0 c).arrAt_eq_of_covers 3 _ (by decide +kernel) fun t _ y => ?_
  have ht := bound t
  blk_simp
  rw [after0_3]
  frame_out
  show k0_pay1 (F := Ideal) _ _ _ _ y = _
  refine tile_at m c t y _ ?_ ?_ <;> blk_simp [idx t]

theorem final4 (c : Dev nD) : (dats m 0 c).arrAt 4 (cfgs 0).N
    = ACTT (m ((c : Thread nD τ).loc main_arg0)) (m ((c : Thread nD τ).loc main_arg1)) (m ((c : Thread nD τ).loc main_arg2)) := by
  refine (dats m 0 c).arrAt_eq_of_covers 4 _ (by decide +kernel) fun t _ y => ?_
  have ht := bound t
  blk_simp
  rw [after0_4]
  frame_out
  pointwise [k0_pay3, ACTT]
  refine tile_at m c t _ _ ?_ ?_ <;> blk_simp [idx t]

end Cert.ConvFwdKIdeal.Val

end
-- ==== Proof.Adam.lean ====
/- The optimiser's step of one weight (`adamw_w_ada`): a tile of 256 rows at a time, entry by entry. -/
module

public import proofs.«01_k».proof.Proof.Gen.AdamKIdeal.Frame
public import proofs.«01_k».proof.Proof.Gen.AdamRIdeal.Run
public import proofs.«01_k».proof.Proof.Products
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)
open scoped BigOperators

namespace Cert.AdamKIdeal.Val

open Cert.AdamKIdeal Cert.AdamKIdeal.Gen

variable (m : (ℓ : Loc nD τ sig) → Buf (Elt Ideal) ℓ)

/-! ## The reference's terms -/

abbrev A := FVec Ideal Cert.AdamRIdeal.S2x1024x1536 .f32

/-- One number everywhere. -/
abbrev ALL (b : BitVec 32) : A :=
  broadcastInDim Cert.AdamRIdeal.S2x1024x1536 ![] Cert.AdamRIdeal.Gen.bcast_S_S2x1024x1536 (constant Cert.AdamRIdeal.S_ .f32 b)

/-- The new first moment. -/
abbrev M1 (g μ : A) : A := addf (mulf (ALL 0x3F666666#32) μ) (mulf (ALL 0x3DCCCCCD#32) g)

/-- The new second moment. -/
abbrev M2 (g ν : A) : A := addf (mulf (ALL 0x3F7FBE77#32) ν) (mulf (ALL 0x3A83126F#32) (mulf g g))

/-- The weight's step. -/
abbrev STEP (w g μ ν : A) : A :=
  mulf (ALL 0xBA83126F#32) (addf (Host.divf (Host.divf (M1 g μ) (ALL 0x3F26BD02#32))
    (addf (Host.sqrt (Host.divf (M2 g ν) (ALL 0x3C231ACC#32))) (ALL 0x322BCC77#32))) (mulf (ALL 0x3C23D70A#32) w))

abbrev FLAT (x : A) : FVec Ideal Cert.AdamRIdeal.S2048x1536 .f32 :=
  shapeCast _ x Cert.AdamRIdeal.Gen.shapeCasts_S2x1024x1536_S2048x1536

/-! ## The blocks the body reads -/

theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

theorem bound (t : Fin cfg0.N) : t.val < 8 := lt_of_lt_of_eq t.isLt N_0

theorem op0 (c : Dev nD) (i : S2048x1536.Idx) (a : Fin 2) (s : Fin 1024) (h : (i 0).val = a.val * 1024 + s.val) :
    (V m c main_v0 : FVec Ideal S2048x1536 .f32) i
      = (m ((c : Thread nD τ).loc main_arg0) : FVec Ideal S2x1024x1536 .f32) (ix3 a s (i 1)) := by
  entry_read
  exact Products.rows shapeCasts_S2x1024x1536_S2048x1536 _ i a s h

theorem op1 (c : Dev nD) (i : S2048x1536.Idx) (a : Fin 2) (s : Fin 1024) (h : (i 0).val = a.val * 1024 + s.val) :
    (V m c main_v1 : FVec Ideal S2048x1536 .f32) i
      = (m ((c : Thread nD τ).loc main_arg1) : FVec Ideal S2x1024x1536 .f32) (ix3 a s (i 1)) := by
  entry_read
  exact Products.rows shapeCasts_S2x1024x1536_S2048x1536 _ i a s h

theorem op2 (c : Dev nD) (i : S2048x1536.Idx) (a : Fin 2) (s : Fin 1024) (h : (i 0).val = a.val * 1024 + s.val) :
    (V m c main_v2 : FVec Ideal S2048x1536 .f32) i
      = (m ((c : Thread nD τ).loc main_arg2) : FVec Ideal S2x1024x1536 .f32) (ix3 a s (i 1)) := by
  entry_read
  exact Products.rows shapeCasts_S2x1024x1536_S2048x1536 _ i a s h

theorem op3 (c : Dev nD) (i : S2048x1536.Idx) (a : Fin 2) (s : Fin 1024) (h : (i 0).val = a.val * 1024 + s.val) :
    (V m c main_v3 : FVec Ideal S2048x1536 .f32) i
      = (m ((c : Thread nD τ).loc main_arg3) : FVec Ideal S2x1024x1536 .f32) (ix3 a s (i 1)) := by
  entry_read
  exact Products.rows shapeCasts_S2x1024x1536_S2048x1536 _ i a s h

section Blocks

variable (c : Dev nD) (t : Fin cfg0.N) (x : S256x1536.Idx) (a : Fin 2) (s : Fin 1024) (j : Fin 1536)
  (h : t.val * 256 + (x 0).val = a.val * 1024 + s.val) (hj : (x 1).val = j.val)

include h hj

theorem blk0 : (iblk m c 0 t : FVec Ideal S256x1536 .f32) x
    = (m ((c : Thread nD τ).loc main_arg0) : FVec Ideal S2x1024x1536 .f32) (ix3 a s j) := by
  blk_simp [iblk]
  refine (op0 m c _ a s (by blk_simp [idx t]; omega)).trans ?_
  blk_ext [idx t]

theorem blk1 : (iblk m c 1 t : FVec Ideal S256x1536 .f32) x
    = (m ((c : Thread nD τ).loc main_arg1) : FVec Ideal S2x1024x1536 .f32) (ix3 a s j) := by
  blk_simp [iblk]
  refine (op1 m c _ a s (by blk_simp [idx t]; omega)).trans ?_
  blk_ext [idx t]

theorem blk2 : (iblk m c 2 t : FVec Ideal S256x1536 .f32) x
    = (m ((c : Thread nD τ).loc main_arg2) : FVec Ideal S2x1024x1536 .f32) (ix3 a s j) := by
  blk_simp [iblk]
  refine (op2 m c _ a s (by blk_simp [idx t]; omega)).trans ?_
  blk_ext [idx t]

theorem blk3 : (iblk m c 3 t : FVec Ideal S256x1536 .f32) x
    = (m ((c : Thread nD τ).loc main_arg3) : FVec Ideal S2x1024x1536 .f32) (ix3 a s j) := by
  blk_simp [iblk]
  refine (op3 m c _ a s (by blk_simp [idx t]; omega)).trans ?_
  blk_ext [idx t]

end Blocks

/-! ## The results -/

theorem final4 (c : Dev nD) : (dats m 0 c).arrAt 4 (cfgs 0).N
    = FLAT (STEP (m ((c : Thread nD τ).loc main_arg0)) (m ((c : Thread nD τ).loc main_arg1))
        (m ((c : Thread nD τ).loc main_arg2)) (m ((c : Thread nD τ).loc main_arg3))) := by
  refine (dats m 0 c).arrAt_eq_of_covers 4 _ (by decide +kernel) fun t _ y => ?_
  have ht := bound t
  blk_simp
  rw [after0_4]
  frame_out
  pointwise [k0_pay4, k0_pay3, k0_pay2, k0_pay1, FLAT, STEP, M1, M2, ALL]
  reads_congr
  all_goals first
    | refine blk0 m c t _ _ _ _ ?_ ?_ <;> blk_simp [idx t] <;> idx_bounds <;> (try dsimp only) <;> omega
    | refine blk1 m c t _ _ _ _ ?_ ?_ <;> blk_simp [idx t] <;> idx_bounds <;> (try dsimp only) <;> omega
    | refine blk2 m c t _ _ _ _ ?_ ?_ <;> blk_simp [idx t] <;> idx_bounds <;> (try dsimp only) <;> omega
    | refine blk3 m c t _ _ _ _ ?_ ?_ <;> blk_simp [idx t] <;> idx_bounds <;> (try dsimp only) <;> omega

theorem final5 (c : Dev nD) : (dats m 0 c).arrAt 5 (cfgs 0).N
    = FLAT (M1 (m ((c : Thread nD τ).loc main_arg1)) (m ((c : Thread nD τ).loc main_arg2))) := by
  refine (dats m 0 c).arrAt_eq_of_covers 5 _ (by decide +kernel) fun t _ y => ?_
  have ht := bound t
  blk_simp
  rw [after0_5]
  frame_out
  pointwise [k0_pay2, k0_pay1, FLAT, M1, ALL]
  reads_congr
  all_goals first
    | refine blk1 m c t _ _ _ _ ?_ ?_ <;> blk_simp [idx t] <;> idx_bounds <;> (try dsimp only) <;> omega
    | refine blk2 m c t _ _ _ _ ?_ ?_ <;> blk_simp [idx t] <;> idx_bounds <;> (try dsimp only) <;> omega

theorem final6 (c : Dev nD) : (dats m 0 c).arrAt 6 (cfgs 0).N
    = FLAT (M2 (m ((c : Thread nD τ).loc main_arg1)) (m ((c : Thread nD τ).loc main_arg3))) := by
  refine (dats m 0 c).arrAt_eq_of_covers 6 _ (by decide +kernel) fun t _ y => ?_
  have ht := bound t
  blk_simp
  rw [after0_6]
  frame_out
  pointwise [k0_pay3, k0_pay1, FLAT, M2, ALL]
  reads_congr
  all_goals first
    | refine blk1 m c t _ _ _ _ ?_ ?_ <;> blk_simp [idx t] <;> idx_bounds <;> (try dsimp only) <;> omega
    | refine blk3 m c t _ _ _ _ ?_ ?_ <;> blk_simp [idx t] <;> idx_bounds <;> (try dsimp only) <;> omega

end Cert.AdamKIdeal.Val

end
-- ==== Proof.lean ====
/- The certificate of a training step's calls: for each call the frame of the kernel and of its idealization, the
   trivial ledger between the two, and, for the calls whose values are claimed, the equation of the kernel's result
   arrays with the derivative of the forward lines. The equations themselves are proved call by call in the modules
   under proof/Proof/; here they meet the two programs' runs. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.NormK
public import proofs.«01_k».proof.Proof.Gen.NormK.Frame
public import proofs.«01_k».proof.Proof.Gen.NormKIdeal
public import proofs.«01_k».proof.Proof.Gen.NormKIdeal.Frame
public import proofs.«01_k».proof.Proof.Gen.NormRIdeal
public import proofs.«01_k».proof.Proof.Gen.NormRIdeal.Run
public import proofs.«01_k».proof.Proof.Gen.DownK
public import proofs.«01_k».proof.Proof.Gen.DownK.Frame
public import proofs.«01_k».proof.Proof.Gen.DownKIdeal
public import proofs.«01_k».proof.Proof.Gen.DownKIdeal.Frame
public import proofs.«01_k».proof.Proof.Gen.DownRIdeal
public import proofs.«01_k».proof.Proof.Gen.DownRIdeal.Run
public import proofs.«01_k».proof.Proof.Gen.ProjDxK
public import proofs.«01_k».proof.Proof.Gen.ProjDxK.Frame
public import proofs.«01_k».proof.Proof.Gen.ProjDxKIdeal
public import proofs.«01_k».proof.Proof.Gen.ProjDxKIdeal.Frame
public import proofs.«01_k».proof.Proof.Gen.ProjDxRIdeal
public import proofs.«01_k».proof.Proof.Gen.ProjDxRIdeal.Run
public import proofs.«01_k».proof.Proof.Gen.ProjGDwK
public import proofs.«01_k».proof.Proof.Gen.ProjGDwK.Frame
public import proofs.«01_k».proof.Proof.Gen.ProjGDwKIdeal
public import proofs.«01_k».proof.Proof.Gen.ProjGDwKIdeal.Frame
public import proofs.«01_k».proof.Proof.Gen.ProjGDwRIdeal
public import proofs.«01_k».proof.Proof.Gen.ProjGDwRIdeal.Run
public import proofs.«01_k».proof.Proof.Gen.ProjGDwKIdeal.Value
public import proofs.«01_k».proof.Proof.Gen.ProjADwK
public import proofs.«01_k».proof.Proof.Gen.ProjADwK.Frame
public import proofs.«01_k».proof.Proof.Gen.ProjADwKIdeal
public import proofs.«01_k».proof.Proof.Gen.ProjADwKIdeal.Frame
public import proofs.«01_k».proof.Proof.Gen.ProjADwRIdeal
public import proofs.«01_k».proof.Proof.Gen.ProjADwRIdeal.Run
public import proofs.«01_k».proof.Proof.Gen.ProjADwKIdeal.Value
public import proofs.«01_k».proof.Proof.Gen.ProjBDwK
public import proofs.«01_k».proof.Proof.Gen.ProjBDwK.Frame
public import proofs.«01_k».proof.Proof.Gen.ProjBDwKIdeal
public import proofs.«01_k».proof.Proof.Gen.ProjBDwKIdeal.Frame
public import proofs.«01_k».proof.Proof.Gen.ProjBDwRIdeal
public import proofs.«01_k».proof.Proof.Gen.ProjBDwRIdeal.Run
public import proofs.«01_k».proof.Proof.Gen.ProjBDwKIdeal.Value
public import proofs.«01_k».proof.Proof.Gen.ProjCDwK
public import proofs.«01_k».proof.Proof.Gen.ProjCDwK.Frame
public import proofs.«01_k».proof.Proof.Gen.ProjCDwKIdeal
public import proofs.«01_k».proof.Proof.Gen.ProjCDwKIdeal.Frame
public import proofs.«01_k».proof.Proof.Gen.ProjCDwRIdeal
public import proofs.«01_k».proof.Proof.Gen.ProjCDwRIdeal.Run
public import proofs.«01_k».proof.Proof.Gen.ProjCDwKIdeal.Value
public import proofs.«01_k».proof.Proof.Gen.UpDwK
public import proofs.«01_k».proof.Proof.Gen.UpDwK.Frame
public import proofs.«01_k».proof.Proof.Gen.UpDwKIdeal
public import proofs.«01_k».proof.Proof.Gen.UpDwKIdeal.Frame
public import proofs.«01_k».proof.Proof.Gen.UpDwRIdeal
public import proofs.«01_k».proof.Proof.Gen.UpDwRIdeal.Run
public import proofs.«01_k».proof.Proof.Gen.UpDwKIdeal.Value
public import proofs.«01_k».proof.Proof.Gen.DownDwK
public import proofs.«01_k».proof.Proof.Gen.DownDwK.Frame
public import proofs.«01_k».proof.Proof.Gen.DownDwKIdeal
public import proofs.«01_k».proof.Proof.Gen.DownDwKIdeal.Frame
public import proofs.«01_k».proof.Proof.Gen.DownDwRIdeal
public import proofs.«01_k».proof.Proof.Gen.DownDwRIdeal.Run
public import proofs.«01_k».proof.Proof.Gen.DownDwKIdeal.Value
public import proofs.«01_k».proof.Proof.Gen.ProjK
public import proofs.«01_k».proof.Proof.Gen.ProjK.Frame
public import proofs.«01_k».proof.Proof.Gen.ProjKIdeal
public import proofs.«01_k».proof.Proof.Gen.ProjKIdeal.Frame
public import proofs.«01_k».proof.Proof.Gen.ProjRIdeal
public import proofs.«01_k».proof.Proof.Gen.ProjRIdeal.Run
public import proofs.«01_k».proof.Proof.Gen.UpK
public import proofs.«01_k».proof.Proof.Gen.UpK.Frame
public import proofs.«01_k».proof.Proof.Gen.UpKIdeal
public import proofs.«01_k».proof.Proof.Gen.UpKIdeal.Frame
public import proofs.«01_k».proof.Proof.Gen.UpRIdeal
public import proofs.«01_k».proof.Proof.Gen.UpRIdeal.Run
public import proofs.«01_k».proof.Proof.Gen.UpKIdeal.Value
public import proofs.«01_k».proof.Proof.Gen.DownFwdK
public import proofs.«01_k».proof.Proof.Gen.DownFwdK.Frame
public import proofs.«01_k».proof.Proof.Gen.DownFwdKIdeal
public import proofs.«01_k».proof.Proof.Gen.DownFwdKIdeal.Frame
public import proofs.«01_k».proof.Proof.Gen.DownFwdRIdeal
public import proofs.«01_k».proof.Proof.Gen.DownFwdRIdeal.Run
public import proofs.«01_k».proof.Proof.Gen.DownFwdKIdeal.Value
public import proofs.«01_k».proof.Proof.Gen.ConvK
public import proofs.«01_k».proof.Proof.Gen.ConvK.Frame
public import proofs.«01_k».proof.Proof.Gen.ConvKIdeal
public import proofs.«01_k».proof.Proof.Gen.ConvKIdeal.Frame
public import proofs.«01_k».proof.Proof.Gen.ConvKIdeal.Value
public import proofs.«01_k».proof.Proof.Gen.ConvRIdeal
public import proofs.«01_k».proof.Proof.Gen.ConvRIdeal.Run
public import proofs.«01_k».proof.Proof.Gen.MergeK
public import proofs.«01_k».proof.Proof.Gen.MergeK.Frame
public import proofs.«01_k».proof.Proof.Gen.MergeKIdeal
public import proofs.«01_k».proof.Proof.Gen.MergeKIdeal.Frame
public import proofs.«01_k».proof.Proof.Gen.MergeRIdeal
public import proofs.«01_k».proof.Proof.Gen.MergeRIdeal.Run
public import proofs.«01_k».proof.Proof.Gen.NormFwdK
public import proofs.«01_k».proof.Proof.Gen.NormFwdK.Frame
public import proofs.«01_k».proof.Proof.Gen.NormFwdKIdeal
public import proofs.«01_k».proof.Proof.Gen.NormFwdKIdeal.Frame
public import proofs.«01_k».proof.Proof.Gen.NormFwdRIdeal
public import proofs.«01_k».proof.Proof.Gen.NormFwdRIdeal.Run
public import proofs.«01_k».proof.Proof.Gen.ConvFwdK
public import proofs.«01_k».proof.Proof.Gen.ConvFwdK.Frame
public import proofs.«01_k».proof.Proof.Gen.ConvFwdKIdeal
public import proofs.«01_k».proof.Proof.Gen.ConvFwdKIdeal.Frame
public import proofs.«01_k».proof.Proof.Gen.ConvFwdRIdeal
public import proofs.«01_k».proof.Proof.Gen.ConvFwdRIdeal.Run
public import proofs.«01_k».proof.Proof.Gen.AdamK
public import proofs.«01_k».proof.Proof.Gen.AdamK.Frame
public import proofs.«01_k».proof.Proof.Gen.AdamKIdeal
public import proofs.«01_k».proof.Proof.Gen.AdamKIdeal.Frame
public import proofs.«01_k».proof.Proof.Gen.AdamRIdeal
public import proofs.«01_k».proof.Proof.Gen.AdamRIdeal.Run
public import proofs.«01_k».proof.Proof.Norm
public import proofs.«01_k».proof.Proof.Down
public import proofs.«01_k».proof.Proof.Conv
public import proofs.«01_k».proof.Proof.ProjDx
public import proofs.«01_k».proof.Proof.ProjGDw
public import proofs.«01_k».proof.Proof.ProjADw
public import proofs.«01_k».proof.Proof.ProjBDw
public import proofs.«01_k».proof.Proof.ProjCDw
public import proofs.«01_k».proof.Proof.UpDw
public import proofs.«01_k».proof.Proof.DownDw
public import proofs.«01_k».proof.Proof.Proj
public import proofs.«01_k».proof.Proof.Up
public import proofs.«01_k».proof.Proof.DownFwd
public import proofs.«01_k».proof.Proof.Merge
public import proofs.«01_k».proof.Proof.MergeOut
public import proofs.«01_k».proof.Proof.NormFwd
public import proofs.«01_k».proof.Proof.ConvFwd
public import proofs.«01_k».proof.Proof.Adam
public import Idealize.ShloMosaic.Adequacy
public import Idealize.ShloMosaic.Init

@[expose] public section

noncomputable section

namespace Cert.Proof

open Idealize.ShloMosaic Idealize.SL.Sem

theorem frameNormR : Cert.quiescent_NormRIdeal := fun m g _ =>
  (θ_run Cert.NormRIdeal.defs _ _).mono (fun r h => ⟨fun c => (h c).2.2.2.2, sem_eq_zero_of_no_sems (by decide) _⟩)
    (Cert.NormRIdeal.Value.run m g)

theorem frameDownR : Cert.quiescent_DownRIdeal := fun m g _ =>
  (θ_run Cert.DownRIdeal.defs _ _).mono (fun r h => ⟨fun c => (h c).2.2.2, sem_eq_zero_of_no_sems (by decide) _⟩)
    (Cert.DownRIdeal.Value.run m g)

theorem frameConvR : Cert.quiescent_ConvRIdeal := fun m g _ =>
  (θ_run Cert.ConvRIdeal.defs _ _).mono (fun r h => ⟨fun c => (h c).2.2, sem_eq_zero_of_no_sems (by decide) _⟩)
    (Cert.ConvRIdeal.Value.run m g)

theorem frameProjDxR : Cert.quiescent_ProjDxRIdeal := fun m g _ =>
  (θ_run Cert.ProjDxRIdeal.defs _ _).mono (fun r h => ⟨fun c => (h c).2, sem_eq_zero_of_no_sems (by decide) _⟩)
    (Cert.ProjDxRIdeal.Value.run m g)

theorem frameProjGDwR : Cert.quiescent_ProjGDwRIdeal := fun m g _ =>
  (θ_run Cert.ProjGDwRIdeal.defs _ _).mono (fun r h => ⟨fun c => (h c).2, sem_eq_zero_of_no_sems (by decide) _⟩)
    (Cert.ProjGDwRIdeal.Value.run m g)

theorem frameProjADwR : Cert.quiescent_ProjADwRIdeal := fun m g _ =>
  (θ_run Cert.ProjADwRIdeal.defs _ _).mono (fun r h => ⟨fun c => (h c).2, sem_eq_zero_of_no_sems (by decide) _⟩)
    (Cert.ProjADwRIdeal.Value.run m g)

theorem frameProjBDwR : Cert.quiescent_ProjBDwRIdeal := fun m g _ =>
  (θ_run Cert.ProjBDwRIdeal.defs _ _).mono (fun r h => ⟨fun c => (h c).2, sem_eq_zero_of_no_sems (by decide) _⟩)
    (Cert.ProjBDwRIdeal.Value.run m g)

theorem frameProjCDwR : Cert.quiescent_ProjCDwRIdeal := fun m g _ =>
  (θ_run Cert.ProjCDwRIdeal.defs _ _).mono (fun r h => ⟨fun c => (h c).2, sem_eq_zero_of_no_sems (by decide) _⟩)
    (Cert.ProjCDwRIdeal.Value.run m g)

theorem frameUpDwR : Cert.quiescent_UpDwRIdeal := fun m g _ =>
  (θ_run Cert.UpDwRIdeal.defs _ _).mono (fun r h => ⟨fun c => (h c).2, sem_eq_zero_of_no_sems (by decide) _⟩)
    (Cert.UpDwRIdeal.Value.run m g)

theorem frameDownDwR : Cert.quiescent_DownDwRIdeal := fun m g _ =>
  (θ_run Cert.DownDwRIdeal.defs _ _).mono (fun r h => ⟨fun c => (h c).2, sem_eq_zero_of_no_sems (by decide) _⟩)
    (Cert.DownDwRIdeal.Value.run m g)

theorem frameProjR : Cert.quiescent_ProjRIdeal := fun m g _ =>
  (θ_run Cert.ProjRIdeal.defs _ _).mono (fun r h => ⟨fun c => (h c).2.2.2.2, sem_eq_zero_of_no_sems (by decide) _⟩)
    (Cert.ProjRIdeal.Value.run m g)

theorem frameUpR : Cert.quiescent_UpRIdeal := fun m g _ =>
  (θ_run Cert.UpRIdeal.defs _ _).mono (fun r h => ⟨fun c => (h c).2, sem_eq_zero_of_no_sems (by decide) _⟩)
    (Cert.UpRIdeal.Value.run m g)

theorem frameDownFwdR : Cert.quiescent_DownFwdRIdeal := fun m g _ =>
  (θ_run Cert.DownFwdRIdeal.defs _ _).mono (fun r h => ⟨fun c => (h c).2.2, sem_eq_zero_of_no_sems (by decide) _⟩)
    (Cert.DownFwdRIdeal.Value.run m g)

theorem frameMergeR : Cert.quiescent_MergeRIdeal := fun m g _ =>
  (θ_run Cert.MergeRIdeal.defs _ _).mono (fun r h => ⟨fun c => (h c).2.2.2.2.2.2, sem_eq_zero_of_no_sems (by decide) _⟩)
    (Cert.MergeRIdeal.Value.run m g)

theorem frameNormFwdR : Cert.quiescent_NormFwdRIdeal := fun m g _ =>
  (θ_run Cert.NormFwdRIdeal.defs _ _).mono (fun r h => ⟨fun c => (h c).2.2, sem_eq_zero_of_no_sems (by decide) _⟩)
    (Cert.NormFwdRIdeal.Value.run m g)

theorem frameConvFwdR : Cert.quiescent_ConvFwdRIdeal := fun m g _ =>
  (θ_run Cert.ConvFwdRIdeal.defs _ _).mono (fun r h => ⟨fun c => (h c).2.2, sem_eq_zero_of_no_sems (by decide) _⟩)
    (Cert.ConvFwdRIdeal.Value.run m g)

theorem frameAdamR : Cert.quiescent_AdamRIdeal := fun m g _ =>
  (θ_run Cert.AdamRIdeal.defs _ _).mono (fun r h => ⟨fun c => (h c).2.2.2, sem_eq_zero_of_no_sems (by decide) _⟩)
    (Cert.AdamRIdeal.Value.run m g)

theorem norm : Cert.algebraic_NormKIdeal_NormRIdeal := by
  pair_intro
  · run_from Cert.NormKIdeal.Gen.run_main m g
  · run_from Cert.NormRIdeal.Value.run m' g'
    · obtain ⟨h0, h1, h2, h3, h4, h5, h6⟩ := hagree c
      unfold Cert.NormRIdeal.Value.res_main_v57
      rw [h0, h1, h3, h4, h5, h6]
      exact (Cert.NormKIdeal.Val.final7 m c).symm
    · exact (Cert.NormKIdeal.Val.final8 m c).symm
    · exact (Cert.NormKIdeal.Val.final9 m c).symm
    · exact (Cert.NormKIdeal.Val.final10 m c).symm

theorem down : Cert.algebraic_DownKIdeal_DownRIdeal := by
  pair_intro
  · run_from Cert.DownKIdeal.Gen.run_main m g
  · run_from Cert.DownRIdeal.Value.run m' g'
    · exact (Cert.DownKIdeal.Val.final4 m c).symm
    · exact (Cert.DownKIdeal.Val.final5 m c).symm
    · exact (Cert.DownKIdeal.Val.final6 m c).symm

theorem conv : Cert.algebraic_ConvKIdeal_ConvRIdeal := fun m g m' g' _ hagree =>
  ⟨fun c => _, fun c => _, (θ_run _ _ _).mono (fun r h c => ⟨((h.1 c).1 4).trans (Cert.ConvKIdeal.Val.final4 m c), ((h.1 c).1 5).trans (Cert.ConvKIdeal.Val.final5 m c), h.2 c⟩)
      (θ_run_and (Cert.ConvKIdeal.Gen.run_main m g) (Cert.ConvKIdeal.Gen.unchanged m g)),
    (θ_run _ _ _).mono (fun r h c => by
      obtain ⟨a0, a1, a2, a3⟩ := hagree c
      obtain ⟨h0, h1, hr⟩ := h c
      rw [Cert.ConvRIdeal.Val.out0, a0, a1, a2, a3] at h0
      rw [Cert.ConvRIdeal.Val.out1, a0, a1, a2, a3] at h1
      exact ⟨h0, h1, hr⟩) (Cert.ConvRIdeal.Value.run m' g')⟩

theorem projDx : Cert.algebraic_ProjDxKIdeal_ProjDxRIdeal := fun m g m' g' _ hagree =>
  ⟨fun c => _, (θ_run _ _ _).mono (fun r h c => ⟨(h c).1, (h c).2 _ (by decide), (h c).2 _ (by decide), (h c).2 _ (by decide), (h c).2 _ (by decide), (h c).2 _ (by decide), (h c).2 _ (by decide), (h c).2 _ (by decide), (h c).2 _ (by decide)⟩)
      (Cert.ProjDxKIdeal.Val.run m g),
    (θ_run _ _ _).mono (fun r h c => ⟨(h c).1.trans (by
      obtain ⟨a0, a1, a2, a3, a4, a5, a6, a7⟩ := hagree c
      rw [a0, a1, a2, a3, a4, a5, a6, a7]), (h c).2⟩) (Cert.ProjDxRIdeal.Value.run m' g')⟩

theorem projGDw : Cert.algebraic_ProjGDwKIdeal_ProjGDwRIdeal := by
  pair_intro
  · run_from Cert.ProjGDwKIdeal.Gen.run_main m g
  · run_from Cert.ProjGDwRIdeal.Value.run m' g'
    exact (Cert.ProjGDwKIdeal.Val.final2 m c).symm

theorem projADw : Cert.algebraic_ProjADwKIdeal_ProjADwRIdeal := by
  pair_intro
  · run_from Cert.ProjADwKIdeal.Gen.run_main m g
  · run_from Cert.ProjADwRIdeal.Value.run m' g'
    exact (Cert.ProjADwKIdeal.Val.final2 m c).symm

theorem projBDw : Cert.algebraic_ProjBDwKIdeal_ProjBDwRIdeal := by
  pair_intro
  · run_from Cert.ProjBDwKIdeal.Gen.run_main m g
  · run_from Cert.ProjBDwRIdeal.Value.run m' g'
    exact (Cert.ProjBDwKIdeal.Val.final2 m c).symm

theorem projCDw : Cert.algebraic_ProjCDwKIdeal_ProjCDwRIdeal := by
  pair_intro
  · run_from Cert.ProjCDwKIdeal.Gen.run_main m g
  · run_from Cert.ProjCDwRIdeal.Value.run m' g'
    exact (Cert.ProjCDwKIdeal.Val.final2 m c).symm

theorem upDw : Cert.algebraic_UpDwKIdeal_UpDwRIdeal := by
  pair_intro
  · run_from Cert.UpDwKIdeal.Gen.run_main m g
  · run_from Cert.UpDwRIdeal.Value.run m' g'
    exact (Cert.UpDwKIdeal.Val.final2 m c).symm

theorem downDw : Cert.algebraic_DownDwKIdeal_DownDwRIdeal := by
  pair_intro
  · run_from Cert.DownDwKIdeal.Gen.run_main m g
  · run_from Cert.DownDwRIdeal.Value.run m' g'
    exact (Cert.DownDwKIdeal.Val.final2 m c).symm

theorem proj : Cert.algebraic_ProjKIdeal_ProjRIdeal := fun m g m' g' _ hagree =>
  ⟨fun c => _, fun c => _, fun c => _, fun c => _, (θ_run _ _ _).mono (fun r h c => ⟨((h c).1 _ (by decide)).trans (Cert.ProjKIdeal.Val.final0 m g c), ((h c).1 _ (by decide)).trans (Cert.ProjKIdeal.Val.final1 m g c), ((h c).1 _ (by decide)).trans (Cert.ProjKIdeal.Val.final2 m g c), ((h c).1 _ (by decide)).trans (Cert.ProjKIdeal.Val.final3 m g c), (h c).2 _ (by decide), (h c).2 _ (by decide), (h c).2 _ (by decide), (h c).2 _ (by decide), (h c).2 _ (by decide)⟩)
      (Cert.ProjKIdeal.Val.run m g),
    (θ_run _ _ _).mono (fun r h c => by
      obtain ⟨a0, a1, a2, a3, a4⟩ := hagree c
      obtain ⟨h0, h1, h2, h3, hr⟩ := h c
      rw [a0, a1, a2, a3, a4] at *
      exact ⟨h0, h1, h2, h3, hr⟩) (Cert.ProjRIdeal.Value.run m' g')⟩

theorem up : Cert.algebraic_UpKIdeal_UpRIdeal := by
  pair_intro
  · run_from Cert.UpKIdeal.Gen.run_main m g
  · run_from Cert.UpRIdeal.Value.run m' g'
    exact (Cert.UpKIdeal.Val.final2 m c).symm

theorem downFwd : Cert.algebraic_DownFwdKIdeal_DownFwdRIdeal := by
  pair_intro
  · run_from Cert.DownFwdKIdeal.Gen.run_main m g
  · run_from Cert.DownFwdRIdeal.Value.run m' g'
    · exact (Cert.DownFwdKIdeal.Val.final4 m c).symm
    · exact (Cert.DownFwdKIdeal.Val.final5 m c).symm

theorem merge : Cert.algebraic_MergeKIdeal_MergeRIdeal := fun m g m' g' _ hagree =>
  ⟨fun c => _, fun c => _, fun c => _, fun c => _, fun c => _, fun c => _,
    (θ_run _ _ _).mono (fun r h c => ⟨((h.1 c).1 10).trans (Cert.MergeKIdeal.Val.final10 m c),
        ((h.1 c).1 11).trans (Cert.MergeKIdeal.Val.final11 m c), ((h.1 c).1 12).trans (Cert.MergeKIdeal.Val.final12 m c),
        ((h.1 c).1 13).trans (Cert.MergeKIdeal.Val.final13 m c), ((h.1 c).1 14).trans (Cert.MergeKIdeal.Val.final14 m c),
        ((h.1 c).1 15).trans (Cert.MergeKIdeal.Val.final15 m c), h.2 c⟩)
      (θ_run_and (Cert.MergeKIdeal.Gen.run_main m g) (Cert.MergeKIdeal.Gen.unchanged m g)),
    (θ_run _ _ _).mono (fun r h c => by
      obtain ⟨a0, a1, a2, a3, a4, a5, a6, a7, a8, a9⟩ := hagree c
      obtain ⟨h0, h1, h2, h3, h4, h5, hr⟩ := h c
      rw [a0, a1, a2, a3, a4, a5, a6, a7, a8, a9] at h0
      rw [a1, a6] at h1
      rw [a2, a7] at h2
      rw [a3, a8] at h3
      rw [a1, a2, a3, a4, a6, a7, a8] at h4
      rw [a1, a2, a3, a4, a6, a7, a8, a9] at h5
      exact ⟨h0, h1, h2, h3, h4, h5, hr⟩) (Cert.MergeRIdeal.Value.run m' g')⟩

theorem normFwd : Cert.algebraic_NormFwdKIdeal_NormFwdRIdeal := by
  pair_intro
  · run_from Cert.NormFwdKIdeal.Gen.run_main m g
  · run_from Cert.NormFwdRIdeal.Value.run m' g'
    · exact (Cert.NormFwdKIdeal.Val.final4 m c).symm
    · exact (Cert.NormFwdKIdeal.Val.final5 m c).symm

theorem convFwd : Cert.algebraic_ConvFwdKIdeal_ConvFwdRIdeal := fun m g m' g' _ hagree =>
  ⟨fun c => _, fun c => _, (θ_run _ _ _).mono (fun r h c => ⟨((h.1 c).1 3).trans (Cert.ConvFwdKIdeal.Val.final3 m c), ((h.1 c).1 4).trans (Cert.ConvFwdKIdeal.Val.final4 m c), h.2 c⟩)
      (θ_run_and (Cert.ConvFwdKIdeal.Gen.run_main m g) (Cert.ConvFwdKIdeal.Gen.unchanged m g)),
    (θ_run _ _ _).mono (fun r h c => by
      obtain ⟨a0, a1, a2⟩ := hagree c
      obtain ⟨h0, h1, hr⟩ := h c
      rw [Cert.ConvFwdRIdeal.Val.out0, a0, a1, a2] at h0
      rw [Cert.ConvFwdRIdeal.Val.out1, a0, a1, a2] at h1
      exact ⟨h0, h1, hr⟩) (Cert.ConvFwdRIdeal.Value.run m' g')⟩

theorem adam : Cert.algebraic_AdamKIdeal_AdamRIdeal := by
  pair_intro
  · run_from Cert.AdamKIdeal.Gen.run_main m g
  · run_from Cert.AdamRIdeal.Value.run m' g'
    · exact (Cert.AdamKIdeal.Val.final4 m c).symm
    · exact (Cert.AdamKIdeal.Val.final5 m c).symm
    · exact (Cert.AdamKIdeal.Val.final6 m c).symm

theorem claim : Cert.Claim := ⟨Cert.Kernel.Gen.facts, Cert.KernelIdeal.Gen.facts, Cert.NormK.Gen.facts,
  Cert.NormKIdeal.Gen.facts, Cert.NormRIdeal.Gen.facts, Cert.DownK.Gen.facts, Cert.DownKIdeal.Gen.facts,
  Cert.DownRIdeal.Gen.facts,
  Cert.ConvK.Gen.facts, Cert.ConvKIdeal.Gen.facts, Cert.ConvRIdeal.Gen.facts,
  Cert.ProjDxK.Gen.facts, Cert.ProjDxKIdeal.Gen.facts, Cert.ProjDxRIdeal.Gen.facts,
  Cert.ProjGDwK.Gen.facts, Cert.ProjGDwKIdeal.Gen.facts, Cert.ProjGDwRIdeal.Gen.facts,
  Cert.ProjADwK.Gen.facts, Cert.ProjADwKIdeal.Gen.facts, Cert.ProjADwRIdeal.Gen.facts,
  Cert.ProjBDwK.Gen.facts, Cert.ProjBDwKIdeal.Gen.facts, Cert.ProjBDwRIdeal.Gen.facts,
  Cert.ProjCDwK.Gen.facts, Cert.ProjCDwKIdeal.Gen.facts, Cert.ProjCDwRIdeal.Gen.facts,
  Cert.UpDwK.Gen.facts, Cert.UpDwKIdeal.Gen.facts, Cert.UpDwRIdeal.Gen.facts,
  Cert.DownDwK.Gen.facts, Cert.DownDwKIdeal.Gen.facts, Cert.DownDwRIdeal.Gen.facts,
  Cert.ProjK.Gen.facts, Cert.ProjKIdeal.Gen.facts, Cert.ProjRIdeal.Gen.facts,
  Cert.UpK.Gen.facts, Cert.UpKIdeal.Gen.facts, Cert.UpRIdeal.Gen.facts,
  Cert.DownFwdK.Gen.facts, Cert.DownFwdKIdeal.Gen.facts, Cert.DownFwdRIdeal.Gen.facts,
  Cert.MergeK.Gen.facts, Cert.MergeKIdeal.Gen.facts, Cert.MergeRIdeal.Gen.facts,
  Cert.NormFwdK.Gen.facts, Cert.NormFwdKIdeal.Gen.facts, Cert.NormFwdRIdeal.Gen.facts,
  Cert.ConvFwdK.Gen.facts, Cert.ConvFwdKIdeal.Gen.facts, Cert.ConvFwdRIdeal.Gen.facts,
  Cert.AdamK.Gen.facts, Cert.AdamKIdeal.Gen.facts, Cert.AdamRIdeal.Gen.facts,
  fun m ρ _ => Cert.Kernel.Gen.frame m ρ,
  fun m ρ _ => Cert.KernelIdeal.Gen.frame m ρ,
  fun m ρ _ => Cert.NormK.Gen.frame m ρ,
  fun m ρ _ => Cert.NormKIdeal.Gen.frame m ρ,
  frameNormR,
  fun m ρ _ => Cert.DownK.Gen.frame m ρ,
  fun m ρ _ => Cert.DownKIdeal.Gen.frame m ρ,
  frameDownR,
  fun m ρ _ => Cert.ConvK.Gen.frame m ρ,
  fun m ρ _ => Cert.ConvKIdeal.Gen.frame m ρ,
  frameConvR,
  fun m ρ _ => Cert.ProjDxK.Gen.frame m ρ,
  fun m ρ _ => Cert.ProjDxKIdeal.Gen.frame m ρ,
  frameProjDxR,
  fun m ρ _ => Cert.ProjGDwK.Gen.frame m ρ,
  fun m ρ _ => Cert.ProjGDwKIdeal.Gen.frame m ρ,
  frameProjGDwR,
  fun m ρ _ => Cert.ProjADwK.Gen.frame m ρ,
  fun m ρ _ => Cert.ProjADwKIdeal.Gen.frame m ρ,
  frameProjADwR,
  fun m ρ _ => Cert.ProjBDwK.Gen.frame m ρ,
  fun m ρ _ => Cert.ProjBDwKIdeal.Gen.frame m ρ,
  frameProjBDwR,
  fun m ρ _ => Cert.ProjCDwK.Gen.frame m ρ,
  fun m ρ _ => Cert.ProjCDwKIdeal.Gen.frame m ρ,
  frameProjCDwR,
  fun m ρ _ => Cert.UpDwK.Gen.frame m ρ,
  fun m ρ _ => Cert.UpDwKIdeal.Gen.frame m ρ,
  frameUpDwR,
  fun m ρ _ => Cert.DownDwK.Gen.frame m ρ,
  fun m ρ _ => Cert.DownDwKIdeal.Gen.frame m ρ,
  frameDownDwR,
  fun m ρ _ => Cert.ProjK.Gen.frame m ρ,
  fun m ρ _ => Cert.ProjKIdeal.Gen.frame m ρ,
  frameProjR,
  fun m ρ _ => Cert.UpK.Gen.frame m ρ,
  fun m ρ _ => Cert.UpKIdeal.Gen.frame m ρ,
  frameUpR,
  fun m ρ _ => Cert.DownFwdK.Gen.frame m ρ,
  fun m ρ _ => Cert.DownFwdKIdeal.Gen.frame m ρ,
  frameDownFwdR,
  fun m ρ _ => Cert.MergeK.Gen.frame m ρ,
  fun m ρ _ => Cert.MergeKIdeal.Gen.frame m ρ,
  frameMergeR,
  fun m ρ _ => Cert.NormFwdK.Gen.frame m ρ,
  fun m ρ _ => Cert.NormFwdKIdeal.Gen.frame m ρ,
  frameNormFwdR,
  fun m ρ _ => Cert.ConvFwdK.Gen.frame m ρ,
  fun m ρ _ => Cert.ConvFwdKIdeal.Gen.frame m ρ,
  frameConvFwdR,
  fun m ρ _ => Cert.AdamK.Gen.frame m ρ,
  fun m ρ _ => Cert.AdamKIdeal.Gen.frame m ρ,
  frameAdamR,
  trivial, trivial, norm, trivial, down,
  trivial, conv,
  trivial, projDx,
  trivial, projGDw,
  trivial, projADw,
  trivial, projBDw,
  trivial, projCDw,
  trivial, upDw,
  trivial, downDw,
  trivial, proj,
  trivial, up,
  trivial, downFwd,
  trivial, merge,
  trivial, normFwd,
  trivial, convFwd,
  trivial, adam⟩

end Cert.Proof

end
